-- ==== Defs.lean ====
def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_finite_scores [hPre_finite_scores : Cert.Pre_finite_scores.Facts] (m : (ℓ : Loc Cert.SampleIdeal.nD Cert.SampleIdeal.τ Cert.SampleIdeal.sig) → Buf (Elt Ideal) ℓ) : Prop :=
  ∀ c : Dev Cert.SampleIdeal.nD,
    (Cert.Pre_finite_scores.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))).1 = (fun _ => 1#1)
    ∧ (Cert.Pre_finite_scores.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))).2.1 = (fun _ => 1#1)
    ∧ (Cert.Pre_finite_scores.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))).2.2 = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_finite_scores [hPre_finite_scores : Cert.Pre_finite_scores.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_finite_scores.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4))).1 = (fun _ => 1#1)
    ∧ (Cert.Pre_finite_scores.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4))).2.1 = (fun _ => 1#1)
    ∧ (Cert.Pre_finite_scores.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptRefIdeal (m : (ℓ : Loc Cert.FfnPromptRefIdeal.nD Cert.FfnPromptRefIdeal.τ Cert.FfnPromptRefIdeal.sig) → Buf (Elt Ideal) ℓ) : Prop :=
  True

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjPromptRefIdeal (m : (ℓ : Loc Cert.ProjPromptRefIdeal.nD Cert.ProjPromptRefIdeal.τ Cert.ProjPromptRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnFirstPrompt (m : (ℓ : Loc Cert.FfnFirstPrompt.nD Cert.FfnFirstPrompt.τ Cert.FfnFirstPrompt.sig) → Buf (Elt Bits) ℓ) : Prop :=
  True

def Pre_FfnFirstPromptIdeal (m : (ℓ : Loc Cert.FfnFirstPromptIdeal.nD Cert.FfnFirstPromptIdeal.τ Cert.FfnFirstPromptIdeal.sig) → Buf (Elt Ideal) ℓ) : Prop :=
  True

def Pre_FfnFirstPromptRefIdeal (m : (ℓ : Loc Cert.FfnFirstPromptRefIdeal.nD Cert.FfnFirstPromptRefIdeal.τ Cert.FfnFirstPromptRefIdeal.sig) → Buf (Elt Ideal) ℓ) : Prop :=
  True

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleIdeal_pre_finite_scores [hSampleIdeal : Cert.SampleIdeal.Facts] [hPre_finite_scores : Cert.Pre_finite_scores.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_finite_scores m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def quiescent_SampleRefIdeal_pre_finite_scores [hSampleRefIdeal : Cert.SampleRefIdeal.Facts] [hPre_finite_scores : Cert.Pre_finite_scores.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_finite_scores m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4))
      ∧ r.2.sem = fun _ => 0)

def quiescent_FfnPromptRefIdeal [hFfnPromptRefIdeal : Cert.FfnPromptRefIdeal.Facts] : Prop :=
  ∀ (m : (ℓ : Loc Cert.FfnPromptRefIdeal.nD Cert.FfnPromptRefIdeal.τ Cert.FfnPromptRefIdeal.sig) → Buf (Elt Ideal) ℓ) (g : Dev Cert.FfnPromptRefIdeal.nD → PrngReg), Pre_FfnPromptRefIdeal m →
    θ_run (Cert.FfnPromptRefIdeal.defs (F := Ideal)) (onTc (τ := Cert.FfnPromptRefIdeal.τ) (Cert.FfnPromptRefIdeal.main (F := Ideal))) ⟨m, fun _ => 0, g⟩ (fun r => (∀ c : Dev Cert.FfnPromptRefIdeal.nD,
      r.2.mem ((c.tc : Thread Cert.FfnPromptRefIdeal.nD Cert.FfnPromptRefIdeal.τ).loc Cert.FfnPromptRefIdeal.main_arg0) = m ((c.tc : Thread Cert.FfnPromptRefIdeal.nD Cert.FfnPromptRefIdeal.τ).loc Cert.FfnPromptRefIdeal.main_arg0)
      ∧ r.2.mem ((c.tc : Thread Cert.FfnPromptRefIdeal.nD Cert.FfnPromptRefIdeal.τ).loc Cert.FfnPromptRefIdeal.main_arg1) = m ((c.tc : Thread Cert.FfnPromptRefIdeal.nD Cert.FfnPromptRefIdeal.τ).loc Cert.FfnPromptRefIdeal.main_arg1)
      ∧ r.2.mem ((c.tc : Thread Cert.FfnPromptRefIdeal.nD Cert.FfnPromptRefIdeal.τ).loc Cert.FfnPromptRefIdeal.main_arg2) = m ((c.tc : Thread Cert.FfnPromptRefIdeal.nD Cert.FfnPromptRefIdeal.τ).loc Cert.FfnPromptRefIdeal.main_arg2)
      ∧ r.2.mem ((c.tc : Thread Cert.FfnPromptRefIdeal.nD Cert.FfnPromptRefIdeal.τ).loc Cert.FfnPromptRefIdeal.main_arg3) = m ((c.tc : Thread Cert.FfnPromptRefIdeal.nD Cert.FfnPromptRefIdeal.τ).loc Cert.FfnPromptRefIdeal.main_arg3)
      ∧ r.2.mem ((c.tc : Thread Cert.FfnPromptRefIdeal.nD Cert.FfnPromptRefIdeal.τ).loc Cert.FfnPromptRefIdeal.main_arg4) = m ((c.tc : Thread Cert.FfnPromptRefIdeal.nD Cert.FfnPromptRefIdeal.τ).loc Cert.FfnPromptRefIdeal.main_arg4))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1)
      ∧ r.2.mem ((c.tc : Thread Cert.ProjPrompt.nD Cert.ProjPrompt.τ).loc Cert.ProjPrompt.main_arg2) = m ((c.tc : Thread Cert.ProjPrompt.nD Cert.ProjPrompt.τ).loc Cert.ProjPrompt.main_arg2)
      ∧ r.2.mem ((c.tc : Thread Cert.ProjPrompt.nD Cert.ProjPrompt.τ).loc Cert.ProjPrompt.main_arg3) = m ((c.tc : Thread Cert.ProjPrompt.nD Cert.ProjPrompt.τ).loc Cert.ProjPrompt.main_arg3)
      ∧ r.2.mem ((c.tc : Thread Cert.ProjPrompt.nD Cert.ProjPrompt.τ).loc Cert.ProjPrompt.main_arg4) = m ((c.tc : Thread Cert.ProjPrompt.nD Cert.ProjPrompt.τ).loc Cert.ProjPrompt.main_arg4)
      ∧ r.2.mem ((c.tc : Thread Cert.ProjPrompt.nD Cert.ProjPrompt.τ).loc Cert.ProjPrompt.main_arg5) = m ((c.tc : Thread Cert.ProjPrompt.nD Cert.ProjPrompt.τ).loc Cert.ProjPrompt.main_arg5)
      ∧ r.2.mem ((c.tc : Thread Cert.ProjPrompt.nD Cert.ProjPrompt.τ).loc Cert.ProjPrompt.main_arg6) = m ((c.tc : Thread Cert.ProjPrompt.nD Cert.ProjPrompt.τ).loc Cert.ProjPrompt.main_arg6)
      ∧ r.2.mem ((c.tc : Thread Cert.ProjPrompt.nD Cert.ProjPrompt.τ).loc Cert.ProjPrompt.main_arg7) = m ((c.tc : Thread Cert.ProjPrompt.nD Cert.ProjPrompt.τ).loc Cert.ProjPrompt.main_arg7))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
      ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
      ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
      ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4)
      ∧ r.2.mem ((c.tc : Thread Cert.ProjPromptIdeal.nD Cert.ProjPromptIdeal.τ).loc Cert.ProjPromptIdeal.main_arg5) = m ((c.tc : Thread Cert.ProjPromptIdeal.nD Cert.ProjPromptIdeal.τ).loc Cert.ProjPromptIdeal.main_arg5)
      ∧ r.2.mem ((c.tc : Thread Cert.ProjPromptIdeal.nD Cert.ProjPromptIdeal.τ).loc Cert.ProjPromptIdeal.main_arg6) = m ((c.tc : Thread Cert.ProjPromptIdeal.nD Cert.ProjPromptIdeal.τ).loc Cert.ProjPromptIdeal.main_arg6)
      ∧ r.2.mem ((c.tc : Thread Cert.ProjPromptIdeal.nD Cert.ProjPromptIdeal.τ).loc Cert.ProjPromptIdeal.main_arg7) = m ((c.tc : Thread Cert.ProjPromptIdeal.nD Cert.ProjPromptIdeal.τ).loc Cert.ProjPromptIdeal.main_arg7))
      ∧ r.2.sem = fun _ => 0)

def quiescent_ProjPromptRefIdeal [hProjPromptRefIdeal : Cert.ProjPromptRefIdeal.Facts] : Prop :=
  ∀ (m : (ℓ : Loc Cert.ProjPromptRefIdeal.nD Cert.ProjPromptRefIdeal.τ Cert.ProjPromptRefIdeal.sig) → Buf (Elt Ideal) ℓ) (g : Dev Cert.ProjPromptRefIdeal.nD → PrngReg), Pre_ProjPromptRefIdeal m →
    θ_run (Cert.ProjPromptRefIdeal.defs (F := Ideal)) (onTc (τ := Cert.ProjPromptRefIdeal.τ) (Cert.ProjPromptRefIdeal.main (F := Ideal))) ⟨m, fun _ => 0, g⟩ (fun r => (∀ c : Dev Cert.ProjPromptRefIdeal.nD,
      r.2.mem ((c.tc : Thread Cert.ProjPromptRefIdeal.nD Cert.ProjPromptRefIdeal.τ).loc Cert.ProjPromptRefIdeal.main_arg0) = m ((c.tc : Thread Cert.ProjPromptRefIdeal.nD Cert.ProjPromptRefIdeal.τ).loc Cert.ProjPromptRefIdeal.main_arg0)
      ∧ r.2.mem ((c.tc : Thread Cert.ProjPromptRefIdeal.nD Cert.ProjPromptRefIdeal.τ).loc Cert.ProjPromptRefIdeal.main_arg1) = m ((c.tc : Thread Cert.ProjPromptRefIdeal.nD Cert.ProjPromptRefIdeal.τ).loc Cert.ProjPromptRefIdeal.main_arg1)
      ∧ r.2.mem ((c.tc : Thread Cert.ProjPromptRefIdeal.nD Cert.ProjPromptRefIdeal.τ).loc Cert.ProjPromptRefIdeal.main_arg2) = m ((c.tc : Thread Cert.ProjPromptRefIdeal.nD Cert.ProjPromptRefIdeal.τ).loc Cert.ProjPromptRefIdeal.main_arg2)
      ∧ r.2.mem ((c.tc : Thread Cert.ProjPromptRefIdeal.nD Cert.ProjPromptRefIdeal.τ).loc Cert.ProjPromptRefIdeal.main_arg3) = m ((c.tc : Thread Cert.ProjPromptRefIdeal.nD Cert.ProjPromptRefIdeal.τ).loc Cert.ProjPromptRefIdeal.main_arg3)
      ∧ r.2.mem ((c.tc : Thread Cert.ProjPromptRefIdeal.nD Cert.ProjPromptRefIdeal.τ).loc Cert.ProjPromptRefIdeal.main_arg4) = m ((c.tc : Thread Cert.ProjPromptRefIdeal.nD Cert.ProjPromptRefIdeal.τ).loc Cert.ProjPromptRefIdeal.main_arg4)
      ∧ r.2.mem ((c.tc : Thread Cert.ProjPromptRefIdeal.nD Cert.ProjPromptRefIdeal.τ).loc Cert.ProjPromptRefIdeal.main_arg5) = m ((c.tc : Thread Cert.ProjPromptRefIdeal.nD Cert.ProjPromptRefIdeal.τ).loc Cert.ProjPromptRefIdeal.main_arg5)
      ∧ r.2.mem ((c.tc : Thread Cert.ProjPromptRefIdeal.nD Cert.ProjPromptRefIdeal.τ).loc Cert.ProjPromptRefIdeal.main_arg6) = m ((c.tc : Thread Cert.ProjPromptRefIdeal.nD Cert.ProjPromptRefIdeal.τ).loc Cert.ProjPromptRefIdeal.main_arg6)
      ∧ r.2.mem ((c.tc : Thread Cert.ProjPromptRefIdeal.nD Cert.ProjPromptRefIdeal.τ).loc Cert.ProjPromptRefIdeal.main_arg7) = m ((c.tc : Thread Cert.ProjPromptRefIdeal.nD Cert.ProjPromptRefIdeal.τ).loc Cert.ProjPromptRefIdeal.main_arg7))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4))
      ∧ r.2.sem = fun _ => 0)

def quiescent_FfnFirstPrompt [hFfnFirstPrompt : Cert.FfnFirstPrompt.Facts] : Prop :=
  ∀ (m : (ℓ : Loc Cert.FfnFirstPrompt.nD Cert.FfnFirstPrompt.τ Cert.FfnFirstPrompt.sig) → Buf (Elt Bits) ℓ) (g : Dev Cert.FfnFirstPrompt.nD → PrngReg), Pre_FfnFirstPrompt m →
    θ_run (Cert.FfnFirstPrompt.defs (F := Bits)) (onTc (τ := Cert.FfnFirstPrompt.τ) (Cert.FfnFirstPrompt.main (F := Bits))) ⟨m, fun _ => 0, g⟩ (fun r => (∀ c : Dev Cert.FfnFirstPrompt.nD,
      r.2.mem ((c.tc : Thread Cert.FfnFirstPrompt.nD Cert.FfnFirstPrompt.τ).loc Cert.FfnFirstPrompt.main_arg0) = m ((c.tc : Thread Cert.FfnFirstPrompt.nD Cert.FfnFirstPrompt.τ).loc Cert.FfnFirstPrompt.main_arg0)
      ∧ r.2.mem ((c.tc : Thread Cert.FfnFirstPrompt.nD Cert.FfnFirstPrompt.τ).loc Cert.FfnFirstPrompt.main_arg1) = m ((c.tc : Thread Cert.FfnFirstPrompt.nD Cert.FfnFirstPrompt.τ).loc Cert.FfnFirstPrompt.main_arg1)
      ∧ r.2.mem ((c.tc : Thread Cert.FfnFirstPrompt.nD Cert.FfnFirstPrompt.τ).loc Cert.FfnFirstPrompt.main_arg2) = m ((c.tc : Thread Cert.FfnFirstPrompt.nD Cert.FfnFirstPrompt.τ).loc Cert.FfnFirstPrompt.main_arg2)
      ∧ r.2.mem ((c.tc : Thread Cert.FfnFirstPrompt.nD Cert.FfnFirstPrompt.τ).loc Cert.FfnFirstPrompt.main_arg3) = m ((c.tc : Thread Cert.FfnFirstPrompt.nD Cert.FfnFirstPrompt.τ).loc Cert.FfnFirstPrompt.main_arg3)
      ∧ r.2.mem ((c.tc : Thread Cert.FfnFirstPrompt.nD Cert.FfnFirstPrompt.τ).loc Cert.FfnFirstPrompt.main_arg4) = m ((c.tc : Thread Cert.FfnFirstPrompt.nD Cert.FfnFirstPrompt.τ).loc Cert.FfnFirstPrompt.main_arg4))
      ∧ r.2.sem = fun _ => 0)

def quiescent_FfnFirstPromptIdeal [hFfnFirstPromptIdeal : Cert.FfnFirstPromptIdeal.Facts] : Prop :=
  ∀ (m : (ℓ : Loc Cert.FfnFirstPromptIdeal.nD Cert.FfnFirstPromptIdeal.τ Cert.FfnFirstPromptIdeal.sig) → Buf (Elt Ideal) ℓ) (g : Dev Cert.FfnFirstPromptIdeal.nD → PrngReg), Pre_FfnFirstPromptIdeal m →
    θ_run (Cert.FfnFirstPromptIdeal.defs (F := Ideal)) (onTc (τ := Cert.FfnFirstPromptIdeal.τ) (Cert.FfnFirstPromptIdeal.main (F := Ideal))) ⟨m, fun _ => 0, g⟩ (fun r => (∀ c : Dev Cert.FfnFirstPromptIdeal.nD,
      r.2.mem ((c.tc : Thread Cert.FfnFirstPromptIdeal.nD Cert.FfnFirstPromptIdeal.τ).loc Cert.FfnFirstPromptIdeal.main_arg0) = m ((c.tc : Thread Cert.FfnFirstPromptIdeal.nD Cert.FfnFirstPromptIdeal.τ).loc Cert.FfnFirstPromptIdeal.main_arg0)
      ∧ r.2.mem ((c.tc : Thread Cert.FfnFirstPromptIdeal.nD Cert.FfnFirstPromptIdeal.τ).loc Cert.FfnFirstPromptIdeal.main_arg1) = m ((c.tc : Thread Cert.FfnFirstPromptIdeal.nD Cert.FfnFirstPromptIdeal.τ).loc Cert.FfnFirstPromptIdeal.main_arg1)
      ∧ r.2.mem ((c.tc : Thread Cert.FfnFirstPromptIdeal.nD Cert.FfnFirstPromptIdeal.τ).loc Cert.FfnFirstPromptIdeal.main_arg2) = m ((c.tc : Thread Cert.FfnFirstPromptIdeal.nD Cert.FfnFirstPromptIdeal.τ).loc Cert.FfnFirstPromptIdeal.main_arg2)
      ∧ r.2.mem ((c.tc : Thread Cert.FfnFirstPromptIdeal.nD Cert.FfnFirstPromptIdeal.τ).loc Cert.FfnFirstPromptIdeal.main_arg3) = m ((c.tc : Thread Cert.FfnFirstPromptIdeal.nD Cert.FfnFirstPromptIdeal.τ).loc Cert.FfnFirstPromptIdeal.main_arg3)
      ∧ r.2.mem ((c.tc : Thread Cert.FfnFirstPromptIdeal.nD Cert.FfnFirstPromptIdeal.τ).loc Cert.FfnFirstPromptIdeal.main_arg4) = m ((c.tc : Thread Cert.FfnFirstPromptIdeal.nD Cert.FfnFirstPromptIdeal.τ).loc Cert.FfnFirstPromptIdeal.main_arg4))
      ∧ r.2.sem = fun _ => 0)

def quiescent_FfnFirstPromptRefIdeal [hFfnFirstPromptRefIdeal : Cert.FfnFirstPromptRefIdeal.Facts] : Prop :=
  ∀ (m : (ℓ : Loc Cert.FfnFirstPromptRefIdeal.nD Cert.FfnFirstPromptRefIdeal.τ Cert.FfnFirstPromptRefIdeal.sig) → Buf (Elt Ideal) ℓ) (g : Dev Cert.FfnFirstPromptRefIdeal.nD → PrngReg), Pre_FfnFirstPromptRefIdeal m →
    θ_run (Cert.FfnFirstPromptRefIdeal.defs (F := Ideal)) (onTc (τ := Cert.FfnFirstPromptRefIdeal.τ) (Cert.FfnFirstPromptRefIdeal.main (F := Ideal))) ⟨m, fun _ => 0, g⟩ (fun r => (∀ c : Dev Cert.FfnFirstPromptRefIdeal.nD,
      r.2.mem ((c.tc : Thread Cert.FfnFirstPromptRefIdeal.nD Cert.FfnFirstPromptRefIdeal.τ).loc Cert.FfnFirstPromptRefIdeal.main_arg0) = m ((c.tc : Thread Cert.FfnFirstPromptRefIdeal.nD Cert.FfnFirstPromptRefIdeal.τ).loc Cert.FfnFirstPromptRefIdeal.main_arg0)
      ∧ r.2.mem ((c.tc : Thread Cert.FfnFirstPromptRefIdeal.nD Cert.FfnFirstPromptRefIdeal.τ).loc Cert.FfnFirstPromptRefIdeal.main_arg1) = m ((c.tc : Thread Cert.FfnFirstPromptRefIdeal.nD Cert.FfnFirstPromptRefIdeal.τ).loc Cert.FfnFirstPromptRefIdeal.main_arg1)
      ∧ r.2.mem ((c.tc : Thread Cert.FfnFirstPromptRefIdeal.nD Cert.FfnFirstPromptRefIdeal.τ).loc Cert.FfnFirstPromptRefIdeal.main_arg2) = m ((c.tc : Thread Cert.FfnFirstPromptRefIdeal.nD Cert.FfnFirstPromptRefIdeal.τ).loc Cert.FfnFirstPromptRefIdeal.main_arg2)
      ∧ r.2.mem ((c.tc : Thread Cert.FfnFirstPromptRefIdeal.nD Cert.FfnFirstPromptRefIdeal.τ).loc Cert.FfnFirstPromptRefIdeal.main_arg3) = m ((c.tc : Thread Cert.FfnFirstPromptRefIdeal.nD Cert.FfnFirstPromptRefIdeal.τ).loc Cert.FfnFirstPromptRefIdeal.main_arg3)
      ∧ r.2.mem ((c.tc : Thread Cert.FfnFirstPromptRefIdeal.nD Cert.FfnFirstPromptRefIdeal.τ).loc Cert.FfnFirstPromptRefIdeal.main_arg4) = m ((c.tc : Thread Cert.FfnFirstPromptRefIdeal.nD Cert.FfnFirstPromptRefIdeal.τ).loc Cert.FfnFirstPromptRefIdeal.main_arg4))
      ∧ r.2.sem = fun _ => 0)

def preserves_Sample_SampleIdeal : Prop :=
  True

def algebraic_SampleIdeal_SampleRefIdeal_pre_finite_scores [hSampleIdeal : Cert.SampleIdeal.Facts] [hSampleRefIdeal : Cert.SampleRefIdeal.Facts] [hPre_finite_scores : Cert.Pre_finite_scores.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_finite_scores m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v16)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v16) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v34) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)) (v7 : (c : Dev Cert.ProjIdeal.nD) → Buf (Elt Ideal) ((c.tc : Thread Cert.ProjIdeal.nD Cert.ProjIdeal.τ).loc Cert.ProjIdeal.main_v0_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_v0_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v70) = v0 c
          ∧ r.2.mem ((c.tc : Thread Cert.ProjRefIdeal.nD Cert.ProjRefIdeal.τ).loc Cert.ProjRefIdeal.main_v71) = v1 c
          ∧ r.2.mem ((c.tc : Thread Cert.ProjRefIdeal.nD Cert.ProjRefIdeal.τ).loc Cert.ProjRefIdeal.main_v72) = v2 c
          ∧ r.2.mem ((c.tc : Thread Cert.ProjRefIdeal.nD Cert.ProjRefIdeal.τ).loc Cert.ProjRefIdeal.main_v75) = v3 c
          ∧ r.2.mem ((c.tc : Thread Cert.ProjRefIdeal.nD Cert.ProjRefIdeal.τ).loc Cert.ProjRefIdeal.main_v78) = v4 c
          ∧ r.2.mem ((c.tc : Thread Cert.ProjRefIdeal.nD Cert.ProjRefIdeal.τ).loc Cert.ProjRefIdeal.main_v79) = v5 c
          ∧ r.2.mem ((c.tc : Thread Cert.ProjRefIdeal.nD Cert.ProjRefIdeal.τ).loc Cert.ProjRefIdeal.main_v81) = v6 c
          ∧ r.2.mem ((c.tc : Thread Cert.ProjRefIdeal.nD Cert.ProjRefIdeal.τ).loc Cert.ProjRefIdeal.main_v82) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_FfnPrompt_FfnPromptIdeal : Prop :=
  True

def algebraic_FfnPromptIdeal_FfnPromptRefIdeal [hFfnPromptIdeal : Cert.FfnPromptIdeal.Facts] [hFfnPromptRefIdeal : Cert.FfnPromptRefIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptRefIdeal.nD Cert.FfnPromptRefIdeal.τ Cert.FfnPromptRefIdeal.sig) → Buf (Elt Ideal) ℓ) (g' : Dev Cert.FfnPromptRefIdeal.nD → PrngReg), Pre_FfnPromptIdeal m →
    (∀ c : Dev Cert.FfnPromptIdeal.nD,
      m' ((c.tc : Thread Cert.FfnPromptRefIdeal.nD Cert.FfnPromptRefIdeal.τ).loc Cert.FfnPromptRefIdeal.main_arg0) = m ((c.tc : Thread Cert.FfnPromptIdeal.nD Cert.FfnPromptIdeal.τ).loc Cert.FfnPromptIdeal.main_arg0)
      ∧ m' ((c.tc : Thread Cert.FfnPromptRefIdeal.nD Cert.FfnPromptRefIdeal.τ).loc Cert.FfnPromptRefIdeal.main_arg1) = m ((c.tc : Thread Cert.FfnPromptIdeal.nD Cert.FfnPromptIdeal.τ).loc Cert.FfnPromptIdeal.main_arg1)
      ∧ m' ((c.tc : Thread Cert.FfnPromptRefIdeal.nD Cert.FfnPromptRefIdeal.τ).loc Cert.FfnPromptRefIdeal.main_arg2) = m ((c.tc : Thread Cert.FfnPromptIdeal.nD Cert.FfnPromptIdeal.τ).loc Cert.FfnPromptIdeal.main_arg2)
      ∧ m' ((c.tc : Thread Cert.FfnPromptRefIdeal.nD Cert.FfnPromptRefIdeal.τ).loc Cert.FfnPromptRefIdeal.main_arg3) = m ((c.tc : Thread Cert.FfnPromptIdeal.nD Cert.FfnPromptIdeal.τ).loc Cert.FfnPromptIdeal.main_arg3)
      ∧ m' ((c.tc : Thread Cert.FfnPromptRefIdeal.nD Cert.FfnPromptRefIdeal.τ).loc Cert.FfnPromptRefIdeal.main_arg4) = m ((c.tc : Thread Cert.FfnPromptIdeal.nD Cert.FfnPromptIdeal.τ).loc Cert.FfnPromptIdeal.main_arg4)) →
    ∃ (v0 : (c : Dev Cert.FfnPromptIdeal.nD) → Buf (Elt Ideal) ((c.tc : Thread Cert.FfnPromptIdeal.nD Cert.FfnPromptIdeal.τ).loc Cert.FfnPromptIdeal.main_v0)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v0) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4))
      ∧ θ_run (Cert.FfnPromptRefIdeal.defs (F := Ideal)) (onTc (τ := Cert.FfnPromptRefIdeal.τ) (Cert.FfnPromptRefIdeal.main (F := Ideal))) ⟨m', fun _ => 0, g'⟩ (fun r => ∀ c : Dev Cert.FfnPromptRefIdeal.nD,
          r.2.mem ((c.tc : Thread Cert.FfnPromptRefIdeal.nD Cert.FfnPromptRefIdeal.τ).loc Cert.FfnPromptRefIdeal.main_v36) = v0 c
          ∧ r.2.mem ((c.tc : Thread Cert.FfnPromptRefIdeal.nD Cert.FfnPromptRefIdeal.τ).loc Cert.FfnPromptRefIdeal.main_arg0) = m' ((c.tc : Thread Cert.FfnPromptRefIdeal.nD Cert.FfnPromptRefIdeal.τ).loc Cert.FfnPromptRefIdeal.main_arg0)
          ∧ r.2.mem ((c.tc : Thread Cert.FfnPromptRefIdeal.nD Cert.FfnPromptRefIdeal.τ).loc Cert.FfnPromptRefIdeal.main_arg1) = m' ((c.tc : Thread Cert.FfnPromptRefIdeal.nD Cert.FfnPromptRefIdeal.τ).loc Cert.FfnPromptRefIdeal.main_arg1)
          ∧ r.2.mem ((c.tc : Thread Cert.FfnPromptRefIdeal.nD Cert.FfnPromptRefIdeal.τ).loc Cert.FfnPromptRefIdeal.main_arg2) = m' ((c.tc : Thread Cert.FfnPromptRefIdeal.nD Cert.FfnPromptRefIdeal.τ).loc Cert.FfnPromptRefIdeal.main_arg2)
          ∧ r.2.mem ((c.tc : Thread Cert.FfnPromptRefIdeal.nD Cert.FfnPromptRefIdeal.τ).loc Cert.FfnPromptRefIdeal.main_arg3) = m' ((c.tc : Thread Cert.FfnPromptRefIdeal.nD Cert.FfnPromptRefIdeal.τ).loc Cert.FfnPromptRefIdeal.main_arg3)
          ∧ r.2.mem ((c.tc : Thread Cert.FfnPromptRefIdeal.nD Cert.FfnPromptRefIdeal.τ).loc Cert.FfnPromptRefIdeal.main_arg4) = m' ((c.tc : Thread Cert.FfnPromptRefIdeal.nD Cert.FfnPromptRefIdeal.τ).loc Cert.FfnPromptRefIdeal.main_arg4))

def preserves_ProjPrompt_ProjPromptIdeal : Prop :=
  True

def algebraic_ProjPromptIdeal_ProjPromptRefIdeal [hProjPromptIdeal : Cert.ProjPromptIdeal.Facts] [hProjPromptRefIdeal : Cert.ProjPromptRefIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjPromptRefIdeal.nD Cert.ProjPromptRefIdeal.τ Cert.ProjPromptRefIdeal.sig) → Buf (Elt Ideal) ℓ) (g' : Dev Cert.ProjPromptRefIdeal.nD → PrngReg), Pre_ProjPromptIdeal m →
    (∀ c : Dev Cert.ProjPromptIdeal.nD,
      m' ((c.tc : Thread Cert.ProjPromptRefIdeal.nD Cert.ProjPromptRefIdeal.τ).loc Cert.ProjPromptRefIdeal.main_arg0) = m ((c.tc : Thread Cert.ProjPromptIdeal.nD Cert.ProjPromptIdeal.τ).loc Cert.ProjPromptIdeal.main_arg0)
      ∧ m' ((c.tc : Thread Cert.ProjPromptRefIdeal.nD Cert.ProjPromptRefIdeal.τ).loc Cert.ProjPromptRefIdeal.main_arg1) = m ((c.tc : Thread Cert.ProjPromptIdeal.nD Cert.ProjPromptIdeal.τ).loc Cert.ProjPromptIdeal.main_arg1)
      ∧ m' ((c.tc : Thread Cert.ProjPromptRefIdeal.nD Cert.ProjPromptRefIdeal.τ).loc Cert.ProjPromptRefIdeal.main_arg2) = m ((c.tc : Thread Cert.ProjPromptIdeal.nD Cert.ProjPromptIdeal.τ).loc Cert.ProjPromptIdeal.main_arg2)
      ∧ m' ((c.tc : Thread Cert.ProjPromptRefIdeal.nD Cert.ProjPromptRefIdeal.τ).loc Cert.ProjPromptRefIdeal.main_arg3) = m ((c.tc : Thread Cert.ProjPromptIdeal.nD Cert.ProjPromptIdeal.τ).loc Cert.ProjPromptIdeal.main_arg3)
      ∧ m' ((c.tc : Thread Cert.ProjPromptRefIdeal.nD Cert.ProjPromptRefIdeal.τ).loc Cert.ProjPromptRefIdeal.main_arg4) = m ((c.tc : Thread Cert.ProjPromptIdeal.nD Cert.ProjPromptIdeal.τ).loc Cert.ProjPromptIdeal.main_arg4)
      ∧ m' ((c.tc : Thread Cert.ProjPromptRefIdeal.nD Cert.ProjPromptRefIdeal.τ).loc Cert.ProjPromptRefIdeal.main_arg5) = m ((c.tc : Thread Cert.ProjPromptIdeal.nD Cert.ProjPromptIdeal.τ).loc Cert.ProjPromptIdeal.main_arg5)
      ∧ m' ((c.tc : Thread Cert.ProjPromptRefIdeal.nD Cert.ProjPromptRefIdeal.τ).loc Cert.ProjPromptRefIdeal.main_arg6) = m ((c.tc : Thread Cert.ProjPromptIdeal.nD Cert.ProjPromptIdeal.τ).loc Cert.ProjPromptIdeal.main_arg6)
      ∧ m' ((c.tc : Thread Cert.ProjPromptRefIdeal.nD Cert.ProjPromptRefIdeal.τ).loc Cert.ProjPromptRefIdeal.main_arg7) = m ((c.tc : Thread Cert.ProjPromptIdeal.nD Cert.ProjPromptIdeal.τ).loc Cert.ProjPromptIdeal.main_arg7)) →
    ∃ (v0 : (c : Dev Cert.ProjPromptIdeal.nD) → Buf (Elt Ideal) ((c.tc : Thread Cert.ProjPromptIdeal.nD Cert.ProjPromptIdeal.τ).loc Cert.ProjPromptIdeal.main_v0_0)) (v1 : (c : Dev Cert.ProjPromptIdeal.nD) → Buf (Elt Ideal) ((c.tc : Thread Cert.ProjPromptIdeal.nD Cert.ProjPromptIdeal.τ).loc Cert.ProjPromptIdeal.main_v0_1)) (v2 : (c : Dev Cert.ProjPromptIdeal.nD) → Buf (Elt Ideal) ((c.tc : Thread Cert.ProjPromptIdeal.nD Cert.ProjPromptIdeal.τ).loc Cert.ProjPromptIdeal.main_v0_2)) (v3 : (c : Dev Cert.ProjPromptIdeal.nD) → Buf (Elt Ideal) ((c.tc : Thread Cert.ProjPromptIdeal.nD Cert.ProjPromptIdeal.τ).loc Cert.ProjPromptIdeal.main_v0_3)) (v4 : (c : Dev Cert.ProjPromptIdeal.nD) → Buf (Elt Ideal) ((c.tc : Thread Cert.ProjPromptIdeal.nD Cert.ProjPromptIdeal.τ).loc Cert.ProjPromptIdeal.main_v0_4)) (v5 : (c : Dev Cert.ProjPromptIdeal.nD) → Buf (Elt Ideal) ((c.tc : Thread Cert.ProjPromptIdeal.nD Cert.ProjPromptIdeal.τ).loc Cert.ProjPromptIdeal.main_v0_5)) (v6 : (c : Dev Cert.ProjPromptIdeal.nD) → Buf (Elt Ideal) ((c.tc : Thread Cert.ProjPromptIdeal.nD Cert.ProjPromptIdeal.τ).loc Cert.ProjPromptIdeal.main_v0_6)) (v7 : (c : Dev Cert.ProjPromptIdeal.nD) → Buf (Elt Ideal) ((c.tc : Thread Cert.ProjPromptIdeal.nD Cert.ProjPromptIdeal.τ).loc Cert.ProjPromptIdeal.main_v0_7)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v0_0) = v0 c
          ∧ r.2.mem ((c.tc : Thread Cert.ProjPromptIdeal.nD Cert.ProjPromptIdeal.τ).loc Cert.ProjPromptIdeal.main_v0_1) = v1 c
          ∧ r.2.mem ((c.tc : Thread Cert.ProjPromptIdeal.nD Cert.ProjPromptIdeal.τ).loc Cert.ProjPromptIdeal.main_v0_2) = v2 c
          ∧ r.2.mem ((c.tc : Thread Cert.ProjPromptIdeal.nD Cert.ProjPromptIdeal.τ).loc Cert.ProjPromptIdeal.main_v0_3) = v3 c
          ∧ r.2.mem ((c.tc : Thread Cert.ProjPromptIdeal.nD Cert.ProjPromptIdeal.τ).loc Cert.ProjPromptIdeal.main_v0_4) = v4 c
          ∧ r.2.mem ((c.tc : Thread Cert.ProjPromptIdeal.nD Cert.ProjPromptIdeal.τ).loc Cert.ProjPromptIdeal.main_v0_5) = v5 c
          ∧ r.2.mem ((c.tc : Thread Cert.ProjPromptIdeal.nD Cert.ProjPromptIdeal.τ).loc Cert.ProjPromptIdeal.main_v0_6) = v6 c
          ∧ r.2.mem ((c.tc : Thread Cert.ProjPromptIdeal.nD Cert.ProjPromptIdeal.τ).loc Cert.ProjPromptIdeal.main_v0_7) = v7 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
          ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
          ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
          ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4)
          ∧ r.2.mem ((c.tc : Thread Cert.ProjPromptIdeal.nD Cert.ProjPromptIdeal.τ).loc Cert.ProjPromptIdeal.main_arg5) = m ((c.tc : Thread Cert.ProjPromptIdeal.nD Cert.ProjPromptIdeal.τ).loc Cert.ProjPromptIdeal.main_arg5)
          ∧ r.2.mem ((c.tc : Thread Cert.ProjPromptIdeal.nD Cert.ProjPromptIdeal.τ).loc Cert.ProjPromptIdeal.main_arg6) = m ((c.tc : Thread Cert.ProjPromptIdeal.nD Cert.ProjPromptIdeal.τ).loc Cert.ProjPromptIdeal.main_arg6)
          ∧ r.2.mem ((c.tc : Thread Cert.ProjPromptIdeal.nD Cert.ProjPromptIdeal.τ).loc Cert.ProjPromptIdeal.main_arg7) = m ((c.tc : Thread Cert.ProjPromptIdeal.nD Cert.ProjPromptIdeal.τ).loc Cert.ProjPromptIdeal.main_arg7))
      ∧ θ_run (Cert.ProjPromptRefIdeal.defs (F := Ideal)) (onTc (τ := Cert.ProjPromptRefIdeal.τ) (Cert.ProjPromptRefIdeal.main (F := Ideal))) ⟨m', fun _ => 0, g'⟩ (fun r => ∀ c : Dev Cert.ProjPromptRefIdeal.nD,
          r.2.mem ((c.tc : Thread Cert.ProjPromptRefIdeal.nD Cert.ProjPromptRefIdeal.τ).loc Cert.ProjPromptRefIdeal.main_v70) = v0 c
          ∧ r.2.mem ((c.tc : Thread Cert.ProjPromptRefIdeal.nD Cert.ProjPromptRefIdeal.τ).loc Cert.ProjPromptRefIdeal.main_v71) = v1 c
          ∧ r.2.mem ((c.tc : Thread Cert.ProjPromptRefIdeal.nD Cert.ProjPromptRefIdeal.τ).loc Cert.ProjPromptRefIdeal.main_v72) = v2 c
          ∧ r.2.mem ((c.tc : Thread Cert.ProjPromptRefIdeal.nD Cert.ProjPromptRefIdeal.τ).loc Cert.ProjPromptRefIdeal.main_v75) = v3 c
          ∧ r.2.mem ((c.tc : Thread Cert.ProjPromptRefIdeal.nD Cert.ProjPromptRefIdeal.τ).loc Cert.ProjPromptRefIdeal.main_v78) = v4 c
          ∧ r.2.mem ((c.tc : Thread Cert.ProjPromptRefIdeal.nD Cert.ProjPromptRefIdeal.τ).loc Cert.ProjPromptRefIdeal.main_v79) = v5 c
          ∧ r.2.mem ((c.tc : Thread Cert.ProjPromptRefIdeal.nD Cert.ProjPromptRefIdeal.τ).loc Cert.ProjPromptRefIdeal.main_v81) = v6 c
          ∧ r.2.mem ((c.tc : Thread Cert.ProjPromptRefIdeal.nD Cert.ProjPromptRefIdeal.τ).loc Cert.ProjPromptRefIdeal.main_v82) = v7 c
          ∧ r.2.mem ((c.tc : Thread Cert.ProjPromptRefIdeal.nD Cert.ProjPromptRefIdeal.τ).loc Cert.ProjPromptRefIdeal.main_arg0) = m' ((c.tc : Thread Cert.ProjPromptRefIdeal.nD Cert.ProjPromptRefIdeal.τ).loc Cert.ProjPromptRefIdeal.main_arg0)
          ∧ r.2.mem ((c.tc : Thread Cert.ProjPromptRefIdeal.nD Cert.ProjPromptRefIdeal.τ).loc Cert.ProjPromptRefIdeal.main_arg1) = m' ((c.tc : Thread Cert.ProjPromptRefIdeal.nD Cert.ProjPromptRefIdeal.τ).loc Cert.ProjPromptRefIdeal.main_arg1)
          ∧ r.2.mem ((c.tc : Thread Cert.ProjPromptRefIdeal.nD Cert.ProjPromptRefIdeal.τ).loc Cert.ProjPromptRefIdeal.main_arg2) = m' ((c.tc : Thread Cert.ProjPromptRefIdeal.nD Cert.ProjPromptRefIdeal.τ).loc Cert.ProjPromptRefIdeal.main_arg2)
          ∧ r.2.mem ((c.tc : Thread Cert.ProjPromptRefIdeal.nD Cert.ProjPromptRefIdeal.τ).loc Cert.ProjPromptRefIdeal.main_arg3) = m' ((c.tc : Thread Cert.ProjPromptRefIdeal.nD Cert.ProjPromptRefIdeal.τ).loc Cert.ProjPromptRefIdeal.main_arg3)
          ∧ r.2.mem ((c.tc : Thread Cert.ProjPromptRefIdeal.nD Cert.ProjPromptRefIdeal.τ).loc Cert.ProjPromptRefIdeal.main_arg4) = m' ((c.tc : Thread Cert.ProjPromptRefIdeal.nD Cert.ProjPromptRefIdeal.τ).loc Cert.ProjPromptRefIdeal.main_arg4)
          ∧ r.2.mem ((c.tc : Thread Cert.ProjPromptRefIdeal.nD Cert.ProjPromptRefIdeal.τ).loc Cert.ProjPromptRefIdeal.main_arg5) = m' ((c.tc : Thread Cert.ProjPromptRefIdeal.nD Cert.ProjPromptRefIdeal.τ).loc Cert.ProjPromptRefIdeal.main_arg5)
          ∧ r.2.mem ((c.tc : Thread Cert.ProjPromptRefIdeal.nD Cert.ProjPromptRefIdeal.τ).loc Cert.ProjPromptRefIdeal.main_arg6) = m' ((c.tc : Thread Cert.ProjPromptRefIdeal.nD Cert.ProjPromptRefIdeal.τ).loc Cert.ProjPromptRefIdeal.main_arg6)
          ∧ r.2.mem ((c.tc : Thread Cert.ProjPromptRefIdeal.nD Cert.ProjPromptRefIdeal.τ).loc Cert.ProjPromptRefIdeal.main_arg7) = m' ((c.tc : Thread Cert.ProjPromptRefIdeal.nD Cert.ProjPromptRefIdeal.τ).loc Cert.ProjPromptRefIdeal.main_arg7))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v0)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v0) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v24) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4))

def preserves_FfnFirstPrompt_FfnFirstPromptIdeal : Prop :=
  True

def algebraic_FfnFirstPromptIdeal_FfnFirstPromptRefIdeal [hFfnFirstPromptIdeal : Cert.FfnFirstPromptIdeal.Facts] [hFfnFirstPromptRefIdeal : Cert.FfnFirstPromptRefIdeal.Facts] : Prop :=
  ∀ (m : (ℓ : Loc Cert.FfnFirstPromptIdeal.nD Cert.FfnFirstPromptIdeal.τ Cert.FfnFirstPromptIdeal.sig) → Buf (Elt Ideal) ℓ) (g : Dev Cert.FfnFirstPromptIdeal.nD → PrngReg)
    (m' : (ℓ : Loc Cert.FfnFirstPromptRefIdeal.nD Cert.FfnFirstPromptRefIdeal.τ Cert.FfnFirstPromptRefIdeal.sig) → Buf (Elt Ideal) ℓ) (g' : Dev Cert.FfnFirstPromptRefIdeal.nD → PrngReg), Pre_FfnFirstPromptIdeal m →
    (∀ c : Dev Cert.FfnFirstPromptIdeal.nD,
      m' ((c.tc : Thread Cert.FfnFirstPromptRefIdeal.nD Cert.FfnFirstPromptRefIdeal.τ).loc Cert.FfnFirstPromptRefIdeal.main_arg0) = m ((c.tc : Thread Cert.FfnFirstPromptIdeal.nD Cert.FfnFirstPromptIdeal.τ).loc Cert.FfnFirstPromptIdeal.main_arg0)
      ∧ m' ((c.tc : Thread Cert.FfnFirstPromptRefIdeal.nD Cert.FfnFirstPromptRefIdeal.τ).loc Cert.FfnFirstPromptRefIdeal.main_arg1) = m ((c.tc : Thread Cert.FfnFirstPromptIdeal.nD Cert.FfnFirstPromptIdeal.τ).loc Cert.FfnFirstPromptIdeal.main_arg1)
      ∧ m' ((c.tc : Thread Cert.FfnFirstPromptRefIdeal.nD Cert.FfnFirstPromptRefIdeal.τ).loc Cert.FfnFirstPromptRefIdeal.main_arg2) = m ((c.tc : Thread Cert.FfnFirstPromptIdeal.nD Cert.FfnFirstPromptIdeal.τ).loc Cert.FfnFirstPromptIdeal.main_arg2)
      ∧ m' ((c.tc : Thread Cert.FfnFirstPromptRefIdeal.nD Cert.FfnFirstPromptRefIdeal.τ).loc Cert.FfnFirstPromptRefIdeal.main_arg3) = m ((c.tc : Thread Cert.FfnFirstPromptIdeal.nD Cert.FfnFirstPromptIdeal.τ).loc Cert.FfnFirstPromptIdeal.main_arg3)
      ∧ m' ((c.tc : Thread Cert.FfnFirstPromptRefIdeal.nD Cert.FfnFirstPromptRefIdeal.τ).loc Cert.FfnFirstPromptRefIdeal.main_arg4) = m ((c.tc : Thread Cert.FfnFirstPromptIdeal.nD Cert.FfnFirstPromptIdeal.τ).loc Cert.FfnFirstPromptIdeal.main_arg4)) →
    ∃ (v0 : (c : Dev Cert.FfnFirstPromptIdeal.nD) → Buf (Elt Ideal) ((c.tc : Thread Cert.FfnFirstPromptIdeal.nD Cert.FfnFirstPromptIdeal.τ).loc Cert.FfnFirstPromptIdeal.main_v0)),
      θ_run (Cert.FfnFirstPromptIdeal.defs (F := Ideal)) (onTc (τ := Cert.FfnFirstPromptIdeal.τ) (Cert.FfnFirstPromptIdeal.main (F := Ideal))) ⟨m, fun _ => 0, g⟩ (fun r => ∀ c : Dev Cert.FfnFirstPromptIdeal.nD,
          r.2.mem ((c.tc : Thread Cert.FfnFirstPromptIdeal.nD Cert.FfnFirstPromptIdeal.τ).loc Cert.FfnFirstPromptIdeal.main_v0) = v0 c
          ∧ r.2.mem ((c.tc : Thread Cert.FfnFirstPromptIdeal.nD Cert.FfnFirstPromptIdeal.τ).loc Cert.FfnFirstPromptIdeal.main_arg0) = m ((c.tc : Thread Cert.FfnFirstPromptIdeal.nD Cert.FfnFirstPromptIdeal.τ).loc Cert.FfnFirstPromptIdeal.main_arg0)
          ∧ r.2.mem ((c.tc : Thread Cert.FfnFirstPromptIdeal.nD Cert.FfnFirstPromptIdeal.τ).loc Cert.FfnFirstPromptIdeal.main_arg1) = m ((c.tc : Thread Cert.FfnFirstPromptIdeal.nD Cert.FfnFirstPromptIdeal.τ).loc Cert.FfnFirstPromptIdeal.main_arg1)
          ∧ r.2.mem ((c.tc : Thread Cert.FfnFirstPromptIdeal.nD Cert.FfnFirstPromptIdeal.τ).loc Cert.FfnFirstPromptIdeal.main_arg2) = m ((c.tc : Thread Cert.FfnFirstPromptIdeal.nD Cert.FfnFirstPromptIdeal.τ).loc Cert.FfnFirstPromptIdeal.main_arg2)
          ∧ r.2.mem ((c.tc : Thread Cert.FfnFirstPromptIdeal.nD Cert.FfnFirstPromptIdeal.τ).loc Cert.FfnFirstPromptIdeal.main_arg3) = m ((c.tc : Thread Cert.FfnFirstPromptIdeal.nD Cert.FfnFirstPromptIdeal.τ).loc Cert.FfnFirstPromptIdeal.main_arg3)
          ∧ r.2.mem ((c.tc : Thread Cert.FfnFirstPromptIdeal.nD Cert.FfnFirstPromptIdeal.τ).loc Cert.FfnFirstPromptIdeal.main_arg4) = m ((c.tc : Thread Cert.FfnFirstPromptIdeal.nD Cert.FfnFirstPromptIdeal.τ).loc Cert.FfnFirstPromptIdeal.main_arg4))
      ∧ θ_run (Cert.FfnFirstPromptRefIdeal.defs (F := Ideal)) (onTc (τ := Cert.FfnFirstPromptRefIdeal.τ) (Cert.FfnFirstPromptRefIdeal.main (F := Ideal))) ⟨m', fun _ => 0, g'⟩ (fun r => ∀ c : Dev Cert.FfnFirstPromptRefIdeal.nD,
          r.2.mem ((c.tc : Thread Cert.FfnFirstPromptRefIdeal.nD Cert.FfnFirstPromptRefIdeal.τ).loc Cert.FfnFirstPromptRefIdeal.main_v24) = v0 c
          ∧ r.2.mem ((c.tc : Thread Cert.FfnFirstPromptRefIdeal.nD Cert.FfnFirstPromptRefIdeal.τ).loc Cert.FfnFirstPromptRefIdeal.main_arg0) = m' ((c.tc : Thread Cert.FfnFirstPromptRefIdeal.nD Cert.FfnFirstPromptRefIdeal.τ).loc Cert.FfnFirstPromptRefIdeal.main_arg0)
          ∧ r.2.mem ((c.tc : Thread Cert.FfnFirstPromptRefIdeal.nD Cert.FfnFirstPromptRefIdeal.τ).loc Cert.FfnFirstPromptRefIdeal.main_arg1) = m' ((c.tc : Thread Cert.FfnFirstPromptRefIdeal.nD Cert.FfnFirstPromptRefIdeal.τ).loc Cert.FfnFirstPromptRefIdeal.main_arg1)
          ∧ r.2.mem ((c.tc : Thread Cert.FfnFirstPromptRefIdeal.nD Cert.FfnFirstPromptRefIdeal.τ).loc Cert.FfnFirstPromptRefIdeal.main_arg2) = m' ((c.tc : Thread Cert.FfnFirstPromptRefIdeal.nD Cert.FfnFirstPromptRefIdeal.τ).loc Cert.FfnFirstPromptRefIdeal.main_arg2)
          ∧ r.2.mem ((c.tc : Thread Cert.FfnFirstPromptRefIdeal.nD Cert.FfnFirstPromptRefIdeal.τ).loc Cert.FfnFirstPromptRefIdeal.main_arg3) = m' ((c.tc : Thread Cert.FfnFirstPromptRefIdeal.nD Cert.FfnFirstPromptRefIdeal.τ).loc Cert.FfnFirstPromptRefIdeal.main_arg3)
          ∧ r.2.mem ((c.tc : Thread Cert.FfnFirstPromptRefIdeal.nD Cert.FfnFirstPromptRefIdeal.τ).loc Cert.FfnFirstPromptRefIdeal.main_arg4) = m' ((c.tc : Thread Cert.FfnFirstPromptRefIdeal.nD Cert.FfnFirstPromptRefIdeal.τ).loc Cert.FfnFirstPromptRefIdeal.main_arg4))

def Claim : Prop :=
  ∃ (hSample : Cert.Sample.Facts) (hSampleIdeal : Cert.SampleIdeal.Facts) (hSampleRefIdeal : Cert.SampleRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hFfnPrompt : Cert.FfnPrompt.Facts) (hFfnPromptIdeal : Cert.FfnPromptIdeal.Facts) (hFfnPromptRefIdeal : Cert.FfnPromptRefIdeal.Facts) (hProjPrompt : Cert.ProjPrompt.Facts) (hProjPromptIdeal : Cert.ProjPromptIdeal.Facts) (hProjPromptRefIdeal : Cert.ProjPromptRefIdeal.Facts) (hFfnFirst : Cert.FfnFirst.Facts) (hFfnFirstIdeal : Cert.FfnFirstIdeal.Facts) (hFfnFirstRefIdeal : Cert.FfnFirstRefIdeal.Facts) (hFfnFirstPrompt : Cert.FfnFirstPrompt.Facts) (hFfnFirstPromptIdeal : Cert.FfnFirstPromptIdeal.Facts) (hFfnFirstPromptRefIdeal : Cert.FfnFirstPromptRefIdeal.Facts) (hPre_finite_scores : Cert.Pre_finite_scores.Facts),
    quiescent_Sample (hSample := hSample)
    ∧ quiescent_SampleIdeal (hSampleIdeal := hSampleIdeal)
    ∧ quiescent_SampleIdeal_pre_finite_scores (hSampleIdeal := hSampleIdeal) (hPre_finite_scores := hPre_finite_scores)
    ∧ quiescent_SampleRefIdeal (hSampleRefIdeal := hSampleRefIdeal)
    ∧ quiescent_SampleRefIdeal_pre_finite_scores (hSampleRefIdeal := hSampleRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_FfnPrompt (hFfnPrompt := hFfnPrompt)
    ∧ quiescent_FfnPromptIdeal (hFfnPromptIdeal := hFfnPromptIdeal)
    ∧ quiescent_FfnPromptRefIdeal (hFfnPromptRefIdeal := hFfnPromptRefIdeal)
    ∧ quiescent_ProjPrompt (hProjPrompt := hProjPrompt)
    ∧ quiescent_ProjPromptIdeal (hProjPromptIdeal := hProjPromptIdeal)
    ∧ quiescent_ProjPromptRefIdeal (hProjPromptRefIdeal := hProjPromptRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnFirstPrompt (hFfnFirstPrompt := hFfnFirstPrompt)
    ∧ quiescent_FfnFirstPromptIdeal (hFfnFirstPromptIdeal := hFfnFirstPromptIdeal)
    ∧ quiescent_FfnFirstPromptRefIdeal (hFfnFirstPromptRefIdeal := hFfnFirstPromptRefIdeal)
    ∧ preserves_Sample_SampleIdeal
    ∧ algebraic_SampleIdeal_SampleRefIdeal_pre_finite_scores (hSampleIdeal := hSampleIdeal) (hSampleRefIdeal := hSampleRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_FfnPrompt_FfnPromptIdeal
    ∧ algebraic_FfnPromptIdeal_FfnPromptRefIdeal (hFfnPromptIdeal := hFfnPromptIdeal) (hFfnPromptRefIdeal := hFfnPromptRefIdeal)
    ∧ preserves_ProjPrompt_ProjPromptIdeal
    ∧ algebraic_ProjPromptIdeal_ProjPromptRefIdeal (hProjPromptIdeal := hProjPromptIdeal) (hProjPromptRefIdeal := hProjPromptRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnFirstPrompt_FfnFirstPromptIdeal
    ∧ algebraic_FfnFirstPromptIdeal_FfnFirstPromptRefIdeal (hFfnFirstPromptIdeal := hFfnFirstPromptIdeal) (hFfnFirstPromptRefIdeal := hFfnFirstPromptRefIdeal)
-- ==== Pre_finite_scores.lean ====
abbrev S2048x1024 : Shape := ⟨2, ![2048, 1024]⟩
abbrev S2x32x2048x8x128 : Shape := ⟨5, ![2, 32, 2048, 8, 128]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2x32x2048x8x128 : S_.BroadcastsInDim S2x32x2048x8x128 (![] : Fin 0 → Fin S2x32x2048x8x128.rank)

variable [Facts]

def fn {F : FTy → Type} [FloatOps F] (main_arg0 : FVec F S2048x1024 .bf16) (main_arg1 : FVec F S2048x1024 .bf16) (main_arg2 : FVec F S2048x1024 .bf16) (main_arg3 : FVec F S2x32x2048x8x128 .f32) (main_arg4 : FVec F S2x32x2048x8x128 .f32) : IVec S2048x1024 1 × IVec S2048x1024 1 × IVec S2x32x2048x8x128 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S2x32x2048x8x128 .f32 := Host.absf main_arg3
  let main_cst_1 : FVec F S_ .f32 := constant S_ .f32 0x7F800000#32
  let main_v9 : FVec F S2x32x2048x8x128 .f32 := broadcastInDim S2x32x2048x8x128 ![] bcast_S_S2x32x2048x8x128 main_cst_1
  let main_v10 : IVec S2x32x2048x8x128 1 := cmpf .olt main_v8 main_v9
  (main_v3, main_v7, main_v10)
-- ==== Sample.lean ====
abbrev S2048x1024 : Shape := ⟨2, ![2048, 1024]⟩
abbrev S2x32x2048x8x128 : Shape := ⟨5, ![2, 32, 2048, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S32x64x1024 : Shape := ⟨3, ![32, 64, 1024]⟩
abbrev S2x32x16384x128 : Shape := ⟨4, ![2, 32, 16384, 128]⟩
abbrev S1x64x128 : Shape := ⟨3, ![1, 64, 128]⟩
abbrev S1x1x16384x128 : Shape := ⟨4, ![1, 1, 16384, 128]⟩
abbrev S64x128 : Shape := ⟨2, ![64, 128]⟩
abbrev S64x256 : Shape := ⟨2, ![64, 256]⟩
abbrev S1x1x128x128 : Shape := ⟨4, ![1, 1, 128, 128]⟩

abbrev nBuf : Space → Nat
  | .hbm => 23
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2x32x2048x8x128, .f32⟩
  | .hbm, ⟨4, _⟩ => ⟨S2x32x2048x8x128, .f32⟩
  | .hbm, ⟨5, _⟩ => ⟨S128, .i32⟩
  | .hbm, ⟨6, _⟩ => ⟨S128x1, .i32⟩
  | .hbm, ⟨7, _⟩ => ⟨S128, .i32⟩
  | .hbm, ⟨8, _⟩ => ⟨S1x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S128x128, .bf16⟩
  | .hbm, ⟨13, _⟩ => ⟨S_, .bf16⟩
  | .hbm, ⟨14, _⟩ => ⟨S128x128, .bf16⟩
  | .hbm, ⟨15, _⟩ => ⟨S128x256, .bf16⟩
  | .hbm, ⟨16, _⟩ => ⟨S256x256, .bf16⟩
  | .hbm, ⟨17, _⟩ => ⟨S32x64x1024, .bf16⟩
  | .hbm, ⟨18, _⟩ => ⟨S32x64x1024, .bf16⟩
  | .hbm, ⟨19, _⟩ => ⟨S32x64x1024, .bf16⟩
  | .hbm, ⟨20, _⟩ => ⟨S2x32x16384x128, .f32⟩
  | .hbm, ⟨21, _⟩ => ⟨S2x32x16384x128, .f32⟩
  | .hbm, ⟨22, _⟩ => ⟨S32x64x1024, .bf16⟩
  | .local _ .vmem, ⟨0, _⟩ => ⟨S1x64x128, .bf16⟩
  | .local _ .vmem, ⟨1, _⟩ => ⟨S1x64x128, .bf16⟩
  | .local _ .vmem, ⟨2, _⟩ => ⟨S1x64x128, .bf16⟩
  | .local _ .vmem, ⟨3, _⟩ => ⟨S1x64x128, .bf16⟩
  | .local _ .vmem, ⟨4, _⟩ => ⟨S1x64x128, .bf16⟩
  | .local _ .vmem, ⟨5, _⟩ => ⟨S1x64x128, .bf16⟩
  | .local _ .vmem, ⟨6, _⟩ => ⟨S1x1x16384x128, .f32⟩
  | .local _ .vmem, ⟨7, _⟩ => ⟨S1x1x16384x128, .f32⟩
  | .local _ .vmem, ⟨8, _⟩ => ⟨S1x1x16384x128, .f32⟩
  | .local _ .vmem, ⟨9, _⟩ => ⟨S1x1x16384x128, .f32⟩
  | .local _ .vmem, ⟨10, _⟩ => ⟨S256x256, .bf16⟩
  | .local _ .vmem, ⟨11, _⟩ => ⟨S1x64x128, .bf16⟩
  | .local _ .vmem, ⟨12, _⟩ => ⟨S1x64x128, .bf16⟩
  | .local _ .vmem, ⟨13, _⟩ => ⟨S128x128, .bf16⟩
  | .local _ .vmem, ⟨14, _⟩ => ⟨S128x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32 : BitVec 32 := 0#32
  let c16_i32 : BitVec 32 := 16#32
  let v58 : BitVec 32 := Scalar.addi c0_i32 c16_i32
  let c1_i32 : BitVec 32 := 1#32
  ⟨c0_i32, v58, c1_i32⟩
def k0_off1 (i : grid0.Coords) (k0_t1 : Fin k0_t1_loop.trips) : Fin 4 → Nat :=
  let c0_36 : Index := 0#32
  let c0_37 : Index := 0#32
  let c15_i32 : BitVec 32 := 15#32
  let c0_i32 : BitVec 32 := 0#32
  let c1_i32 : BitVec 32 := 1#32
  let arg11 : BitVec 32 := Scf.iv c0_i32 c1_i32 k0_t1
  let v64 : BitVec 32 := Scalar.subi c15_i32 arg11
  let c1024_i32 : BitVec 32 := 1024#32
  let v65 : BitVec 32 := Scalar.muli v64 c1024_i32
  let arg1 : BitVec 32 := BitVec.ofNat 32 (i 1).val
  let v66 : BitVec 32 := Scalar.addi v65 arg1
  let v67 : Index := Scalar.indexCast v66
  let c0_38 : Index := 0#32
  ![0, 0, v67.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SampleRefIdeal.lean ====
abbrev S2048x1024 : Shape := ⟨2, ![2048, 1024]⟩
abbrev S2x32x2048x8x128 : Shape := ⟨5, ![2, 32, 2048, 8, 128]⟩
abbrev S32x64x8x128 : Shape := ⟨4, ![32, 64, 8, 128]⟩
abbrev S1x32x2048x8x128 : Shape := ⟨5, ![1, 32, 2048, 8, 128]⟩
abbrev S32x2048x8x128 : Shape := ⟨4, ![32, 2048, 8, 128]⟩
abbrev S32x2112x8x128 : Shape := ⟨4, ![32, 2112, 8, 128]⟩
abbrev S64 : Shape := ⟨1, ![64]⟩
abbrev S_ : Shape := ⟨0, ![]⟩
abbrev S2112 : Shape := ⟨1, ![2112]⟩
abbrev S32x8x64x2112 : Shape := ⟨4, ![32, 8, 64, 2112]⟩
abbrev S1x2112 : Shape := ⟨2, ![1, 2112]⟩
abbrev S64x1 : Shape := ⟨2, ![64, 1]⟩
abbrev S64x2112 : Shape := ⟨2, ![64, 2112]⟩
abbrev S32x8x128x64 : Shape := ⟨4, ![32, 8, 128, 64]⟩
abbrev S32x64x1024 : Shape := ⟨3, ![32, 64, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2x32x2048x8x128, .f32⟩
  | .hbm, ⟨4, _⟩ => ⟨S2x32x2048x8x128, .f32⟩
  | .hbm, ⟨5, _⟩ => ⟨S32x64x8x128, .bf16⟩
  | .hbm, ⟨6, _⟩ => ⟨S32x64x8x128, .bf16⟩
  | .hbm, ⟨7, _⟩ => ⟨S32x64x8x128, .bf16⟩
  | .hbm, ⟨8, _⟩ => ⟨S1x32x2048x8x128, .f32⟩
  | .hbm, ⟨9, _⟩ => ⟨S32x2048x8x128, .f32⟩
  | .hbm, ⟨10, _⟩ => ⟨S32x64x8x128, .f32⟩
  | .hbm, ⟨11, _⟩ => ⟨S32x2112x8x128, .f32⟩
  | .hbm, ⟨12, _⟩ => ⟨S1x32x2048x8x128, .f32⟩
  | .hbm, ⟨13, _⟩ => ⟨S32x2048x8x128, .f32⟩
  | .hbm, ⟨14, _⟩ => ⟨S32x64x8x128, .f32⟩
  | .hbm, ⟨15, _⟩ => ⟨S32x2112x8x128, .f32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S2112, .i32⟩
  | .hbm, ⟨21, _⟩ => ⟨S32x64x8x128, .f32⟩
  | .hbm, ⟨22, _⟩ => ⟨S32x8x64x2112, .f32⟩
  | .hbm, ⟨23, _⟩ => ⟨S1x2112, .i32⟩
  | .hbm, ⟨24, _⟩ => ⟨S64x1, .i32⟩
  | .hbm, ⟨25, _⟩ => ⟨S64x2112, .i32⟩
  | .hbm, ⟨26, _⟩ => ⟨S64x2112, .i32⟩
  | .hbm, ⟨27, _⟩ => ⟨S64x2112, .i1⟩
  | .hbm, ⟨28, _⟩ => ⟨S32x8x64x2112, .f32⟩
  | .hbm, ⟨29, _⟩ => ⟨S_, .f32⟩
  | .hbm, ⟨30, _⟩ => ⟨S32x8x64x2112, .f32⟩
  | .hbm, ⟨31, _⟩ => ⟨S32x8x64x2112, .f32⟩
  | .hbm, ⟨32, _⟩ => ⟨S32x8x64x2112, .f32⟩
  | .hbm, ⟨33, _⟩ => ⟨S32x8x64x2112, .f32⟩
  | .hbm, ⟨34, _⟩ => ⟨S32x8x64x2112, .i1⟩
  | .hbm, ⟨35, _⟩ => ⟨S32x8x64x2112, .f32⟩
  | .hbm, ⟨36, _⟩ => ⟨S32x8x64x2112, .f32⟩
  | .hbm, ⟨37, _⟩ => ⟨S32x8x64x2112, .f32⟩
  | .hbm, ⟨38, _⟩ => ⟨S32x8x64x2112, .f32⟩
  | .hbm, ⟨39, _⟩ => ⟨S32x8x64x2112, .f32⟩
  | .hbm, ⟨40, _⟩ => ⟨S32x8x64x2112, .f32⟩
  | .hbm, ⟨41, _⟩ => ⟨S32x8x64x2112, .f32⟩
  | .hbm, ⟨42, _⟩ => ⟨S32x8x64x2112, .f32⟩
  | .hbm, ⟨43, _⟩ => ⟨S32x8x64x2112, .f32⟩
  | .hbm, ⟨44, _⟩ => ⟨S32x8x64x2112, .f32⟩
  | .hbm, ⟨45, _⟩ => ⟨S32x8x64x2112, .f32⟩
  | .hbm, ⟨46, _⟩ => ⟨S_, .f32⟩
  | .hbm, ⟨47, _⟩ => ⟨S32x8x64x2112, .f32⟩
  | .hbm, ⟨48, _⟩ => ⟨S32x8x64x2112, .f32⟩
  | .hbm, ⟨49, _⟩ => ⟨S32x8x64x2112, .f32⟩
  | .hbm, ⟨50, _⟩ => ⟨S32x8x64x2112, .f32⟩
  | .hbm, ⟨51, _⟩ => ⟨S32x8x64x2112, .i1⟩
  | .hbm, ⟨52, _⟩ => ⟨S32x8x64x2112, .f32⟩
  | .hbm, ⟨53, _⟩ => ⟨S32x8x64x2112, .f32⟩
  | .hbm, ⟨54, _⟩ => ⟨S32x8x64x2112, .f32⟩
  | .hbm, ⟨55, _⟩ => ⟨S32x8x64x2112, .f32⟩
  | .hbm, ⟨56, _⟩ => ⟨S32x8x64x2112, .f32⟩
  | .hbm, ⟨57, _⟩ => ⟨S32x8x64x2112, .f32⟩
  | .hbm, ⟨58, _⟩ => ⟨S32x8x64x2112, .f32⟩
  | .hbm, ⟨59, _⟩ => ⟨S32x8x64x2112, .f32⟩
  | .hbm, ⟨60, _⟩ => ⟨S32x8x64x2112, .f32⟩
  | .hbm, ⟨61, _⟩ => ⟨S_, .f32⟩
  | .hbm, ⟨62, _⟩ => ⟨S_, .f32⟩
  | .hbm, ⟨63, _⟩ => ⟨S32x8x64x2112, .i1⟩
  | .hbm, ⟨64, _⟩ => ⟨S32x8x64x2112, .f32⟩
  | .hbm, ⟨65, _⟩ => ⟨S32x8x64x2112, .f32⟩
  | .hbm, ⟨66, _⟩ => ⟨S_, .f32⟩
  | .hbm, ⟨67, _⟩ => ⟨S_, .f32⟩
  | .hbm, ⟨68, _⟩ => ⟨S32x8x64x2112, .f32⟩
  | .hbm, ⟨69, _⟩ => ⟨S32x8x64x2112, .f32⟩
  | .hbm, ⟨70, _⟩ => ⟨S32x8x64x2112, .f32⟩
  | .hbm, ⟨71, _⟩ => ⟨S32x8x64x2112, .f32⟩
  | .hbm, ⟨72, _⟩ => ⟨S_, .f32⟩
  | .hbm, ⟨73, _⟩ => ⟨S_, .f32⟩
  | .hbm, ⟨74, _⟩ => ⟨S32x8x64x2112, .i1⟩
  | .hbm, ⟨75, _⟩ => ⟨S32x8x64x2112, .f32⟩
  | .hbm, ⟨76, _⟩ => ⟨S32x8x64x2112, .f32⟩
  | .hbm, ⟨77, _⟩ => ⟨S32x8x128x64, .f32⟩
  | .hbm, ⟨78, _⟩ => ⟨S32x64x8x128, .f32⟩
  | .hbm, ⟨79, _⟩ => ⟨S32x64x8x128, .bf16⟩
  | .hbm, ⟨80, _⟩ => ⟨S32x64x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_call0_cst : Ref sig .tc := ⟨.hbm, 46, rfl⟩
abbrev main_call1_call0_v0 : Ref sig .tc := ⟨.hbm, 47, rfl⟩
abbrev main_call1_call0_v1 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_v8 : Ref sig .tc := ⟨.hbm, 55, rfl⟩
abbrev main_call1_call0_v9 : Ref sig .tc := ⟨.hbm, 56, rfl⟩
abbrev main_call1_call0_v10 : Ref sig .tc := ⟨.hbm, 57, rfl⟩
abbrev main_call1_call0_v11 : Ref sig .tc := ⟨.hbm, 58, rfl⟩
abbrev main_call1_v1 : Ref sig .tc := ⟨.hbm, 59, rfl⟩
abbrev main_v24 : Ref sig .tc := ⟨.hbm, 60, rfl⟩
abbrev main_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v25 : Ref sig .tc := ⟨.hbm, 65, rfl⟩
abbrev main_call3_cst : Ref sig .tc := ⟨.hbm, 66, rfl⟩
abbrev main_call3_v0 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_0 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩

abbrev nD : Nat := 1
abbrev τ : Topo := Topo.v7x

variable {F : FTy → Type} [FloatOps F]
-- ==== Ffn.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S_ : Shape := ⟨0, ![]⟩
abbrev S2048 : Shape := ⟨1, ![2048]⟩
abbrev S2048x1 : Shape := ⟨2, ![2048, 1]⟩
abbrev S1x2048x11264 : Shape := ⟨3, ![1, 2048, 11264]⟩
abbrev S2048x11264 : Shape := ⟨2, ![2048, 11264]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048x11264, .bf16⟩
  | .hbm, ⟨21, _⟩ => ⟨S2048x11264, .bf16⟩
  | .hbm, ⟨22, _⟩ => ⟨S2048x11264, .f32⟩
  | .hbm, ⟨23, _⟩ => ⟨S2048x11264, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S_, .f32⟩
  | .hbm, ⟨28, _⟩ => ⟨S2048x5632, .f32⟩
  | .hbm, ⟨29, _⟩ => ⟨S2048x5632, .f32⟩
  | .hbm, ⟨30, _⟩ => ⟨S_, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S1x5632x2048, .bf16⟩
  | .hbm, ⟨37, _⟩ => ⟨S5632x2048, .bf16⟩
  | .hbm, ⟨38, _⟩ => ⟨S5632x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Merge.lean ====
abbrev S8192x1024 : Shape := ⟨2, ![8192, 1024]⟩
abbrev S16384x1024 : Shape := ⟨2, ![16384, 1024]⟩
abbrev S8192x4096 : Shape := ⟨2, ![8192, 4096]⟩
abbrev S8192x2048 : Shape := ⟨2, ![8192, 2048]⟩
abbrev S2x8x128x128 : Shape := ⟨4, ![2, 8, 128, 128]⟩
abbrev S2x8x128 : Shape := ⟨3, ![2, 8, 128]⟩
abbrev S2x1024x2048 : Shape := ⟨3, ![2, 1024, 2048]⟩
abbrev S2x2048x2048 : Shape := ⟨3, ![2, 2048, 2048]⟩
abbrev S1x8x128 : Shape := ⟨3, ![1, 8, 128]⟩
abbrev S8x128 : Shape := ⟨2, ![8, 128]⟩
abbrev S8x128x1 : Shape := ⟨3, ![8, 128, 1]⟩
abbrev S8x128x128 : Shape := ⟨3, ![8, 128, 128]⟩
abbrev S1x8x128x128 : Shape := ⟨4, ![1, 8, 128, 128]⟩
abbrev S256x1024 : Shape := ⟨2, ![256, 1024]⟩
abbrev S256x4096 : Shape := ⟨2, ![256, 4096]⟩
abbrev S256x2048 : Shape := ⟨2, ![256, 2048]⟩
abbrev S1x1024x2048 : Shape := ⟨3, ![1, 1024, 2048]⟩
abbrev S1x2048x2048 : Shape := ⟨3, ![1, 2048, 2048]⟩
abbrev S128x128 : Shape := ⟨2, ![128, 128]⟩
abbrev S1x128x128 : Shape := ⟨3, ![1, 128, 128]⟩
abbrev S1024x2048 : Shape := ⟨2, ![1024, 2048]⟩
abbrev S2048x2048 : Shape := ⟨2, ![2048, 2048]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16384x1024, .f32⟩
  | .hbm, ⟨3, _⟩ => ⟨S8192x4096, .bf16⟩
  | .hbm, ⟨4, _⟩ => ⟨S8192x2048, .f32⟩
  | .hbm, ⟨5, _⟩ => ⟨S2x8x128x128, .f32⟩
  | .hbm, ⟨6, _⟩ => ⟨S2x8x128, .f32⟩
  | .hbm, ⟨7, _⟩ => ⟨S2x1024x2048, .bf16⟩
  | .hbm, ⟨8, _⟩ => ⟨S2x1024x2048, .bf16⟩
  | .hbm, ⟨9, _⟩ => ⟨S2x2048x2048, .bf16⟩
  | .hbm, ⟨10, _⟩ => ⟨S1x8x128, .f32⟩
  | .hbm, ⟨11, _⟩ => ⟨S8x128, .f32⟩
  | .hbm, ⟨12, _⟩ => ⟨S8x128x1, .f32⟩
  | .hbm, ⟨13, _⟩ => ⟨S8x128x128, .f32⟩
  | .hbm, ⟨14, _⟩ => ⟨S1x8x128x128, .f32⟩
  | .hbm, ⟨15, _⟩ => ⟨S8x128x128, .f32⟩
  | .hbm, ⟨16, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x4096, .bf16⟩
  | .local _ .vmem, ⟨7, _⟩ => ⟨S256x4096, .bf16⟩
  | .local _ .vmem, ⟨8, _⟩ => ⟨S256x2048, .f32⟩
  | .local _ .vmem, ⟨9, _⟩ => ⟨S256x2048, .f32⟩
  | .local _ .vmem, ⟨10, _⟩ => ⟨S8x128x128, .f32⟩
  | .local _ .vmem, ⟨11, _⟩ => ⟨S8x128x128, .f32⟩
  | .local _ .vmem, ⟨12, _⟩ => ⟨S1x1024x2048, .bf16⟩
  | .local _ .vmem, ⟨13, _⟩ => ⟨S1x1024x2048, .bf16⟩
  | .local _ .vmem, ⟨14, _⟩ => ⟨S1x2048x2048, .bf16⟩
  | .local _ .vmem, ⟨15, _⟩ => ⟨S256x2048, .f32⟩
  | .local _ .vmem, ⟨16, _⟩ => ⟨S256x2048, .f32⟩
  | .local _ .vmem, ⟨17, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S8192x1024 : Shape := ⟨2, ![8192, 1024]⟩
abbrev S16384x1024 : Shape := ⟨2, ![16384, 1024]⟩
abbrev S8192x4096 : Shape := ⟨2, ![8192, 4096]⟩
abbrev S8192x2048 : Shape := ⟨2, ![8192, 2048]⟩
abbrev S2x8x128x128 : Shape := ⟨4, ![2, 8, 128, 128]⟩
abbrev S2x8x128 : Shape := ⟨3, ![2, 8, 128]⟩
abbrev S2x1024x2048 : Shape := ⟨3, ![2, 1024, 2048]⟩
abbrev S2x2048x2048 : Shape := ⟨3, ![2, 2048, 2048]⟩
abbrev S4x2048x1024 : Shape := ⟨3, ![4, 2048, 1024]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S4x16x128x8x128 : Shape := ⟨5, ![4, 16, 128, 8, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S16384x1024, .f32⟩
  | .hbm, ⟨3, _⟩ => ⟨S8192x4096, .bf16⟩
  | .hbm, ⟨4, _⟩ => ⟨S8192x2048, .f32⟩
  | .hbm, ⟨5, _⟩ => ⟨S2x8x128x128, .f32⟩
  | .hbm, ⟨6, _⟩ => ⟨S2x8x128, .f32⟩
  | .hbm, ⟨7, _⟩ => ⟨S2x1024x2048, .bf16⟩
  | .hbm, ⟨8, _⟩ => ⟨S2x1024x2048, .bf16⟩
  | .hbm, ⟨9, _⟩ => ⟨S2x2048x2048, .bf16⟩
  | .hbm, ⟨10, _⟩ => ⟨S8192x1024, .f32⟩
  | .hbm, ⟨11, _⟩ => ⟨S8192x1024, .f32⟩
  | .hbm, ⟨12, _⟩ => ⟨S8192x4096, .f32⟩
  | .hbm, ⟨13, _⟩ => ⟨S8192x1024, .f32⟩
  | .hbm, ⟨14, _⟩ => ⟨S4x2048x1024, .f32⟩
  | .hbm, ⟨15, _⟩ => ⟨S4x2048x1024, .f32⟩
  | .hbm, ⟨16, _⟩ => ⟨S1x8x128x128, .f32⟩
  | .hbm, ⟨17, _⟩ => ⟨S8x128x128, .f32⟩
  | .hbm, ⟨18, _⟩ => ⟨S1x8x128, .f32⟩
  | .hbm, ⟨19, _⟩ => ⟨S8x128, .f32⟩
  | .hbm, ⟨20, _⟩ => ⟨S128, .i32⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S1x128, .i32⟩
  | .hbm, ⟨40, _⟩ => ⟨S128x1, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .f32⟩
  | .hbm, ⟨45, _⟩ => ⟨S_, .f32⟩
  | .hbm, ⟨46, _⟩ => ⟨S8x128x128, .i1⟩
  | .hbm, ⟨47, _⟩ => ⟨S8x128x128, .f32⟩
  | .hbm, ⟨48, _⟩ => ⟨S8x128x128, .f32⟩
  | .hbm, ⟨49, _⟩ => ⟨S4x16x128x8x128, .f32⟩
  | .hbm, ⟨50, _⟩ => ⟨S8x4x16x128x128, .f32⟩
  | .hbm, ⟨51, _⟩ => ⟨S4x16x128x8x128, .f32⟩
  | .hbm, ⟨52, _⟩ => ⟨S128x8, .f32⟩
  | .hbm, ⟨53, _⟩ => ⟨S1x1x128x8x1, .f32⟩
  | .hbm, ⟨54, _⟩ => ⟨S4x16x128x8x128, .f32⟩
  | .hbm, ⟨55, _⟩ => ⟨S4x16x128x8x128, .f32⟩
  | .hbm, ⟨56, _⟩ => ⟨S4x2048x1024, .f32⟩
  | .hbm, ⟨57, _⟩ => ⟨S4x2048x1024, .f32⟩
  | .hbm, ⟨58, _⟩ => ⟨S8192x1024, .f32⟩
  | .hbm, ⟨59, _⟩ => ⟨S8192x2048, .f32⟩
  | .hbm, ⟨60, _⟩ => ⟨S8192x2048, .f32⟩
  | .hbm, ⟨61, _⟩ => ⟨S1x1024x2048, .bf16⟩
  | .hbm, ⟨62, _⟩ => ⟨S1024x2048, .bf16⟩
  | .hbm, ⟨63, _⟩ => ⟨S1024x2048, .f32⟩
  | .hbm, ⟨64, _⟩ => ⟨S8192x2048, .f32⟩
  | .hbm, ⟨65, _⟩ => ⟨S8192x2048, .f32⟩
  | .hbm, ⟨66, _⟩ => ⟨S1x1024x2048, .bf16⟩
  | .hbm, ⟨67, _⟩ => ⟨S1024x2048, .bf16⟩
  | .hbm, ⟨68, _⟩ => ⟨S1024x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x2048x2048, .bf16⟩
  | .hbm, ⟨73, _⟩ => ⟨S2048x2048, .bf16⟩
  | .hbm, ⟨74, _⟩ => ⟨S2048x2048, .f32⟩
  | .hbm, ⟨75, _⟩ => ⟨S8192x2048, .f32⟩
  | .hbm, ⟨76, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩

abbrev nD : Nat := 1
abbrev τ : Topo := Topo.v7x

variable {F : FTy → Type} [FloatOps F]
-- ==== Proj.lean ====
abbrev S2048x2048 : Shape := ⟨2, ![2048, 2048]⟩
abbrev S1x2048 : Shape := ⟨2, ![1, 2048]⟩
abbrev S2x2048x9216 : Shape := ⟨3, ![2, 2048, 9216]⟩
abbrev S1x4096 : Shape := ⟨2, ![1, 4096]⟩
abbrev S1x1024 : Shape := ⟨2, ![1, 1024]⟩
abbrev S32768x128 : Shape := ⟨2, ![32768, 128]⟩
abbrev S4096x1024 : Shape := ⟨2, ![4096, 1024]⟩
abbrev S2048x1024 : Shape := ⟨2, ![2048, 1024]⟩
abbrev S2048x4096 : Shape := ⟨2, ![2048, 4096]⟩
abbrev S512x2048 : Shape := ⟨2, ![512, 2048]⟩
abbrev S1x2048x1024 : Shape := ⟨3, ![1, 2048, 1024]⟩
abbrev S512x1024 : Shape := ⟨2, ![512, 1024]⟩
abbrev S4096x128 : Shape := ⟨2, ![4096, 128]⟩
abbrev S512 : Shape := ⟨1, ![512]⟩
abbrev S512x1 : Shape := ⟨2, ![512, 1]⟩
abbrev S512x128 : Shape := ⟨2, ![512, 128]⟩

abbrev nBuf : Space → Nat
  | .hbm => 16
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x9216, .bf16⟩
  | .hbm, ⟨3, _⟩ => ⟨S1x4096, .f32⟩
  | .hbm, ⟨4, _⟩ => ⟨S1x1024, .f32⟩
  | .hbm, ⟨5, _⟩ => ⟨S32768x128, .f32⟩
  | .hbm, ⟨6, _⟩ => ⟨S32768x128, .f32⟩
  | .hbm, ⟨7, _⟩ => ⟨S4096x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S32768x128, .f32⟩
  | .hbm, ⟨12, _⟩ => ⟨S32768x128, .f32⟩
  | .hbm, ⟨13, _⟩ => ⟨S2048x1024, .bf16⟩
  | .hbm, ⟨14, _⟩ => ⟨S4096x1024, .f32⟩
  | .hbm, ⟨15, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_5 : BitVec 32 := 0#32
  let v7 : BitVec 1 := Scalar.cmpi .eq arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def k0_cond6 (i : grid0.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_10 : BitVec 32 := 0#32
  let v21 : BitVec 1 := Scalar.cmpi .ne v20 c0_i32_10
  v21

def k0_cond7 (i : grid0.Coords) : BitVec 1 :=
  let arg1 : BitVec 32 := BitVec.ofNat 32 (i 1).val
  let c5_i32 : BitVec 32 := 5#32
  let v22 : BitVec 1 := Scalar.cmpi .sge arg1 c5_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjIdeal.lean ====
abbrev S2048x2048 : Shape := ⟨2, ![2048, 2048]⟩
abbrev S1x2048 : Shape := ⟨2, ![1, 2048]⟩
abbrev S2x2048x9216 : Shape := ⟨3, ![2, 2048, 9216]⟩
abbrev S1x4096 : Shape := ⟨2, ![1, 4096]⟩
abbrev S1x1024 : Shape := ⟨2, ![1, 1024]⟩
abbrev S32768x128 : Shape := ⟨2, ![32768, 128]⟩
abbrev S4096x1024 : Shape := ⟨2, ![4096, 1024]⟩
abbrev S2048x1024 : Shape := ⟨2, ![2048, 1024]⟩
abbrev S2048x4096 : Shape := ⟨2, ![2048, 4096]⟩
abbrev S512x2048 : Shape := ⟨2, ![512, 2048]⟩
abbrev S1x2048x1024 : Shape := ⟨3, ![1, 2048, 1024]⟩
abbrev S512x1024 : Shape := ⟨2, ![512, 1024]⟩
abbrev S4096x128 : Shape := ⟨2, ![4096, 128]⟩
abbrev S512 : Shape := ⟨1, ![512]⟩
abbrev S512x1 : Shape := ⟨2, ![512, 1]⟩
abbrev S512x128 : Shape := ⟨2, ![512, 128]⟩

abbrev nBuf : Space → Nat
  | .hbm => 16
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x9216, .bf16⟩
  | .hbm, ⟨3, _⟩ => ⟨S1x4096, .f32⟩
  | .hbm, ⟨4, _⟩ => ⟨S1x1024, .f32⟩
  | .hbm, ⟨5, _⟩ => ⟨S32768x128, .f32⟩
  | .hbm, ⟨6, _⟩ => ⟨S32768x128, .f32⟩
  | .hbm, ⟨7, _⟩ => ⟨S4096x1024, .f32⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S32768x128, .f32⟩
  | .hbm, ⟨12, _⟩ => ⟨S32768x128, .f32⟩
  | .hbm, ⟨13, _⟩ => ⟨S2048x1024, .bf16⟩
  | .hbm, ⟨14, _⟩ => ⟨S4096x1024, .f32⟩
  | .hbm, ⟨15, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c0_i32_5 : BitVec 32 := 0#32
  let v7 : BitVec 1 := Scalar.cmpi .eq arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def k0_cond6 (i : grid0.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_10 : BitVec 32 := 0#32
  let v21 : BitVec 1 := Scalar.cmpi .ne v20 c0_i32_10
  v21

def k0_cond7 (i : grid0.Coords) : BitVec 1 :=
  let arg1 : BitVec 32 := BitVec.ofNat 32 (i 1).val
  let c5_i32 : BitVec 32 := 5#32
  let v22 : BitVec 1 := Scalar.cmpi .sge arg1 c5_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S2048x2048 : Shape := ⟨2, ![2048, 2048]⟩
abbrev S1x2048 : Shape := ⟨2, ![1, 2048]⟩
abbrev S2x2048x9216 : Shape := ⟨3, ![2, 2048, 9216]⟩
abbrev S1x4096 : Shape := ⟨2, ![1, 4096]⟩
abbrev S1x1024 : Shape := ⟨2, ![1, 1024]⟩
abbrev S32768x128 : Shape := ⟨2, ![32768, 128]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x2048x9216 : Shape := ⟨3, ![1, 2048, 9216]⟩
abbrev S2048x9216 : Shape := ⟨2, ![2048, 9216]⟩
abbrev S2048x1024 : Shape := ⟨2, ![2048, 1024]⟩
abbrev S2048x4096 : Shape := ⟨2, ![2048, 4096]⟩
abbrev S16384x128 : Shape := ⟨2, ![16384, 128]⟩

abbrev nBuf : Space → Nat
  | .hbm => 108
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x9216, .bf16⟩
  | .hbm, ⟨3, _⟩ => ⟨S1x4096, .f32⟩
  | .hbm, ⟨4, _⟩ => ⟨S1x1024, .f32⟩
  | .hbm, ⟨5, _⟩ => ⟨S32768x128, .f32⟩
  | .hbm, ⟨6, _⟩ => ⟨S32768x128, .f32⟩
  | .hbm, ⟨7, _⟩ => ⟨S4096x1024, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S1x2048x9216, .bf16⟩
  | .hbm, ⟨24, _⟩ => ⟨S2048x9216, .bf16⟩
  | .hbm, ⟨25, _⟩ => ⟨S2048x9216, .f32⟩
  | .hbm, ⟨26, _⟩ => ⟨S2048x9216, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x4096, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x4096, .f32⟩
  | .hbm, ⟨83, _⟩ => ⟨S2048x4096, .f32⟩
  | .hbm, ⟨84, _⟩ => ⟨S2048x4096, .f32⟩
  | .hbm, ⟨85, _⟩ => ⟨S2048x4096, .f32⟩
  | .hbm, ⟨86, _⟩ => ⟨S_, .f32⟩
  | .hbm, ⟨87, _⟩ => ⟨S2048x4096, .f32⟩
  | .hbm, ⟨88, _⟩ => ⟨S2048x4096, .f32⟩
  | .hbm, ⟨89, _⟩ => ⟨S_, .f32⟩
  | .hbm, ⟨90, _⟩ => ⟨S2048x4096, .f32⟩
  | .hbm, ⟨91, _⟩ => ⟨S2048x4096, .f32⟩
  | .hbm, ⟨92, _⟩ => ⟨S_, .f32⟩
  | .hbm, ⟨93, _⟩ => ⟨S2048x1024, .f32⟩
  | .hbm, ⟨94, _⟩ => ⟨S2048x1024, .f32⟩
  | .hbm, ⟨95, _⟩ => ⟨S2048x1024, .bf16⟩
  | .hbm, ⟨96, _⟩ => ⟨S2048x1024, .bf16⟩
  | .hbm, ⟨97, _⟩ => ⟨S2048x1024, .bf16⟩
  | .hbm, ⟨98, _⟩ => ⟨S16384x128, .f32⟩
  | .hbm, ⟨99, _⟩ => ⟨S16384x128, .f32⟩
  | .hbm, ⟨100, _⟩ => ⟨S32768x128, .f32⟩
  | .hbm, ⟨101, _⟩ => ⟨S16384x128, .f32⟩
  | .hbm, ⟨102, _⟩ => ⟨S16384x128, .f32⟩
  | .hbm, ⟨103, _⟩ => ⟨S32768x128, .f32⟩
  | .hbm, ⟨104, _⟩ => ⟨S2048x1024, .bf16⟩
  | .hbm, ⟨105, _⟩ => ⟨S2048x1024, .f32⟩
  | .hbm, ⟨106, _⟩ => ⟨S4096x1024, .f32⟩
  | .hbm, ⟨107, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== FfnPrompt.lean ====
abbrev S8192x2048 : Shape := ⟨2, ![8192, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnPromptRefIdeal.lean ====
abbrev S8192x2048 : Shape := ⟨2, ![8192, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048x11264, .bf16⟩
  | .hbm, ⟨21, _⟩ => ⟨S2048x11264, .bf16⟩
  | .hbm, ⟨22, _⟩ => ⟨S2048x11264, .f32⟩
  | .hbm, ⟨23, _⟩ => ⟨S8192x11264, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632x2048, .bf16⟩
  | .hbm, ⟨37, _⟩ => ⟨S5632x2048, .bf16⟩
  | .hbm, ⟨38, _⟩ => ⟨S5632x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== ProjPrompt.lean ====
abbrev S8192x2048 : Shape := ⟨2, ![8192, 2048]⟩
abbrev S1x2048 : Shape := ⟨2, ![1, 2048]⟩
abbrev S2x2048x9216 : Shape := ⟨3, ![2, 2048, 9216]⟩
abbrev S1x4096 : Shape := ⟨2, ![1, 4096]⟩
abbrev S1x1024 : Shape := ⟨2, ![1, 1024]⟩
abbrev S131072x128 : Shape := ⟨2, ![131072, 128]⟩
abbrev S16384x1024 : Shape := ⟨2, ![16384, 1024]⟩
abbrev S8192x1024 : Shape := ⟨2, ![8192, 1024]⟩
abbrev S8192x4096 : Shape := ⟨2, ![8192, 4096]⟩
abbrev S512x2048 : Shape := ⟨2, ![512, 2048]⟩
abbrev S1x2048x1024 : Shape := ⟨3, ![1, 2048, 1024]⟩
abbrev S512x1024 : Shape := ⟨2, ![512, 1024]⟩
abbrev S4096x128 : Shape := ⟨2, ![4096, 128]⟩
abbrev S512 : Shape := ⟨1, ![512]⟩
abbrev S512x1 : Shape := ⟨2, ![512, 1]⟩
abbrev S2048x1024 : Shape := ⟨2, ![2048, 1024]⟩
abbrev S512x128 : Shape := ⟨2, ![512, 128]⟩

abbrev nBuf : Space → Nat
  | .hbm => 16
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x9216, .bf16⟩
  | .hbm, ⟨3, _⟩ => ⟨S1x4096, .f32⟩
  | .hbm, ⟨4, _⟩ => ⟨S1x1024, .f32⟩
  | .hbm, ⟨5, _⟩ => ⟨S131072x128, .f32⟩
  | .hbm, ⟨6, _⟩ => ⟨S131072x128, .f32⟩
  | .hbm, ⟨7, _⟩ => ⟨S16384x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S131072x128, .f32⟩
  | .hbm, ⟨12, _⟩ => ⟨S131072x128, .f32⟩
  | .hbm, ⟨13, _⟩ => ⟨S8192x1024, .bf16⟩
  | .hbm, ⟨14, _⟩ => ⟨S16384x1024, .f32⟩
  | .hbm, ⟨15, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c0_i32_5 : BitVec 32 := 0#32
  let v7 : BitVec 1 := Scalar.cmpi .eq arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def k0_cond6 (i : grid0.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_10 : BitVec 32 := 0#32
  let v21 : BitVec 1 := Scalar.cmpi .ne v20 c0_i32_10
  v21

def k0_cond7 (i : grid0.Coords) : BitVec 1 :=
  let arg1 : BitVec 32 := BitVec.ofNat 32 (i 1).val
  let c5_i32 : BitVec 32 := 5#32
  let v22 : BitVec 1 := Scalar.cmpi .sge arg1 c5_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjPromptRefIdeal.lean ====
abbrev S8192x2048 : Shape := ⟨2, ![8192, 2048]⟩
abbrev S1x2048 : Shape := ⟨2, ![1, 2048]⟩
abbrev S2x2048x9216 : Shape := ⟨3, ![2, 2048, 9216]⟩
abbrev S1x4096 : Shape := ⟨2, ![1, 4096]⟩
abbrev S1x1024 : Shape := ⟨2, ![1, 1024]⟩
abbrev S131072x128 : Shape := ⟨2, ![131072, 128]⟩
abbrev S16384x1024 : Shape := ⟨2, ![16384, 1024]⟩
abbrev S_ : Shape := ⟨0, ![]⟩
abbrev S8192 : Shape := ⟨1, ![8192]⟩
abbrev S8192x1 : Shape := ⟨2, ![8192, 1]⟩
abbrev S1x2048x9216 : Shape := ⟨3, ![1, 2048, 9216]⟩
abbrev S2048x9216 : Shape := ⟨2, ![2048, 9216]⟩
abbrev S8192x9216 : Shape := ⟨2, ![8192, 9216]⟩
abbrev S8192x1024 : Shape := ⟨2, ![8192, 1024]⟩
abbrev S8192x4096 : Shape := ⟨2, ![8192, 4096]⟩
abbrev S65536x128 : Shape := ⟨2, ![65536, 128]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x9216, .bf16⟩
  | .hbm, ⟨3, _⟩ => ⟨S1x4096, .f32⟩
  | .hbm, ⟨4, _⟩ => ⟨S1x1024, .f32⟩
  | .hbm, ⟨5, _⟩ => ⟨S131072x128, .f32⟩
  | .hbm, ⟨6, _⟩ => ⟨S131072x128, .f32⟩
  | .hbm, ⟨7, _⟩ => ⟨S16384x1024, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048x9216, .bf16⟩
  | .hbm, ⟨24, _⟩ => ⟨S2048x9216, .bf16⟩
  | .hbm, ⟨25, _⟩ => ⟨S2048x9216, .f32⟩
  | .hbm, ⟨26, _⟩ => ⟨S8192x9216, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x4096, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S_, .f32⟩
  | .hbm, ⟨87, _⟩ => ⟨S8192x4096, .f32⟩
  | .hbm, ⟨88, _⟩ => ⟨S8192x4096, .f32⟩
  | .hbm, ⟨89, _⟩ => ⟨S_, .f32⟩
  | .hbm, ⟨90, _⟩ => ⟨S8192x4096, .f32⟩
  | .hbm, ⟨91, _⟩ => ⟨S8192x4096, .f32⟩
  | .hbm, ⟨92, _⟩ => ⟨S_, .f32⟩
  | .hbm, ⟨93, _⟩ => ⟨S8192x1024, .f32⟩
  | .hbm, ⟨94, _⟩ => ⟨S8192x1024, .f32⟩
  | .hbm, ⟨95, _⟩ => ⟨S8192x1024, .bf16⟩
  | .hbm, ⟨96, _⟩ => ⟨S8192x1024, .bf16⟩
  | .hbm, ⟨97, _⟩ => ⟨S8192x1024, .bf16⟩
  | .hbm, ⟨98, _⟩ => ⟨S65536x128, .f32⟩
  | .hbm, ⟨99, _⟩ => ⟨S65536x128, .f32⟩
  | .hbm, ⟨100, _⟩ => ⟨S131072x128, .f32⟩
  | .hbm, ⟨101, _⟩ => ⟨S65536x128, .f32⟩
  | .hbm, ⟨102, _⟩ => ⟨S65536x128, .f32⟩
  | .hbm, ⟨103, _⟩ => ⟨S131072x128, .f32⟩
  | .hbm, ⟨104, _⟩ => ⟨S8192x1024, .bf16⟩
  | .hbm, ⟨105, _⟩ => ⟨S8192x1024, .f32⟩
  | .hbm, ⟨106, _⟩ => ⟨S16384x1024, .f32⟩
  | .hbm, ⟨107, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== FfnFirst.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFirstIdeal.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFirstRefIdeal.lean ====
abbrev S2048x2048 : Shape := ⟨2, ![2048, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S_ : Shape := ⟨0, ![]⟩
abbrev S2048 : Shape := ⟨1, ![2048]⟩
abbrev S2048x1 : Shape := ⟨2, ![2048, 1]⟩
abbrev S1x2048x11264 : Shape := ⟨3, ![1, 2048, 11264]⟩
abbrev S2048x11264 : Shape := ⟨2, ![2048, 11264]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048x11264, .bf16⟩
  | .hbm, ⟨21, _⟩ => ⟨S2048x11264, .bf16⟩
  | .hbm, ⟨22, _⟩ => ⟨S2048x11264, .f32⟩
  | .hbm, ⟨23, _⟩ => ⟨S2048x11264, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S_, .f32⟩
  | .hbm, ⟨28, _⟩ => ⟨S2048x5632, .f32⟩
  | .hbm, ⟨29, _⟩ => ⟨S2048x5632, .f32⟩
  | .hbm, ⟨30, _⟩ => ⟨S_, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S1x5632x2048, .bf16⟩
  | .hbm, ⟨37, _⟩ => ⟨S5632x2048, .bf16⟩
  | .hbm, ⟨38, _⟩ => ⟨S5632x2048, .f32⟩
  | .hbm, ⟨39, _⟩ => ⟨S2048x2048, .f32⟩
  | .hbm, ⟨40, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== FfnFirstPrompt.lean ====
abbrev S8192x2048 : Shape := ⟨2, ![8192, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFirstPromptRefIdeal.lean ====
abbrev S8192x2048 : Shape := ⟨2, ![8192, 2048]⟩
abbrev S1x2048 : Shape := ⟨2, ![1, 2048]⟩
abbrev S2x2048x11264 : Shape := ⟨3, ![2, 2048, 11264]⟩
abbrev S2x5632x2048 : Shape := ⟨3, ![2, 5632, 2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x11264, .bf16⟩
  | .hbm, ⟨3, _⟩ => ⟨S2x5632x2048, .bf16⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048x11264, .bf16⟩
  | .hbm, ⟨21, _⟩ => ⟨S2048x11264, .bf16⟩
  | .hbm, ⟨22, _⟩ => ⟨S2048x11264, .f32⟩
  | .hbm, ⟨23, _⟩ => ⟨S8192x11264, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632x2048, .bf16⟩
  | .hbm, ⟨37, _⟩ => ⟨S5632x2048, .bf16⟩
  | .hbm, ⟨38, _⟩ => ⟨S5632x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Sample.Stick.lean ====
/-
  The arithmetic of stick-breaking attention on one row of real logits, and the extended-real forms the two programs
  compute it in. For logits `z j` and a query that sees the keys `j < p`, a seen key keeps `exp (lb (z j))` of the stick
  and leaves `exp (ls (z j))` of it; the weight of key `j` is what it keeps of what the later keys left (`weight`).
-/
module

public import Idealize.ShloMosaic.PureOps.Ideal.Laws
public import Idealize.ShloMosaic.Lib.IdealHost
public import Mathlib.Algebra.BigOperators.Intervals
public import Mathlib.Algebra.BigOperators.Fin

@[expose] public section

noncomputable section

namespace Cert.Stick

open Idealize.ShloMosaic
open scoped BigOperators

/-- `log (sigmoid r)`. -/
def lb (r : ℝ) : ℝ := min r 0 - Real.log (1 + Real.exp (-|r|))

/-- `log (1 - sigmoid r)`. -/
def ls (r : ℝ) : ℝ := lb r - r

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then ⊥ else (Real.log r : EReal)) = _
  rw [if_neg (not_le.mpr h)]

/-- `log (1 + exp (-|r|))`, as both programs write it. -/
theorem log_one_add_exp (x : ℝ) : Ideal.log (1 + Ideal.exp (x : EReal)) = ((Real.log (1 + Real.exp x) : ℝ) : EReal) := by
  rw [exp_coe, ← EReal.coe_one, ← EReal.coe_add, log_coe (by positivity)]

/-- The kernel's form of `lb`. -/
theorem kernel_lb (r : ℝ) :
    min (r : EReal) 0 - Ideal.log (1 + Ideal.exp (0 - max (r : EReal) (-(r : EReal)))) = ((lb r : ℝ) : EReal) := by
  have h : (0 : EReal) - max (r : EReal) (-(r : EReal)) = ((-|r| : ℝ) : EReal) := by
    rw [← EReal.coe_neg, coe_max, ← EReal.coe_zero, ← EReal.coe_sub, zero_sub]; rfl
  rw [h, log_one_add_exp, ← EReal.coe_zero, coe_min, ← EReal.coe_sub]; rfl

/-- The reference's form of `lb`: minus the softplus of `-r`. -/
theorem reference_lb (r : ℝ) :
    -(max (-(r : EReal)) 0 + Ideal.log (1 + Ideal.exp (-(max (-(r : EReal) - 0) (-(-(r : EReal) - 0)))))) = ((lb r : ℝ) : EReal) := by
  have h : -(max (-(r : EReal) - 0) (-(-(r : EReal) - 0))) = ((-|r| : ℝ) : EReal) := by
    rw [sub_zero, ← EReal.coe_neg, ← EReal.coe_neg, coe_max, ← EReal.coe_neg]
    congr 1; show -(|(-r)|) = _; rw [abs_neg]
  rw [h, log_one_add_exp, ← EReal.coe_neg, ← EReal.coe_zero, coe_max, ← EReal.coe_add, ← EReal.coe_neg]
  congr 1
  unfold lb
  rcases le_total r 0 with h0 | h0
  · rw [min_eq_left h0, max_eq_left (by linarith)]; ring
  · rw [min_eq_right h0, max_eq_right (by linarith)]; ring

/-- What is left is `lb` of the logit's opposite. -/
theorem lb_neg (r : ℝ) : lb (-r) = ls r := by
  unfold ls lb
  rw [abs_neg]
  rcases le_total r 0 with h0 | h0
  · rw [min_eq_left h0, min_eq_right (by linarith)]; ring
  · rw [min_eq_right h0, min_eq_left (by linarith)]; ring

/-- The log of what key `j` leaves of the stick: nothing is taken by a key the query does not see. -/
def stay (z : ℕ → ℝ) (p j : ℕ) : ℝ := if j < p then ls (z j) else 0

/-- The weight of key `j` among `2176` positions. -/
def weight (z : ℕ → ℝ) (p j : ℕ) : ℝ :=
  if j < p then Real.exp (lb (z j) + ∑ i ∈ Finset.Ico (j + 1) 2176, stay z p i) else 0

/-- A sum over a block of `128` consecutive positions. -/
theorem sum_Ico_block {M : Type*} [AddCommMonoid M] (a : ℕ) (f : ℕ → M) :
    ∑ j ∈ Finset.Ico a (a + 128), f j = ∑ k : Fin 128, f (a + k.val) := by
  rw [Finset.sum_Ico_eq_sum_range, Nat.add_sub_cancel_left, Finset.sum_range]

/-- The part of a block after its column `j`. -/
theorem sum_after (a : ℕ) (f : ℕ → ℝ) (j : Fin 128) :
    ∑ k : Fin 128, (if j.val < k.val then f (a + k.val) else 0) = ∑ i ∈ Finset.Ico (a + j.val + 1) (a + 128), f i := by
  have h := sum_Ico_block a fun i => if j.val < i - a then f i else 0
  rw [← Finset.sum_filter] at h
  refine (Finset.sum_congr rfl fun k _ => ?_).trans (h.symm.trans (Finset.sum_congr (Finset.ext fun i => ?_) fun _ _ => rfl))
  · show _ = if j.val < a + k.val - a then f (a + k.val) else 0
    rw [Nat.add_sub_cancel_left]
  · simp only [Finset.mem_filter, Finset.mem_Ico]; omega

/-- The products with the suffix matrix: a block of logs left beside zeros, against a matrix whose left half sums the later
    columns and whose right half sums all of them. -/
theorem suffix_sum (x : Fin 256 → EReal) (T : Fin 256 → EReal) (f : Fin 128 → ℝ) (t : Fin 128 → Prop) [DecidablePred t]
    (hx : ∀ k : Fin 128, x ⟨k.val, by omega⟩ = (f k : EReal)) (hy : ∀ k : Fin 128, x ⟨128 + k.val, by omega⟩ = 0)
    (hT : ∀ k : Fin 128, T ⟨k.val, by omega⟩ = if t k then 1 else 0) :
    ∑ k, x k * T k = ((∑ k : Fin 128, if t k then f k else 0 : ℝ) : EReal) := by
  have e := Fin.sum_univ_add (a := 128) (b := 128) fun k => x k * T k
  refine e.trans ?_
  rw [coe_sum]
  have h2 : ∑ k : Fin 128, x (Fin.natAdd 128 k) * T (Fin.natAdd 128 k) = 0 :=
    Finset.sum_eq_zero fun k _ => by
      have : x (Fin.natAdd 128 k) = 0 := hy k
      rw [this, zero_mul]
  rw [h2, add_zero]
  refine Finset.sum_congr rfl fun k _ => ?_
  have h1 : x (Fin.castAdd 128 k) = (f k : EReal) := hx k
  have h3 : T (Fin.castAdd 128 k) = if t k then 1 else 0 := hT k
  rw [h1, h3]
  split <;> simp

/-- A position at or past `p` leaves the stick alone. -/
theorem stay_of_le {z : ℕ → ℝ} {p j : ℕ} (h : p ≤ j) : stay z p j = 0 := if_neg (by omega)

theorem weight_of_le {z : ℕ → ℝ} {p j : ℕ} (h : p ≤ j) : weight z p j = 0 := if_neg (by omega)

/-- The weight of a seen key of the block at `a`, from the sums the kernel holds. -/
theorem weight_of_lt {z : ℕ → ℝ} {p a : ℕ} (ha : a + 128 ≤ 2176) (j : Fin 128) (h : a + j.val < p) :
    weight z p (a + j.val) = Real.exp (lb (z (a + j.val)) + (∑ i ∈ Finset.Ico (a + j.val + 1) (a + 128), stay z p i)
      + ∑ i ∈ Finset.Ico (a + 128) 2176, stay z p i) := by
  rw [weight, if_pos h, ← Finset.sum_Ico_consecutive (stay z p) (show a + j.val + 1 ≤ a + 128 by omega) ha, ← add_assoc]

/-- Beyond the last position a query can see nothing is added. -/
theorem sum_Ico_stay {z : ℕ → ℝ} {p n : ℕ} (hp : p ≤ n) (hn : n ≤ 2176) (j : ℕ) (hj : j ≤ n) :
    ∑ i ∈ Finset.Ico j 2176, stay z p i = ∑ i ∈ Finset.Ico j n, stay z p i := by
  rw [← Finset.sum_Ico_consecutive _ hj hn, Finset.sum_eq_zero (s := Finset.Ico n 2176), add_zero]
  intro i hi
  exact stay_of_le (hp.trans (Finset.mem_Ico.mp hi).1)

/-- … to the weighted sum of the values either. -/
theorem sum_range_weight {z : ℕ → ℝ} {p n : ℕ} (hp : p ≤ n) (hn : n ≤ 2176) (V : ℕ → EReal) :
    ∑ j ∈ Finset.range 2176, (weight z p j : EReal) * V j = ∑ j ∈ Finset.range n, (weight z p j : EReal) * V j := by
  rw [Finset.range_eq_Ico, Finset.range_eq_Ico, ← Finset.sum_Ico_consecutive _ (Nat.zero_le n) hn,
    Finset.sum_eq_zero (s := Finset.Ico n 2176), add_zero]
  intro i hi
  rw [weight_of_le (hp.trans (Finset.mem_Ico.mp hi).1), EReal.coe_zero, zero_mul]

end Cert.Stick

end
-- ==== Proof.Sample.Pay.lean ====
/-
  The sample kernel's arithmetic over the extended reals, one block of `128` keys at a time: the logits, what each key
  keeps and leaves, the sums over the later keys by a product with the suffix matrix, and the weighted sum of the values.
-/
module

public import proofs.«01_k».proof.Proof.Gen.SampleIdeal.Skeleton
public import proofs.«01_k».proof.Proof.Sample.Stick
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.SampleIdeal.Pay

open Cert.SampleIdeal Cert.SampleIdeal.Gen Cert.Stick Idealize.ShloMosaic Idealize.ShloMosaic.ValueIdx
open scoped BigOperators

/-- The suffix matrix: the left half of its columns sums the later keys of the block, the right half all of them. -/
def IsSuffix (v1 : FVec Ideal S256x256 .bf16) : Prop :=
  ∀ (k : Fin 128) (j : Fin 256), v1 (ix2 (⟨k.val, by omega⟩ : Fin 256) j) = if 128 ≤ j.val ∨ j.val < k.val then 1 else 0

theorem zero_f32 : (Scalar.ofBits .f32 0x00000000#32 : Ideal .f32) = 0 := Ideal.ofBits_zero_f32
theorem one_f32 : (Scalar.ofBits .f32 0x3F800000#32 : Ideal .f32) = 1 := Ideal.ofBits_one_f32

/-- The suffix product of a block whose logs are `f`, left beside the (zero) rest of their split. -/
theorem suffix_apply (v1 : FVec Ideal S256x256 .bf16) (h1 : IsSuffix v1) (x y : FVec Ideal S64x128 .bf16) (r : Fin 64) (f : Fin 128 → ℝ)
    (hx : ∀ k, x (ix2 r k) = (f k : EReal)) (hy : ∀ k, y (ix2 r k) = 0) (j : Fin 256) :
    matmul dot_S64x256_S256x256_S64x256_1_0_0_1_n_n none
        (concatenate S64x256 1 [⟨S64x128, x⟩, ⟨S64x128, y⟩] concatenates_S64x128_S64x128_S64x256_d1) v1
        (constant S64x256 .f32 0x00000000#32) (ix2 r j)
      = ((∑ k : Fin 128, if 128 ≤ j.val ∨ j.val < k.val then f k else 0 : ℝ) : EReal) := by
  refine (Ideal.matmul_plain_apply (M := 64) (K := 256) (N := 256) none _ v1 _ r j).trans ?_
  have h0 : constant (F := Ideal) S64x256 .f32 0x00000000#32 (ix2 r j) = 0 := zero_f32
  rw [h0, zero_add]
  refine suffix_sum (fun k => _) (fun k => v1 (ix2 k j)) f (fun k => 128 ≤ j.val ∨ j.val < k.val) (fun k => ?_) (fun k => ?_) (fun k => h1 k j)
  · refine (concatenate_pair_apply_left (t := S64x256) (s₁ := S64x128) (s₂ := S64x128) 1 x y _ _ rfl (ix2 r k) ?_).trans (hx k)
    intro b; match b with | ⟨0, _⟩ => rfl | ⟨1, _⟩ => rfl
  · refine (concatenate_pair_apply_right (t := S64x256) (s₁ := S64x128) (s₂ := S64x128) 1 x y _ _ rfl rfl (ix2 r k) ?_ ?_).trans (hy k)
    · intro b hb; match b with | ⟨0, _⟩ => rfl | ⟨1, _⟩ => exact absurd rfl hb
    · show k.val + 128 = 128 + k.val; omega

/-- The two column ranges a suffix product is read at. -/
theorem left_apply (x : FVec Ideal S64x256 .f32) (r : Fin 64) (j : Fin 128) :
    extractStridedSlice S64x128 ![0, 0] x slices_S64x256_o0_0_S64x128 (ix2 r j) = x (ix2 r (⟨j.val, by omega⟩ : Fin 256)) :=
  extractStridedSlice_apply ![0, 0] x _ _ _ fun a => by match a with | ⟨0, _⟩ => exact (Nat.zero_add _).symm | ⟨1, _⟩ => exact (Nat.zero_add _).symm

theorem right_apply (x : FVec Ideal S64x256 .f32) (r : Fin 64) (j : Fin 128) :
    extractStridedSlice S64x128 ![0, 128] x slices_S64x256_o0_128_S64x128 (ix2 r j) = x (ix2 r (⟨128 + j.val, by omega⟩ : Fin 256)) :=
  extractStridedSlice_apply ![0, 128] x _ _ _ fun a => by match a with | ⟨0, _⟩ => exact (Nat.zero_add _).symm | ⟨1, _⟩ => rfl

/-- A weighted sum of a block's values. -/
theorem weighted_apply (w : FVec Ideal S64x128 .bf16) (v : FVec Ideal S128x128 .bf16) (r : Fin 64) (d : Fin 128) :
    matmul dot_S64x128_S128x128_S64x128_1_0_0_1_n_n none w v (constant S64x128 .f32 0x00000000#32) (ix2 r d)
      = ∑ k : Fin 128, w (ix2 r k) * v (ix2 k d) := by
  refine (Ideal.matmul_plain_apply (M := 64) (K := 128) (N := 128) none w v _ r d).trans ?_
  have h0 : constant (F := Ideal) S64x128 .f32 0x00000000#32 (ix2 r d) = 0 := zero_f32
  rw [h0, zero_add]

theorem logits_apply (q : FVec Ideal S64x128 .bf16) (k : FVec Ideal S128x128 .bf16) (r : Fin 64) (j : Fin 128) :
    matmul dot_S64x128_S128x128_S64x128_1_1_0_0_n_n none q k (constant S64x128 .f32 0x00000000#32) (ix2 r j)
      = ∑ d : Fin 128, q (ix2 r d) * k (ix2 j d) := by
  refine (Ideal.matmul_transposedRhs_apply (M := 64) (K := 128) (N := 128) none q k _ r j).trans ?_
  have h0 : constant (F := Ideal) S64x128 .f32 0x00000000#32 (ix2 r j) = 0 := zero_f32
  rw [h0, zero_add]

/-- A cached block read as a matrix. -/
theorem cached_apply (v : FVec Ideal S1x1x128x128 .f32) (k d : Fin 128) :
    shapeCast S128x128 v shapeCasts_S1x1x128x128_S128x128 (ix2 k d) = v (ix4 (0 : Fin 1) (0 : Fin 1) k d) :=
  shapeCast_apply v _ _ _ (by rewrite [Shape.rowMajor_val_four, Shape.rowMajor_val_two]; show (((0 * 1 + 0) * 128 + k.val) * 128 + d.val) = k.val * 128 + d.val; omega)

/-! ## A cached block -/

section Cached

variable (v1 : FVec Ideal S256x256 .bf16) (q : FVec Ideal S64x128 .bf16) (acc c : FVec Ideal S64x128 .f32) (kb vb : FVec Ideal S1x1x128x128 .f32)

theorem pay6_apply (r : Fin 64) (j : Fin 128) :
    k0_pay6 q kb (ix2 r j) = ∑ d : Fin 128, q (ix2 r d) * kb (ix4 (0 : Fin 1) (0 : Fin 1) j d) := by
  unfold k0_pay6
  refine (logits_apply q _ r j).trans (Finset.sum_congr rfl fun d _ => ?_)
  exact congrArg (q (ix2 r d) * ·) (cached_apply kb j d)

theorem pay7_apply (r : Fin 64) (j : Fin 128) (z : ℝ) (hz : k0_pay6 q kb (ix2 r j) = (z : EReal)) :
    k0_pay7 q kb (ix2 r j) = (lb z : EReal) := by
  unfold k0_pay7
  show min (k0_pay6 q kb (ix2 r j)) (Scalar.ofBits .f32 0x00000000#32 : Ideal .f32)
    - Ideal.log ((Scalar.ofBits .f32 0x3F800000#32 : Ideal .f32) + Ideal.exp ((Scalar.ofBits .f32 0x00000000#32 : Ideal .f32)
      - max (k0_pay6 q kb (ix2 r j)) (-(k0_pay6 q kb (ix2 r j))))) = _
  rw [hz, zero_f32, one_f32]
  exact kernel_lb z

theorem pay8_apply (h1 : IsSuffix v1) (r : Fin 64) (z : Fin 128 → ℝ) (hz : ∀ j, k0_pay6 q kb (ix2 r j) = (z j : EReal)) (j : Fin 256) :
    k0_pay8 v1 q kb (ix2 r j) = ((∑ k : Fin 128, if 128 ≤ j.val ∨ j.val < k.val then ls (z k) else 0 : ℝ) : EReal) := by
  have hs : ∀ k, k0_pay7 q kb (ix2 r k) - k0_pay6 q kb (ix2 r k) = (ls (z k) : EReal) := fun k => by
    rw [pay7_apply q kb r k (z k) (hz k), hz k, ← EReal.coe_sub]; rfl
  unfold k0_pay8
  refine suffix_apply v1 h1 _ _ r (fun k => ls (z k)) (fun k => hs k) (fun k => ?_) j
  show (k0_pay7 q kb (ix2 r k) - k0_pay6 q kb (ix2 r k)) - (k0_pay7 q kb (ix2 r k) - k0_pay6 q kb (ix2 r k)) = 0
  rw [hs k, ← EReal.coe_sub, sub_self, EReal.coe_zero]

variable {q kb} {z : ℕ → ℝ} {p a : ℕ} {r : Fin 64}

/-- The stick's log after a cached block all of whose keys are seen. -/
theorem pay9_apply (h1 : IsSuffix v1) (hz : ∀ k : Fin 128, k0_pay6 q kb (ix2 r k) = (z (a + k.val) : EReal))
    (ha : a + 128 ≤ 2176) (hp : a + 128 ≤ p) (j : Fin 128)
    (hc : c (ix2 r j) = ((∑ i ∈ Finset.Ico (a + 128) 2176, stay z p i : ℝ) : EReal)) :
    k0_pay9 v1 q c kb (ix2 r j) = ((∑ i ∈ Finset.Ico a 2176, stay z p i : ℝ) : EReal) := by
  unfold k0_pay9
  show c (ix2 r j) + extractStridedSlice S64x128 ![0, 128] (k0_pay8 v1 q kb) slices_S64x256_o0_128_S64x128 (ix2 r j) = _
  rw [right_apply, pay8_apply v1 q kb h1 r _ hz, hc, ← EReal.coe_add, ← Finset.sum_Ico_consecutive (stay z p) (Nat.le_add_right a 128) ha,
    sum_Ico_block, add_comm]
  congr 2
  refine Finset.sum_congr rfl fun k _ => ?_
  rw [if_pos (Or.inl (Nat.le_add_right _ _)), stay, if_pos (by omega)]

/-- The weighted sum of the values with a cached block's added. -/
theorem pay10_apply (h1 : IsSuffix v1) (hz : ∀ k : Fin 128, k0_pay6 q kb (ix2 r k) = (z (a + k.val) : EReal))
    (ha : a + 128 ≤ 2176) (hp : a + 128 ≤ p) (V : ℕ → EReal) (d : Fin 128)
    (hv : ∀ k : Fin 128, vb (ix4 (0 : Fin 1) (0 : Fin 1) k d) = V (a + k.val))
    (hc : ∀ j, c (ix2 r j) = ((∑ i ∈ Finset.Ico (a + 128) 2176, stay z p i : ℝ) : EReal))
    (hacc : acc (ix2 r d) = ∑ i ∈ Finset.Ico (a + 128) 2176, (weight z p i : EReal) * V i) :
    k0_pay10 v1 q acc c kb vb (ix2 r d) = ∑ i ∈ Finset.Ico a 2176, (weight z p i : EReal) * V i := by
  unfold k0_pay10
  refine (congrArg (acc (ix2 r d) + ·) (weighted_apply _ _ r d)).trans ?_
  rw [hacc, ← Finset.sum_Ico_consecutive _ (Nat.le_add_right a 128) ha, sum_Ico_block, add_comm]
  congr 1
  refine Finset.sum_congr rfl fun k _ => ?_
  refine congrArg₂ (· * ·) ?_ ((cached_apply vb k d).trans (hv k))
  show Ideal.exp ((k0_pay7 q kb (ix2 r k) + extractStridedSlice S64x128 ![0, 0] (k0_pay8 v1 q kb) slices_S64x256_o0_0_S64x128 (ix2 r k)) + c (ix2 r k)) = _
  rw [left_apply, pay8_apply v1 q kb h1 r _ hz, pay7_apply q kb r k _ (hz k), hc k, ← EReal.coe_add, ← EReal.coe_add, exp_coe,
    weight_of_lt ha k (by omega), ← sum_after a (stay z p) k]
  congr 4
  refine Finset.sum_congr rfl fun i _ => ?_
  have e : (128 ≤ k.val ∨ k.val < i.val) ↔ k.val < i.val := by have := k.isLt; omega
  simp only [e]
  refine if_congr Iff.rfl ?_ rfl
  rw [stay, if_pos (by omega)]

end Cached

/-! ## The new keys' block -/

section Fresh

variable (v1 : FVec Ideal S256x256 .bf16) (q : FVec Ideal S64x128 .bf16) (kb vb : FVec Ideal S128x128 .bf16)

/-- Query `r` sees the new keys before it. -/
theorem mask_apply (r : Fin 64) (j : Fin 128) : k0_pay19 (ix2 r j) = if j.val < r.val then 1#1 else 0#1 := by
  have h : ∀ (r : Fin 64) (j : Fin 128), IntOp.cmpi .slt (BitVec.ofNat 32 j.val) (BitVec.ofNat 32 r.val) = if j.val < r.val then 1#1 else 0#1 := by
    decide +kernel
  unfold k0_pay19
  refine Eq.trans ?_ (h r j)
  exact congrArg₂ (IntOp.cmpi .slt) (iota_single_apply _ _ _ _ _ _) (iota_single_apply _ _ _ _ _ _)

theorem pay1_apply (r : Fin 64) (j : Fin 128) : k0_pay1 q kb (ix2 r j) = ∑ d : Fin 128, q (ix2 r d) * kb (ix2 j d) := by
  unfold k0_pay1
  exact logits_apply q kb r j

theorem pay2_apply (r : Fin 64) (j : Fin 128) (z : ℝ) (hz : k0_pay1 q kb (ix2 r j) = (z : EReal)) :
    k0_pay2 q kb (ix2 r j) = (lb z : EReal) := by
  unfold k0_pay2
  show min (k0_pay1 q kb (ix2 r j)) (Scalar.ofBits .f32 0x00000000#32 : Ideal .f32)
    - Ideal.log ((Scalar.ofBits .f32 0x3F800000#32 : Ideal .f32) + Ideal.exp ((Scalar.ofBits .f32 0x00000000#32 : Ideal .f32)
      - max (k0_pay1 q kb (ix2 r j)) (-(k0_pay1 q kb (ix2 r j))))) = _
  rw [hz, zero_f32, one_f32]
  exact kernel_lb z

variable {q kb} {z : ℕ → ℝ} {r : Fin 64}

theorem pay3_apply (h1 : IsSuffix v1) (hz : ∀ k : Fin 128, k0_pay1 q kb (ix2 r k) = (z (2048 + k.val) : EReal)) (j : Fin 256) :
    k0_pay3 v1 q kb k0_pay19 (ix2 r j)
      = ((∑ k : Fin 128, if 128 ≤ j.val ∨ j.val < k.val then stay z (2048 + r.val) (2048 + k.val) else 0 : ℝ) : EReal) := by
  have hs : ∀ k : Fin 128, Scalar.select (k0_pay19 (ix2 r k)) (k0_pay2 q kb (ix2 r k) - k0_pay1 q kb (ix2 r k)) (Scalar.ofBits .f32 0x00000000#32 : Ideal .f32)
      = ((stay z (2048 + r.val) (2048 + k.val) : ℝ) : EReal) := fun k => by
    rw [mask_apply, pay2_apply q kb r k _ (hz k), hz k, ← EReal.coe_sub, stay, zero_f32]
    by_cases h : k.val < r.val
    · rw [if_pos h, if_pos (by omega)]; rfl
    · rw [if_neg h, if_neg (by omega)]; rfl
  unfold k0_pay3
  refine suffix_apply v1 h1 _ _ r (fun k => stay z (2048 + r.val) (2048 + k.val)) (fun k => hs k) (fun k => ?_) j
  refine (congrArg₂ (· - ·) (hs k) (hs k)).trans ?_
  rw [← EReal.coe_sub, sub_self, EReal.coe_zero]

/-- The stick's log after the new keys. -/
theorem pay5_apply (h1 : IsSuffix v1) (hz : ∀ k : Fin 128, k0_pay1 q kb (ix2 r k) = (z (2048 + k.val) : EReal)) (j : Fin 128) :
    k0_pay5 v1 q kb k0_pay18 k0_pay19 (ix2 r j) = ((∑ i ∈ Finset.Ico 2048 2176, stay z (2048 + r.val) i : ℝ) : EReal) := by
  unfold k0_pay5
  refine (congrArg (k0_pay18 (F := Ideal) (ix2 r j) + ·) ((right_apply _ r j).trans (pay3_apply v1 h1 hz _))).trans ?_
  have h0 : k0_pay18 (F := Ideal) (ix2 r j) = 0 := zero_f32
  rw [h0, zero_add, sum_Ico_block]
  congr 1
  exact Finset.sum_congr rfl fun k _ => if_pos (Or.inl (Nat.le_add_right _ _))

/-- The weighted sum of the new keys' values. -/
theorem pay4_apply (h1 : IsSuffix v1) (hz : ∀ k : Fin 128, k0_pay1 q kb (ix2 r k) = (z (2048 + k.val) : EReal)) (V : ℕ → EReal) (d : Fin 128)
    (hv : ∀ k : Fin 128, vb (ix2 k d) = V (2048 + k.val)) :
    k0_pay4 v1 q kb vb k0_pay18 k0_pay19 (ix2 r d) = ∑ i ∈ Finset.Ico 2048 2176, (weight z (2048 + r.val) i : EReal) * V i := by
  unfold k0_pay4
  refine (weighted_apply _ _ r d).trans ?_
  rw [sum_Ico_block]
  refine Finset.sum_congr rfl fun k _ => ?_
  refine congrArg₂ (· * ·) ?_ (hv k)
  show Scalar.select (k0_pay19 (ix2 r k)) (Ideal.exp ((k0_pay2 q kb (ix2 r k)
    + extractStridedSlice S64x128 ![0, 0] (k0_pay3 v1 q kb k0_pay19) slices_S64x256_o0_0_S64x128 (ix2 r k)) + k0_pay18 (F := Ideal) (ix2 r k)))
    (Scalar.ofBits .f32 0x00000000#32 : Ideal .f32) = _
  have h0 : k0_pay18 (F := Ideal) (ix2 r k) = 0 := zero_f32
  rw [mask_apply, left_apply, pay3_apply v1 h1 hz, pay2_apply q kb r k _ (hz k), h0, add_zero, ← EReal.coe_add, exp_coe, zero_f32]
  by_cases h : k.val < r.val
  · rw [if_pos h, weight_of_lt (by norm_num) k (by omega), ← sum_after 2048 (stay z (2048 + r.val)) k, select_one, Finset.Ico_self,
      Finset.sum_empty, add_zero]
    refine congrArg (fun s : ℝ => ((Real.exp (lb (z (2048 + k.val)) + s) : ℝ) : EReal)) (Finset.sum_congr rfl fun i _ => if_congr ?_ rfl rfl)
    show 128 ≤ k.val ∨ k.val < i.val ↔ k.val < i.val
    have := k.isLt; omega
  · rw [if_neg h, weight_of_le (by omega), select_zero, EReal.coe_zero]

end Fresh

end Cert.SampleIdeal.Pay

end
-- ==== Proof.Sample.Body.lean ====
module

public import proofs.«01_k».proof.Proof.Gen.SampleIdeal.Value
public import proofs.«01_k».proof.Proof.Sample.Pay

@[expose] public section

set_option maxRecDepth 16384

noncomputable section

namespace Cert.SampleIdeal.Body

open Cert.SampleIdeal Cert.SampleIdeal.Gen Idealize.ShloMosaic Idealize.ShloMosaic.TcCoe Idealize.SL.Sem Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The `128` rows of the cache trip `k` reads for the point's head: every eighth row of a block of `1024`. -/
def rows (i : grid0.Coords) (k : Fin k0_t1_loop.trips) (x : Vec F S1x1x16384x128 .f32) : Vec F S1x1x128x128 .f32 := fun j =>
  x ((⟨k0_off1 i k, S1x1x128x128.size, ![1, 1, 8, 1], (k0_off1_inb i k)⟩ : LoadRect S1x1x16384x128).idx j)

/-- The new rows in a buffer of `128`: the rest zeros. -/
def padded (Z : FVec F S128x128 .bf16) (x : FVec F S64x128 .bf16) : FVec F S128x128 .bf16 :=
  View.canon [(⟨Rect.unit ![0, 0] ![64, 128] inb_S128x128_S64x128_0_0, x⟩ : View.Piece (Elt F) S128x128 .bf16),
    ⟨Rect.unit ![0, 0] ![128, 128] inb_S128x128_S128x128_0_0, Z⟩]

theorem readCov_padded (arg : Memref sig .tc .vmem S128x128 .bf16) (Z : FVec F S128x128 .bf16) (x : FVec F S64x128 .bf16) :
    arg.view.readCov (Val := Elt F) [(⟨Rect.unit ![0, 0] ![64, 128] inb_S128x128_S64x128_0_0, x⟩ : View.Piece (Elt F) S128x128 .bf16),
        ⟨Rect.unit ![0, 0] ![128, 128] inb_S128x128_S128x128_0_0, Z⟩]
      (Rect.unit ![0, 0] ![128, 128] inb_S128x128_S128x128_0_0).toLoadRect = padded Z x := by
  rw [View.readCov_eq_canon']
  refine (View.ld_unit_zero (S := S128x128) hz2 inb_S128x128_S128x128_0_0 _)

theorem padded_of_lt (Z : FVec F S128x128 .bf16) (x : FVec F S64x128 .bf16) (k : Fin 64) (d : Fin 128) :
    padded Z x (ix2 (⟨k.val, by omega⟩ : Fin 128) d) = x (ix2 k d) := by
  unfold padded
  have h : View.canon [(⟨Rect.unit ![0, 0] ![64, 128] inb_S128x128_S64x128_0_0, x⟩ : View.Piece (Elt F) S128x128 .bf16),
      ⟨Rect.unit ![0, 0] ![128, 128] inb_S128x128_S128x128_0_0, Z⟩] ((Rect.unit (s := S128x128) ![0, 0] ![64, 128] inb_S128x128_S64x128_0_0).emb (ix2 k d)) = x (ix2 k d) :=
    View.canon_cons_emb (Val := Elt F) (e := .bf16) (Rect.unit (s := S128x128) ![0, 0] ![64, 128] inb_S128x128_S64x128_0_0) x _ (ix2 k d)
  refine (congrArg _ ?_).trans h
  funext a; apply Fin.ext
  refine Eq.trans ?_ (Rect.emb_apply (Rect.unit (s := S128x128) ![0, 0] ![64, 128] inb_S128x128_S64x128_0_0) (ix2 k d) a).symm
  match a with
  | ⟨0, _⟩ => show k.val = 0 + 1 * k.val; omega
  | ⟨1, _⟩ => show d.val = 0 + 1 * d.val; omega

theorem padded_of_le (Z : FVec F S128x128 .bf16) (x : FVec F S64x128 .bf16) (k d : Fin 128) (h : 64 ≤ k.val) :
    padded Z x (ix2 k d) = Z (ix2 k d) := by
  unfold padded
  rw [View.canon_cons_of_not_mem _ _ ?_, View.canon_unit_zero (S := S128x128) hz2]
  show ix2 k d ∉ (Rect.unit ![0, 0] ![64, 128] inb_S128x128_S64x128_0_0).set
  rw [Rect.mem_set_unit]
  intro h'
  have := (h' 0).2
  have : k.val < 0 + 64 := this
  omega

variable (𝒱 : Variants) (c : Dev nD) (bd : Option 𝒱.V) (i : grid0.Coords) (arg2 : Memref sig .tc .vmem S1x64x128 .bf16) (harg2 : arg2.IsWhole) (arg3 : Memref sig .tc .vmem S1x64x128 .bf16) (harg3 : arg3.IsWhole) (arg4 : Memref sig .tc .vmem S1x64x128 .bf16) (harg4 : arg4.IsWhole) (arg5 : Memref sig .tc .vmem S1x1x16384x128 .f32) (harg5 : arg5.IsWhole) (arg6 : Memref sig .tc .vmem S1x1x16384x128 .f32) (harg6 : arg6.IsWhole) (arg7 : Memref sig .tc .vmem S256x256 .bf16) (harg7 : arg7.IsWhole) (arg8 : Memref sig .tc .vmem S1x64x128 .bf16) (harg8 : arg8.IsWhole) (arg9 : Memref sig .tc .vmem S128x128 .bf16) (harg9 : arg9.IsWhole) (arg10 : Memref sig .tc .vmem S128x128 .bf16) (harg10 : arg10.IsWhole)

/-- One trip: the block's rows of the two caches against the carried sums. -/
theorem trip_eq (v1 : FVec F S256x256 .bf16) (v23 : FVec F S64x128 .bf16) (x3 x4 : Vec F S1x1x16384x128 .f32) (k : Fin k0_t1_loop.trips) (acc : FVec F S64x128 .f32 × FVec F S64x128 .f32) :
    tripR_k0_t1 (F := F) 𝒱 c bd i arg2 harg2 arg3 harg3 arg4 harg4 arg5 harg5 arg6 harg6 arg7 harg7 arg8 harg8 arg9 harg9 arg10 harg10 v1 v23 (harg5.unread x3) (harg6.unread x4) k acc
      = (k0_pay10 v1 v23 acc.1 acc.2 (rows i k x3) (rows i k x4), k0_pay9 v1 v23 acc.2 (rows i k x3)) := by
  have e5 : arg5.view.readAt (Elt F) (⟨k0_off1 i k, S1x1x128x128.size, ![1, 1, 8, 1], (k0_off1_inb i k)⟩ : LoadRect S1x1x16384x128) (harg5.unread x3) = rows i k x3 :=
    funext fun j => congrFun (harg5.read_unread x3) _
  have e6 : arg6.view.readAt (Elt F) (⟨k0_off1 i k, S1x1x128x128.size, ![1, 1, 8, 1], (k0_off1_inb i k)⟩ : LoadRect S1x1x16384x128) (harg6.unread x4) = rows i k x4 :=
    funext fun j => congrFun (harg6.read_unread x4) _
  rw [← e5, ← e6]
  unfold tripR_k0_t1 trip_k0_t1
  rfl

/-- What the body leaves in the output's staging buffer: the carried sum after the last trip. -/
theorem out_A (x0 x1 x2 : Vec F S1x64x128 .bf16) (x3 x4 : Vec F S1x1x16384x128 .f32) (x5 : Vec F S256x256 .bf16) :
    out0_A_6 c i arg2 harg2 arg3 harg3 arg4 harg4 arg5 harg5 arg6 harg6 arg7 harg7 arg8 harg8 arg9 harg9 arg10 harg10 x0 x1 x2 x3 x4 x5
      = k0_pay11 (st_k0_t1 Variants.none c none i arg2 harg2 arg3 harg3 arg4 harg4 arg5 harg5 arg6 harg6 arg7 harg7 arg8 harg8 arg9 harg9 arg10 harg10
          (k0_pay12 x5) (k0_pay17 x0) (harg5.unread x3) (harg6.unread x4)
          (k0_pay4 (k0_pay12 x5) (k0_pay17 x0) (padded k0_pay13 (k0_pay15 x1)) (padded k0_pay14 (k0_pay16 x2)) k0_pay18 k0_pay19,
            k0_pay5 (k0_pay12 x5) (k0_pay17 x0) (padded k0_pay13 (k0_pay15 x1)) k0_pay18 k0_pay19) 16).1 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A
  dsimp only
  rw [View.canon_unit_zero hz3]
  sl_unfold_words
  simp only [View.readAt_eq_ld, harg2.read_unread, harg3.read_unread, harg4.read_unread, harg7.read_unread, View.ld_unit_zero (S := S1x64x128) hz3, View.ld_unit_zero (S := S256x256) hz2]
  rw [← readCov_padded arg9, ← readCov_padded arg10]
  rfl

end Cert.SampleIdeal.Body

end
-- ==== Proof.Sample.Block.lean ====
/-
  The block of one grid point over the reals: row `r`'s weighted sum of the values of the `2112` keys.
-/

module

public import proofs.«01_k».proof.Proof.Sample.Body

public section

set_option maxRecDepth 16384

noncomputable section

namespace Cert.SampleIdeal.Block

open Cert.SampleIdeal Cert.SampleIdeal.Gen Cert.SampleIdeal.Pay Cert.SampleIdeal.Body Cert.Stick
open Idealize.ShloMosaic Idealize.ShloMosaic.TcCoe Idealize.SL.Sem Idealize.ShloMosaic.ValueIdx
open scoped BigOperators

theorem head_lt (i : grid0.Coords) : (i 1).val < 8 := (i 1).isLt

theorem trips_eq : k0_t1_loop.trips = 16 := by decide +kernel

theorem rows_apply (i : grid0.Coords) (k : Fin k0_t1_loop.trips) (x : Vec Ideal S1x1x16384x128 .f32) (κ d : Fin 128) :
    rows i k x (ix4 (0 : Fin 1) (0 : Fin 1) κ d)
      = x (ix4 (0 : Fin 1) (0 : Fin 1) (⟨(1920 - 128 * k.val + κ.val) * 8 + (i 1).val, by
          have := head_lt i; have := κ.isLt; have := lt_of_lt_of_eq k.isLt trips_eq; omega⟩ : Fin 16384) d) := by
  refine congrArg x (funext fun a => Fin.ext ?_)
  refine (LoadRect.idx_apply _ _ a).trans ?_
  have hk := lt_of_lt_of_eq k.isLt trips_eq
  refine Eq.trans (congrArg (· + ![1, 1, 8, 1] a * (ix4 (0 : Fin 1) (0 : Fin 1) κ d a).val) (congrFun (k0_off1_eq i k) a)) ?_
  match a with
  | ⟨0, _⟩ => rfl
  | ⟨1, _⟩ => rfl
  | ⟨2, _⟩ => show ((i 1).val + 15360) - 1024 * k.val + 8 * κ.val = (1920 - 128 * k.val + κ.val) * 8 + (i 1).val; omega
  | ⟨3, _⟩ => show 0 + 1 * d.val = d.val; omega

theorem pay17_apply (x : Vec Ideal S1x64x128 .bf16) (r : Fin 64) (d : Fin 128) : k0_pay17 x (ix2 r d) = x (ix3 (0 : Fin 1) r d) :=
  shapeCast_1ab_ab_apply x shapeCasts_S1x64x128_S64x128 r d

theorem pay15_apply (x : Vec Ideal S1x64x128 .bf16) (r : Fin 64) (d : Fin 128) : k0_pay15 x (ix2 r d) = x (ix3 (0 : Fin 1) r d) :=
  (congrFun (shapeCast_self _ shapeCasts_S64x128_S64x128) _).trans (shapeCast_1ab_ab_apply x shapeCasts_S1x64x128_S64x128 r d)

theorem pay16_apply (x : Vec Ideal S1x64x128 .bf16) (r : Fin 64) (d : Fin 128) : k0_pay16 x (ix2 r d) = x (ix3 (0 : Fin 1) r d) :=
  (congrFun (shapeCast_self _ shapeCasts_S64x128_S64x128) _).trans (shapeCast_1ab_ab_apply x shapeCasts_S1x64x128_S64x128 r d)

theorem pay13_apply (k d : Fin 128) : k0_pay13 (F := Ideal) (ix2 k d) = 0 := by
  unfold k0_pay13; rw [shapeCast_self]; exact Ideal.ofBits_zero_bf16

theorem pay14_apply (k d : Fin 128) : k0_pay14 (F := Ideal) (ix2 k d) = 0 := by
  unfold k0_pay14; rw [shapeCast_self]; exact Ideal.ofBits_zero_bf16

section

variable (c : Dev nD) (i : grid0.Coords) (arg2 : Memref sig .tc .vmem S1x64x128 .bf16) (harg2 : arg2.IsWhole) (arg3 : Memref sig .tc .vmem S1x64x128 .bf16) (harg3 : arg3.IsWhole) (arg4 : Memref sig .tc .vmem S1x64x128 .bf16) (harg4 : arg4.IsWhole) (arg5 : Memref sig .tc .vmem S1x1x16384x128 .f32) (harg5 : arg5.IsWhole) (arg6 : Memref sig .tc .vmem S1x1x16384x128 .f32) (harg6 : arg6.IsWhole) (arg7 : Memref sig .tc .vmem S256x256 .bf16) (harg7 : arg7.IsWhole) (arg8 : Memref sig .tc .vmem S1x64x128 .bf16) (harg8 : arg8.IsWhole) (arg9 : Memref sig .tc .vmem S128x128 .bf16) (harg9 : arg9.IsWhole) (arg10 : Memref sig .tc .vmem S128x128 .bf16) (harg10 : arg10.IsWhole)
  (x0 x1 x2 : Vec Ideal S1x64x128 .bf16) (x3 x4 : Vec Ideal S1x1x16384x128 .f32) (x5 : Vec Ideal S256x256 .bf16)

/-- The output's block at row `r`, lane `d`: the weighted sum of the values `V` under the scores `z`. -/
theorem out_apply (h1 : IsSuffix x5) (r : Fin 64) (d : Fin 128) (z : ℕ → ℝ) (V : ℕ → EReal)
    (hzc : ∀ j : Fin 2048, ∑ e : Fin 128, x0 (ix3 (0 : Fin 1) r e) * x3 (ix4 (0 : Fin 1) (0 : Fin 1) (⟨j.val * 8 + (i 1).val, by have := head_lt i; omega⟩ : Fin 16384) e) = (z j.val : EReal))
    (hzn : ∀ k : Fin 64, ∑ e : Fin 128, x0 (ix3 (0 : Fin 1) r e) * x1 (ix3 (0 : Fin 1) k e) = (z (2048 + k.val) : EReal))
    (hzp : ∀ j, 2112 ≤ j → z j = 0)
    (hVc : ∀ j : Fin 2048, x4 (ix4 (0 : Fin 1) (0 : Fin 1) (⟨j.val * 8 + (i 1).val, by have := head_lt i; omega⟩ : Fin 16384) d) = V j.val)
    (hVn : ∀ k : Fin 64, x2 (ix3 (0 : Fin 1) k d) = V (2048 + k.val))
    (hVp : ∀ j, 2112 ≤ j → V j = 0) :
    out0_A_6 c i arg2 harg2 arg3 harg3 arg4 harg4 arg5 harg5 arg6 harg6 arg7 harg7 arg8 harg8 arg9 harg9 arg10 harg10 x0 x1 x2 x3 x4 x5 (ix3 (0 : Fin 1) r d)
      = ∑ j ∈ Finset.range 2176, (weight z (2048 + r.val) j : EReal) * V j := by
  have h1' : IsSuffix (k0_pay12 x5) := by unfold k0_pay12; dsimp only; rw [shapeCast_self]; exact h1
  -- the new keys, padded with zeros
  have hz0 : ∀ k : Fin 128, k0_pay1 (k0_pay17 x0) (padded k0_pay13 (k0_pay15 x1)) (ix2 r k) = (z (2048 + k.val) : EReal) := fun k => by
    rw [pay1_apply]
    by_cases h : k.val < 64
    · refine Eq.trans (Finset.sum_congr rfl fun e _ => ?_) (hzn ⟨k.val, h⟩)
      exact congrArg₂ (· * ·) (pay17_apply x0 r e) ((padded_of_lt k0_pay13 (k0_pay15 x1) ⟨k.val, h⟩ e).trans (pay15_apply x1 _ e))
    · rw [hzp _ (by omega), EReal.coe_zero]
      refine Finset.sum_eq_zero fun e _ => ?_
      rw [padded_of_le _ _ k e (by omega), pay13_apply, mul_zero]
  have hv0 : ∀ k : Fin 128, padded k0_pay14 (k0_pay16 x2) (ix2 k d) = V (2048 + k.val) := fun k => by
    by_cases h : k.val < 64
    · exact (padded_of_lt k0_pay14 (k0_pay16 x2) ⟨k.val, h⟩ d).trans ((pay16_apply x2 _ d).trans (hVn ⟨k.val, h⟩))
    · rw [padded_of_le _ _ k d (by omega), pay14_apply, hVp _ (by omega)]
  rw [out_A]
  generalize hinit : (k0_pay4 (k0_pay12 x5) (k0_pay17 x0) (padded k0_pay13 (k0_pay15 x1)) (padded k0_pay14 (k0_pay16 x2)) k0_pay18 k0_pay19,
    k0_pay5 (k0_pay12 x5) (k0_pay17 x0) (padded k0_pay13 (k0_pay15 x1)) k0_pay18 k0_pay19) = init
  have hi1 : init.1 (ix2 r d) = ∑ j ∈ Finset.Ico 2048 2176, (weight z (2048 + r.val) j : EReal) * V j := by
    rw [← hinit]; exact pay4_apply _ _ h1' hz0 V d hv0
  have hi2 : ∀ j, init.2 (ix2 r j) = ((∑ i ∈ Finset.Ico 2048 2176, stay z (2048 + r.val) i : ℝ) : EReal) := fun j => by
    rw [← hinit]; exact pay5_apply _ h1' hz0 j
  -- the loop's state after `n` trips
  have hst : ∀ n, n ≤ 16 →
      (st_k0_t1 Variants.none c none i arg2 harg2 arg3 harg3 arg4 harg4 arg5 harg5 arg6 harg6 arg7 harg7 arg8 harg8 arg9 harg9 arg10 harg10 (k0_pay12 x5) (k0_pay17 x0) (harg5.unread x3) (harg6.unread x4) init n).1 (ix2 r d)
        = ∑ j ∈ Finset.Ico (2048 - 128 * n) 2176, (weight z (2048 + r.val) j : EReal) * V j
      ∧ ∀ j, (st_k0_t1 Variants.none c none i arg2 harg2 arg3 harg3 arg4 harg4 arg5 harg5 arg6 harg6 arg7 harg7 arg8 harg8 arg9 harg9 arg10 harg10 (k0_pay12 x5) (k0_pay17 x0) (harg5.unread x3) (harg6.unread x4) init n).2 (ix2 r j)
        = ((∑ i ∈ Finset.Ico (2048 - 128 * n) 2176, stay z (2048 + r.val) i : ℝ) : EReal) := by
    intro n
    induction n with
    | zero => intro _; rw [st_k0_t1_zero]; exact ⟨hi1, hi2⟩
    | succ n ih =>
      intro hn
      obtain ⟨ha, hc⟩ := ih (by omega)
      have hlt : n < k0_t1_loop.trips := lt_of_lt_of_eq (by omega) trips_eq.symm
      have e := st_k0_t1_succ Variants.none c none i arg2 harg2 arg3 harg3 arg4 harg4 arg5 harg5 arg6 harg6 arg7 harg7 arg8 harg8 arg9 harg9 arg10 harg10 (k0_pay12 x5) (k0_pay17 x0) (harg5.unread x3) (harg6.unread x4) init ⟨n, hlt⟩
      rw [trip_eq] at e
      generalize hs : st_k0_t1 Variants.none c none i arg2 harg2 arg3 harg3 arg4 harg4 arg5 harg5 arg6 harg6 arg7 harg7 arg8 harg8 arg9 harg9 arg10 harg10 (k0_pay12 x5) (k0_pay17 x0) (harg5.unread x3) (harg6.unread x4) init n = s at e ha hc
      rw [show (⟨n, hlt⟩ : Fin k0_t1_loop.trips).val + 1 = n + 1 from rfl] at e
      have ea : 2048 - 128 * n = 2048 - 128 * (n + 1) + 128 := by omega
      rw [ea] at ha hc
      have hz : ∀ k : Fin 128, k0_pay6 (k0_pay17 x0) (rows i ⟨n, hlt⟩ x3) (ix2 r k) = (z (2048 - 128 * (n + 1) + k.val) : EReal) := fun k => by
        rw [pay6_apply]
        refine Eq.trans (Finset.sum_congr rfl fun e _ => ?_) (hzc ⟨2048 - 128 * (n + 1) + k.val, by omega⟩)
        refine congrArg₂ (· * ·) (pay17_apply x0 r e) ((rows_apply i _ x3 k e).trans (congrArg (fun a => x3 (ix4 (0 : Fin 1) (0 : Fin 1) a e)) (Fin.ext ?_)))
        show (1920 - 128 * n + k.val) * 8 + (i 1).val = (2048 - 128 * (n + 1) + k.val) * 8 + (i 1).val
        omega
      have hv : ∀ k : Fin 128, rows i ⟨n, hlt⟩ x4 (ix4 (0 : Fin 1) (0 : Fin 1) k d) = V (2048 - 128 * (n + 1) + k.val) := fun k => by
        refine Eq.trans ((rows_apply i _ x4 k d).trans (congrArg (fun a => x4 (ix4 (0 : Fin 1) (0 : Fin 1) a d)) (Fin.ext ?_))) (hVc ⟨2048 - 128 * (n + 1) + k.val, by omega⟩)
        show (1920 - 128 * n + k.val) * 8 + (i 1).val = (2048 - 128 * (n + 1) + k.val) * 8 + (i 1).val
        omega
      rw [e]
      exact ⟨pay10_apply _ _ _ _ h1' hz (by omega) (by omega) V d hv hc ha, fun j => pay9_apply _ _ h1' hz (by omega) (by omega) j (hc j)⟩
  refine (shapeCast_ab_1ab_apply _ shapeCasts_S64x128_S1x64x128 (0 : Fin 1) r d).trans ?_
  refine Eq.trans (hst 16 le_rfl).1 ?_
  rw [Finset.range_eq_Ico]

end

end Cert.SampleIdeal.Block

end
-- ==== Proof.Sample.Scores.lean ====
/-
  The layer's attention of the sampled tokens, as a sum over a query's `2112` keys: `2048` cached ones, then
  the `64` new ones.
-/

module

public import proofs.«01_k».proof.Proof.Sample.Stick
public import Idealize.ShloMosaic.Lib.ValueIdx

@[expose] public section

noncomputable section

namespace Cert.Stick

open Idealize.ShloMosaic Idealize.ShloMosaic.ValueIdx
open scoped BigOperators

/-- The new tokens' rows: one per token, a head's `128` lanes side by side. -/
abbrev Rows : Shape := ⟨2, ![2048, 1024]⟩
/-- The caches: the keys' and the values' layers, sequences, positions, heads, lanes. -/
abbrev Caches : Shape := ⟨5, ![2, 32, 2048, 8, 128]⟩

/-- Row `r` of a sequence in an array of all sequences' rows. -/
abbrev row (b : Fin 32) (r : Fin 64) : Fin 2048 := ⟨b.val * 64 + r.val, by omega⟩
/-- Lane `d` of a head in a row of all heads. -/
abbrev lane (h : Fin 8) (d : Fin 128) : Fin 1024 := ⟨h.val * 128 + d.val, by omega⟩

/-- An array of real numbers. -/
def Finite {S : Shape} (x : S.Idx → EReal) : Prop := ∀ i, ∃ y : ℝ, x i = (y : EReal)

section

variable (q k v : Rows.Idx → EReal) (ck cv : Caches.Idx → EReal) (b : Fin 32) (h : Fin 8) (r : Fin 64)

/-- The score of key `j` for query `r`; zero past the last key. -/
def score (j : ℕ) : EReal :=
  if hj : j < 2048 then ∑ e : Fin 128, q (ix2 (row b r) (lane h e)) * ck (ix5 (1 : Fin 2) b (⟨j, hj⟩ : Fin 2048) h e)
  else if hj' : j - 2048 < 64 then ∑ e : Fin 128, q (ix2 (row b r) (lane h e)) * k (ix2 (row b ⟨j - 2048, hj'⟩) (lane h e))
  else 0

/-- Lane `d` of key `j`'s value; zero past the last key. -/
def value (d : Fin 128) (j : ℕ) : EReal :=
  if hj : j < 2048 then cv (ix5 (1 : Fin 2) b (⟨j, hj⟩ : Fin 2048) h d)
  else if hj' : j - 2048 < 64 then v (ix2 (row b ⟨j - 2048, hj'⟩) (lane h d))
  else 0

/-- The scores as real numbers. -/
def scoreR (j : ℕ) : ℝ := (score q k ck b h r j).toReal

/-- Query `r`'s weighted sum of the values, lane `d`. -/
def attend (d : Fin 128) : EReal :=
  ∑ j ∈ Finset.range 2112, (weight (scoreR q k ck b h r) (2048 + r.val) j : EReal) * value v cv b h d j

variable {q k ck}

theorem finite_sum {n : ℕ} (f g : Fin n → EReal) (hf : ∀ i, ∃ y : ℝ, f i = (y : EReal)) (hg : ∀ i, ∃ y : ℝ, g i = (y : EReal)) :
    ∃ y : ℝ, ∑ i, f i * g i = (y : EReal) := by
  choose f' hf' using hf
  choose g' hg' using hg
  refine ⟨∑ i, f' i * g' i, ?_⟩
  rw [coe_sum]
  exact Finset.sum_congr rfl fun i _ => by rw [hf', hg', EReal.coe_mul]

/-- Over real queries and keys the scores are real. -/
theorem score_coe (hq : Finite q) (hk : Finite k) (hck : Finite ck) (j : ℕ) : score q k ck b h r j = (scoreR q k ck b h r j : EReal) := by
  have hy : ∃ y : ℝ, score q k ck b h r j = (y : EReal) := by
    unfold score
    split
    · exact finite_sum _ _ (fun _ => hq _) fun _ => hck _
    · split
      · exact finite_sum _ _ (fun _ => hq _) fun _ => hk _
      · exact ⟨0, EReal.coe_zero.symm⟩
  obtain ⟨y, hy⟩ := hy
  unfold scoreR
  rw [hy, EReal.toReal_coe]

theorem scoreR_past (j : ℕ) (hj : 2112 ≤ j) : scoreR q k ck b h r j = 0 := by
  unfold scoreR score
  rw [dif_neg (by omega), dif_neg (by omega), EReal.toReal_zero]

theorem value_past (d : Fin 128) (j : ℕ) (hj : 2112 ≤ j) : value v cv b h d j = 0 := by
  unfold value
  rw [dif_neg (by omega), dif_neg (by omega)]

theorem score_cached (j : Fin 2048) : score q k ck b h r j.val
    = ∑ e : Fin 128, q (ix2 (row b r) (lane h e)) * ck (ix5 (1 : Fin 2) b j h e) := by
  unfold score
  rw [dif_pos j.isLt]

theorem score_new (j : Fin 64) : score q k ck b h r (2048 + j.val)
    = ∑ e : Fin 128, q (ix2 (row b r) (lane h e)) * k (ix2 (row b j) (lane h e)) := by
  unfold score
  have e : 2048 + j.val - 2048 = j.val := Nat.add_sub_cancel_left _ _
  rw [dif_neg (by omega), dif_pos (by omega)]
  simp only [e]

theorem value_cached (d : Fin 128) (j : Fin 2048) : value v cv b h d j.val = cv (ix5 (1 : Fin 2) b j h d) := by
  unfold value
  rw [dif_pos j.isLt]

theorem value_new (d : Fin 128) (j : Fin 64) : value v cv b h d (2048 + j.val) = v (ix2 (row b j) (lane h d)) := by
  unfold value
  have e : 2048 + j.val - 2048 = j.val := Nat.add_sub_cancel_left _ _
  rw [dif_neg (by omega), dif_pos (by omega)]
  simp only [e]

end

end Cert.Stick

end
-- ==== Proof.Sample.Host.lean ====
/-
  What the region finds: the blocks of the reshaped arguments, read at an index, and the matrix of the
  suffix sums.
-/

module

public import proofs.«01_k».proof.Proof.Sample.Block
public import proofs.«01_k».proof.Proof.Sample.Scores
public import Idealize.ShloMosaic.Lib.StableHlo.Run

public section

set_option maxRecDepth 16384

noncomputable section

namespace Cert.SampleIdeal.Host

open Cert.SampleIdeal Cert.SampleIdeal.Gen Cert.SampleIdeal.Pay Cert.SampleIdeal.Block
open Cert.Stick (row lane)
open Idealize.ShloMosaic Idealize.ShloMosaic.TcCoe Idealize.SL.Sem Idealize.ShloMosaic.ValueIdx

variable (m : (ℓ : Loc nD τ sig) → Buf (Elt Ideal) ℓ) (c : Dev nD)

theorem coords0 : ∀ t : Fin grid0.N, (grid0.coords t 0).val = t.val / 8 := by decide +kernel
theorem coords1 : ∀ t : Fin grid0.N, (grid0.coords t 1).val = t.val % 8 := by decide +kernel

theorem index0 : ∀ t : Fin grid0.N, win0_0.index t 0 = t.val / 8 ∧ win0_0.index t 1 = 0 ∧ win0_0.index t 2 = t.val % 8 := by decide +kernel
theorem index1 : ∀ t : Fin grid0.N, win0_1.index t 0 = t.val / 8 ∧ win0_1.index t 1 = 0 ∧ win0_1.index t 2 = t.val % 8 := by decide +kernel
theorem index2 : ∀ t : Fin grid0.N, win0_2.index t 0 = t.val / 8 ∧ win0_2.index t 1 = 0 ∧ win0_2.index t 2 = t.val % 8 := by decide +kernel
theorem index3 : ∀ t : Fin grid0.N, win0_3.index t 0 = 1 ∧ win0_3.index t 1 = t.val / 8 ∧ win0_3.index t 2 = 0 ∧ win0_3.index t 3 = 0 := by decide +kernel
theorem index4 : ∀ t : Fin grid0.N, win0_4.index t 0 = 1 ∧ win0_4.index t 1 = t.val / 8 ∧ win0_4.index t 2 = 0 ∧ win0_4.index t 3 = 0 := by decide +kernel
theorem index5 : ∀ t : Fin grid0.N, win0_5.index t 0 = 0 ∧ win0_5.index t 1 = 0 := by decide +kernel
theorem index6 : ∀ t : Fin grid0.N, win0_6.index t 0 = t.val / 8 ∧ win0_6.index t 1 = 0 ∧ win0_6.index t 2 = t.val % 8 := by decide +kernel

/-! ## The reshaped arguments -/

theorem V_main_v11 : V m c main_v11 = shapeCast S32x64x1024 (m ((c : Thread nD τ).loc main_arg0)) shapeCasts_S2048x1024_S32x64x1024 := by
  unfold V
  after_results
  rfl
theorem V_main_v12 : V m c main_v12 = shapeCast S32x64x1024 (m ((c : Thread nD τ).loc main_arg1)) shapeCasts_S2048x1024_S32x64x1024 := by
  unfold V
  after_results
  rfl
theorem V_main_v13 : V m c main_v13 = shapeCast S32x64x1024 (m ((c : Thread nD τ).loc main_arg2)) shapeCasts_S2048x1024_S32x64x1024 := by
  unfold V
  after_results
  rfl
theorem V_main_v14 : V m c main_v14 = shapeCast S2x32x16384x128 (m ((c : Thread nD τ).loc main_arg3)) shapeCasts_S2x32x2048x8x128_S2x32x16384x128 := by
  unfold V
  after_results
  rfl
theorem V_main_v15 : V m c main_v15 = shapeCast S2x32x16384x128 (m ((c : Thread nD τ).loc main_arg4)) shapeCasts_S2x32x2048x8x128_S2x32x16384x128 := by
  unfold V
  after_results
  rfl

variable (t : Fin cfg0.N)

theorem t_lt : t.val < 256 := lt_of_lt_of_eq t.isLt N_0

/-- The point's sequence. -/
abbrev seqOf : Fin 32 := ⟨t.val / 8, by have := t_lt t; omega⟩
/-- The point's head. -/
abbrev headOf : Fin 8 := ⟨t.val % 8, by omega⟩

theorem cast_rows {e : EltTy} (x : Vec Ideal S2048x1024 e) (b : Fin 32) (r : Fin 64) (l : Fin 1024) :
    shapeCast S32x64x1024 x shapeCasts_S2048x1024_S32x64x1024 (ix3 b r l) = x (ix2 (row b r) l) :=
  shapeCast_apply _ _ _ _ (by rewrite [Shape.rowMajor_val_two, Shape.rowMajor_val_three]; rfl)

theorem cast_cache {e : EltTy} (x : Vec Ideal S2x32x2048x8x128 e) (y : Fin 2) (b : Fin 32) (j : Fin 2048) (h : Fin 8) (d : Fin 128) :
    shapeCast S2x32x16384x128 x shapeCasts_S2x32x2048x8x128_S2x32x16384x128 (ix4 y b (⟨j.val * 8 + h.val, by omega⟩ : Fin 16384) d) = x (ix5 y b j h d) :=
  shapeCast_apply _ _ _ _ (by
    rewrite [Shape.rowMajor_val_five, Shape.rowMajor_val_four]
    show (((y.val * 32 + b.val) * 2048 + j.val) * 8 + h.val) * 128 + d.val = ((y.val * 32 + b.val) * 16384 + (j.val * 8 + h.val)) * 128 + d.val
    omega)

theorem iblk0_apply (r : Fin 64) (d : Fin 128) : (iblk m c 0 t : Vec Ideal S1x64x128 .bf16) (ix3 (0 : Fin 1) r d)
    = m ((c : Thread nD τ).loc main_arg0) (ix2 (row (seqOf t) r) (lane (headOf t) d)) := by
  obtain ⟨h0, h1, h2⟩ := index0 t
  refine Eq.trans (b := V m c main_v11 (ix3 (seqOf t) r (lane (headOf t) d))) ?_ ?_
  · unfold iblk
    rw [View.read_apply]
    show V m c main_v11 _ = _
    congr 1
    funext a
    apply Fin.ext
    match a with
    | ⟨0, _⟩ => show win0_0.index t 0 * 1 + 1 * 0 = t.val / 8; omega
    | ⟨1, _⟩ => show win0_0.index t 1 * 64 + 1 * r.val = r.val; omega
    | ⟨2, _⟩ => show win0_0.index t 2 * 128 + 1 * d.val = t.val % 8 * 128 + d.val; omega
  · rw [V_main_v11]
    exact cast_rows _ (seqOf t) r (lane (headOf t) d)

theorem iblk1_apply (r : Fin 64) (d : Fin 128) : (iblk m c 1 t : Vec Ideal S1x64x128 .bf16) (ix3 (0 : Fin 1) r d)
    = m ((c : Thread nD τ).loc main_arg1) (ix2 (row (seqOf t) r) (lane (headOf t) d)) := by
  obtain ⟨h0, h1, h2⟩ := index1 t
  refine Eq.trans (b := V m c main_v12 (ix3 (seqOf t) r (lane (headOf t) d))) ?_ ?_
  · unfold iblk
    rw [View.read_apply]
    show V m c main_v12 _ = _
    congr 1
    funext a
    apply Fin.ext
    match a with
    | ⟨0, _⟩ => show win0_1.index t 0 * 1 + 1 * 0 = t.val / 8; omega
    | ⟨1, _⟩ => show win0_1.index t 1 * 64 + 1 * r.val = r.val; omega
    | ⟨2, _⟩ => show win0_1.index t 2 * 128 + 1 * d.val = t.val % 8 * 128 + d.val; omega
  · rw [V_main_v12]
    exact cast_rows _ (seqOf t) r (lane (headOf t) d)

theorem iblk2_apply (r : Fin 64) (d : Fin 128) : (iblk m c 2 t : Vec Ideal S1x64x128 .bf16) (ix3 (0 : Fin 1) r d)
    = m ((c : Thread nD τ).loc main_arg2) (ix2 (row (seqOf t) r) (lane (headOf t) d)) := by
  obtain ⟨h0, h1, h2⟩ := index2 t
  refine Eq.trans (b := V m c main_v13 (ix3 (seqOf t) r (lane (headOf t) d))) ?_ ?_
  · unfold iblk
    rw [View.read_apply]
    show V m c main_v13 _ = _
    congr 1
    funext a
    apply Fin.ext
    match a with
    | ⟨0, _⟩ => show win0_2.index t 0 * 1 + 1 * 0 = t.val / 8; omega
    | ⟨1, _⟩ => show win0_2.index t 1 * 64 + 1 * r.val = r.val; omega
    | ⟨2, _⟩ => show win0_2.index t 2 * 128 + 1 * d.val = t.val % 8 * 128 + d.val; omega
  · rw [V_main_v13]
    exact cast_rows _ (seqOf t) r (lane (headOf t) d)

theorem iblk3_apply (j : Fin 2048) (h : Fin 8) (d : Fin 128) :
    (iblk m c 3 t : Vec Ideal S1x1x16384x128 .f32) (ix4 (0 : Fin 1) (0 : Fin 1) (⟨j.val * 8 + h.val, by omega⟩ : Fin 16384) d)
      = m ((c : Thread nD τ).loc main_arg3) (ix5 (1 : Fin 2) (seqOf t) j h d) := by
  obtain ⟨h0, h1, h2, h3⟩ := index3 t
  refine Eq.trans (b := V m c main_v14 (ix4 (1 : Fin 2) (seqOf t) (⟨j.val * 8 + h.val, by omega⟩ : Fin 16384) d)) ?_ ?_
  · unfold iblk
    rw [View.read_apply]
    show V m c main_v14 _ = _
    congr 1
    funext a
    apply Fin.ext
    match a with
    | ⟨0, _⟩ => show win0_3.index t 0 * 1 + 1 * 0 = 1; omega
    | ⟨1, _⟩ => show win0_3.index t 1 * 1 + 1 * 0 = t.val / 8; omega
    | ⟨2, _⟩ => show win0_3.index t 2 * 16384 + 1 * (j.val * 8 + h.val) = j.val * 8 + h.val; omega
    | ⟨3, _⟩ => show win0_3.index t 3 * 128 + 1 * d.val = d.val; omega
  · rw [V_main_v14]
    exact cast_cache _ (1 : Fin 2) (seqOf t) j h d

theorem iblk4_apply (j : Fin 2048) (h : Fin 8) (d : Fin 128) :
    (iblk m c 4 t : Vec Ideal S1x1x16384x128 .f32) (ix4 (0 : Fin 1) (0 : Fin 1) (⟨j.val * 8 + h.val, by omega⟩ : Fin 16384) d)
      = m ((c : Thread nD τ).loc main_arg4) (ix5 (1 : Fin 2) (seqOf t) j h d) := by
  obtain ⟨h0, h1, h2, h3⟩ := index4 t
  refine Eq.trans (b := V m c main_v15 (ix4 (1 : Fin 2) (seqOf t) (⟨j.val * 8 + h.val, by omega⟩ : Fin 16384) d)) ?_ ?_
  · unfold iblk
    rw [View.read_apply]
    show V m c main_v15 _ = _
    congr 1
    funext a
    apply Fin.ext
    match a with
    | ⟨0, _⟩ => show win0_4.index t 0 * 1 + 1 * 0 = 1; omega
    | ⟨1, _⟩ => show win0_4.index t 1 * 1 + 1 * 0 = t.val / 8; omega
    | ⟨2, _⟩ => show win0_4.index t 2 * 16384 + 1 * (j.val * 8 + h.val) = j.val * 8 + h.val; omega
    | ⟨3, _⟩ => show win0_4.index t 3 * 128 + 1 * d.val = d.val; omega
  · rw [V_main_v15]
    exact cast_cache _ (1 : Fin 2) (seqOf t) j h d

/-! ## The matrix of the suffix sums -/

/-- One where the row comes after the column. -/
abbrev below : FVec Ideal S128x128 .bf16 :=
  uitofp .bf16 (cmpi .sgt (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

/-- Ones. -/
abbrev ones : FVec Ideal S128x128 .bf16 := broadcastInDim S128x128 ![] bcast_S_S128x128 (constant S_ .bf16 0x3F80#16)

abbrev pair : FVec Ideal S128x256 .bf16 := concatenate S128x256 1 [⟨S128x128, below⟩, ⟨S128x128, ones⟩] concatenates_S128x128_S128x128_S128x256_d1

theorem V_main_v10 : V m c main_v10 = concatenate S256x256 0 [⟨S128x256, pair⟩, ⟨S128x256, pair⟩] concatenates_S128x256_S128x256_S256x256_d0 := by
  unfold V
  after_results

theorem below_apply (k j : Fin 128) : below (ix2 k j) = if j.val < k.val then 1 else 0 := by
  have h : ∀ k j : Fin 128, IntOp.cmpi .sgt (BitVec.ofNat 32 k.val) (BitVec.ofNat 32 j.val) = if j.val < k.val then 1#1 else 0#1 := by decide +kernel
  show (((IntOp.cmpi .sgt (BitVec.ofNat 32 k.val) (BitVec.ofNat 32 j.val)).toNat : ℝ) : EReal) = _
  rw [h]
  split
  · simp
  · simp

theorem ones_apply (k j : Fin 128) : ones (ix2 k j) = 1 := Ideal.ofBits_one_bf16

theorem pair_apply (k : Fin 128) (j : Fin 256) : pair (ix2 k j) = if 128 ≤ j.val ∨ j.val < k.val then 1 else 0 := by
  by_cases h : j.val < 128
  · refine (concatenate_pair_apply_left (1 : Fin S128x256.rank) below ones concatenates_S128x128_S128x128_S128x256_d1 (ix2 k j) rfl
      (ix2 k (⟨j.val, h⟩ : Fin 128)) fun b => by match b with | ⟨0, _⟩ => rfl | ⟨1, _⟩ => rfl).trans ?_
    rw [below_apply]
    refine if_congr ?_ rfl rfl
    show j.val < k.val ↔ _
    omega
  · refine (concatenate_pair_apply_right (1 : Fin S128x256.rank) below ones concatenates_S128x128_S128x128_S128x256_d1 (ix2 k j) rfl rfl
      (ix2 k (⟨j.val - 128, by omega⟩ : Fin 128)) (fun b hb => by match b with | ⟨0, _⟩ => rfl | ⟨1, _⟩ => exact absurd rfl hb) (by show j.val - 128 + 128 = j.val; omega)).trans ?_
    rw [ones_apply, if_pos (Or.inl (by omega))]

theorem suffix_iblk5 : IsSuffix (iblk m c 5 t : Vec Ideal S256x256 .bf16) := fun k j => by
  obtain ⟨h0, h1⟩ := index5 t
  refine Eq.trans (b := V m c main_v10 (ix2 (⟨k.val, by omega⟩ : Fin 256) j)) ?_ ?_
  · unfold iblk
    rw [View.read_apply]
    show V m c main_v10 _ = _
    congr 1
    funext a
    apply Fin.ext
    match a with
    | ⟨0, _⟩ => show win0_5.index t 0 * 256 + 1 * k.val = k.val; omega
    | ⟨1, _⟩ => show win0_5.index t 1 * 256 + 1 * j.val = j.val; omega
  · rw [V_main_v10]
    exact (concatenate_pair_apply_left (0 : Fin S256x256.rank) pair pair concatenates_S128x256_S128x256_S256x256_d0 (ix2 (⟨k.val, by omega⟩ : Fin 256) j) rfl
      (ix2 k j) fun b => by match b with | ⟨0, _⟩ => rfl | ⟨1, _⟩ => rfl).trans (pair_apply k j)

end Cert.SampleIdeal.Host

end
-- ==== Proof.Sample.Final.lean ====
/-
  The kernel's result array: every row's weighted sum of the values.
-/

module

public import proofs.«01_k».proof.Proof.Sample.Host

@[expose] public section

set_option maxRecDepth 16384

noncomputable section

namespace Cert.SampleIdeal.Final

open Cert.SampleIdeal Cert.SampleIdeal.Gen Cert.SampleIdeal.Pay Cert.SampleIdeal.Block Cert.SampleIdeal.Host Cert.Stick
open Idealize.ShloMosaic Idealize.ShloMosaic.TcCoe Idealize.SL.Sem Idealize.ShloMosaic.ValueIdx
open scoped BigOperators

variable (m : (ℓ : Loc nD τ sig) → Buf (Elt Ideal) ℓ) (c : Dev nD)

abbrev q : Rows.Idx → EReal := m ((c : Thread nD τ).loc main_arg0)
abbrev k : Rows.Idx → EReal := m ((c : Thread nD τ).loc main_arg1)
abbrev v : Rows.Idx → EReal := m ((c : Thread nD τ).loc main_arg2)
abbrev ck : Caches.Idx → EReal := m ((c : Thread nD τ).loc main_arg3)
abbrev cv : Caches.Idx → EReal := m ((c : Thread nD τ).loc main_arg4)

/-- The result: at sequence `i 0`, token `i 1`, head and lane `i 2`. -/
def result : Buf (Elt Ideal) ((c : Thread nD τ).loc main_v16) := fun i =>
  attend (q m c) (k m c) (v m c) (ck m c) (cv m c) ⟨(i 0).val, (i 0).isLt⟩ ⟨(i 2).val / 128, by have : (i 2).val < 1024 := (i 2).isLt; omega⟩
    ⟨(i 1).val, (i 1).isLt⟩ ⟨(i 2).val % 128, by omega⟩

theorem result_apply (b : Fin 32) (r : Fin 64) (h : Fin 8) (d : Fin 128) :
    result m c (ix3 b r (lane h d)) = attend (q m c) (k m c) (v m c) (ck m c) (cv m c) b h r d := by
  have e1 : (h.val * 128 + d.val) / 128 = h.val := by omega
  have e2 : (h.val * 128 + d.val) % 128 = d.val := by omega
  show attend _ _ _ _ _ b ⟨(h.val * 128 + d.val) / 128, _⟩ r ⟨(h.val * 128 + d.val) % 128, _⟩ = _
  congr 1
  · exact Fin.ext e1
  · exact Fin.ext e2

variable (hq : Finite (q m c)) (hk : Finite (k m c)) (hck : Finite (ck m c))
include hq hk hck

/-- What a point leaves in the output's staging buffer. -/
theorem outsAt_apply (t : Fin cfg0.N) (r : Fin 64) (d : Fin 128) :
    (outsAt0 m c t : Vec Ideal S1x64x128 .bf16) (ix3 (0 : Fin 1) r d)
      = attend (q m c) (k m c) (v m c) (ck m c) (cv m c) (seqOf t) (headOf t) r d := by
  have hh : ((grid0.coords t) 1).val = (headOf t).val := coords1 t
  unfold outsAt0
  rw [out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t) (suffix_iblk5 m c t) r d
    (scoreR (q m c) (k m c) (ck m c) (seqOf t) (headOf t) r) (value (v m c) (cv m c) (seqOf t) (headOf t) d)]
  · exact sum_range_weight (p := 2048 + r.val) (n := 2112) (by omega) (by omega) _
  · intro j
    rw [← score_coe _ _ _ hq hk hck, score_cached]
    refine Finset.sum_congr rfl fun e _ => congrArg₂ (· * ·) (iblk0_apply m c t r e) ?_
    refine Eq.trans (congrArg (fun a => (iblk m c 3 t : Vec Ideal S1x1x16384x128 .f32) (ix4 (0 : Fin 1) (0 : Fin 1) a e)) (Fin.ext ?_)) (iblk3_apply m c t j (headOf t) e)
    show j.val * 8 + ((grid0.coords t) 1).val = j.val * 8 + (headOf t).val
    rw [hh]
  · intro j
    rw [← score_coe _ _ _ hq hk hck, score_new]
    exact Finset.sum_congr rfl fun e _ => congrArg₂ (· * ·) (iblk0_apply m c t r e) (iblk1_apply m c t j e)
  · exact scoreR_past _ _ _
  · intro j
    rw [value_cached]
    refine Eq.trans (congrArg (fun a => (iblk m c 4 t : Vec Ideal S1x1x16384x128 .f32) (ix4 (0 : Fin 1) (0 : Fin 1) a d)) (Fin.ext ?_)) (iblk4_apply m c t j (headOf t) d)
    show j.val * 8 + ((grid0.coords t) 1).val = j.val * 8 + (headOf t).val
    rw [hh]
  · intro j
    rw [value_new]
    exact iblk2_apply m c t j d
  · exact value_past _ _ _ _ d

theorem flushed_eq (t : Fin cfg0.N) : (dats m 0 c).flushed 6 t = ((cfg0.win 6).blk t).view.read (Elt Ideal) (result m c) := by
  obtain ⟨h0, h1, h2⟩ := index6 t
  rw [Cert.SampleIdeal.Value.flushed6]
  funext j
  obtain ⟨u, r, d, rfl⟩ : ∃ (u : Fin 1) (r : Fin 64) (d : Fin 128), j = ix3 u r d := ⟨j 0, j 1, j 2, eq_ix3 j⟩
  obtain rfl : u = 0 := Subsingleton.elim _ _
  rw [View.read_apply]
  refine Eq.trans (b := (outsAt0 m c t : Vec Ideal S1x64x128 .bf16) (ix3 (0 : Fin 1) r d)) rfl ?_
  rw [outsAt_apply m c hq hk hck, ← result_apply]
  show result m c _ = result m c _
  congr 1
  funext a
  apply Fin.ext
  match a with
  | ⟨0, _⟩ => show t.val / 8 = win0_6.index t 0 * 1 + 1 * 0; omega
  | ⟨1, _⟩ => show r.val = win0_6.index t 1 * 64 + 1 * r.val; omega
  | ⟨2, _⟩ => show t.val % 8 * 128 + d.val = win0_6.index t 2 * 128 + 1 * d.val; omega

/-- So the result array ends holding every row's weighted sum. -/
theorem final_o : (dats m 0 c).arrAt 6 cfg0.N = result m c :=
  (dats m 0 c).arrAt_eq_of_cover 6 (result m c) (fun t _ => flushed_eq m c hq hk hck t) fun i => by
    have i0 : (i 0 : Nat) < 32 := (i 0).isLt
    have i1 : (i 1 : Nat) < 64 := (i 1).isLt
    have i2 : (i 2 : Nat) < 1024 := (i 2).isLt
    have hN : (i 0 : Nat) * 8 + (i 2 : Nat) / 128 < cfg0.N := lt_of_lt_of_eq (by omega : _ < 256) N_0.symm
    obtain ⟨t, ht⟩ : ∃ t : Fin cfg0.N, t.val = (i 0 : Nat) * 8 + (i 2 : Nat) / 128 := ⟨⟨_, hN⟩, rfl⟩
    refine ⟨t, flush0_6 t, ?_⟩
    obtain ⟨h0, h1, h2⟩ := index6 t
    show i ∈ ((View.whole main_v16).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1; omega
    | ⟨1, _⟩ => show win0_6.index t 1 * 64 ≤ (i 1 : Nat) ∧ (i 1 : Nat) < win0_6.index t 1 * 64 + 64; omega
    | ⟨2, _⟩ => show win0_6.index t 2 * 128 ≤ (i 2 : Nat) ∧ (i 2 : Nat) < win0_6.index t 2 * 128 + 128; omega

end Cert.SampleIdeal.Final

end
-- ==== Proof.Sample.Cumsum.lean ====
/-
  A running sum from the last entry backwards, as a host program writes it: a sum over a window as long as the
  row, the row padded with zeros past its end.
-/

module

public import proofs.«01_k».proof.Proof.Sample.Stick
public import Idealize.ShloMosaic.Lib.ValueIdx
public import Idealize.ShloMosaic.PureOps.Ideal

@[expose] public section

noncomputable section

namespace Cert.Stick

open Idealize.ShloMosaic Idealize.ShloMosaic.ValueIdx
open scoped BigOperators

theorem foldl_add {α : Type} (g : α → EReal) : ∀ (l : List α) (v : EReal), l.foldl (fun r n => r + g n) v = v + (l.map g).sum
  | [], v => (add_zero v).symm
  | a :: l, v => by rw [List.foldl_cons, foldl_add g l, List.map_cons, List.sum_cons, add_assoc]

/-- The window: one row. -/
abbrev Win : Shape := ⟨4, ![1, 1, 1, 2112]⟩
abbrev Scores : Shape := ⟨4, ![32, 8, 64, 2112]⟩

theorem win_eq (w : Win.Idx) : ix4 (0 : Fin 1) (0 : Fin 1) (0 : Fin 1) (w 3 : Fin 2112) = w := by
  refine Eq.trans ?_ (eq_ix4 w).symm
  rw [Subsingleton.elim (α := Fin 1) (w 0) 0, Subsingleton.elim (α := Fin 1) (w 1) 0, Subsingleton.elim (α := Fin 1) (w 2) 0]
  rfl

theorem sum_win (g : Win.Idx → EReal) : ∑ w : Win.Idx, g w = ∑ k : Fin 2112, g (ix4 (0 : Fin 1) (0 : Fin 1) (0 : Fin 1) k) :=
  Fintype.sum_equiv (⟨fun w : Win.Idx => (w 3 : Fin 2112), fun k => ix4 (0 : Fin 1) (0 : Fin 1) (0 : Fin 1) k, win_eq, fun _ => rfl⟩ : Win.Idx ≃ Fin 2112) _ _
    fun w => congrArg g (win_eq w).symm

theorem revcumsum (x : Scores.Idx → EReal) (init : EReal) (hinit : init = 0)
    (h : Scores.ReduceWindows ![1, 1, 1, 2112] ![1, 1, 1, 1] ![0, 0, 0, 0] ![0, 0, 0, 2111] Scores)
    (b : Fin 32) (hd : Fin 8) (r : Fin 64) (f : ℕ → ℝ) (hx : ∀ j : Fin 2112, x (ix4 b hd r j) = (f j.val : EReal)) (j : Fin 2112) :
    Ideal.hostReduceWindowAdd ![1, 1, 1, 2112] ![1, 1, 1, 1] ![0, 0, 0, 0] ![0, 0, 0, 2111] h x init (ix4 b hd r j)
      = ((∑ i ∈ Finset.Ico j.val 2112, f i : ℝ) : EReal) := by
  subst hinit
  have key : ∀ n : Fin Win.numel, (if hin : ∀ a : Fin 4, (![0, 0, 0, 0] : Fin 4 → ℕ) a ≤ ((ix4 b hd r j : Scores.Idx) a).val * (![1, 1, 1, 1] : Fin 4 → ℕ) a + (Win.rowMajor.symm n a).val
        ∧ ((ix4 b hd r j : Scores.Idx) a).val * (![1, 1, 1, 1] : Fin 4 → ℕ) a + (Win.rowMajor.symm n a).val - (![0, 0, 0, 0] : Fin 4 → ℕ) a < Scores.size a
      then x (fun a => ⟨_, (hin a).2⟩) else 0)
      = (fun w : Win.Idx => if j.val + (w 3).val < 2112 then ((f (j.val + (w 3).val) : ℝ) : EReal) else 0) (Win.rowMajor.symm n) := fun n => by
    generalize Win.rowMajor.symm n = w
    have w0 : (w 0).val = 0 := congrArg Fin.val (Subsingleton.elim (α := Fin 1) (w 0) 0)
    have w1 : (w 1).val = 0 := congrArg Fin.val (Subsingleton.elim (α := Fin 1) (w 1) 0)
    have w2 : (w 2).val = 0 := congrArg Fin.val (Subsingleton.elim (α := Fin 1) (w 2) 0)
    beta_reduce
    by_cases hj : j.val + (w 3).val < 2112
    · have hin : ∀ a : Fin 4, (![0, 0, 0, 0] : Fin 4 → ℕ) a ≤ ((ix4 b hd r j : Scores.Idx) a).val * (![1, 1, 1, 1] : Fin 4 → ℕ) a + (w a).val
          ∧ ((ix4 b hd r j : Scores.Idx) a).val * (![1, 1, 1, 1] : Fin 4 → ℕ) a + (w a).val - (![0, 0, 0, 0] : Fin 4 → ℕ) a < Scores.size a := fun a =>
        match a with
        | ⟨0, _⟩ => ⟨Nat.zero_le _, by show b.val * 1 + (w 0).val - 0 < 32; omega⟩
        | ⟨1, _⟩ => ⟨Nat.zero_le _, by show hd.val * 1 + (w 1).val - 0 < 8; omega⟩
        | ⟨2, _⟩ => ⟨Nat.zero_le _, by show r.val * 1 + (w 2).val - 0 < 64; omega⟩
        | ⟨3, _⟩ => ⟨Nat.zero_le _, by show j.val * 1 + (w 3).val - 0 < 2112; omega⟩
      rw [dif_pos hin, if_pos hj]
      refine Eq.trans (congrArg x (funext fun a => Fin.ext ?_)) (hx ⟨j.val + (w 3).val, hj⟩)
      match a with
      | ⟨0, _⟩ => show b.val * 1 + (w 0).val - 0 = b.val; omega
      | ⟨1, _⟩ => show hd.val * 1 + (w 1).val - 0 = hd.val; omega
      | ⟨2, _⟩ => show r.val * 1 + (w 2).val - 0 = r.val; omega
      | ⟨3, _⟩ => show j.val * 1 + (w 3).val - 0 = j.val + (w 3).val; omega
    · rw [if_neg hj, dif_neg]
      intro hin
      have h3 : j.val * 1 + (w 3).val - 0 < 2112 := (hin 3).2
      omega
  unfold Ideal.hostReduceWindowAdd Host.reduceWindow
  refine Eq.trans (foldl_add (α := Fin Win.numel) _ _ _) ?_
  rw [zero_add, ← Fin.sum_univ_def]
  refine Eq.trans (Finset.sum_congr rfl fun n _ => key n) ?_
  rw [Equiv.sum_comp Win.rowMajor.symm (fun w : Win.Idx => if j.val + (w 3).val < 2112 then ((f (j.val + (w 3).val) : ℝ) : EReal) else 0), sum_win]
  show ∑ k : Fin 2112, (if j.val + k.val < 2112 then ((f (j.val + k.val) : ℝ) : EReal) else 0) = _
  have e : ∀ k : Fin 2112, (if j.val + k.val < 2112 then ((f (j.val + k.val) : ℝ) : EReal) else 0) = ((if j.val + k.val < 2112 then f (j.val + k.val) else 0 : ℝ) : EReal) := fun k => by
    split <;> rfl
  rw [Finset.sum_congr rfl fun k _ => e k, ← coe_sum]
  congr 1
  rw [Fin.sum_univ_eq_sum_range (fun k => if j.val + k < 2112 then f (j.val + k) else 0) 2112, Finset.sum_Ico_eq_sum_range]
  have hs : Finset.range (2112 - j.val) ⊆ Finset.range 2112 := Finset.range_subset_range.2 (Nat.sub_le _ _)
  rw [← Finset.sum_subset hs]
  · refine Finset.sum_congr rfl fun k hk => if_pos ?_
    have := Finset.mem_range.1 hk; omega
  · intro k _ hk
    refine if_neg ?_
    intro h'; exact hk (Finset.mem_range.2 (by omega))

end Cert.Stick

end
-- ==== Proof.Sample.Reference.lean ====
/-
  The reference's result array: the same weighted sum.
-/

module

public import proofs.«01_k».proof.Proof.Gen.SampleRefIdeal.Read
public import proofs.«01_k».proof.Proof.Sample.Scores
public import proofs.«01_k».proof.Proof.Sample.Cumsum
public import Idealize.ShloMosaic.Lib.WordCmp
public import Idealize.ShloMosaic.Lib.Pipeline.Value

public section

set_option maxRecDepth 16384

noncomputable section

namespace Cert.SampleRefIdeal.Sum

open Cert.SampleRefIdeal Cert.SampleRefIdeal.Gen Cert.SampleRefIdeal.Read Cert.Stick
open Idealize.ShloMosaic Idealize.ShloMosaic.TcCoe Idealize.SL.Sem Idealize.ShloMosaic.ValueIdx
open scoped BigOperators

variable (x0 x1 x2 : (⟨S2048x1024, .bf16⟩ : BufTy).Contents (Elt Ideal)) (x3 x4 : (⟨S2x32x2048x8x128, .f32⟩ : BufTy).Contents (Elt Ideal))

/-! ## The arguments' rows -/

theorem rows_idx (b : Fin 32) (r : Fin 64) (h : Fin 8) (e : Fin 128) : idx_main_v0 (ix4 b r h e) = ix2 (row b r) (lane h e) := by
  funext a
  apply Fin.ext
  match a with
  | ⟨0, _⟩ => show (((b.val * 64 + r.val) * 8 + h.val) * 128 + e.val) / 1024 = b.val * 64 + r.val; omega
  | ⟨1, _⟩ => show (((b.val * 64 + r.val) * 8 + h.val) * 128 + e.val) % 1024 = h.val * 128 + e.val; omega

theorem v15_apply (b : Fin 32) (r : Fin 64) (h : Fin 8) (e : Fin 128) :
    val_main_v15 (F := Ideal) x0 (ix4 b r h e) = x0 (ix2 (row b r) (lane h e)) :=
  (val_main_v0_apply (F := Ideal) x0 _).trans (congrArg x0 (rows_idx b r h e))

theorem v5_apply (b : Fin 32) (r : Fin 64) (h : Fin 8) (e : Fin 128) :
    val_main_v5 (F := Ideal) x1 (ix4 b r h e) = x1 (ix2 (row b r) (lane h e)) :=
  (val_main_v1_apply (F := Ideal) x1 _).trans (congrArg x1 (rows_idx b r h e))

theorem v9_apply (b : Fin 32) (r : Fin 64) (h : Fin 8) (e : Fin 128) :
    val_main_v9 (F := Ideal) x2 (ix4 b r h e) = x2 (ix2 (row b r) (lane h e)) :=
  (val_main_v2_apply (F := Ideal) x2 _).trans (congrArg x2 (rows_idx b r h e))

theorem cache_idx (b : Fin 32) (j : Fin 2048) (h : Fin 8) (e : Fin 128) : idx_main_v3 (idx_main_v4 (ix4 b j h e)) = ix5 (1 : Fin 2) b j h e := by
  funext a
  apply Fin.ext
  match a with
  | ⟨0, _⟩ => rfl
  | ⟨1, _⟩ => show (((b.val * 2048 + j.val) * 8 + h.val) * 128 + e.val) / 2097152 % 32 = b.val; omega
  | ⟨2, _⟩ => show (((b.val * 2048 + j.val) * 8 + h.val) * 128 + e.val) / 1024 % 2048 = j.val; omega
  | ⟨3, _⟩ => show (((b.val * 2048 + j.val) * 8 + h.val) * 128 + e.val) / 128 % 8 = h.val; omega
  | ⟨4, _⟩ => show (((b.val * 2048 + j.val) * 8 + h.val) * 128 + e.val) % 128 = e.val; omega

theorem v4_apply (b : Fin 32) (j : Fin 2048) (h : Fin 8) (e : Fin 128) :
    val_main_v4 (F := Ideal) x3 (ix4 b j h e) = x3 (ix5 (1 : Fin 2) b j h e) :=
  (val_main_v4_apply (F := Ideal) x3 _).trans ((val_main_v3_apply (F := Ideal) x3 _).trans (congrArg x3 (cache_idx b j h e)))

theorem v8_apply (b : Fin 32) (j : Fin 2048) (h : Fin 8) (e : Fin 128) :
    val_main_v8 (F := Ideal) x4 (ix4 b j h e) = x4 (ix5 (1 : Fin 2) b j h e) :=
  (val_main_v8_apply (F := Ideal) x4 _).trans ((val_main_v7_apply (F := Ideal) x4 _).trans (congrArg x4 (cache_idx b j h e)))

/-- The cached rows, then the new ones. -/
theorem joined_apply {T : EltTy} (x : Vec Ideal S32x2048x8x128 T) (y : Vec Ideal S32x64x8x128 T) (b : Fin 32) (j : Fin 2112) (h : Fin 8) (e : Fin 128) :
    concatenate S32x2112x8x128 1 [⟨S32x2048x8x128, x⟩, ⟨S32x64x8x128, y⟩] concatenates_S32x2048x8x128_S32x64x8x128_S32x2112x8x128_d1 (ix4 b j h e)
      = if hj : j.val < 2048 then x (ix4 b (⟨j.val, hj⟩ : Fin 2048) h e) else y (ix4 b (⟨j.val - 2048, by omega⟩ : Fin 64) h e) := by
  by_cases hj : j.val < 2048
  · rw [dif_pos hj]
    exact concatenate_pair_apply_left (1 : Fin S32x2112x8x128.rank) x y _ (ix4 b j h e) rfl (ix4 b (⟨j.val, hj⟩ : Fin 2048) h e) fun a => by
      match a with | ⟨0, _⟩ => rfl | ⟨1, _⟩ => rfl | ⟨2, _⟩ => rfl | ⟨3, _⟩ => rfl
  · rw [dif_neg hj]
    exact concatenate_pair_apply_right (1 : Fin S32x2112x8x128.rank) x y _ (ix4 b j h e) rfl rfl (ix4 b (⟨j.val - 2048, by omega⟩ : Fin 64) h e)
      (fun a ha => by match a with | ⟨0, _⟩ => rfl | ⟨1, _⟩ => exact absurd rfl ha | ⟨2, _⟩ => rfl | ⟨3, _⟩ => rfl)
      (by show j.val - 2048 + 2048 = j.val; omega)

theorem v6_apply (b : Fin 32) (j : Fin 2112) (h : Fin 8) (e : Fin 128) : val_main_v6 (F := Ideal) x1 x3 (ix4 b j h e)
    = if hj : j.val < 2048 then x3 (ix5 (1 : Fin 2) b (⟨j.val, hj⟩ : Fin 2048) h e) else x1 (ix2 (row b ⟨j.val - 2048, by omega⟩) (lane h e)) := by
  unfold val_main_v6
  rw [joined_apply]
  split
  · exact v4_apply x3 b _ h e
  · exact v5_apply x1 b _ h e

theorem v10_apply (b : Fin 32) (j : Fin 2112) (h : Fin 8) (d : Fin 128) : val_main_v10 (F := Ideal) x2 x4 (ix4 b j h d) = value x2 x4 b h d j.val := by
  unfold val_main_v10 value
  rw [joined_apply]
  split
  · exact v8_apply x4 b _ h d
  · rw [dif_pos (by omega)]
    exact v9_apply x2 b _ h d

theorem v16_apply (b : Fin 32) (h : Fin 8) (r : Fin 64) (j : Fin 2112) : val_main_v16 (F := Ideal) x0 x1 x3 (ix4 b h r j) = score x0 x1 x3 b h r j.val := by
  have el : ∀ k : Fin 128, lidx_main_v16 (ix4 b h r j) k = ix4 b r h k := fun k => eq_ix4 _
  have er : ∀ k : Fin 128, ridx_main_v16 (ix4 b h r j) k = ix4 b j h k := fun k => eq_ix4 _
  rw [val_main_v16_apply]
  unfold score
  by_cases hj : j.val < 2048
  · rw [dif_pos hj]
    refine Finset.sum_congr rfl fun k _ => ?_
    rw [el, er, v15_apply, v6_apply, dif_pos hj]
  · rw [dif_neg hj, dif_pos (by omega)]
    refine Finset.sum_congr rfl fun k _ => ?_
    rw [el, er, v15_apply, v6_apply, dif_neg hj]

/-! ## The mask -/

theorem v21_apply (r : Fin 64) (j : Fin 2112) : val_main_v21 (F := Ideal) (ix2 r j) = if j.val < 2048 + r.val then 1#1 else 0#1 := by
  have hs : ∀ r : Fin 64, IntOp.addi 2048#32 (BitVec.ofNat 32 r.val) = BitVec.ofNat 32 (2048 + r.val) := by decide +kernel
  rw [val_main_v21_apply, val_main_v19_apply, val_main_v17_apply, val_main_v14_apply, val_main_v20_apply, val_main_v18_apply, val_main_v13_apply,
    val_main_v12_apply, val_main_c_apply, val_main_v11_apply]
  show IntOp.cmpi .slt (BitVec.ofNat 32 j.val) (IntOp.addi 2048#32 (BitVec.ofNat 32 r.val)) = _
  rw [hs, WordCmp.cmpi_slt_ofNat (by omega) (by omega)]
  by_cases h : j.val < 2048 + r.val
  · rw [if_pos h, decide_eq_true h]; rfl
  · rw [if_neg h, decide_eq_false h]; rfl

/-! ## The logs -/

/-- The logarithm of a sigmoid, through the soft plus of the negated argument. -/
theorem log_sigmoid (y : EReal) :
    FloatOps.hostNegf (F := Ideal) (φ := .f32)
      (Scalar.select
        (FloatOps.cmpf (F := Ideal) (φ := .f32) CmpFPredicate.une (FloatOps.subf (FloatOps.hostNegf y) (FloatOps.ofBits FTy.f32 0#32))
          (FloatOps.subf (FloatOps.hostNegf y) (FloatOps.ofBits FTy.f32 0#32)))
        (FloatOps.addf (FloatOps.hostNegf y) (FloatOps.ofBits FTy.f32 0#32))
        (FloatOps.addf (FloatOps.maximumf (FloatOps.hostNegf y) (FloatOps.ofBits FTy.f32 0#32))
          (FloatOps.hostUnary HostUnaryOp.log1p
            (FloatOps.hostUnary HostUnaryOp.exp
              (FloatOps.hostNegf
                (FloatOps.hostAbsf (FloatOps.subf (FloatOps.hostNegf y) (FloatOps.ofBits FTy.f32 0#32))))))))
      = -(max (-y) 0 + Ideal.log (1 + Ideal.exp (-(max (-y - 0) (-(-y - 0)))))) := by
  have hz : (FloatOps.ofBits (F := Ideal) FTy.f32 0#32 : EReal) = 0 := Ideal.ofBits_zero_f32
  rw [hz]
  have hc : FloatOps.cmpf (F := Ideal) (φ := .f32) CmpFPredicate.une (FloatOps.subf (FloatOps.hostNegf y) (0 : EReal)) (FloatOps.subf (FloatOps.hostNegf y) (0 : EReal)) = 0#1 := by
    simp [Ideal.cmpf_def, Ideal.cmp]
  rw [hc, select_zero]
  rfl

theorem v22_apply (i : S32x8x64x2112.Idx) (z : ℝ) (hz : val_main_v16 (F := Ideal) x0 x1 x3 i = (z : EReal)) :
    val_main_v22 (F := Ideal) x0 x1 x3 i = (lb z : EReal) := by
  rw [← reference_lb z]
  simp only [val_main_v22_apply, val_main_call0_v1_apply, val_main_call0_call0_v4_apply, val_main_call0_call0_v6_apply, val_main_call0_call0_v11_apply,
    val_main_call0_call0_v0_apply, val_main_call0_call0_v1_apply, val_main_call0_call0_v2_apply, val_main_call0_call0_v3_apply, val_main_call0_call0_v5_apply,
    val_main_call0_call0_v7_apply, val_main_call0_call0_v8_apply, val_main_call0_call0_v9_apply, val_main_call0_call0_v10_apply,
    val_main_call0_v0_apply, val_main_call0_call0_cst_apply, hz]
  exact log_sigmoid (z : EReal)

theorem v24_apply (i : S32x8x64x2112.Idx) (z : ℝ) (hz : val_main_v16 (F := Ideal) x0 x1 x3 i = (z : EReal)) :
    val_main_v24 (F := Ideal) x0 x1 x3 i = (ls z : EReal) := by
  have hn : FloatOps.hostNegf (F := Ideal) (φ := .f32) (z : EReal) = ((-z : ℝ) : EReal) := rfl
  rw [← lb_neg z, ← reference_lb (-z)]
  simp only [val_main_v24_apply, val_main_call1_v1_apply, val_main_call1_call0_v4_apply, val_main_call1_call0_v6_apply, val_main_call1_call0_v11_apply,
    val_main_call1_call0_v0_apply, val_main_call1_call0_v1_apply, val_main_call1_call0_v2_apply, val_main_call1_call0_v3_apply, val_main_call1_call0_v5_apply,
    val_main_call1_call0_v7_apply, val_main_call1_call0_v8_apply, val_main_call1_call0_v9_apply, val_main_call1_call0_v10_apply,
    val_main_call1_v0_apply, val_main_call1_call0_cst_apply, val_main_v23_apply, hz]
  rw [hn]
  exact log_sigmoid ((-z : ℝ) : EReal)

/-! ## The weights -/

theorem v25_apply (b : Fin 32) (h : Fin 8) (r : Fin 64) (z : ℕ → ℝ) (hz : ∀ j : Fin 2112, val_main_v16 (F := Ideal) x0 x1 x3 (ix4 b h r j) = (z j.val : EReal))
    (j : Fin 2112) : val_main_v25 (F := Ideal) x0 x1 x3 (ix4 b h r j) = (stay z (2048 + r.val) j.val : EReal) := by
  have em : idx_main_call2_v1 (ix4 b h r j) = ix2 r j := eq_ix2 _
  have hc : val_main_call2_v2 (F := Ideal) (ix4 b h r j) = (0 : EReal) := by
    rw [val_main_call2_v2_apply]
    exact Ideal.ofBits_zero_f32
  rw [val_main_v25_apply, val_main_call2_v1_apply, em, v21_apply, v24_apply x0 x1 x3 _ _ (hz j), hc]
  unfold stay
  by_cases h : j.val < 2048 + r.val
  · rw [if_pos h, if_pos h, select_one]
  · rw [if_neg h, if_neg h, select_zero, EReal.coe_zero]

theorem windows_eq (x : (⟨S32x8x64x2112, .f32⟩ : BufTy).Contents (Elt Ideal)) (init : (⟨S_, .f32⟩ : BufTy).Contents (Elt Ideal)) :
    Host.reduceWindowAdd (F := Ideal) (φ := .f32) ![1, 1, 1, 2112] ![1, 1, 1, 1] ![0, 0, 0, 0] ![0, 0, 0, 2111] x init
        reduceWindows_S32x8x64x2112_S32x8x64x2112_w1s1p0_0_w1s1p0_0_w1s1p0_0_w2112s1p0_2111 h_S_
      = Ideal.hostReduceWindowAdd ![1, 1, 1, 2112] ![1, 1, 1, 1] ![0, 0, 0, 0] ![0, 0, 0, 2111]
        reduceWindows_S32x8x64x2112_S32x8x64x2112_w1s1p0_0_w1s1p0_0_w1s1p0_0_w2112s1p0_2111 x (init (Shape.Idx.first h_S_)) := by
  unfold Host.reduceWindowAdd
  exact Ideal.hostReduceWindowAdd_def ..

theorem v26_apply (b : Fin 32) (h : Fin 8) (r : Fin 64) (z : ℕ → ℝ) (hz : ∀ j : Fin 2112, val_main_v16 (F := Ideal) x0 x1 x3 (ix4 b h r j) = (z j.val : EReal))
    (j : Fin 2112) : val_main_v26 (F := Ideal) x0 x1 x3 (ix4 b h r j) = ((∑ i ∈ Finset.Ico j.val 2112, stay z (2048 + r.val) i : ℝ) : EReal) := by
  unfold val_main_v26
  have hv := v25_apply x0 x1 x3 b h r z hz
  have hi : val_main_call3_v0 (F := Ideal) (Shape.Idx.first h_S_) = (0 : EReal) := by
    rw [val_main_call3_v0_apply]
    exact Ideal.ofBits_zero_f32
  generalize val_main_v25 (F := Ideal) x0 x1 x3 = x at hv ⊢
  generalize val_main_call3_v0 (F := Ideal) = init at hi ⊢
  exact (congrFun (windows_eq x init) _).trans (revcumsum x _ hi _ b h r (stay z (2048 + r.val)) hv j)

theorem v30_apply (b : Fin 32) (h : Fin 8) (r : Fin 64) (z : ℕ → ℝ) (hz : ∀ j : Fin 2112, val_main_v16 (F := Ideal) x0 x1 x3 (ix4 b h r j) = (z j.val : EReal))
    (j : Fin 2112) : val_main_v30 (F := Ideal) x0 x1 x3 (ix4 b h r j) = (weight z (2048 + r.val) j.val : EReal) := by
  have em : idx_main_call4_v1 (ix4 b h r j) = ix2 r j := eq_ix2 _
  have hc : val_main_call4_v2 (F := Ideal) (ix4 b h r j) = (0 : EReal) := by
    rw [val_main_call4_v2_apply]
    exact Ideal.ofBits_zero_f32
  rw [val_main_v30_apply, val_main_call4_v1_apply, em, v21_apply, hc]
  unfold weight
  by_cases h : j.val < 2048 + r.val
  · rw [if_pos h, if_pos h, select_one, val_main_v29_apply, val_main_v28_apply, val_main_v27_apply, v22_apply x0 x1 x3 _ _ (hz j), v26_apply x0 x1 x3 b _ r z hz,
      v25_apply x0 x1 x3 b _ r z hz, ← Finset.sum_Ico_consecutive (stay z (2048 + r.val)) (Nat.le_succ j.val) (show j.val + 1 ≤ 2112 by omega),
      sum_Ico_stay (show 2048 + r.val ≤ 2112 by omega) (by omega) (j.val + 1) (by omega)]
    have hs : ∑ i ∈ Finset.Ico j.val (j.val + 1), stay z (2048 + r.val) i = stay z (2048 + r.val) j.val := by
      rw [Nat.Ico_succ_singleton, Finset.sum_singleton]
    show Ideal.exp (((lb (z j.val) : ℝ) : EReal) + (((_ : ℝ) : EReal) - ((_ : ℝ) : EReal))) = _
    rw [Nat.succ_eq_add_one, hs, ← EReal.coe_sub, ← EReal.coe_add, exp_coe, add_sub_cancel_left]
  · rw [if_neg h, if_neg h, select_zero, EReal.coe_zero]

/-! ## The result -/

theorem v34_apply (hq : Finite x0) (hk : Finite x1) (hck : Finite x3) (b : Fin 32) (r : Fin 64) (h : Fin 8) (d : Fin 128) :
    val_main_v34 (F := Ideal) x0 x1 x2 x3 x4 (ix3 b r (lane h d)) = attend x0 x1 x2 x3 x4 b h r d := by
  have e34 : idx_main_v32 (idx_main_v34 (ix3 b r (lane h d))) = ix4 b h d r := by
    funext a
    apply Fin.ext
    match a with
    | ⟨0, _⟩ => show ((b.val * 64 + r.val) * 1024 + (h.val * 128 + d.val)) / 65536 = b.val; omega
    | ⟨1, _⟩ => show ((b.val * 64 + r.val) * 1024 + (h.val * 128 + d.val)) / 128 % 8 = h.val; omega
    | ⟨2, _⟩ => show ((b.val * 64 + r.val) * 1024 + (h.val * 128 + d.val)) % 128 = d.val; omega
    | ⟨3, _⟩ => show ((b.val * 64 + r.val) * 1024 + (h.val * 128 + d.val)) / 1024 % 64 = r.val; omega
  have hz : ∀ j : Fin 2112, val_main_v16 (F := Ideal) x0 x1 x3 (ix4 b h r j) = (scoreR x0 x1 x3 b h r j.val : EReal) := fun j =>
    (v16_apply x0 x1 x3 b h r j).trans (score_coe _ _ _ hq hk hck j.val)
  rw [val_main_v34_apply, val_main_v33_apply, val_main_v32_apply, e34]
  show val_main_v31 (F := Ideal) x0 x1 x2 x3 x4 (ix4 b h d r) = _
  rw [val_main_v31_apply]
  unfold attend
  rw [← Fin.sum_univ_eq_sum_range (fun j => (weight (scoreR x0 x1 x3 b h r) (2048 + r.val) j : EReal) * value x2 x4 b h d j) 2112]
  refine Finset.sum_congr rfl fun j _ => ?_
  have el : lidx_main_v31 (ix4 b h d r) j = ix4 b j h d := eq_ix4 _
  have er : ridx_main_v31 (ix4 b h d r) j = ix4 b h r j := eq_ix4 _
  rw [el, er, v10_apply, v30_apply x0 x1 x3 b h r _ hz, mul_comm]

end Cert.SampleRefIdeal.Sum

end
-- ==== Proof.Sample.Claims.lean ====
/-
  The claims about the attention over the cached keys: its three frames, and its value.
-/

module

public import proofs.«01_k».proof.Defs
public import proofs.«01_k».proof.Proof.Gen.Sample.Frame
public import proofs.«01_k».proof.Proof.Gen.SampleIdeal.Frame
public import proofs.«01_k».proof.Proof.Gen.SampleIdeal.Value
public import proofs.«01_k».proof.Proof.Gen.SampleRefIdeal.Run
public import proofs.«01_k».proof.Proof.Gen.Pre_finite_scores
public import proofs.«01_k».proof.Proof.Sample.Final
public import proofs.«01_k».proof.Proof.Sample.Reference

public section

set_option maxRecDepth 16384

noncomputable section

namespace Cert.SampleClaims

open Idealize.ShloMosaic Idealize.ShloMosaic.TcCoe Idealize.SL.Sem Idealize.ShloMosaic.ValueIdx Cert.Stick

theorem frame_p : quiescent_Sample := fun m ρ _ => Sample.Gen.frame m ρ

theorem frame_pi : quiescent_SampleIdeal := fun m ρ _ => SampleIdeal.Gen.frame m ρ

theorem frame_pi_pre : quiescent_SampleIdeal_pre_finite_scores := fun m ρ _ => SampleIdeal.Gen.frame m ρ

theorem frame_ri : quiescent_SampleRefIdeal := fun m ρ _ =>
  (θ_run SampleRefIdeal.defs _ _).mono (fun r h => ⟨fun c => (h c).2, sem_eq_zero_of_no_sems (by decide) r.2⟩)
    (SampleRefIdeal.Value.run (F := Ideal) m ρ)

theorem frame_ri_pre : quiescent_SampleRefIdeal_pre_finite_scores := fun m ρ _ => frame_ri m ρ trivial

/-- A number whose size is below something is finite. -/
theorem finite_of_lt {x y : EReal} (h : Ideal.cmp .olt (max x (-x)) y = 1#1) : ∃ z : ℝ, x = (z : EReal) := by
  have hlt : max x (-x) < ⊤ := by
    refine lt_of_lt_of_le ?_ (le_top (a := y))
    by_contra hn
    have : Ideal.cmp .olt (max x (-x)) y = 0#1 := by simp only [Ideal.cmp, decide_eq_false hn]; rfl
    rw [this] at h
    exact absurd h (by decide)
  obtain ⟨h1, h2⟩ := max_lt_iff.mp hlt
  induction x using EReal.rec with
  | bot => exact absurd h2 (by simp)
  | coe z => exact ⟨z, rfl⟩
  | top => exact absurd h1 (by simp)

variable (m : (ℓ : Loc SampleIdeal.nD SampleIdeal.τ SampleIdeal.sig) → Buf (Elt Ideal) ℓ)

/-- The precondition, read at the three arrays it speaks of. -/
theorem finite_args (h : Cert.Pre_SampleIdeal_finite_scores m) (c : Dev SampleIdeal.nD) :
    Finite (SampleIdeal.Final.q m c) ∧ Finite (SampleIdeal.Final.k m c) ∧ Finite (SampleIdeal.Final.ck m c) := by
  obtain ⟨h1, h2, h3⟩ := h c
  exact ⟨fun i => finite_of_lt (congrFun h1 i), fun i => finite_of_lt (congrFun h2 i), fun i => finite_of_lt (congrFun h3 i)⟩

variable (m' : (ℓ : Loc SampleRefIdeal.nD SampleRefIdeal.τ SampleRefIdeal.sig) → Buf (Elt Ideal) ℓ)

/-- From memories with the same arguments the two results are one array. -/
theorem res_eq (h : Cert.Pre_SampleIdeal_finite_scores m) (c : Dev SampleIdeal.nD)
    (h0 : m' ((c.tc : Thread SampleRefIdeal.nD SampleRefIdeal.τ).loc SampleRefIdeal.main_arg0) = SampleIdeal.Final.q m c)
    (h1 : m' ((c.tc : Thread SampleRefIdeal.nD SampleRefIdeal.τ).loc SampleRefIdeal.main_arg1) = SampleIdeal.Final.k m c)
    (h2 : m' ((c.tc : Thread SampleRefIdeal.nD SampleRefIdeal.τ).loc SampleRefIdeal.main_arg2) = SampleIdeal.Final.v m c)
    (h3 : m' ((c.tc : Thread SampleRefIdeal.nD SampleRefIdeal.τ).loc SampleRefIdeal.main_arg3) = SampleIdeal.Final.ck m c)
    (h4 : m' ((c.tc : Thread SampleRefIdeal.nD SampleRefIdeal.τ).loc SampleRefIdeal.main_arg4) = SampleIdeal.Final.cv m c) :
    SampleRefIdeal.Value.res_main_v34 m' c = SampleIdeal.Final.result m c := by
  obtain ⟨hq, hk, hck⟩ := finite_args m h c
  rw [SampleRefIdeal.Read.val_main_v34_eq, h0, h1, h2, h3, h4]
  funext i
  obtain ⟨b, r, l, rfl⟩ : ∃ (b : Fin 32) (r : Fin 64) (l : Fin 1024), i = ix3 b r l := ⟨i 0, i 1, i 2, eq_ix3 i⟩
  obtain ⟨e, d, rfl⟩ : ∃ (e : Fin 8) (d : Fin 128), l = lane e d :=
    ⟨⟨l.val / 128, by omega⟩, ⟨l.val % 128, by omega⟩, Fin.ext (by show l.val = l.val / 128 * 128 + l.val % 128; omega)⟩
  exact (SampleRefIdeal.Sum.v34_apply _ _ _ _ _ hq hk hck b r e d).trans (SampleIdeal.Final.result_apply m c b r e d).symm

theorem algebraic : algebraic_SampleIdeal_SampleRefIdeal_pre_finite_scores := by
  intro m ρ m' ρ' hpre hagree
  refine ⟨fun c => SampleIdeal.Final.result m c, ?_, ?_⟩
  · exact (θ_run SampleIdeal.defs _ _).mono
      (fun _ h c => by
        obtain ⟨hq, hk, hck⟩ := finite_args m hpre c
        exact ⟨(h c).1.trans (SampleIdeal.Final.final_o m c hq hk hck), (h c).2⟩)
      (SampleIdeal.Value.run_blocks m ρ)
  · exact (θ_run SampleRefIdeal.defs _ _).mono
      (fun _ h c => ⟨(h c).1.trans (res_eq m m' hpre c (hagree c).1 (hagree c).2.1 (hagree c).2.2.1 (hagree c).2.2.2.1 (hagree c).2.2.2.2), (h c).2⟩)
      (SampleRefIdeal.Value.run (F := Ideal) m' ρ')

end Cert.SampleClaims

end
-- ==== Proof.Ffn.Mlp.lean ====
/-
  The feed-forward step on extended reals: a row is normalised, taken through the gated pair of products and back, added to itself,
  and normalised again.
-/
module

public import Idealize.ShloMosaic.PureOps.Ideal
public import Idealize.ShloMosaic.Lib.ValueIdx

@[expose] public section

noncomputable section

namespace Cert.Mlp

open Idealize.ShloMosaic Idealize.ShloMosaic.ValueIdx
open scoped BigOperators

/-- The row `x` over the root of its mean square, scaled by `g`. -/
def rms (x g : Fin 2048 → EReal) (k : Fin 2048) : EReal :=
  x k * Ideal.rsqrt (Ideal.div (∑ k : Fin 2048, x k * x k) (Ideal.ofBits .f32 0x45000000#32) + Ideal.ofBits .f32 0x358637BD#32) * g k

/-- As many rows as there are. -/
abbrev Rows (M : ℕ) : Shape := ⟨2, ![M, 2048]⟩
abbrev Scale : Shape := ⟨2, ![1, 2048]⟩
abbrev GateUp : Shape := ⟨3, ![2, 2048, 11264]⟩
abbrev Down : Shape := ⟨3, ![2, 5632, 2048]⟩

/-- The first layer's weights, put where the step looks for the last layer's. -/
def firstUp (w : GateUp.Idx → EReal) : GateUp.Idx → EReal := fun i =>
  w (ix3 (0 : Fin 2) (⟨(i 1).val, (i 1).isLt⟩ : Fin 2048) (⟨(i 2).val, (i 2).isLt⟩ : Fin 11264))

def firstDown (w : Down.Idx → EReal) : Down.Idx → EReal := fun i =>
  w (ix3 (0 : Fin 2) (⟨(i 1).val, (i 1).isLt⟩ : Fin 5632) (⟨(i 2).val, (i 2).isLt⟩ : Fin 2048))

variable {M : ℕ} (h : (Rows M).Idx → EReal) (g : Scale.Idx → EReal) (w : GateUp.Idx → EReal) (wd : Down.Idx → EReal) (gf : Scale.Idx → EReal)

/-- The normalised row. -/
def hn (r : Fin M) : Fin 2048 → EReal := rms (fun k => h (ix2 r k)) fun k => g (ix2 (0 : Fin 1) k)

/-- Its product with column `f` of the last layer's weights. -/
def dotCol (r : Fin M) (f : Fin 11264) : EReal := ∑ k : Fin 2048, hn h g r k * w (ix3 (1 : Fin 2) k f)

/-- The gate's column `f` through the gate function, times the other half's. -/
def act (r : Fin M) (f : Fin 5632) : EReal :=
  dotCol h g w r ⟨f.val, by omega⟩ * Ideal.logistic (dotCol h g w r ⟨f.val, by omega⟩) * dotCol h g w r ⟨5632 + f.val, by omega⟩

/-- Column `f`'s share of lane `d`. -/
def share (r : Fin M) (d : Fin 2048) (f : ℕ) : EReal :=
  if hf : f < 5632 then act h g w r ⟨f, hf⟩ * wd (ix3 (1 : Fin 2) (⟨f, hf⟩ : Fin 5632) d) else 0

/-- The row with the shares of the first `n` columns added. -/
def part (r : Fin M) (d : Fin 2048) (n : ℕ) : EReal := h (ix2 r d) + ∑ f ∈ Finset.range n, share h g w wd r d f

theorem part_zero (r : Fin M) (d : Fin 2048) : part h g w wd r d 0 = h (ix2 r d) := by
  unfold part
  rw [Finset.sum_range_zero, add_zero]

/-- One more tile of `512` columns. -/
theorem part_tile (r : Fin M) (d : Fin 2048) (n : ℕ) :
    part h g w wd r d (n + 512) = part h g w wd r d n + ∑ e : Fin 512, share h g w wd r d (n + e.val) := by
  unfold part
  rw [Finset.sum_range_add, add_assoc, Finset.sum_range (fun e => share h g w wd r d (n + e))]

theorem part_full (r : Fin M) (d : Fin 2048) :
    part h g w wd r d 5632 = h (ix2 r d) + ∑ f : Fin 5632, act h g w r f * wd (ix3 (1 : Fin 2) f d) := by
  unfold part
  rw [Finset.sum_range]
  refine congrArg _ (Finset.sum_congr rfl fun f _ => ?_)
  unfold share
  rw [dif_pos f.isLt]

/-- The whole step. -/
def out (r : Fin M) (d : Fin 2048) : EReal := rms (fun k => part h g w wd r k 5632) (fun k => gf (ix2 (0 : Fin 1) k)) d

end Cert.Mlp

end
-- ==== Proof.Ffn.Pay.lean ====
/-
  The feed-forward kernel's arithmetic over the extended reals: a row's normalisation, and one tile of `512` columns.
-/
module

public import proofs.«01_k».proof.Proof.Gen.FfnIdeal.Skeleton
public import proofs.«01_k».proof.Proof.Ffn.Mlp
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pointwise

@[expose] public section

set_option maxRecDepth 16384

noncomputable section

namespace Cert.FfnIdeal.Pay

open Cert.FfnIdeal Cert.FfnIdeal.Gen Cert.Mlp Idealize.ShloMosaic.ValueIdx
open Idealize.ShloMosaic hiding ix2 ix3
open scoped BigOperators

theorem zero_f32 : (Scalar.ofBits .f32 0x00000000#32 : Ideal .f32) = 0 := Ideal.ofBits_zero_f32

theorem pay1_apply (x : Vec Ideal S512x2048 .f32) (g : Vec Ideal S1x2048 .f32) (r : Fin 512) (k : Fin 2048) :
    k0_pay1 x g (ix2 r k) = rms (fun k => x (ix2 r k)) (fun k => g (ix2 (0 : Fin 1) k)) k := by
  pointwise [k0_pay1]
  rfl

theorem pay3_apply (x : Vec Ideal S512x2048 .f32) (g : Vec Ideal S1x2048 .f32) (r : Fin 512) (k : Fin 2048) :
    k0_pay3 x g (ix2 r k) = rms (fun k => x (ix2 r k)) (fun k => g (ix2 (0 : Fin 1) k)) k := by
  pointwise [k0_pay3]
  rfl

/-- A row times a tile's column. -/
def col (v3 : FVec Ideal S512x2048 .bf16) (w : FVec Ideal S1x2048x512 .bf16) (r e : Fin 512) : EReal :=
  ∑ k : Fin 2048, v3 (ix2 r k) * w (ix3 (0 : Fin 1) k e)

theorem tile_apply (w : FVec Ideal S1x2048x512 .bf16) (k : Fin 2048) (e : Fin 512) :
    shapeCast S2048x512 w shapeCasts_S1x2048x512_S2048x512 (ix2 k e) = w (ix3 (0 : Fin 1) k e) :=
  shapeCast_apply w _ _ _ (by rewrite [Shape.rowMajor_val_three, Shape.rowMajor_val_two]; show ((0 * 2048 + k.val) * 512 + e.val) = k.val * 512 + e.val; omega)

theorem downTile_apply (w : FVec Ideal S1x512x2048 .bf16) (e : Fin 512) (d : Fin 2048) :
    shapeCast S512x2048 w shapeCasts_S1x512x2048_S512x2048 (ix2 e d) = w (ix3 (0 : Fin 1) e d) :=
  shapeCast_apply w _ _ _ (by rewrite [Shape.rowMajor_val_three, Shape.rowMajor_val_two]; show ((0 * 512 + e.val) * 2048 + d.val) = e.val * 2048 + d.val; omega)

theorem col_apply (v3 : FVec Ideal S512x2048 .bf16) (w : FVec Ideal S1x2048x512 .bf16) (r e : Fin 512) :
    matmul dot_S512x2048_S2048x512_S512x512_1_0_0_1_n_n none v3 (shapeCast S2048x512 w shapeCasts_S1x2048x512_S2048x512 : FVec Ideal S2048x512 .bf16)
      (constant S512x512 .f32 0x00000000#32) (ix2 r e) = col v3 w r e := by
  refine (Ideal.matmul_plain_apply (M := 512) (K := 2048) (N := 512) none v3 _ _ r e).trans ?_
  have h0 : constant (F := Ideal) S512x512 .f32 0x00000000#32 (ix2 r e) = 0 := zero_f32
  rw [h0, zero_add]
  exact Finset.sum_congr rfl fun k _ => congrArg (v3 (ix2 r k) * ·) (tile_apply w k e)

theorem down_apply (a : FVec Ideal S512x512 .bf16) (w : FVec Ideal S1x512x2048 .bf16) (r : Fin 512) (d : Fin 2048) :
    matmul dot_S512x512_S512x2048_S512x2048_1_0_0_1_n_n none a (shapeCast S512x2048 w shapeCasts_S1x512x2048_S512x2048 : FVec Ideal S512x2048 .bf16)
      (constant S512x2048 .f32 0x00000000#32) (ix2 r d) = ∑ e : Fin 512, a (ix2 r e) * w (ix3 (0 : Fin 1) e d) := by
  refine (Ideal.matmul_plain_apply (M := 512) (K := 512) (N := 2048) none a _ _ r d).trans ?_
  have h0 : constant (F := Ideal) S512x2048 .f32 0x00000000#32 (ix2 r d) = 0 := zero_f32
  rw [h0, zero_add]
  exact Finset.sum_congr rfl fun e _ => congrArg (a (ix2 r e) * ·) (downTile_apply w e d)

theorem pay2_apply (v3 : FVec Ideal S512x2048 .bf16) (v4 v7 : FVec Ideal S1x2048x512 .bf16) (v14 : FVec Ideal S512x2048 .f32) (v16 : FVec Ideal S1x512x2048 .bf16)
    (r : Fin 512) (d : Fin 2048) :
    k0_pay2 v3 v4 v7 v14 v16 (ix2 r d) = v14 (ix2 r d)
      + ∑ e : Fin 512, col v3 v4 r e * Ideal.logistic (col v3 v4 r e) * col v3 v7 r e * v16 (ix3 (0 : Fin 1) e d) := by
  unfold k0_pay2
  refine congrArg₂ (· + ·) (congrFun (shapeCast_self v14 _) _) ((down_apply _ v16 r d).trans (Finset.sum_congr rfl fun e _ => ?_))
  refine congrArg (· * v16 (ix3 (0 : Fin 1) e d)) ?_
  have h4 := col_apply v3 v4 r e
  have h7 := col_apply v3 v7 r e
  exact congrArg₂ (· * ·) (congrArg₂ (· * ·) h4 (congrArg Ideal.logistic h4)) h7

end Cert.FfnIdeal.Pay

end
-- ==== Proof.Ffn.Body.lean ====
/-
  What one point of the feed-forward kernel leaves in its output's block and in the row it keeps between points.
-/
module

public import proofs.«01_k».proof.Proof.Gen.FfnIdeal.Value
public import proofs.«01_k».proof.Proof.Ffn.Pay

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)

theorem sout_A (hc0 : cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    sout0_A_0 c i _ harg2 _ harg3 _ harg4 _ harg5 _ harg6 _ harg7 _ harg8 _ harg9 hc0 hc1 x0 x1 x2 x3 x4 x5 = k0_pay1 x0 x1 := by
  unfold sout0_A_0
  rw [View.read_writes_eq_canon _ _ _ (scover0_A_0 c i _ harg2 _ harg3 _ harg4 _ harg5 _ harg6 _ harg7 _ harg8 _ harg9 hc0 hc1 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_A (hc0 : cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    out0_A_6 c i _ harg2 _ harg3 _ harg4 _ harg5 _ harg6 _ harg7 _ harg8 _ harg9 hc0 hc1 x0 x1 x2 x3 x4 x5 = k0_pay2 (k0_pay1 x0 x1) x2 x3 x0 x4 := by
  unfold out0_A_6
  rw [View.read_writes_eq_canon _ _ _ (cover0_A_6 c i _ harg2 _ harg3 _ harg4 _ harg5 _ harg6 _ harg7 _ harg8 _ harg9 hc0 hc1 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_B (hc0 : ¬cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_B_6 c i _ harg2 _ harg3 _ harg4 _ harg5 _ harg6 _ harg7 _ harg8 _ harg9 hc0 hc1 x0 x1 x2 x3 x4 x5 xo6 xs0 = k0_pay2 xs0 x2 x3 xo6 x4 := by
  unfold out0_B_6
  rw [View.read_writes_eq_canon _ _ _ (cover0_B_6 c i _ harg2 _ harg3 _ harg4 _ harg5 _ harg6 _ harg7 _ harg8 _ harg9 hc0 hc1 x0 x1 x2 x3 x4 x5 xo6 xs0)]
  unfold kernelRun0_B
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_C (hc0 : ¬cond0_0 i) (hc1 : cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_C_6 c i _ harg2 _ harg3 _ harg4 _ harg5 _ harg6 _ harg7 _ harg8 _ harg9 hc0 hc1 x0 x1 x2 x3 x4 x5 xo6 xs0 = k0_pay3 (k0_pay2 xs0 x2 x3 xo6 x4) x5 := by
  unfold out0_C_6
  rw [View.read_writes_eq_canon _ _ _ (cover0_C_6 c i _ harg2 _ harg3 _ harg4 _ harg5 _ harg6 _ harg7 _ harg8 _ harg9 hc0 hc1 x0 x1 x2 x3 x4 x5 xo6 xs0)]
  unfold kernelRun0_C
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

end Cert.FfnIdeal.Body

end
-- ==== Proof.Ffn.Final.lean ====
/-
  The feed-forward kernel's blocks, and its result array: tile by tile the rows gather the shares of the columns, and the last tile's
  point normalises them.
-/
module

public import proofs.«01_k».proof.Proof.Ffn.Body

@[expose] public section

set_option maxRecDepth 16384

noncomputable section

namespace Cert.FfnIdeal.Final

open Cert.FfnIdeal Cert.FfnIdeal.Gen Cert.FfnIdeal.Pay Cert.Mlp
open Idealize.ShloMosaic.TcCoe Idealize.SL.Sem Idealize.ShloMosaic.ValueIdx
open Idealize.ShloMosaic hiding ix2 ix3 eq_ix2 eq_ix3
open scoped BigOperators

variable (m : (ℓ : Loc nD τ sig) → Buf (Elt Ideal) ℓ) (c : Dev nD)

theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 1 ∧ win0_2.index t 1 = 0 ∧ win0_2.index t 2 = t.val % 11 := by decide +kernel
theorem index3 : ∀ t : Fin grid0.N, win0_3.index t 0 = 1 ∧ win0_3.index t 1 = 0 ∧ win0_3.index t 2 = t.val % 11 + 11 := by decide +kernel
theorem index4 : ∀ t : Fin grid0.N, win0_4.index t 0 = 1 ∧ win0_4.index t 1 = t.val % 11 ∧ win0_4.index t 2 = 0 := by decide +kernel
theorem index5 : ∀ t : Fin grid0.N, win0_5.index t 0 = 0 ∧ win0_5.index t 1 = 0 := by decide +kernel
theorem index6 : ∀ t : Fin grid0.N, win0_6.index t 0 = t.val / 11 ∧ win0_6.index t 1 = 0 := by decide +kernel

variable (t : Fin cfg0.N)

theorem t_lt : t.val < 44 := lt_of_lt_of_eq t.isLt N_0

/-- Row `r` of the point's block. -/
abbrev rowOf (n : ℕ) (hn : n < cfg0.N) (r : Fin 512) : Fin 2048 := ⟨n / 11 * 512 + r.val, by have : n < 44 := lt_of_lt_of_eq hn N_0; omega⟩

/-- Column `e` of the point's tile. -/
abbrev colOf (e : Fin 512) : Fin 5632 := ⟨t.val % 11 * 512 + e.val, by omega⟩

theorem iblk0_apply (r : Fin 512) (k : Fin 2048) : (iblk m c 0 t : Vec Ideal S512x2048 .f32) (ix2 r k)
    = m ((c : Thread nD τ).loc main_arg0) (ix2 (rowOf t.val t.isLt r) k) := by
  obtain ⟨h0, h1⟩ := index0 t
  refine Eq.trans ?_ (congrFun (V_main_arg0 m c) _)
  unfold iblk
  rw [View.read_apply]
  refine congrArg (V m c main_arg0) (funext fun a => Fin.ext ?_)
  match a with
  | ⟨0, _⟩ => show win0_0.index t 0 * 512 + 1 * r.val = t.val / 11 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_main_arg1 m c) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 512) : (iblk m c 2 t : Vec Ideal S1x2048x512 .bf16) (ix3 (0 : Fin 1) k e)
    = m ((c : Thread nD τ).loc main_arg2) (ix3 (1 : Fin 2) k (⟨(colOf t e).val, by omega⟩ : Fin 11264)) := by
  obtain ⟨h0, h1, h2⟩ := index2 t
  refine Eq.trans ?_ (congrFun (V_main_arg2 m c) _)
  unfold iblk
  rw [View.read_apply]
  refine congrArg (V m c main_arg2) (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 512 + 1 * e.val = t.val % 11 * 512 + e.val; omega

theorem iblk3_apply (k : Fin 2048) (e : Fin 512) : (iblk m c 3 t : Vec Ideal S1x2048x512 .bf16) (ix3 (0 : Fin 1) k e)
    = m ((c : Thread nD τ).loc main_arg2) (ix3 (1 : Fin 2) k (⟨5632 + (colOf t e).val, by omega⟩ : Fin 11264)) := by
  obtain ⟨h0, h1, h2⟩ := index3 t
  refine Eq.trans ?_ (congrFun (V_main_arg2 m c) _)
  unfold iblk
  rw [View.read_apply]
  refine congrArg (V m c main_arg2) (funext fun a => Fin.ext ?_)
  match a with
  | ⟨0, _⟩ => show win0_3.index t 0 * 1 + 1 * 0 = 1; omega
  | ⟨1, _⟩ => show win0_3.index t 1 * 2048 + 1 * k.val = k.val; omega
  | ⟨2, _⟩ => show win0_3.index t 2 * 512 + 1 * e.val = 5632 + (t.val % 11 * 512 + e.val); omega

theorem iblk4_apply (e : Fin 512) (d : Fin 2048) : (iblk m c 4 t : Vec Ideal S1x512x2048 .bf16) (ix3 (0 : Fin 1) e d)
    = m ((c : Thread nD τ).loc main_arg3) (ix3 (1 : Fin 2) (colOf t e) d) := by
  obtain ⟨h0, h1, h2⟩ := index4 t
  refine Eq.trans ?_ (congrFun (V_main_arg3 m c) _)
  unfold iblk
  rw [View.read_apply]
  refine congrArg (V m c main_arg3) (funext fun a => Fin.ext ?_)
  match a with
  | ⟨0, _⟩ => show win0_4.index t 0 * 1 + 1 * 0 = 1; omega
  | ⟨1, _⟩ => show win0_4.index t 1 * 512 + 1 * e.val = t.val % 11 * 512 + e.val; omega
  | ⟨2, _⟩ => show win0_4.index t 2 * 2048 + 1 * d.val = d.val; omega

theorem iblk5_apply (k : Fin 2048) : (iblk m c 5 t : Vec Ideal S1x2048 .f32) (ix2 (0 : Fin 1) k)
    = m ((c : Thread nD τ).loc main_arg4) (ix2 (0 : Fin 1) k) := by
  obtain ⟨h0, h1⟩ := index5 t
  refine Eq.trans ?_ (congrFun (V_main_arg4 m c) _)
  unfold iblk
  rw [View.read_apply]
  refine congrArg (V m c main_arg4) (funext fun a => Fin.ext ?_)
  match a with
  | ⟨0, _⟩ => show win0_5.index t 0 * 1 + 1 * 0 = 0; omega
  | ⟨1, _⟩ => show win0_5.index t 1 * 2048 + 1 * k.val = k.val; omega

abbrev h : (Rows 2048).Idx → EReal := m ((c : Thread nD τ).loc main_arg0)
abbrev g : Scale.Idx → EReal := m ((c : Thread nD τ).loc main_arg1)
abbrev w : GateUp.Idx → EReal := m ((c : Thread nD τ).loc main_arg2)
abbrev wd : Down.Idx → EReal := m ((c : Thread nD τ).loc main_arg3)
abbrev gf : Scale.Idx → EReal := m ((c : Thread nD τ).loc main_arg4)

/-- The result: the step at row `i 0` and lane `i 1`. -/
def result : Buf (Elt Ideal) ((c : Thread nD τ).loc main_v0) := fun i =>
  out (h m c) (g m c) (w m c) (wd m c) (gf m c) ⟨(i 0).val, (i 0).isLt⟩ ⟨(i 1).val, (i 1).isLt⟩

theorem result_apply (r d : Fin 2048) : result m c (ix2 r d) = out (h m c) (g m c) (w m c) (wd m c) (gf m c) r d := rfl

/-- The first tile's point leaves the normalised rows. -/
theorem pay1_iblk (r : Fin 512) (k : Fin 2048) :
    k0_pay1 (iblk m c 0 t : Vec Ideal S512x2048 .f32) (iblk m c 1 t : Vec Ideal S1x2048 .f32) (ix2 r k) = hn (h m c) (g m c) (rowOf t.val t.isLt r) k := by
  refine (pay1_apply _ _ r k).trans ?_
  unfold hn
  congr 1
  · funext k; exact iblk0_apply m c t r k
  · funext k; exact iblk1_apply m c t k

/-- One tile adds its columns' shares. -/
theorem pay2_iblk (v3 : FVec Ideal S512x2048 .bf16) (x : FVec Ideal S512x2048 .f32) (r : Fin 512) (d : Fin 2048)
    (h3 : ∀ k, v3 (ix2 r k) = hn (h m c) (g m c) (rowOf t.val t.isLt r) k)
    (hx : x (ix2 r d) = part (h m c) (g m c) (w m c) (wd m c) (rowOf t.val t.isLt r) d (t.val % 11 * 512)) :
    k0_pay2 v3 (iblk m c 2 t : Vec Ideal S1x2048x512 .bf16) (iblk m c 3 t : Vec Ideal S1x2048x512 .bf16) x (iblk m c 4 t : Vec Ideal S1x512x2048 .bf16) (ix2 r d)
      = part (h m c) (g m c) (w m c) (wd m c) (rowOf t.val t.isLt r) d (t.val % 11 * 512 + 512) := by
  refine (pay2_apply v3 _ _ x _ r d).trans ?_
  rw [part_tile, hx]
  refine congrArg _ (Finset.sum_congr rfl fun e _ => ?_)
  have h4 : col v3 (iblk m c 2 t : Vec Ideal S1x2048x512 .bf16) r e = dotCol (h m c) (g m c) (w m c) (rowOf t.val t.isLt r) ⟨(colOf t e).val, by omega⟩ :=
    Finset.sum_congr rfl fun k _ => congrArg₂ (· * ·) (h3 k) (iblk2_apply m c t k e)
  have h7 : col v3 (iblk m c 3 t : Vec Ideal S1x2048x512 .bf16) r e = dotCol (h m c) (g m c) (w m c) (rowOf t.val t.isLt r) ⟨5632 + (colOf t e).val, by omega⟩ :=
    Finset.sum_congr rfl fun k _ => congrArg₂ (· * ·) (h3 k) (iblk3_apply m c t k e)
  have hlt : t.val % 11 * 512 + e.val < 5632 := by omega
  unfold share
  rw [dif_pos hlt, h4, h7]
  exact congrArg _ (iblk4_apply m c t e d)

/-- What the points up to `n` leave. -/
def Left (n : ℕ) (hn' : n < cfg0.N) (s : Vec Ideal S512x2048 .f32 × Vec Ideal S512x2048 .bf16) : Prop :=
  (∀ r k, s.2 (ix2 r k) = hn (h m c) (g m c) (rowOf n hn' r) k) ∧
  (∀ r d, s.1 (ix2 r d) = if n % 11 = 10 then out (h m c) (g m c) (w m c) (wd m c) (gf m c) (rowOf n hn' r) d
    else part (h m c) (g m c) (w m c) (wd m c) (rowOf n hn' r) d (n % 11 * 512 + 512))

theorem left_first (h0 : t.val % 11 = 0) (h1 : ¬t.val % 11 = 10) : Left m c t.val t.isLt (outsAt0 m c t.val t.isLt) := by
  rw [outsAt0_A m c t h0 h1, Body.sout_A, Body.out_A]
  refine ⟨fun r k => pay1_iblk m c t r k, fun r d => ?_⟩
  rw [if_neg h1]
  refine pay2_iblk m c t _ _ r d (fun k => pay1_iblk m c t r k) ?_
  rw [h0, Nat.zero_mul, part_zero]
  exact iblk0_apply m c t r d

/-- The point before's rows are this point's, where this is not a block's first tile. -/
theorem left_before (h0 : ¬t.val % 11 = 0) (s : Vec Ideal S512x2048 .f32 × Vec Ideal S512x2048 .bf16)
    (hl : Left m c (t.val - 1) (Nat.lt_of_le_of_lt (Nat.sub_le _ _) t.isLt) s) :
    (∀ r k, s.2 (ix2 r k) = hn (h m c) (g m c) (rowOf t.val t.isLt r) k) ∧
    (∀ r d, s.1 (ix2 r d) = part (h m c) (g m c) (w m c) (wd m c) (rowOf t.val t.isLt r) d (t.val % 11 * 512)) := by
  have hr : ∀ r, rowOf (t.val - 1) (Nat.lt_of_le_of_lt (Nat.sub_le _ _) t.isLt) r = rowOf t.val t.isLt r := fun r => Fin.ext (by
    show (t.val - 1) / 11 * 512 + r.val = t.val / 11 * 512 + r.val
    omega)
  have hm : ¬(t.val - 1) % 11 = 10 := by omega
  have he : (t.val - 1) % 11 * 512 + 512 = t.val % 11 * 512 := by omega
  refine ⟨fun r k => ?_, fun r d => ?_⟩
  · rw [← hr r]; exact hl.1 r k
  · have := hl.2 r d
    rw [if_neg hm, he, hr r] at this
    exact this

theorem left_middle (h0 : ¬t.val % 11 = 0) (h1 : ¬t.val % 11 = 10)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_B m c t h0 h1, Body.out_B]
  refine ⟨fun r k => hs r k, fun r d => ?_⟩
  rw [if_neg h1]
  exact pay2_iblk m c t _ _ r d (fun k => hs r k) (ho r d)

theorem left_last (h0 : ¬t.val % 11 = 0) (h1 : t.val % 11 = 10)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_C m c t h0 h1, Body.out_C]
  refine ⟨fun r k => hs r k, fun r d => ?_⟩
  rw [if_pos h1]
  refine (pay3_apply _ _ r d).trans ?_
  unfold out
  congr 1
  · funext k
    refine (pay2_iblk m c t _ _ r k (fun k => hs r k) (ho r k)).trans ?_
    rw [h1]
  · funext k; exact iblk5_apply m c t k

theorem left_all (n : ℕ) : ∀ hn' : n < cfg0.N, Left m c n hn' (outsAt0 m c n hn') := by
  induction n with
  | zero => exact fun hn' => left_first m c ⟨0, hn'⟩ (Nat.zero_mod _) (by show ¬0 % 11 = 10; omega)
  | succ n ih =>
    intro hn'
    by_cases h0 : (n + 1) % 11 = 0
    · exact left_first m c ⟨n + 1, hn'⟩ h0 (by show ¬(n + 1) % 11 = 10; omega)
    · by_cases h1 : (n + 1) % 11 = 10
      · exact left_last m c ⟨n + 1, hn'⟩ h0 h1 (ih (Nat.lt_of_succ_lt hn'))
      · exact left_middle m c ⟨n + 1, hn'⟩ h0 h1 (ih (Nat.lt_of_succ_lt hn'))

theorem flushed_eq (hf : t.val % 11 = 10) : (dats m 0 c).flushed 6 t = ((cfg0.win 6).blk t).view.read (Elt Ideal) (result m c) := by
  obtain ⟨h0, h1⟩ := index6 t
  rw [Cert.FfnIdeal.Value.flushed6]
  funext j
  obtain ⟨r, d, rfl⟩ : ∃ (r : Fin 512) (d : Fin 2048), j = ix2 r d := ⟨j 0, j 1, eq_ix2 j⟩
  rw [View.read_apply]
  refine Eq.trans (b := (outsAt0 m c t.val t.isLt).1 (ix2 r d)) rfl ?_
  rw [(left_all m c t.val t.isLt).2 r d, if_pos hf]
  rw [← result_apply]
  show result m c _ = result m c _
  congr 1
  funext a
  apply Fin.ext
  match a with
  | ⟨0, _⟩ => show t.val / 11 * 512 + r.val = win0_6.index t 0 * 512 + 1 * r.val; omega
  | ⟨1, _⟩ => show d.val = win0_6.index t 1 * 2048 + 1 * d.val; omega

/-- So the result array ends holding every row's step. -/
theorem final_o : (dats m 0 c).arrAt 6 cfg0.N = result m c :=
  (dats m 0 c).arrAt_eq_of_cover 6 (result m c) (fun t hf => flushed_eq m c t ((flush0_6 t).mp hf)) fun i => by
    have i0 : (i 0 : Nat) < 2048 := (i 0).isLt
    have i1 : (i 1 : Nat) < 2048 := (i 1).isLt
    have hN : (i 0 : Nat) / 512 * 11 + 10 < cfg0.N := lt_of_lt_of_eq (by omega : _ < 44) N_0.symm
    obtain ⟨t, ht⟩ : ∃ t : Fin cfg0.N, t.val = (i 0 : Nat) / 512 * 11 + 10 := ⟨⟨_, hN⟩, rfl⟩
    refine ⟨t, (flush0_6 t).mpr (by omega), ?_⟩
    obtain ⟨h0, h1⟩ := index6 t
    show i ∈ ((View.whole main_v0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 2048 ≤ (i 1 : Nat) ∧ (i 1 : Nat) < win0_6.index t 1 * 2048 + 2048; omega

end Cert.FfnIdeal.Final

end
-- ==== Proof.Ffn.Reference.lean ====
/-
  The reference of the feed-forward step, read at an index.
-/
module

public import proofs.«01_k».proof.Proof.Gen.FfnRefIdeal.Read
public import proofs.«01_k».proof.Proof.Ffn.Mlp
public import Idealize.ShloMosaic.Lib.IdealHost

public section

set_option maxRecDepth 16384

noncomputable section

namespace Cert.FfnRefIdeal.Sum

open Cert.FfnRefIdeal Cert.FfnRefIdeal.Gen Cert.FfnRefIdeal.Read Cert.Mlp
open Idealize.ShloMosaic Idealize.ShloMosaic.ValueIdx
open scoped BigOperators

variable (x0 : (Rows 2048).Idx → EReal) (x1 : Scale.Idx → EReal) (x2 : GateUp.Idx → EReal) (x3 : Down.Idx → EReal) (x4 : Scale.Idx → EReal)

theorem sum_v1 (r : Fin 2048) (i : S2048.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 11264) : val_main_v14 (F := Ideal) x2 (ix2 k f) = x2 (ix3 (1 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 11264 + f.val) / 11264 % 2048 = k.val; omega)
  | ⟨2, _⟩ => exact Fin.ext (by show (k.val * 11264 + f.val) % 11264 = f.val; omega)

theorem v15_apply (r : Fin 2048) (f : Fin 11264) : val_main_v15 (F := Ideal) x0 x1 x2 (ix2 r f) = dotCol x0 x1 x2 r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]

theorem v16_apply (r : Fin 2048) (f : Fin 5632) : val_main_v16 (F := Ideal) x0 x1 x2 (ix2 r f) = dotCol x0 x1 x2 r ⟨f.val, by omega⟩ := by
  have e : idx_main_v16 (ix2 r f) = ix2 r (⟨f.val, by omega⟩ : Fin 11264) := funext fun a => match a with | ⟨0, _⟩ => rfl | ⟨1, _⟩ => rfl
  rw [val_main_v16_apply, e, v15_apply]

theorem v18_apply (r : Fin 2048) (f : Fin 5632) : val_main_v18 (F := Ideal) x0 x1 x2 (ix2 r f) = dotCol x0 x1 x2 r ⟨5632 + f.val, by omega⟩ := by
  have e : idx_main_v18 (ix2 r f) = ix2 r (⟨5632 + f.val, by omega⟩ : Fin 11264) := funext fun a => match a with | ⟨0, _⟩ => rfl | ⟨1, _⟩ => rfl
  rw [val_main_v18_apply, e, v15_apply]

theorem one_f32 : (FloatOps.ofBits (F := Ideal) .f32 0x3F800000#32 : Ideal .f32) = 1 := Ideal.ofBits_one_f32

theorem gate_apply (r : Fin 2048) (f : Fin 5632) :
    val_main_call0_v5 (F := Ideal) x0 x1 x2 (ix2 r f) = Ideal.logistic (dotCol x0 x1 x2 r ⟨f.val, by omega⟩) := by
  rw [val_main_call0_v5_apply, val_main_call0_v4_apply, val_main_call0_cst_0_apply, val_main_call0_v3_apply, val_main_call0_v2_apply, val_main_call0_cst_apply,
    val_main_call0_v1_apply, val_main_call0_v0_apply, v16_apply, one_f32]
  rfl

theorem v19_apply (r : Fin 2048) (f : Fin 5632) : val_main_v19 (F := Ideal) x0 x1 x2 (ix2 r f) = act x0 x1 x2 r f := by
  rw [val_main_v19_apply, val_main_v17_apply, v16_apply, v18_apply, gate_apply]
  rfl

theorem v22_apply (f : Fin 5632) (d : Fin 2048) : val_main_v22 (F := Ideal) x3 (ix2 f d) = x3 (ix3 (1 : Fin 2) f d) := by
  rw [val_main_v22_apply, val_main_v21_apply, val_main_v20_apply]
  refine congrArg x3 (funext fun a => ?_)
  match a with
  | ⟨0, _⟩ => rfl
  | ⟨1, _⟩ => exact Fin.ext (by show (f.val * 2048 + d.val) / 2048 % 5632 = f.val; omega)
  | ⟨2, _⟩ => exact Fin.ext (by show (f.val * 2048 + d.val) % 2048 = d.val; omega)

theorem v24_apply (r d : Fin 2048) : val_main_v24 (F := Ideal) x0 x1 x2 x3 (ix2 r d) = part x0 x1 x2 x3 r d 5632 := by
  rw [val_main_v24_apply, val_main_v23_apply, part_full]
  refine congrArg (x0 (ix2 r d) + ·) (Finset.sum_congr rfl fun f _ => ?_)
  have e1 : lidx_main_v23 (ix2 r d) f = ix2 r f := funext fun a => match a with | ⟨0, _⟩ => rfl | ⟨1, _⟩ => rfl
  have e2 : ridx_main_v23 (ix2 r d) f = ix2 f d := funext fun a => match a with | ⟨0, _⟩ => rfl | ⟨1, _⟩ => rfl
  rw [e1, e2, v19_apply, v22_apply]

theorem sum_v26 (r : Fin 2048) (i : S2048.Idx) (hi : (i 0).val = r.val) :
    val_main_v26 (F := Ideal) x0 x1 x2 x3 i = ∑ k : Fin 2048, part x0 x1 x2 x3 r k 5632 * part x0 x1 x2 x3 r k 5632 := by
  rw [val_main_v26_apply]
  have h0 : val_main_cst_2 (F := Ideal) (Shape.Idx.first h_S_) = 0 := Ideal.ofBits_zero_f32
  rw [h0, zero_add]
  refine Finset.sum_congr rfl fun k _ => ?_
  have e : idx_main_v26 i k = ix2 r k := funext fun a => match a with | ⟨0, _⟩ => Fin.ext hi | ⟨1, _⟩ => rfl
  rw [val_main_v25_apply, e, v24_apply]
  rfl

theorem v36_apply (r d : Fin 2048) : val_main_v36 (F := Ideal) x0 x1 x2 x3 x4 (ix2 r d) = out x0 x1 x2 x3 x4 r d := by
  rw [val_main_v36_apply, val_main_v34_apply, val_main_v35_apply, val_main_v33_apply, val_main_v32_apply, val_main_v31_apply, val_main_v29_apply, val_main_v27_apply,
    sum_v26 x0 x1 x2 x3 r _ rfl, v24_apply]
  have e : idx_main_v35 (ix2 r d) = ix2 (0 : Fin 1) d := funext fun a => match a with | ⟨0, _⟩ => rfl | ⟨1, _⟩ => rfl
  rw [e]
  rfl

end Cert.FfnRefIdeal.Sum

end
-- ==== Proof.Ffn.Claims.lean ====
/-
  The claims about the feed-forward call: its three frames, and its value.
-/

module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Final
public import proofs.«01_k».proof.Proof.Ffn.Reference

public section

set_option maxRecDepth 16384

noncomputable section

namespace Cert.FfnClaims

open Idealize.ShloMosaic.TcCoe Idealize.SL.Sem Idealize.ShloMosaic.ValueIdx
open Idealize.ShloMosaic hiding ix2 eq_ix2

theorem frame_p : quiescent_Ffn := fun m ρ _ => Ffn.Gen.frame m ρ

theorem frame_pi : quiescent_FfnIdeal := fun m ρ _ => FfnIdeal.Gen.frame m ρ

theorem frame_ri : quiescent_FfnRefIdeal := fun m ρ _ =>
  (θ_run FfnRefIdeal.defs _ _).mono (fun r h => ⟨fun c => (h c).2, sem_eq_zero_of_no_sems (by decide) r.2⟩)
    (FfnRefIdeal.Value.run (F := Ideal) m ρ)

variable (m : (ℓ : Loc FfnIdeal.nD FfnIdeal.τ FfnIdeal.sig) → Buf (Elt Ideal) ℓ)
variable (m' : (ℓ : Loc FfnRefIdeal.nD FfnRefIdeal.τ FfnRefIdeal.sig) → Buf (Elt Ideal) ℓ)

/-- From memories with the same arguments the two results are one array. -/
theorem res_eq (c : Dev FfnIdeal.nD)
    (h0 : m' ((c.tc : Thread FfnRefIdeal.nD FfnRefIdeal.τ).loc FfnRefIdeal.main_arg0) = FfnIdeal.Final.h m c)
    (h1 : m' ((c.tc : Thread FfnRefIdeal.nD FfnRefIdeal.τ).loc FfnRefIdeal.main_arg1) = FfnIdeal.Final.g m c)
    (h2 : m' ((c.tc : Thread FfnRefIdeal.nD FfnRefIdeal.τ).loc FfnRefIdeal.main_arg2) = FfnIdeal.Final.w m c)
    (h3 : m' ((c.tc : Thread FfnRefIdeal.nD FfnRefIdeal.τ).loc FfnRefIdeal.main_arg3) = FfnIdeal.Final.wd m c)
    (h4 : m' ((c.tc : Thread FfnRefIdeal.nD FfnRefIdeal.τ).loc FfnRefIdeal.main_arg4) = FfnIdeal.Final.gf m c) :
    FfnRefIdeal.Value.res_main_v36 m' c = FfnIdeal.Final.result m c := by
  rw [FfnRefIdeal.Read.val_main_v36_eq, h0, h1, h2, h3, h4]
  funext i
  obtain ⟨r, d, rfl⟩ : ∃ (r d : Fin 2048), i = ix2 r d := ⟨i 0, i 1, eq_ix2 i⟩
  exact (FfnRefIdeal.Sum.v36_apply _ _ _ _ _ r d).trans (FfnIdeal.Final.result_apply m c r d).symm

theorem algebraic : algebraic_FfnIdeal_FfnRefIdeal := by
  intro m ρ m' ρ' _ hagree
  refine ⟨fun c => FfnIdeal.Final.result m c, ?_, ?_⟩
  · exact (θ_run FfnIdeal.defs _ _).mono
      (fun _ h c => ⟨(h c).1.trans (FfnIdeal.Final.final_o m c), (h c).2⟩)
      (FfnIdeal.Value.run_blocks m ρ)
  · exact (θ_run FfnRefIdeal.defs _ _).mono
      (fun _ h c => ⟨(h c).1.trans (res_eq m m' c (hagree c).1 (hagree c).2.1 (hagree c).2.2.1 (hagree c).2.2.2.1 (hagree c).2.2.2.2), (h c).2⟩)
      (FfnRefIdeal.Value.run (F := Ideal) m' ρ')

end Cert.FfnClaims

end
-- ==== Proof.Merge.Gate.lean ====
/-
  The merge on extended reals: each group of lanes is mixed over its block of `128` rows by a masked matrix, the mixture gates a lane of
  the second branch, and the two branches are weighed, summed, projected and added to the row.
-/
module

public import Idealize.ShloMosaic.PureOps.Ideal
public import Idealize.ShloMosaic.Lib.ValueIdx

@[expose] public section

noncomputable section

namespace Cert.Merging

open Idealize.ShloMosaic Idealize.ShloMosaic.ValueIdx
open scoped BigOperators

abbrev Narrow : Shape := ⟨2, ![8192, 1024]⟩
abbrev Layers : Shape := ⟨2, ![16384, 1024]⟩
abbrev Weighs : Shape := ⟨2, ![8192, 4096]⟩
abbrev Wide : Shape := ⟨2, ![8192, 2048]⟩
abbrev Mixers : Shape := ⟨4, ![2, 8, 128, 128]⟩
abbrev Offsets : Shape := ⟨3, ![2, 8, 128]⟩
abbrev Branch : Shape := ⟨3, ![2, 1024, 2048]⟩
abbrev Back : Shape := ⟨3, ![2, 2048, 2048]⟩

variable (a u : Narrow.Idx → EReal) (vn : Layers.Idx → EReal) (gt : Weighs.Idx → EReal) (h : Wide.Idx → EReal)
  (ws : Mixers.Idx → EReal) (bs : Offsets.Idx → EReal) (wa wb : Branch.Idx → EReal) (wo : Back.Idx → EReal)

/-- The lane's group. -/
abbrev groupOf (l : Fin 1024) : Fin 8 := ⟨l.val / 128, by omega⟩

/-- The row's place in its block. -/
abbrev placeOf (r : Fin 8192) : Fin 128 := ⟨r.val % 128, by omega⟩

/-- Row `s` of the block of row `r`, in the last layer's half. -/
abbrev peer (r : Fin 8192) (s : Fin 128) : Fin 16384 := ⟨8192 + (r.val / 128 * 128 + s.val), by omega⟩

/-- The mixing weight: none from a later half of the block. -/
def weight (w : Fin 128 → Fin 128 → EReal) (t s : Fin 128) : EReal := if s.val / 64 ≤ t.val / 64 then w t s else 0

/-- The gated lane. -/
def gated (r : Fin 8192) (l : Fin 1024) : EReal :=
  u (ix2 r l) * (∑ s : Fin 128, weight (fun t s => ws (ix4 (1 : Fin 2) (groupOf l) t s)) (placeOf r) s * vn (ix2 (peer r s) l)
    + bs (ix3 (1 : Fin 2) (groupOf l) (placeOf r)))

/-- The weighed branches at lane `e`. -/
def merged (r : Fin 8192) (e : Fin 2048) : EReal :=
  gt (ix2 r (⟨e.val, by omega⟩ : Fin 4096)) * (∑ k : Fin 1024, a (ix2 r k) * wa (ix3 (1 : Fin 2) k e))
    + gt (ix2 r (⟨2048 + e.val, by omega⟩ : Fin 4096)) * (∑ k : Fin 1024, gated u vn ws bs r k * wb (ix3 (1 : Fin 2) k e))

/-- The whole step. -/
def out (r : Fin 8192) (d : Fin 2048) : EReal :=
  h (ix2 r d) + ∑ e : Fin 2048, merged a u vn gt ws bs wa wb r e * wo (ix3 (1 : Fin 2) e d)

end Cert.Merging

end
-- ==== Proof.Merge.Pay.lean ====
/-
  The merge kernel's arithmetic over the extended reals: one group's tile of gated lanes, and the projection of the weighed branches.
-/
module

public import proofs.«01_k».proof.Proof.Gen.MergeIdeal.Skeleton
public import proofs.«01_k».proof.Proof.Merge.Gate
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.MergeIdeal.Pay

open Cert.MergeIdeal Cert.MergeIdeal.Gen Cert.Merging Idealize.ShloMosaic Idealize.ShloMosaic.ValueIdx
open scoped BigOperators

theorem zero_f32 : (Scalar.ofBits .f32 0x00000000#32 : Ideal .f32) = 0 := Ideal.ofBits_zero_f32

/-- The mask of a tile: row and column of the same half, or the column in the earlier one. -/
abbrev mask : IVec S128x128 1 := k0_pay7 k0_pay3 k0_pay4 k0_pay5 k0_pay6

theorem half_row (t : Fin 128) : k0_pay3 (ix2 t (0 : Fin 128)) = BitVec.ofNat 32 (t.val / 64) := by
  revert t; decide +kernel

/-- Half of a column. -/
abbrev halfCol : IVec S128x128 32 := select (andi k0_pay5 k0_pay6) (subi k0_pay4 (broadcast S128x128 1#32)) k0_pay4

theorem half_col (s : Fin 128) : halfCol (ix2 (0 : Fin 128) s) = BitVec.ofNat 32 (s.val / 64) := by
  revert s; decide +kernel

theorem le_halves : ∀ a b : Fin 2, Scalar.cmpi .sle (BitVec.ofNat 32 b.val) (BitVec.ofNat 32 a.val) = if b.val ≤ a.val then 1#1 else 0#1 := by
  decide +kernel

theorem mask_apply (t s : Fin 128) : mask (ix2 t s) = if s.val / 64 ≤ t.val / 64 then 1#1 else 0#1 := by
  have e : mask (ix2 t s) = Scalar.cmpi .sle (halfCol (ix2 (0 : Fin 128) s)) (k0_pay3 (ix2 t (0 : Fin 128))) := rfl
  rw [e, half_row, half_col]
  exact le_halves ⟨t.val / 64, by omega⟩ ⟨s.val / 64, by omega⟩

/-- One group's tile, as the first group's is computed. -/
def tile {F : FTy → Type} [FloatOps F] (w b : Vec F S1x128x128 .f32) (vn : Vec F S128x128 .f32) (u : Vec F S128x128 .bf16) : FVec F S128x128 .bf16 :=
  k0_pay10 k0_pay3 k0_pay4 k0_pay5 k0_pay6 w b vn u

/-- A matrix under a unit axis, read without it. -/
theorem flat_apply (w : FVec Ideal S1x128x128 .f32) (t s : Fin 128) :
    shapeCast S128x128 w shapeCasts_S1x128x128_S128x128 (ix2 t s) = w (ix3 (0 : Fin 1) t s) :=
  shapeCast_apply w _ _ _ (by rewrite [Shape.rowMajor_val_three, Shape.rowMajor_val_two]; show ((0 * 128 + t.val) * 128 + s.val) = t.val * 128 + s.val; omega)

theorem masked_apply (w : Vec Ideal S1x128x128 .f32) (t s : Fin 128) :
    k0_pay8 (F := Ideal) k0_pay3 k0_pay4 k0_pay5 k0_pay6 w (ix2 t s) = weight (fun t s => w (ix3 (0 : Fin 1) t s)) t s := by
  have e : k0_pay8 (F := Ideal) k0_pay3 k0_pay4 k0_pay5 k0_pay6 w (ix2 t s)
      = Scalar.select (mask (ix2 t s)) (shapeCast S128x128 w shapeCasts_S1x128x128_S128x128 (ix2 t s)) (Scalar.ofBits (F := Ideal) .f32 0x00000000#32) := rfl
  rw [e, mask_apply, flat_apply, zero_f32]
  unfold weight
  by_cases hc : s.val / 64 ≤ t.val / 64
  · rw [if_pos hc, if_pos hc]; rfl
  · rw [if_neg hc, if_neg hc]; rfl

theorem tile_apply (w b : Vec Ideal S1x128x128 .f32) (vn : Vec Ideal S128x128 .f32) (u : Vec Ideal S128x128 .bf16) (t e : Fin 128) :
    tile w b vn u (ix2 t e) = u (ix2 t e)
      * (∑ s : Fin 128, weight (fun t s => w (ix3 (0 : Fin 1) t s)) t s * vn (ix2 s e) + b (ix3 (0 : Fin 1) t e)) := by
  unfold tile k0_pay10
  refine (congrFun (shapeCast_self (s := S128x128) _ _) _).trans ?_
  refine congrArg (u (ix2 t e) * ·) (congrArg₂ (· + ·) ?_ (flat_apply b t e))
  refine (Ideal.matmul_plain_apply (M := 128) (K := 128) (N := 128) none _ _ _ t e).trans ?_
  have h0 : constant (F := Ideal) S128x128 .f32 0x00000000#32 (ix2 t e) = 0 := zero_f32
  rw [h0, zero_add]
  exact Finset.sum_congr rfl fun s _ => congrArg (· * vn (ix2 s e)) (masked_apply w t s)

theorem branch_apply (x : FVec Ideal S256x1024 .bf16) (w : FVec Ideal S1x1024x2048 .bf16) (r : Fin 256) (e : Fin 2048) :
    matmul dot_S256x1024_S1024x2048_S256x2048_1_0_0_1_n_n none x (shapeCast S1024x2048 w shapeCasts_S1x1024x2048_S1024x2048 : FVec Ideal S1024x2048 .bf16)
      (constant S256x2048 .f32 0x00000000#32) (ix2 r e) = ∑ k : Fin 1024, x (ix2 r k) * w (ix3 (0 : Fin 1) k e) := by
  refine (Ideal.matmul_plain_apply (M := 256) (K := 1024) (N := 2048) none x _ _ r e).trans ?_
  have h0 : constant (F := Ideal) S256x2048 .f32 0x00000000#32 (ix2 r e) = 0 := zero_f32
  rw [h0, zero_add]
  exact Finset.sum_congr rfl fun k _ => congrArg (x (ix2 r k) * ·)
    (shapeCast_apply w _ _ _ (by rewrite [Shape.rowMajor_val_three, Shape.rowMajor_val_two]; show ((0 * 1024 + k.val) * 2048 + e.val) = k.val * 2048 + e.val; omega))

theorem back_apply (x : FVec Ideal S256x2048 .bf16) (w : FVec Ideal S1x2048x2048 .bf16) (r : Fin 256) (d : Fin 2048) :
    matmul dot_S256x2048_S2048x2048_S256x2048_1_0_0_1_n_n none x (shapeCast S2048x2048 w shapeCasts_S1x2048x2048_S2048x2048 : FVec Ideal S2048x2048 .bf16)
      (constant S256x2048 .f32 0x00000000#32) (ix2 r d) = ∑ e : Fin 2048, x (ix2 r e) * w (ix3 (0 : Fin 1) e d) := by
  refine (Ideal.matmul_plain_apply (M := 256) (K := 2048) (N := 2048) none x _ _ r d).trans ?_
  have h0 : constant (F := Ideal) S256x2048 .f32 0x00000000#32 (ix2 r d) = 0 := zero_f32
  rw [h0, zero_add]
  exact Finset.sum_congr rfl fun k _ => congrArg (x (ix2 r k) * ·)
    (shapeCast_apply w _ _ _ (by rewrite [Shape.rowMajor_val_three, Shape.rowMajor_val_two]; show ((0 * 2048 + k.val) * 2048 + d.val) = k.val * 2048 + d.val; omega))

theorem pay2_apply (a bb : Vec Ideal S256x1024 .bf16) (wa wb : Vec Ideal S1x1024x2048 .bf16) (ga gb : Vec Ideal S256x2048 .bf16) (x : Vec Ideal S256x2048 .f32)
    (wo : Vec Ideal S1x2048x2048 .bf16) (r : Fin 256) (d : Fin 2048) :
    k0_pay2 a wa bb wb ga gb x wo (ix2 r d) = x (ix2 r d)
      + ∑ e : Fin 2048, (ga (ix2 r e) * (∑ k : Fin 1024, a (ix2 r k) * wa (ix3 (0 : Fin 1) k e))
          + gb (ix2 r e) * (∑ k : Fin 1024, bb (ix2 r k) * wb (ix3 (0 : Fin 1) k e))) * wo (ix3 (0 : Fin 1) e d) := by
  unfold k0_pay2
  refine congrArg (x (ix2 r d) + ·) ((back_apply _ wo r d).trans (Finset.sum_congr rfl fun e _ => ?_))
  exact congrArg (· * wo (ix3 (0 : Fin 1) e d)) (congrArg₂ (· + ·) (congrArg (ga (ix2 r e) * ·) (branch_apply a wa r e)) (congrArg (gb (ix2 r e) * ·) (branch_apply bb wb r e)))

end Cert.MergeIdeal.Pay

end
-- ==== Proof.Merge.Body.lean ====
/-
  What one point of the merge kernel leaves in its output's block.
-/
module

public import proofs.«01_k».proof.Proof.Gen.MergeIdeal.Value
public import proofs.«01_k».proof.Proof.Merge.Pay
public import Idealize.ShloMosaic.Lib.Pipeline.ValueKit.Tiles

@[expose] public section

set_option maxRecDepth 16384

noncomputable section

namespace Cert.MergeIdeal.Body

open Cert.MergeIdeal Cert.MergeIdeal.Gen Cert.MergeIdeal.Pay Cert.Merging
open Idealize.ShloMosaic Idealize.ShloMosaic.TcCoe Idealize.SL.Sem Idealize.ShloMosaic.ValueIdx
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

variable {F : FTy → Type} [FloatOps F]

/-- The sixteen tiles of gated lanes, the last one first. -/
def tiles (x1 : Vec F S256x1024 .bf16) (x2 : Vec F S256x1024 .f32) (x5 x6 : Vec F S8x128x128 .f32) : List (View.Piece (Elt F) S256x1024 .bf16) :=
  [⟨Rect.unit (s := S256x1024) ![128, 896] S128x128.size inb_S256x1024_S128x128_128_896, tile (View.ld x5 (Rect.unit (s := S8x128x128) ![7, 0, 0] S1x128x128.size inb_S8x128x128_S1x128x128_7_0_0)) (View.ld x6 (Rect.unit (s := S8x128x128) ![7, 0, 0] S1x128x128.size inb_S8x128x128_S1x128x128_7_0_0)) (View.ld x2 (Rect.unit (s := S256x1024) ![128, 896] S128x128.size inb_S256x1024_S128x128_128_896)) (View.ld x1 (Rect.unit (s := S256x1024) ![128, 896] S128x128.size inb_S256x1024_S128x128_128_896))⟩,
   ⟨Rect.unit (s := S256x1024) ![0, 896] S128x128.size inb_S256x1024_S128x128_0_896, tile (View.ld x5 (Rect.unit (s := S8x128x128) ![7, 0, 0] S1x128x128.size inb_S8x128x128_S1x128x128_7_0_0)) (View.ld x6 (Rect.unit (s := S8x128x128) ![7, 0, 0] S1x128x128.size inb_S8x128x128_S1x128x128_7_0_0)) (View.ld x2 (Rect.unit (s := S256x1024) ![0, 896] S128x128.size inb_S256x1024_S128x128_0_896)) (View.ld x1 (Rect.unit (s := S256x1024) ![0, 896] S128x128.size inb_S256x1024_S128x128_0_896))⟩,
   ⟨Rect.unit (s := S256x1024) ![128, 768] S128x128.size inb_S256x1024_S128x128_128_768, tile (View.ld x5 (Rect.unit (s := S8x128x128) ![6, 0, 0] S1x128x128.size inb_S8x128x128_S1x128x128_6_0_0)) (View.ld x6 (Rect.unit (s := S8x128x128) ![6, 0, 0] S1x128x128.size inb_S8x128x128_S1x128x128_6_0_0)) (View.ld x2 (Rect.unit (s := S256x1024) ![128, 768] S128x128.size inb_S256x1024_S128x128_128_768)) (View.ld x1 (Rect.unit (s := S256x1024) ![128, 768] S128x128.size inb_S256x1024_S128x128_128_768))⟩,
   ⟨Rect.unit (s := S256x1024) ![0, 768] S128x128.size inb_S256x1024_S128x128_0_768, tile (View.ld x5 (Rect.unit (s := S8x128x128) ![6, 0, 0] S1x128x128.size inb_S8x128x128_S1x128x128_6_0_0)) (View.ld x6 (Rect.unit (s := S8x128x128) ![6, 0, 0] S1x128x128.size inb_S8x128x128_S1x128x128_6_0_0)) (View.ld x2 (Rect.unit (s := S256x1024) ![0, 768] S128x128.size inb_S256x1024_S128x128_0_768)) (View.ld x1 (Rect.unit (s := S256x1024) ![0, 768] S128x128.size inb_S256x1024_S128x128_0_768))⟩,
   ⟨Rect.unit (s := S256x1024) ![128, 640] S128x128.size inb_S256x1024_S128x128_128_640, tile (View.ld x5 (Rect.unit (s := S8x128x128) ![5, 0, 0] S1x128x128.size inb_S8x128x128_S1x128x128_5_0_0)) (View.ld x6 (Rect.unit (s := S8x128x128) ![5, 0, 0] S1x128x128.size inb_S8x128x128_S1x128x128_5_0_0)) (View.ld x2 (Rect.unit (s := S256x1024) ![128, 640] S128x128.size inb_S256x1024_S128x128_128_640)) (View.ld x1 (Rect.unit (s := S256x1024) ![128, 640] S128x128.size inb_S256x1024_S128x128_128_640))⟩,
   ⟨Rect.unit (s := S256x1024) ![0, 640] S128x128.size inb_S256x1024_S128x128_0_640, tile (View.ld x5 (Rect.unit (s := S8x128x128) ![5, 0, 0] S1x128x128.size inb_S8x128x128_S1x128x128_5_0_0)) (View.ld x6 (Rect.unit (s := S8x128x128) ![5, 0, 0] S1x128x128.size inb_S8x128x128_S1x128x128_5_0_0)) (View.ld x2 (Rect.unit (s := S256x1024) ![0, 640] S128x128.size inb_S256x1024_S128x128_0_640)) (View.ld x1 (Rect.unit (s := S256x1024) ![0, 640] S128x128.size inb_S256x1024_S128x128_0_640))⟩,
   ⟨Rect.unit (s := S256x1024) ![128, 512] S128x128.size inb_S256x1024_S128x128_128_512, tile (View.ld x5 (Rect.unit (s := S8x128x128) ![4, 0, 0] S1x128x128.size inb_S8x128x128_S1x128x128_4_0_0)) (View.ld x6 (Rect.unit (s := S8x128x128) ![4, 0, 0] S1x128x128.size inb_S8x128x128_S1x128x128_4_0_0)) (View.ld x2 (Rect.unit (s := S256x1024) ![128, 512] S128x128.size inb_S256x1024_S128x128_128_512)) (View.ld x1 (Rect.unit (s := S256x1024) ![128, 512] S128x128.size inb_S256x1024_S128x128_128_512))⟩,
   ⟨Rect.unit (s := S256x1024) ![0, 512] S128x128.size inb_S256x1024_S128x128_0_512, tile (View.ld x5 (Rect.unit (s := S8x128x128) ![4, 0, 0] S1x128x128.size inb_S8x128x128_S1x128x128_4_0_0)) (View.ld x6 (Rect.unit (s := S8x128x128) ![4, 0, 0] S1x128x128.size inb_S8x128x128_S1x128x128_4_0_0)) (View.ld x2 (Rect.unit (s := S256x1024) ![0, 512] S128x128.size inb_S256x1024_S128x128_0_512)) (View.ld x1 (Rect.unit (s := S256x1024) ![0, 512] S128x128.size inb_S256x1024_S128x128_0_512))⟩,
   ⟨Rect.unit (s := S256x1024) ![128, 384] S128x128.size inb_S256x1024_S128x128_128_384, tile (View.ld x5 (Rect.unit (s := S8x128x128) ![3, 0, 0] S1x128x128.size inb_S8x128x128_S1x128x128_3_0_0)) (View.ld x6 (Rect.unit (s := S8x128x128) ![3, 0, 0] S1x128x128.size inb_S8x128x128_S1x128x128_3_0_0)) (View.ld x2 (Rect.unit (s := S256x1024) ![128, 384] S128x128.size inb_S256x1024_S128x128_128_384)) (View.ld x1 (Rect.unit (s := S256x1024) ![128, 384] S128x128.size inb_S256x1024_S128x128_128_384))⟩,
   ⟨Rect.unit (s := S256x1024) ![0, 384] S128x128.size inb_S256x1024_S128x128_0_384, tile (View.ld x5 (Rect.unit (s := S8x128x128) ![3, 0, 0] S1x128x128.size inb_S8x128x128_S1x128x128_3_0_0)) (View.ld x6 (Rect.unit (s := S8x128x128) ![3, 0, 0] S1x128x128.size inb_S8x128x128_S1x128x128_3_0_0)) (View.ld x2 (Rect.unit (s := S256x1024) ![0, 384] S128x128.size inb_S256x1024_S128x128_0_384)) (View.ld x1 (Rect.unit (s := S256x1024) ![0, 384] S128x128.size inb_S256x1024_S128x128_0_384))⟩,
   ⟨Rect.unit (s := S256x1024) ![128, 256] S128x128.size inb_S256x1024_S128x128_128_256, tile (View.ld x5 (Rect.unit (s := S8x128x128) ![2, 0, 0] S1x128x128.size inb_S8x128x128_S1x128x128_2_0_0)) (View.ld x6 (Rect.unit (s := S8x128x128) ![2, 0, 0] S1x128x128.size inb_S8x128x128_S1x128x128_2_0_0)) (View.ld x2 (Rect.unit (s := S256x1024) ![128, 256] S128x128.size inb_S256x1024_S128x128_128_256)) (View.ld x1 (Rect.unit (s := S256x1024) ![128, 256] S128x128.size inb_S256x1024_S128x128_128_256))⟩,
   ⟨Rect.unit (s := S256x1024) ![0, 256] S128x128.size inb_S256x1024_S128x128_0_256, tile (View.ld x5 (Rect.unit (s := S8x128x128) ![2, 0, 0] S1x128x128.size inb_S8x128x128_S1x128x128_2_0_0)) (View.ld x6 (Rect.unit (s := S8x128x128) ![2, 0, 0] S1x128x128.size inb_S8x128x128_S1x128x128_2_0_0)) (View.ld x2 (Rect.unit (s := S256x1024) ![0, 256] S128x128.size inb_S256x1024_S128x128_0_256)) (View.ld x1 (Rect.unit (s := S256x1024) ![0, 256] S128x128.size inb_S256x1024_S128x128_0_256))⟩,
   ⟨Rect.unit (s := S256x1024) ![128, 128] S128x128.size inb_S256x1024_S128x128_128_128, tile (View.ld x5 (Rect.unit (s := S8x128x128) ![1, 0, 0] S1x128x128.size inb_S8x128x128_S1x128x128_1_0_0)) (View.ld x6 (Rect.unit (s := S8x128x128) ![1, 0, 0] S1x128x128.size inb_S8x128x128_S1x128x128_1_0_0)) (View.ld x2 (Rect.unit (s := S256x1024) ![128, 128] S128x128.size inb_S256x1024_S128x128_128_128)) (View.ld x1 (Rect.unit (s := S256x1024) ![128, 128] S128x128.size inb_S256x1024_S128x128_128_128))⟩,
   ⟨Rect.unit (s := S256x1024) ![0, 128] S128x128.size inb_S256x1024_S128x128_0_128, tile (View.ld x5 (Rect.unit (s := S8x128x128) ![1, 0, 0] S1x128x128.size inb_S8x128x128_S1x128x128_1_0_0)) (View.ld x6 (Rect.unit (s := S8x128x128) ![1, 0, 0] S1x128x128.size inb_S8x128x128_S1x128x128_1_0_0)) (View.ld x2 (Rect.unit (s := S256x1024) ![0, 128] S128x128.size inb_S256x1024_S128x128_0_128)) (View.ld x1 (Rect.unit (s := S256x1024) ![0, 128] S128x128.size inb_S256x1024_S128x128_0_128))⟩,
   ⟨Rect.unit (s := S256x1024) ![128, 0] S128x128.size inb_S256x1024_S128x128_128_0, tile (View.ld x5 (Rect.unit (s := S8x128x128) ![0, 0, 0] S1x128x128.size inb_S8x128x128_S1x128x128_0_0_0)) (View.ld x6 (Rect.unit (s := S8x128x128) ![0, 0, 0] S1x128x128.size inb_S8x128x128_S1x128x128_0_0_0)) (View.ld x2 (Rect.unit (s := S256x1024) ![128, 0] S128x128.size inb_S256x1024_S128x128_128_0)) (View.ld x1 (Rect.unit (s := S256x1024) ![128, 0] S128x128.size inb_S256x1024_S128x128_128_0))⟩,
   ⟨Rect.unit (s := S256x1024) ![0, 0] S128x128.size inb_S256x1024_S128x128_0_0, tile (View.ld x5 (Rect.unit (s := S8x128x128) ![0, 0, 0] S1x128x128.size inb_S8x128x128_S1x128x128_0_0_0)) (View.ld x6 (Rect.unit (s := S8x128x128) ![0, 0, 0] S1x128x128.size inb_S8x128x128_S1x128x128_0_0_0)) (View.ld x2 (Rect.unit (s := S256x1024) ![0, 0] S128x128.size inb_S256x1024_S128x128_0_0)) (View.ld x1 (Rect.unit (s := S256x1024) ![0, 0] S128x128.size inb_S256x1024_S128x128_0_0))⟩]

theorem out_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x4096 .bf16) (harg4 : arg4.IsWhole) (arg5 : Memref sig .tc .vmem S256x2048 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S1x1024x2048 .bf16) (harg8 : arg8.IsWhole) (arg9 : Memref sig .tc .vmem S1x1024x2048 .bf16) (harg9 : arg9.IsWhole) (arg10 : Memref sig .tc .vmem S1x2048x2048 .bf16) (harg10 : arg10.IsWhole) (arg11 : Memref sig .tc .vmem S256x2048 .f32) (harg11 : arg11.IsWhole) (arg12 : Memref sig .tc .vmem S256x1024 .bf16) (harg12 : arg12.IsWhole)
    (x0 : Vec F S256x1024 .bf16) (x1 : Vec F S256x1024 .bf16) (x2 : Vec F S256x1024 .f32) (x3 : Vec F S256x4096 .bf16) (x4 : Vec F S256x2048 .f32) (x5 : Vec F S8x128x128 .f32) (x6 : Vec F S8x128x128 .f32) (x7 : Vec F S1x1024x2048 .bf16) (x8 : Vec F S1x1024x2048 .bf16) (x9 : Vec F S1x2048x2048 .bf16) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 = k0_pay2 x0 x7 (View.canon (tiles x1 x2 x5 x6)) x8
      (View.ld x3 (Rect.unit (s := S256x4096) ![0, 0] S256x2048.size inb_S256x4096_S256x2048_0_0))
      (View.ld x3 (Rect.unit (s := S256x4096) ![0, 2048] S256x2048.size inb_S256x4096_S256x2048_0_2048)) x4 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  simp only [View.canon_unit_zero (S := S256x2048) hz2, View.readCov_eq_canon', View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S256x2048) hz2, View.ld_unit_zero (S := S1x1024x2048) hz3, View.ld_unit_zero (S := S1x2048x2048) hz3]
  refine congrArg (fun bb => k0_pay2 x0 x7 bb x8 (View.ld x3 (Rect.unit (s := S256x4096) ![0, 0] S256x2048.size inb_S256x4096_S256x2048_0_0))
    (View.ld x3 (Rect.unit (s := S256x4096) ![0, 2048] S256x2048.size inb_S256x4096_S256x2048_0_2048)) x4 x9) ?_
  refine Eq.trans (b := View.ld (View.canon (tiles x1 x2 x5 x6)) (Rect.unit (s := S256x1024) ![0, 0] S256x1024.size inb_S256x1024_S256x1024_0_0)) rfl ?_
  exact View.ld_unit_zero (S := S256x1024) hz2 _ _

/-- A gated lane of the block. -/
def lane (x1 : Vec Ideal S256x1024 .bf16) (x2 : Vec Ideal S256x1024 .f32) (x5 x6 : Vec Ideal S8x128x128 .f32) (r : Fin 256) (l : Fin 1024) : EReal :=
  x1 (ix2 r l) * (∑ s : Fin 128, weight (fun t s => x5 (ix3 (groupOf l) t s)) (⟨r.val % 128, by omega⟩ : Fin 128) s
      * x2 (ix2 (⟨r.val / 128 * 128 + s.val, by omega⟩ : Fin 256) l)
    + x6 (ix3 (groupOf l) (⟨r.val % 128, by omega⟩ : Fin 128) (⟨l.val % 128, by omega⟩ : Fin 128)))

/-- A tile holds the gated lanes under it. -/
theorem tile_lane (x1 : Vec Ideal S256x1024 .bf16) (x2 : Vec Ideal S256x1024 .f32) (x5 x6 : Vec Ideal S8x128x128 .f32) (r : Fin 256) (l : Fin 1024)
    (g p q : Nat) (inb3 : ∀ a, (![g, 0, 0] : Fin 3 → Nat) a + S1x128x128.size a ≤ S8x128x128.size a)
    (inb2 : ∀ a, (![p, q] : Fin 2 → Nat) a + S128x128.size a ≤ S256x1024.size a) (x : S128x128.Idx)
    (hg : g = l.val / 128) (hp : p = r.val / 128 * 128) (hq : q = l.val / 128 * 128)
    (h0 : r.val = p + (x 0).val) (h1 : l.val = q + (x 1).val) :
    tile (View.ld x5 (Rect.unit (s := S8x128x128) ![g, 0, 0] S1x128x128.size inb3)) (View.ld x6 (Rect.unit (s := S8x128x128) ![g, 0, 0] S1x128x128.size inb3))
      (View.ld x2 (Rect.unit (s := S256x1024) ![p, q] S128x128.size inb2)) (View.ld x1 (Rect.unit (s := S256x1024) ![p, q] S128x128.size inb2)) x
      = lane x1 x2 x5 x6 r l := by
  have hx : x = ix2 (⟨r.val % 128, by omega⟩ : Fin 128) (⟨l.val % 128, by omega⟩ : Fin 128) := by
    have b0 : (x 0).val < 128 := (x 0).isLt
    have b1 : (x 1).val < 128 := (x 1).isLt
    refine (eq_ix2 x).trans (congrArg₂ ix2 (Fin.ext ?_) (Fin.ext ?_))
    · show (x 0).val = r.val % 128; omega
    · show (x 1).val = l.val % 128; omega
  have e5 : ∀ (w : Vec Ideal S8x128x128 .f32) (t s : Fin 128), View.ld w (Rect.unit (s := S8x128x128) ![g, 0, 0] S1x128x128.size inb3) (ix3 (0 : Fin 1) t s) = w (ix3 (groupOf l) t s) :=
    fun w t s => View.ld_unit_apply_of w _ _ _ _ _ fun a => match a with
      | ⟨0, _⟩ => by show l.val / 128 = g + 0; omega
      | ⟨1, _⟩ => by show t.val = 0 + t.val; omega
      | ⟨2, _⟩ => by show s.val = 0 + s.val; omega
  rw [hx]
  refine (tile_apply _ _ _ _ _ _).trans ?_
  unfold lane
  refine congrArg₂ (· * ·) ?_ (congrArg₂ (· + ·) (Finset.sum_congr rfl fun s _ => congrArg₂ (· * ·) ?_ ?_) (e5 x6 _ _))
  · exact View.ld_unit_apply_of x1 _ _ _ _ _ fun a => match a with
      | ⟨0, _⟩ => by show r.val = p + r.val % 128; omega
      | ⟨1, _⟩ => by show l.val = q + l.val % 128; omega
  · unfold weight
    exact congrArg (ite _ · 0) (e5 x5 _ s)
  · exact View.ld_unit_apply_of x2 _ _ _ _ _ fun a => match a with
      | ⟨0, _⟩ => by show r.val / 128 * 128 + s.val = p + s.val; omega
      | ⟨1, _⟩ => by show l.val = q + l.val % 128; omega

theorem tiles_apply (x1 : Vec Ideal S256x1024 .bf16) (x2 : Vec Ideal S256x1024 .f32) (x5 x6 : Vec Ideal S8x128x128 .f32) (r : Fin 256) (l : Fin 1024) :
    View.canon (tiles x1 x2 x5 x6) (ix2 r l) = lane x1 x2 x5 x6 r l := by
  unfold tiles
  canon_tiles x h
  all_goals
    change r.val = _ at h0
    change l.val = _ at h1
    refine tile_lane x1 x2 x5 x6 r l _ _ _ _ _ x ?_ ?_ ?_ ?_ ?_
    all_goals omega

end Cert.MergeIdeal.Body

end
-- ==== Proof.Merge.Final.lean ====
/-
  The merge kernel's blocks, and its result array: each point leaves its `256` rows.
-/
module

public import proofs.«01_k».proof.Proof.Merge.Body
public import Idealize.ShloMosaic.Lib.StableHlo.Run

@[expose] public section

set_option maxRecDepth 16384

noncomputable section

namespace Cert.MergeIdeal.Final

open Cert.MergeIdeal Cert.MergeIdeal.Gen Cert.MergeIdeal.Pay Cert.MergeIdeal.Body Cert.Merging
open Idealize.ShloMosaic.TcCoe Idealize.SL.Sem Idealize.ShloMosaic.ValueIdx
open Idealize.ShloMosaic
open scoped BigOperators

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val + 32 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 ∧ win0_5.index t 2 = 0 := by decide +kernel
theorem index6 : ∀ t : Fin grid0.N, win0_6.index t 0 = 0 ∧ win0_6.index t 1 = 0 ∧ win0_6.index t 2 = 0 := by decide +kernel
theorem index7 : ∀ t : Fin grid0.N, win0_7.index t 0 = 1 ∧ win0_7.index t 1 = 0 ∧ win0_7.index t 2 = 0 := by decide +kernel
theorem index8 : ∀ t : Fin grid0.N, win0_8.index t 0 = 1 ∧ win0_8.index t 1 = 0 ∧ win0_8.index t 2 = 0 := by decide +kernel
theorem index9 : ∀ t : Fin grid0.N, win0_9.index t 0 = 1 ∧ win0_9.index t 1 = 0 ∧ win0_9.index t 2 = 0 := by decide +kernel
theorem index10 : ∀ t : Fin grid0.N, win0_10.index t 0 = t.val ∧ win0_10.index t 1 = 0 := by decide +kernel

variable (t : Fin cfg0.N)

/-- Row `r` of the point's block. -/
abbrev rowOf (r : Fin 256) : Fin 8192 := ⟨t.val * 256 + r.val, by have : t.val < 32 := lt_of_lt_of_eq t.isLt N_0; omega⟩

/-! ## The arrays made before the call -/

theorem V_main_v5 : V m c main_v5 = shapeCast S8x128x128 (extractStridedSlice S1x8x128x128 ![1, 0, 0, 0] (m ((c : Thread nD τ).loc main_arg5)) slices_S2x8x128x128_S1x8x128x128_1_0_0_0)
    shapeCasts_S1x8x128x128_S8x128x128 := by
  unfold V
  after_results
  rfl

theorem V_main_v3 : V m c main_v3 = broadcastInDim S8x128x128 ![0, 1, 2] bcast_S8x128x1_S8x128x128_0_1_2 (broadcastInDim S8x128x1 ![0, 1] bcast_S8x128_S8x128x1_0_1
    (shapeCast S8x128 (extractStridedSlice S1x8x128 ![1, 0, 0] (m ((c : Thread nD τ).loc main_arg6)) slices_S2x8x128_S1x8x128_1_0_0) shapeCasts_S1x8x128_S8x128)) := by
  unfold V
  after_results
  rfl

theorem mixers_apply (g : Fin 8) (t s : Fin 128) : V m c main_v5 (ix3 g t s) = m ((c : Thread nD τ).loc main_arg5) (ix4 (1 : Fin 2) g t s) := by
  rw [V_main_v5]
  refine (shapeCast_apply _ shapeCasts_S1x8x128x128_S8x128x128 (ix3 g t s) (ix4 (0 : Fin 1) g t s) (by
    rewrite [Shape.rowMajor_val_three, Shape.rowMajor_val_four]
    show (((0 * 8 + g.val) * 128 + t.val) * 128 + s.val) = (g.val * 128 + t.val) * 128 + s.val; omega)).trans ?_
  refine congrArg (m ((c : Thread nD τ).loc main_arg5)) (funext fun a => Fin.ext ?_)
  match a with
  | ⟨0, _⟩ => rfl
  | ⟨1, _⟩ => show 0 + g.val = g.val; omega
  | ⟨2, _⟩ => show 0 + t.val = t.val; omega
  | ⟨3, _⟩ => show 0 + s.val = s.val; omega

theorem offsets_apply (g : Fin 8) (t e : Fin 128) : V m c main_v3 (ix3 g t e) = m ((c : Thread nD τ).loc main_arg6) (ix3 (1 : Fin 2) g t) := by
  rw [V_main_v3]
  refine Eq.trans (b := shapeCast S8x128 (extractStridedSlice S1x8x128 ![1, 0, 0] (m ((c : Thread nD τ).loc main_arg6)) slices_S2x8x128_S1x8x128_1_0_0) shapeCasts_S1x8x128_S8x128 (ix2 g t)) ?_ ?_
  · refine congrArg (shapeCast S8x128 _ shapeCasts_S1x8x128_S8x128) (funext fun a => Fin.ext ?_)
    match a with
    | ⟨0, _⟩ => rfl
    | ⟨1, _⟩ => rfl
  refine (shapeCast_apply _ shapeCasts_S1x8x128_S8x128 (ix2 g t) (ix3 (0 : Fin 1) g t) (by
    rewrite [Shape.rowMajor_val_two, Shape.rowMajor_val_three]
    show ((0 * 8 + g.val) * 128 + t.val) = g.val * 128 + t.val; omega)).trans ?_
  refine congrArg (m ((c : Thread nD τ).loc main_arg6)) (funext fun a => Fin.ext ?_)
  match a with
  | ⟨0, _⟩ => rfl
  | ⟨1, _⟩ => show 0 + g.val = g.val; omega
  | ⟨2, _⟩ => show 0 + t.val = t.val; omega

/-! ## The blocks -/

theorem iblk0_apply (r : Fin 256) (k : Fin 1024) : (iblk m c 0 t : Vec Ideal S256x1024 .bf16) (ix2 r k)
    = m ((c : Thread nD τ).loc main_arg0) (ix2 (rowOf t r) k) := by
  obtain ⟨h0, h1⟩ := index0 t
  refine Eq.trans ?_ (congrFun (V_main_arg0 m c) _)
  unfold iblk
  rw [View.read_apply]
  refine congrArg (V m c main_arg0) (funext fun a => Fin.ext ?_)
  match a with
  | ⟨0, _⟩ => show win0_0.index t 0 * 256 + 1 * r.val = t.val * 256 + r.val; omega
  | ⟨1, _⟩ => show win0_0.index t 1 * 1024 + 1 * k.val = k.val; omega

theorem iblk1_apply (r : Fin 256) (k : Fin 1024) : (iblk m c 1 t : Vec Ideal S256x1024 .bf16) (ix2 r k)
    = m ((c : Thread nD τ).loc main_arg1) (ix2 (rowOf t r) k) := by
  obtain ⟨h0, h1⟩ := index1 t
  refine Eq.trans ?_ (congrFun (V_main_arg1 m c) _)
  unfold iblk
  rw [View.read_apply]
  refine congrArg (V m c main_arg1) (funext fun a => Fin.ext ?_)
  match a with
  | ⟨0, _⟩ => show win0_1.index t 0 * 256 + 1 * r.val = t.val * 256 + r.val; omega
  | ⟨1, _⟩ => show win0_1.index t 1 * 1024 + 1 * k.val = k.val; omega

theorem iblk2_apply (r : Fin 256) (k : Fin 1024) : (iblk m c 2 t : Vec Ideal S256x1024 .f32) (ix2 r k)
    = m ((c : Thread nD τ).loc main_arg2) (ix2 (⟨8192 + (rowOf t r).val, by omega⟩ : Fin 16384) k) := by
  obtain ⟨h0, h1⟩ := index2 t
  refine Eq.trans ?_ (congrFun (V_main_arg2 m c) _)
  unfold iblk
  rw [View.read_apply]
  refine congrArg (V m c main_arg2) (funext fun a => Fin.ext ?_)
  match a with
  | ⟨0, _⟩ => show win0_2.index t 0 * 256 + 1 * r.val = 8192 + (t.val * 256 + r.val); omega
  | ⟨1, _⟩ => show win0_2.index t 1 * 1024 + 1 * k.val = k.val; omega

theorem iblk3_apply (r : Fin 256) (k : Fin 4096) : (iblk m c 3 t : Vec Ideal S256x4096 .bf16) (ix2 r k)
    = m ((c : Thread nD τ).loc main_arg3) (ix2 (rowOf t r) k) := by
  obtain ⟨h0, h1⟩ := index3 t
  refine Eq.trans ?_ (congrFun (V_main_arg3 m c) _)
  unfold iblk
  rw [View.read_apply]
  refine congrArg (V m c main_arg3) (funext fun a => Fin.ext ?_)
  match a with
  | ⟨0, _⟩ => show win0_3.index t 0 * 256 + 1 * r.val = t.val * 256 + r.val; omega
  | ⟨1, _⟩ => show win0_3.index t 1 * 4096 + 1 * k.val = k.val; omega

theorem iblk4_apply (r : Fin 256) (k : Fin 2048) : (iblk m c 4 t : Vec Ideal S256x2048 .f32) (ix2 r k)
    = m ((c : Thread nD τ).loc main_arg4) (ix2 (rowOf t r) k) := by
  obtain ⟨h0, h1⟩ := index4 t
  refine Eq.trans ?_ (congrFun (V_main_arg4 m c) _)
  unfold iblk
  rw [View.read_apply]
  refine congrArg (V m c main_arg4) (funext fun a => Fin.ext ?_)
  match a with
  | ⟨0, _⟩ => show win0_4.index t 0 * 256 + 1 * r.val = t.val * 256 + r.val; omega
  | ⟨1, _⟩ => show win0_4.index t 1 * 2048 + 1 * k.val = k.val; omega

theorem iblk5_apply (g : Fin 8) (p s : Fin 128) : (iblk m c 5 t : Vec Ideal S8x128x128 .f32) (ix3 g p s)
    = m ((c : Thread nD τ).loc main_arg5) (ix4 (1 : Fin 2) g p s) := by
  obtain ⟨h0, h1, h2⟩ := index5 t
  refine Eq.trans (b := V m c main_v5 (ix3 g p s)) ?_ (mixers_apply m c g p s)
  unfold iblk
  rw [View.read_apply]
  refine congrArg (V m c main_v5) (funext fun a => Fin.ext ?_)
  match a with
  | ⟨0, _⟩ => show win0_5.index t 0 * 8 + 1 * g.val = g.val; omega
  | ⟨1, _⟩ => show win0_5.index t 1 * 128 + 1 * p.val = p.val; omega
  | ⟨2, _⟩ => show win0_5.index t 2 * 128 + 1 * s.val = s.val; omega

theorem iblk6_apply (g : Fin 8) (p s : Fin 128) : (iblk m c 6 t : Vec Ideal S8x128x128 .f32) (ix3 g p s)
    = m ((c : Thread nD τ).loc main_arg6) (ix3 (1 : Fin 2) g p) := by
  obtain ⟨h0, h1, h2⟩ := index6 t
  refine Eq.trans (b := V m c main_v3 (ix3 g p s)) ?_ (offsets_apply m c g p s)
  unfold iblk
  rw [View.read_apply]
  refine congrArg (V m c main_v3) (funext fun a => Fin.ext ?_)
  match a with
  | ⟨0, _⟩ => show win0_6.index t 0 * 8 + 1 * g.val = g.val; omega
  | ⟨1, _⟩ => show win0_6.index t 1 * 128 + 1 * p.val = p.val; omega
  | ⟨2, _⟩ => show win0_6.index t 2 * 128 + 1 * s.val = s.val; omega

theorem iblk7_apply (k : Fin 1024) (e : Fin 2048) : (iblk m c 7 t : Vec Ideal S1x1024x2048 .bf16) (ix3 (0 : Fin 1) k e)
    = m ((c : Thread nD τ).loc main_arg7) (ix3 (1 : Fin 2) k e) := by
  obtain ⟨h0, h1, h2⟩ := index7 t
  refine Eq.trans ?_ (congrFun (V_main_arg7 m c) _)
  unfold iblk
  rw [View.read_apply]
  refine congrArg (V m c main_arg7) (funext fun a => Fin.ext ?_)
  match a with
  | ⟨0, _⟩ => show win0_7.index t 0 * 1 + 1 * 0 = 1; omega
  | ⟨1, _⟩ => show win0_7.index t 1 * 1024 + 1 * k.val = k.val; omega
  | ⟨2, _⟩ => show win0_7.index t 2 * 2048 + 1 * e.val = e.val; omega

theorem iblk8_apply (k : Fin 1024) (e : Fin 2048) : (iblk m c 8 t : Vec Ideal S1x1024x2048 .bf16) (ix3 (0 : Fin 1) k e)
    = m ((c : Thread nD τ).loc main_arg8) (ix3 (1 : Fin 2) k e) := by
  obtain ⟨h0, h1, h2⟩ := index8 t
  refine Eq.trans ?_ (congrFun (V_main_arg8 m c) _)
  unfold iblk
  rw [View.read_apply]
  refine congrArg (V m c main_arg8) (funext fun a => Fin.ext ?_)
  match a with
  | ⟨0, _⟩ => show win0_8.index t 0 * 1 + 1 * 0 = 1; omega
  | ⟨1, _⟩ => show win0_8.index t 1 * 1024 + 1 * k.val = k.val; omega
  | ⟨2, _⟩ => show win0_8.index t 2 * 2048 + 1 * e.val = e.val; omega

theorem iblk9_apply (k : Fin 2048) (e : Fin 2048) : (iblk m c 9 t : Vec Ideal S1x2048x2048 .bf16) (ix3 (0 : Fin 1) k e)
    = m ((c : Thread nD τ).loc main_arg9) (ix3 (1 : Fin 2) k e) := by
  obtain ⟨h0, h1, h2⟩ := index9 t
  refine Eq.trans ?_ (congrFun (V_main_arg9 m c) _)
  unfold iblk
  rw [View.read_apply]
  refine congrArg (V m c main_arg9) (funext fun a => Fin.ext ?_)
  match a with
  | ⟨0, _⟩ => show win0_9.index t 0 * 1 + 1 * 0 = 1; omega
  | ⟨1, _⟩ => show win0_9.index t 1 * 2048 + 1 * k.val = k.val; omega
  | ⟨2, _⟩ => show win0_9.index t 2 * 2048 + 1 * e.val = e.val; omega

abbrev a : Narrow.Idx → EReal := m ((c : Thread nD τ).loc main_arg0)
abbrev u : Narrow.Idx → EReal := m ((c : Thread nD τ).loc main_arg1)
abbrev vn : Layers.Idx → EReal := m ((c : Thread nD τ).loc main_arg2)
abbrev gt : Weighs.Idx → EReal := m ((c : Thread nD τ).loc main_arg3)
abbrev h : Wide.Idx → EReal := m ((c : Thread nD τ).loc main_arg4)
abbrev ws : Mixers.Idx → EReal := m ((c : Thread nD τ).loc main_arg5)
abbrev bs : Offsets.Idx → EReal := m ((c : Thread nD τ).loc main_arg6)
abbrev wa : Branch.Idx → EReal := m ((c : Thread nD τ).loc main_arg7)
abbrev wb : Branch.Idx → EReal := m ((c : Thread nD τ).loc main_arg8)
abbrev wo : Back.Idx → EReal := m ((c : Thread nD τ).loc main_arg9)

/-- The result: the step at row `i 0` and lane `i 1`. -/
def result : Buf (Elt Ideal) ((c : Thread nD τ).loc main_v6) := fun i => out (a m c) (u m c) (vn m c) (gt m c) (h m c) (ws m c) (bs m c) (wa m c) (wb m c) (wo m c) ⟨(i 0).val, (i 0).isLt⟩ ⟨(i 1).val, (i 1).isLt⟩

theorem result_apply (r : Fin 8192) (d : Fin 2048) : result m c (ix2 r d) = out (a m c) (u m c) (vn m c) (gt m c) (h m c) (ws m c) (bs m c) (wa m c) (wb m c) (wo m c) r d := rfl

/-- The block's gated lanes are the rows'. -/
theorem lane_iblk (r : Fin 256) (l : Fin 1024) :
    lane (iblk m c 1 t : Vec Ideal S256x1024 .bf16) (iblk m c 2 t : Vec Ideal S256x1024 .f32) (iblk m c 5 t : Vec Ideal S8x128x128 .f32) (iblk m c 6 t : Vec Ideal S8x128x128 .f32) r l
      = gated (u m c) (vn m c) (ws m c) (bs m c) (rowOf t r) l := by
  have hp : (⟨r.val % 128, by omega⟩ : Fin 128) = placeOf (rowOf t r) := Fin.ext (by show r.val % 128 = (t.val * 256 + r.val) % 128; omega)
  unfold lane gated
  rw [hp]
  refine congrArg₂ (· * ·) (iblk1_apply m c t r l) (congrArg₂ (· + ·) (Finset.sum_congr rfl fun s _ => congrArg₂ (· * ·) ?_ ?_) (iblk6_apply m c t _ _ _))
  · unfold weight
    exact congrArg (ite _ · 0) (iblk5_apply m c t _ _ _)
  · refine (iblk2_apply m c t _ l).trans (congrArg (vn m c) (congrArg (ix2 · l) (Fin.ext ?_)))
    show 8192 + (t.val * 256 + (r.val / 128 * 128 + s.val)) = 8192 + ((t.val * 256 + r.val) / 128 * 128 + s.val)
    omega

theorem half_apply (X : Vec Ideal S256x4096 .bf16) (r : Fin 256) (e : Fin 2048) :
    View.ld X (Rect.unit (s := S256x4096) ![0, 0] S256x2048.size inb_S256x4096_S256x2048_0_0) (ix2 r e) = X (ix2 r (⟨e.val, by omega⟩ : Fin 4096)) :=
  View.ld_unit_apply_of X _ _ _ _ _ fun a => match a with
    | ⟨0, _⟩ => by show r.val = 0 + r.val; omega
    | ⟨1, _⟩ => by show e.val = 0 + e.val; omega

theorem otherHalf_apply (X : Vec Ideal S256x4096 .bf16) (r : Fin 256) (e : Fin 2048) :
    View.ld X (Rect.unit (s := S256x4096) ![0, 2048] S256x2048.size inb_S256x4096_S256x2048_0_2048) (ix2 r e) = X (ix2 r (⟨2048 + e.val, by omega⟩ : Fin 4096)) :=
  View.ld_unit_apply_of X _ _ _ _ _ fun a => match a with
    | ⟨0, _⟩ => by show r.val = 0 + r.val; omega
    | ⟨1, _⟩ => by show 2048 + e.val = 2048 + e.val; rfl

/-- What the point leaves. -/
theorem left_apply (r : Fin 256) (d : Fin 2048) : outsAt0 m c t (ix2 r d) = out (a m c) (u m c) (vn m c) (gt m c) (h m c) (ws m c) (bs m c) (wa m c) (wb m c) (wo m c) (rowOf t r) d := by
  unfold outsAt0
  rw [Body.out_A]
  refine (pay2_apply _ _ _ _ _ _ _ _ r d).trans ?_
  unfold out merged
  refine congrArg₂ (· + ·) (iblk4_apply m c t r d) (Finset.sum_congr rfl fun e _ => congrArg₂ (· * ·) (congrArg₂ (· + ·)
    (congrArg₂ (· * ·) ((half_apply _ r e).trans (iblk3_apply m c t r _)) (Finset.sum_congr rfl fun k _ => congrArg₂ (· * ·) (iblk0_apply m c t r k) (iblk7_apply m c t k e)))
    (congrArg₂ (· * ·) ((otherHalf_apply _ r e).trans (iblk3_apply m c t r _)) (Finset.sum_congr rfl fun k _ => congrArg₂ (· * ·)
      ((tiles_apply _ _ _ _ r k).trans (lane_iblk m c t r k)) (iblk8_apply m c t k e)))) (iblk9_apply m c t e d))

theorem flushed_eq : (dats m 0 c).flushed 10 t = ((cfg0.win 10).blk t).view.read (Elt Ideal) (result m c) := by
  obtain ⟨h0, h1⟩ := index10 t
  rw [Cert.MergeIdeal.Value.flushed10]
  funext j
  obtain ⟨r, d, rfl⟩ : ∃ (r : Fin 256) (d : Fin 2048), j = ix2 r d := ⟨j 0, j 1, eq_ix2 j⟩
  rw [View.read_apply]
  refine Eq.trans (b := outsAt0 m c t (ix2 r d)) rfl ?_
  rw [left_apply, ← result_apply]
  show result m c _ = result m c _
  congr 1
  funext a
  apply Fin.ext
  match a with
  | ⟨0, _⟩ => show t.val * 256 + r.val = win0_10.index t 0 * 256 + 1 * r.val; omega
  | ⟨1, _⟩ => show d.val = win0_10.index t 1 * 2048 + 1 * d.val; omega

/-- So the result array ends holding every row's step. -/
theorem final_o : (dats m 0 c).arrAt 10 cfg0.N = result m c :=
  (dats m 0 c).arrAt_eq_of_cover 10 (result m c) (fun t _ => flushed_eq m c t) fun i => by
    have i0 : (i 0 : Nat) < 8192 := (i 0).isLt
    have i1 : (i 1 : Nat) < 2048 := (i 1).isLt
    have hN : (i 0 : Nat) / 256 < cfg0.N := lt_of_lt_of_eq (by omega : _ < 32) N_0.symm
    obtain ⟨t, ht⟩ : ∃ t : Fin cfg0.N, t.val = (i 0 : Nat) / 256 := ⟨⟨_, hN⟩, rfl⟩
    refine ⟨t, flush0_10 t, ?_⟩
    obtain ⟨h0, h1⟩ := index10 t
    show i ∈ ((View.whole main_v6).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256; omega
    | ⟨1, _⟩ => show win0_10.index t 1 * 2048 ≤ (i 1 : Nat) ∧ (i 1 : Nat) < win0_10.index t 1 * 2048 + 2048; omega

end Cert.MergeIdeal.Final

end
-- ==== Proof.Merge.Reference.lean ====
/-
  The reference of the merge, read at an index.
-/
module

public import proofs.«01_k».proof.Proof.Gen.MergeRefIdeal.Read
public import proofs.«01_k».proof.Proof.Merge.Gate
public import Idealize.ShloMosaic.Lib.IdealHost

public section

set_option maxRecDepth 16384

noncomputable section

namespace Cert.MergeRefIdeal.Sum

open Cert.MergeRefIdeal Cert.MergeRefIdeal.Gen Cert.MergeRefIdeal.Read Cert.Merging
open Idealize.ShloMosaic Idealize.ShloMosaic.ValueIdx
open scoped BigOperators

variable (x0 x1 : Narrow.Idx → EReal) (x2 : Layers.Idx → EReal) (x3 : Weighs.Idx → EReal) (x4 : Wide.Idx → EReal)
  (x5 : Mixers.Idx → EReal) (x6 : Offsets.Idx → EReal) (x7 x8 : Branch.Idx → EReal) (x9 : Back.Idx → EReal)

/-! ## The mask -/

/-- The sign of an integer, as the reference takes it. -/
def sgn (x : BitVec 32) : BitVec 32 := if x = 0 then 0 else if x.msb = true then -1 else 1

/-- The quotient by `64` rounded down, as the reference computes it from the one rounded toward zero. -/
def floorHalf (x : BitVec 32) : BitVec 32 :=
  Scalar.select (IntOp.andi (IntOp.cmpi .ne (sgn x) (sgn 64#32)) (IntOp.cmpi .ne (IntOp.remsi .host x 64#32) 0#32)) (IntOp.subi (IntOp.divsi .host x 64#32) 1#32)
    (IntOp.divsi .host x 64#32)

theorem floorHalf_apply : ∀ t : Fin 128, floorHalf (BitVec.ofNat 32 t.val) = BitVec.ofNat 32 (t.val / 64) := by
  decide +kernel

/-- The half of a place. -/
theorem half_apply (t : Fin 128) : val_main_v11 (F := Ideal) (ix1 t) = BitVec.ofNat 32 (t.val / 64) := by
  rw [val_main_v11_apply, val_main_call0_v11_apply, val_main_call0_v13_apply, val_main_call0_v2_apply, val_main_call0_v6_apply, val_main_call0_v10_apply,
    val_main_call0_v8_apply, val_main_call0_v9_apply, val_main_call0_v7_apply, val_main_call0_v5_apply, val_main_call0_v1_apply, val_main_call0_v12_apply]
  refine Eq.trans (b := floorHalf (BitVec.ofNat 32 t.val)) rfl (floorHalf_apply t)

theorem le_halves : ∀ a b : Fin 2, IntOp.cmpi .sle (BitVec.ofNat 32 b.val) (BitVec.ofNat 32 a.val) = if b.val ≤ a.val then 1#1 else 0#1 := by
  decide +kernel

theorem mask_apply (t s : Fin 128) : val_main_v16 (F := Ideal) (ix2 t s) = if s.val / 64 ≤ t.val / 64 then 1#1 else 0#1 := by
  have e1 : idx_main_v12 (idx_main_v14 (ix2 t s)) = ix1 s := funext fun a => match a with | ⟨0, _⟩ => rfl
  have e2 : idx_main_v13 (idx_main_v15 (ix2 t s)) = ix1 t := funext fun a => match a with | ⟨0, _⟩ => rfl
  rw [val_main_v16_apply, val_main_v14_apply, val_main_v15_apply, val_main_v12_apply, val_main_v13_apply, e1, e2, half_apply, half_apply]
  exact le_halves ⟨t.val / 64, by omega⟩ ⟨s.val / 64, by omega⟩

/-! ## The gated branch -/

theorem v7_apply (g : Fin 8) (t s : Fin 128) : val_main_v7 (F := Ideal) x5 (ix3 g t s) = x5 (ix4 (1 : Fin 2) g t s) := by
  rw [val_main_v7_apply, val_main_v6_apply]
  refine congrArg x5 (funext fun a => ?_)
  match a with
  | ⟨0, _⟩ => rfl
  | ⟨1, _⟩ => exact Fin.ext (by show ((g.val * 128 + t.val) * 128 + s.val) / 16384 % 8 = g.val; omega)
  | ⟨2, _⟩ => exact Fin.ext (by show ((g.val * 128 + t.val) * 128 + s.val) / 128 % 128 = t.val; omega)
  | ⟨3, _⟩ => exact Fin.ext (by show ((g.val * 128 + t.val) * 128 + s.val) % 128 = s.val; omega)

theorem v17_apply (g : Fin 8) (t s : Fin 128) :
    val_main_v17 (F := Ideal) x5 (ix3 g t s) = weight (fun t s => x5 (ix4 (1 : Fin 2) g t s)) t s := by
  have e : idx_main_call1_v1 (ix3 g t s) = ix2 t s := funext fun a => match a with | ⟨0, _⟩ => rfl | ⟨1, _⟩ => rfl
  have h0 : val_main_call1_v2 (F := Ideal) (ix3 g t s) = 0 := by
    rw [val_main_call1_v2_apply, val_main_call1_v0_apply]
    exact Ideal.ofBits_zero_f32
  rw [val_main_v17_apply, val_main_call1_v1_apply, e, mask_apply, v7_apply, h0]
  unfold weight
  by_cases hc : s.val / 64 ≤ t.val / 64
  · rw [if_pos hc, if_pos hc]; rfl
  · rw [if_neg hc, if_neg hc]; rfl

/-- The rows of a block, of the last layer's half. -/
theorem v18_apply (b : Fin 4) (n : Fin 16) (s : Fin 128) (g : Fin 8) (k : Fin 128) (r : Fin 8192) (l : Fin 1024)
    (hr : r.val / 128 = b.val * 16 + n.val) (hl : l.val = g.val * 128 + k.val) :
    val_main_v18 (F := Ideal) x2 (ix5 b n s g k) = x2 (ix2 (peer r s) l) := by
  rw [val_main_v18_apply, val_main_v4_apply, val_main_v3_apply]
  have hb := b.isLt
  have hn := n.isLt
  have hs := s.isLt
  have hg := g.isLt
  have hk := k.isLt
  obtain ⟨z, hz⟩ : ∃ z, z = (((b.val * 16 + n.val) * 128 + s.val) * 8 + g.val) * 128 + k.val := ⟨_, rfl⟩
  have z1 : z / 2097152 = b.val := by omega
  have z2 : z / 1024 % 2048 = n.val * 128 + s.val := by omega
  have z3 : z % 1024 = l.val := by omega
  refine congrArg x2 (funext fun a => ?_)
  match a with
  | ⟨0, _⟩ =>
    refine Fin.ext ?_
    show 8192 + ((((((b.val * 16 + n.val) * 128 + s.val) * 8 + g.val) * 128 + k.val) / 2097152 * 2048
      + ((((b.val * 16 + n.val) * 128 + s.val) * 8 + g.val) * 128 + k.val) / 1024 % 2048) * 1024
      + ((((b.val * 16 + n.val) * 128 + s.val) * 8 + g.val) * 128 + k.val) % 1024) / 1024 = 8192 + (r.val / 128 * 128 + s.val)
    rw [← hz, z1, z2, z3]
    omega
  | ⟨1, _⟩ =>
    refine Fin.ext ?_
    show (((((((b.val * 16 + n.val) * 128 + s.val) * 8 + g.val) * 128 + k.val) / 2097152 * 2048
      + ((((b.val * 16 + n.val) * 128 + s.val) * 8 + g.val) * 128 + k.val) / 1024 % 2048) * 1024
      + ((((b.val * 16 + n.val) * 128 + s.val) * 8 + g.val) * 128 + k.val) % 1024)) % 1024 = l.val
    rw [← hz, z1, z2, z3]
    omega

/-- The offset of a group's place. -/
theorem v23_apply (b : Fin 4) (n : Fin 16) (t : Fin 128) (g : Fin 8) (k : Fin 128) :
    val_main_v23 (F := Ideal) x6 (ix5 b n t g k) = x6 (ix3 (1 : Fin 2) g t) := by
  rw [val_main_v23_apply, val_main_v22_apply, val_main_v21_apply, val_main_v9_apply, val_main_v8_apply]
  refine congrArg x6 (funext fun a => ?_)
  match a with
  | ⟨0, _⟩ => rfl
  | ⟨1, _⟩ => exact Fin.ext (by show (g.val * 128 + t.val) / 128 % 8 = g.val; omega)
  | ⟨2, _⟩ => exact Fin.ext (by show (g.val * 128 + t.val) % 128 = t.val; omega)

/-- The mixture of a row at a lane. -/
theorem v24_apply (b : Fin 4) (n : Fin 16) (t : Fin 128) (g : Fin 8) (k : Fin 128) (r : Fin 8192) (l : Fin 1024)
    (hr : r.val / 128 = b.val * 16 + n.val) (hl : l.val = g.val * 128 + k.val) :
    val_main_v24 (F := Ideal) x2 x5 x6 (ix5 b n t g k)
      = ∑ s : Fin 128, weight (fun t s => x5 (ix4 (1 : Fin 2) g t s)) t s * x2 (ix2 (peer r s) l) + x6 (ix3 (1 : Fin 2) g t) := by
  rw [val_main_v24_apply, v23_apply, val_main_v20_apply, val_main_v19_apply]
  refine congrArg (· + x6 (ix3 (1 : Fin 2) g t)) (Finset.sum_congr rfl fun s _ => ?_)
  have e1 : lidx_main_v19 (idx_main_v20 (ix5 b n t g k)) s = ix5 b n s g k :=
    funext fun a => match a with | ⟨0, _⟩ => rfl | ⟨1, _⟩ => rfl | ⟨2, _⟩ => rfl | ⟨3, _⟩ => rfl | ⟨4, _⟩ => rfl
  have e2 : ridx_main_v19 (idx_main_v20 (ix5 b n t g k)) s = ix3 g t s := funext fun a => match a with | ⟨0, _⟩ => rfl | ⟨1, _⟩ => rfl | ⟨2, _⟩ => rfl
  rw [e1, e2, v17_apply, v18_apply x2 b n s g k r l hr hl]
  exact mul_comm _ _

theorem v27_apply (r : Fin 8192) (l : Fin 1024) : val_main_v27 (F := Ideal) x1 x2 x5 x6 (ix2 r l) = gated x1 x2 x5 x6 r l := by
  rw [val_main_v27_apply, val_main_v26_apply, val_main_v5_apply, val_main_v1_apply, val_main_v25_apply]
  have hr := r.isLt
  have hl := l.isLt
  have y1 : (r.val * 1024 + l.val) / 2097152 = r.val / 2048 := by omega
  have y2 : (r.val * 1024 + l.val) / 1024 % 2048 = r.val % 2048 := by omega
  have y3 : (r.val * 1024 + l.val) % 1024 = l.val := by omega
  obtain ⟨z, hz⟩ : ∃ z, z = (r.val / 2048 * 2048 + r.val % 2048) * 1024 + l.val := ⟨_, rfl⟩
  have e1 : idx_main_v5 (idx_main_v27 (ix2 r l)) = ix2 r l := funext fun a => match a with
    | ⟨0, _⟩ => Fin.ext (by
        show (((r.val * 1024 + l.val) / 2097152 * 2048 + (r.val * 1024 + l.val) / 1024 % 2048) * 1024 + (r.val * 1024 + l.val) % 1024) / 1024 = r.val
        rw [y1, y2, y3]; omega)
    | ⟨1, _⟩ => Fin.ext (by
        show (((r.val * 1024 + l.val) / 2097152 * 2048 + (r.val * 1024 + l.val) / 1024 % 2048) * 1024 + (r.val * 1024 + l.val) % 1024) % 1024 = l.val
        rw [y1, y2, y3]; omega)
  have e2 : idx_main_v25 (idx_main_v27 (ix2 r l)) = ix5 (⟨r.val / 2048, by omega⟩ : Fin 4) (⟨r.val / 128 % 16, by omega⟩ : Fin 16) (placeOf r) (groupOf l)
      (⟨l.val % 128, by omega⟩ : Fin 128) := funext fun a => match a with
    | ⟨0, _⟩ => Fin.ext (by
        show (((r.val * 1024 + l.val) / 2097152 * 2048 + (r.val * 1024 + l.val) / 1024 % 2048) * 1024 + (r.val * 1024 + l.val) % 1024) / 2097152 = r.val / 2048
        rw [y1, y2, y3]; omega)
    | ⟨1, _⟩ => Fin.ext (by
        show (((r.val * 1024 + l.val) / 2097152 * 2048 + (r.val * 1024 + l.val) / 1024 % 2048) * 1024 + (r.val * 1024 + l.val) % 1024) / 131072 % 16 = r.val / 128 % 16
        rw [y1, y2, y3]; omega)
    | ⟨2, _⟩ => Fin.ext (by
        show (((r.val * 1024 + l.val) / 2097152 * 2048 + (r.val * 1024 + l.val) / 1024 % 2048) * 1024 + (r.val * 1024 + l.val) % 1024) / 1024 % 128 = r.val % 128
        rw [y1, y2, y3]; omega)
    | ⟨3, _⟩ => Fin.ext (by
        show (((r.val * 1024 + l.val) / 2097152 * 2048 + (r.val * 1024 + l.val) / 1024 % 2048) * 1024 + (r.val * 1024 + l.val) % 1024) / 128 % 8 = l.val / 128
        rw [y1, y2, y3]; omega)
    | ⟨4, _⟩ => Fin.ext (by
        show (((r.val * 1024 + l.val) / 2097152 * 2048 + (r.val * 1024 + l.val) / 1024 % 2048) * 1024 + (r.val * 1024 + l.val) % 1024) % 128 = l.val % 128
        rw [y1, y2, y3]; omega)
  rw [e1, e2, v24_apply x2 x5 x6 _ _ _ _ _ r l (by show r.val / 128 = r.val / 2048 * 16 + r.val / 128 % 16; omega) (by show l.val = l.val / 128 * 128 + l.val % 128; omega)]
  rfl

/-! ## The step -/

theorem v32_apply (k : Fin 1024) (e : Fin 2048) : val_main_v32 (F := Ideal) x7 (ix2 k e) = x7 (ix3 (1 : Fin 2) k e) := by
  rw [val_main_v32_apply, val_main_v31_apply, val_main_v30_apply]
  refine congrArg x7 (funext fun a => ?_)
  match a with
  | ⟨0, _⟩ => rfl
  | ⟨1, _⟩ => exact Fin.ext (by show (k.val * 2048 + e.val) / 2048 % 1024 = k.val; omega)
  | ⟨2, _⟩ => exact Fin.ext (by show (k.val * 2048 + e.val) % 2048 = e.val; omega)

theorem v37_apply (k : Fin 1024) (e : Fin 2048) : val_main_v37 (F := Ideal) x8 (ix2 k e) = x8 (ix3 (1 : Fin 2) k e) := by
  rw [val_main_v37_apply, val_main_v36_apply, val_main_v35_apply]
  refine congrArg x8 (funext fun a => ?_)
  match a with
  | ⟨0, _⟩ => rfl
  | ⟨1, _⟩ => exact Fin.ext (by show (k.val * 2048 + e.val) / 2048 % 1024 = k.val; omega)
  | ⟨2, _⟩ => exact Fin.ext (by show (k.val * 2048 + e.val) % 2048 = e.val; omega)

theorem v43_apply (k : Fin 2048) (e : Fin 2048) : val_main_v43 (F := Ideal) x9 (ix2 k e) = x9 (ix3 (1 : Fin 2) k e) := by
  rw [val_main_v43_apply, val_main_v42_apply, val_main_v41_apply]
  refine congrArg x9 (funext fun a => ?_)
  match a with
  | ⟨0, _⟩ => rfl
  | ⟨1, _⟩ => exact Fin.ext (by show (k.val * 2048 + e.val) / 2048 % 2048 = k.val; omega)
  | ⟨2, _⟩ => exact Fin.ext (by show (k.val * 2048 + e.val) % 2048 = e.val; omega)

theorem v33_apply (r : Fin 8192) (e : Fin 2048) : val_main_v33 (F := Ideal) x0 x7 (ix2 r e) = ∑ k : Fin 1024, x0 (ix2 r k) * x7 (ix3 (1 : Fin 2) k e) := by
  rw [val_main_v33_apply]
  refine Finset.sum_congr rfl fun k _ => ?_
  have e1 : lidx_main_v33 (ix2 r e) k = ix2 r k := funext fun a => match a with | ⟨0, _⟩ => rfl | ⟨1, _⟩ => rfl
  have e2 : ridx_main_v33 (ix2 r e) k = ix2 k e := funext fun a => match a with | ⟨0, _⟩ => rfl | ⟨1, _⟩ => rfl
  rw [e1, e2, val_main_v0_apply, v32_apply]
  rfl

theorem v38_apply (r : Fin 8192) (e : Fin 2048) : val_main_v38 (F := Ideal) x1 x2 x5 x6 x8 (ix2 r e) = ∑ k : Fin 1024, gated x1 x2 x5 x6 r k * x8 (ix3 (1 : Fin 2) k e) := by
  rw [val_main_v38_apply]
  refine Finset.sum_congr rfl fun k _ => ?_
  have e1 : lidx_main_v38 (ix2 r e) k = ix2 r k := funext fun a => match a with | ⟨0, _⟩ => rfl | ⟨1, _⟩ => rfl
  have e2 : ridx_main_v38 (ix2 r e) k = ix2 k e := funext fun a => match a with | ⟨0, _⟩ => rfl | ⟨1, _⟩ => rfl
  rw [e1, e2, v27_apply, v37_apply]

theorem v40_apply (r : Fin 8192) (e : Fin 2048) :
    val_main_v40 (F := Ideal) x0 x1 x2 x3 x5 x6 x7 x8 (ix2 r e) = merged x0 x1 x2 x3 x5 x6 x7 x8 r e := by
  have e1 : idx_main_v28 (ix2 r e) = ix2 r (⟨e.val, by omega⟩ : Fin 4096) := funext fun a => match a with | ⟨0, _⟩ => rfl | ⟨1, _⟩ => rfl
  have e2 : idx_main_v29 (ix2 r e) = ix2 r (⟨2048 + e.val, by omega⟩ : Fin 4096) := funext fun a => match a with | ⟨0, _⟩ => rfl | ⟨1, _⟩ => rfl
  rw [val_main_v40_apply, val_main_v34_apply, val_main_v39_apply, val_main_v28_apply, val_main_v29_apply, val_main_v2_apply, val_main_v2_apply, e1, e2, v33_apply, v38_apply]
  rfl

theorem v44_apply (r : Fin 8192) (e : Fin 2048) : val_main_v44 (F := Ideal) x0 x1 x2 x3 x5 x6 x7 x8 x9 (ix2 r e) = ∑ k : Fin 2048, merged x0 x1 x2 x3 x5 x6 x7 x8 r k * x9 (ix3 (1 : Fin 2) k e) := by
  rw [val_main_v44_apply]
  refine Finset.sum_congr rfl fun k _ => ?_
  have e1 : lidx_main_v44 (ix2 r e) k = ix2 r k := funext fun a => match a with | ⟨0, _⟩ => rfl | ⟨1, _⟩ => rfl
  have e2 : ridx_main_v44 (ix2 r e) k = ix2 k e := funext fun a => match a with | ⟨0, _⟩ => rfl | ⟨1, _⟩ => rfl
  rw [e1, e2, v40_apply, v43_apply]

theorem v45_apply (r : Fin 8192) (d : Fin 2048) :
    val_main_v45 (F := Ideal) x0 x1 x2 x3 x4 x5 x6 x7 x8 x9 (ix2 r d) = out x0 x1 x2 x3 x4 x5 x6 x7 x8 x9 r d := by
  rw [val_main_v45_apply, v44_apply]
  rfl

end Cert.MergeRefIdeal.Sum

end
-- ==== Proof.Merge.Claims.lean ====
/-
  The claims about the merge call: its three frames, and its value.
-/

module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge.Final
public import proofs.«01_k».proof.Proof.Merge.Reference

public section

set_option maxRecDepth 16384

noncomputable section

namespace Cert.MergeClaims

open Idealize.ShloMosaic.TcCoe Idealize.SL.Sem Idealize.ShloMosaic.ValueIdx
open Idealize.ShloMosaic

theorem frame_p : quiescent_Merge := fun m ρ _ => Merge.Gen.frame m ρ

theorem frame_pi : quiescent_MergeIdeal := fun m ρ _ => MergeIdeal.Gen.frame m ρ

theorem frame_ri : quiescent_MergeRefIdeal := fun m ρ _ =>
  (θ_run MergeRefIdeal.defs _ _).mono (fun r h => ⟨fun c => (h c).2, sem_eq_zero_of_no_sems (by decide) r.2⟩)
    (MergeRefIdeal.Value.run (F := Ideal) m ρ)

variable (m : (ℓ : Loc MergeIdeal.nD MergeIdeal.τ MergeIdeal.sig) → Buf (Elt Ideal) ℓ)
variable (m' : (ℓ : Loc MergeRefIdeal.nD MergeRefIdeal.τ MergeRefIdeal.sig) → Buf (Elt Ideal) ℓ)

/-- From memories with the same arguments the two results are one array. -/
theorem res_eq (c : Dev MergeIdeal.nD)
    (h0 : m' ((c.tc : Thread MergeRefIdeal.nD MergeRefIdeal.τ).loc MergeRefIdeal.main_arg0) = MergeIdeal.Final.a m c)
    (h1 : m' ((c.tc : Thread MergeRefIdeal.nD MergeRefIdeal.τ).loc MergeRefIdeal.main_arg1) = MergeIdeal.Final.u m c)
    (h2 : m' ((c.tc : Thread MergeRefIdeal.nD MergeRefIdeal.τ).loc MergeRefIdeal.main_arg2) = MergeIdeal.Final.vn m c)
    (h3 : m' ((c.tc : Thread MergeRefIdeal.nD MergeRefIdeal.τ).loc MergeRefIdeal.main_arg3) = MergeIdeal.Final.gt m c)
    (h4 : m' ((c.tc : Thread MergeRefIdeal.nD MergeRefIdeal.τ).loc MergeRefIdeal.main_arg4) = MergeIdeal.Final.h m c)
    (h5 : m' ((c.tc : Thread MergeRefIdeal.nD MergeRefIdeal.τ).loc MergeRefIdeal.main_arg5) = MergeIdeal.Final.ws m c)
    (h6 : m' ((c.tc : Thread MergeRefIdeal.nD MergeRefIdeal.τ).loc MergeRefIdeal.main_arg6) = MergeIdeal.Final.bs m c)
    (h7 : m' ((c.tc : Thread MergeRefIdeal.nD MergeRefIdeal.τ).loc MergeRefIdeal.main_arg7) = MergeIdeal.Final.wa m c)
    (h8 : m' ((c.tc : Thread MergeRefIdeal.nD MergeRefIdeal.τ).loc MergeRefIdeal.main_arg8) = MergeIdeal.Final.wb m c)
    (h9 : m' ((c.tc : Thread MergeRefIdeal.nD MergeRefIdeal.τ).loc MergeRefIdeal.main_arg9) = MergeIdeal.Final.wo m c) :
    MergeRefIdeal.Value.res_main_v45 m' c = MergeIdeal.Final.result m c := by
  rw [MergeRefIdeal.Read.val_main_v45_eq, h0, h1, h2, h3, h4, h5, h6, h7, h8, h9]
  funext i
  obtain ⟨r, d, rfl⟩ : ∃ (r : Fin 8192) (d : Fin 2048), i = ix2 r d := ⟨i 0, i 1, eq_ix2 i⟩
  exact (MergeRefIdeal.Sum.v45_apply _ _ _ _ _ _ _ _ _ _ r d).trans (MergeIdeal.Final.result_apply m c r d).symm

theorem algebraic : algebraic_MergeIdeal_MergeRefIdeal := by
  intro m ρ m' ρ' _ hagree
  refine ⟨fun c => MergeIdeal.Final.result m c, ?_, ?_⟩
  · exact (θ_run MergeIdeal.defs _ _).mono
      (fun _ h c => ⟨(h c).1.trans (MergeIdeal.Final.final_o m c), (h c).2⟩)
      (MergeIdeal.Value.run_blocks m ρ)
  · exact (θ_run MergeRefIdeal.defs _ _).mono
      (fun _ h c => ⟨(h c).1.trans (res_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2), (h c).2⟩)
      (MergeRefIdeal.Value.run (F := Ideal) m' ρ')

end Cert.MergeClaims

end
-- ==== Proof.Proj.Heads.lean ====
/-
  Eight arrays of 512 rows dealt out row by row into one array of 4096, by eight stores with row stride 8.
-/
module

public import Idealize.ShloMosaic.Lib.Pipeline.FrameBody
public import Idealize.ShloMosaic.Lib.VecWindow

@[expose] public section

set_option maxRecDepth 16384

noncomputable section

namespace Cert.HeadRows

open Idealize.ShloMosaic

variable {F : FTy → Type} [FloatOps F]

abbrev Block : Shape := ⟨2, ![512, 128]⟩
abbrev All : Shape := ⟨2, ![4096, 128]⟩

/-- Eight arrays of 512 rows, row `r` of the `h`-th at row `8 r + h`. -/
def rows8 (p : ℕ → Vec F Block .f32) : Vec F All .f32 := fun y =>
  p ((y 0).val % 8) (fun a => match a with
    | ⟨0, _⟩ => ⟨(y 0).val / 8, by have h : (y 0).val < 4096 := (y 0).isLt; show (y 0).val / 8 < 512; omega⟩
    | ⟨1, _⟩ => ⟨(y 1).val, (y 1).isLt⟩)

theorem rows8_at (p : ℕ → Vec F Block .f32) (h : ℕ) (hh : h < 8) (x : Block.Idx) (z : All.Idx)
    (e0 : (z 0).val = h + 8 * (x 0).val) (e1 : (z 1).val = (x 1).val) : rows8 p z = p h x := by
  unfold rows8
  have em : (z 0).val % 8 = h := by omega
  refine congrArg₂ p em ?_
  funext a
  match a with
  | ⟨0, _⟩ => exact Fin.ext (by show (z 0).val / 8 = (x 0).val; omega)
  | ⟨1, _⟩ => exact Fin.ext e1

/-- The strided rectangle of head `h`: rows `h`, `h + 8`, `h + 16`, … -/
abbrev rowRect (h : ℕ) (inb : ∀ a, Block.size a = 0 ∨ (![h, 0] : Fin 2 → Nat) a + (![8, 1] : Fin 2 → Nat) a * (Block.size a - 1) < All.size a)
    (sp : ∀ a, 0 < (![8, 1] : Fin 2 → Nat) a) : Rect All := ⟨(⟨![h, 0], Block.size, ![8, 1], inb⟩ : LoadRect All), sp⟩

theorem rowRect_rows8 (h : ℕ) (hh : h < 8) (inb) (sp) (p : ℕ → Vec F Block .f32) (x : Block.Idx) :
    p h x = rows8 p ((rowRect h inb sp).emb x) :=
  (rows8_at p h hh x _ rfl (by show 0 + 1 * (x 1).val = (x 1).val; omega)).symm

theorem mem_rowRect (h : ℕ) (inb) (sp) (y : All.Idx) (hy : (y 0).val % 8 = h) : y ∈ (rowRect h inb sp).set := by
  rw [LoadRect.mem_set]
  intro a
  match a with
  | ⟨0, _⟩ => exact ⟨(y 0).val / 8, by have h : (y 0).val < 4096 := (y 0).isLt; show _ < 512; omega, by show (y 0).val = h + 8 * ((y 0).val / 8); omega⟩
  | ⟨1, _⟩ => exact ⟨(y 1).val, (y 1).isLt, by show (y 1).val = 0 + 1 * (y 1).val; omega⟩

/-- After the eight strided stores a buffer holds the eight arrays dealt out. -/
theorem read_rows8 {sig : RefSig} {sp : Space} (v : View sig .tc sp All .f32) (f : v.ty.Contents (Elt F)) (p : ℕ → Vec F Block .f32)
    (s) (i0 i1 i2 i3 i4 i5 i6 i7) :
    v.read (Elt F) (v.writes (Elt F) f [
      ⟨rowRect 7 i7 s, p 7⟩, ⟨rowRect 6 i6 s, p 6⟩, ⟨rowRect 5 i5 s, p 5⟩, ⟨rowRect 4 i4 s, p 4⟩,
      ⟨rowRect 3 i3 s, p 3⟩, ⟨rowRect 2 i2 s, p 2⟩, ⟨rowRect 1 i1 s, p 1⟩, ⟨rowRect 0 i0 s, p 0⟩]) = rows8 p := by
  funext y
  refine View.read_writes_apply_of_pieces v f (rows8 p) _ ?_ y ?_
  · intro q hq
    simp only [List.mem_cons, List.not_mem_nil, or_false] at hq
    rcases hq with rfl | rfl | rfl | rfl | rfl | rfl | rfl | rfl
    · exact rowRect_rows8 7 (by omega) i7 s p
    · exact rowRect_rows8 6 (by omega) i6 s p
    · exact rowRect_rows8 5 (by omega) i5 s p
    · exact rowRect_rows8 4 (by omega) i4 s p
    · exact rowRect_rows8 3 (by omega) i3 s p
    · exact rowRect_rows8 2 (by omega) i2 s p
    · exact rowRect_rows8 1 (by omega) i1 s p
    · exact rowRect_rows8 0 (by omega) i0 s p
  · have h8 : (y 0).val % 8 < 8 := Nat.mod_lt _ (by omega)
    rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
    · exact ⟨_, .tail _ (.tail _ (.tail _ (.tail _ (.tail _ (.tail _ (.tail _ (.head _))))))), mem_rowRect 0 i0 s y h⟩
    · exact ⟨_, .tail _ (.tail _ (.tail _ (.tail _ (.tail _ (.tail _ (.head _)))))), mem_rowRect 1 i1 s y h⟩
    · exact ⟨_, .tail _ (.tail _ (.tail _ (.tail _ (.tail _ (.head _))))), mem_rowRect 2 i2 s y h⟩
    · exact ⟨_, .tail _ (.tail _ (.tail _ (.tail _ (.head _)))), mem_rowRect 3 i3 s y h⟩
    · exact ⟨_, .tail _ (.tail _ (.tail _ (.head _))), mem_rowRect 4 i4 s y h⟩
    · exact ⟨_, .tail _ (.tail _ (.head _)), mem_rowRect 5 i5 s y h⟩
    · exact ⟨_, .tail _ (.head _), mem_rowRect 6 i6 s y h⟩
    · exact ⟨_, .head _, mem_rowRect 7 i7 s y h⟩

end Cert.HeadRows

end
-- ==== Proof.Proj.Runs.lean ====
/-
  The projection: what the call's buffers hold when the region begins, its windows' blocks, its body's conditions.
-/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Proj.Heads
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.ProjIdeal.Frm

open Cert.ProjIdeal Cert.ProjIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Up to the region -/

/-- A core's buffers when the region begins: after the copies before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three copied into is as launched. -/
theorem V_kept (c : Dev nD) (b : Ref sig .tc) (h3 : b ≠ main_v0_3 := by decide) (h4 : b ≠ main_v0_4 := by decide) (h6 : b ≠ main_v0_6 := by decide) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h3, StableHlo.devRef_ne_of_ne h4, StableHlo.devRef_ne_of_ne h6⟩))

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions: which column block a point is at -/

/-- The condition under which the normalized rows are stored. -/
abbrev cond1 (i : grid0.Coords) : Prop := (Scalar.cmpi .ne (Scalar.extui (Scalar.cmpi .eq (BitVec.ofNat 32 (i 1).val) 0#32)) 0#32) = 1#1

theorem col_lt (t : Fin cfg0.N) : t.val % 9 < 9 := Nat.mod_lt _ (by omega)
theorem col_of (t : Fin cfg0.N) : (grid0.coords t 1).val = t.val % 9 :=
  (Pipeline.Grid.coords_val t 1 (by decide) rfl).trans (congrArg (· % 9) (Nat.div_one t.val))

theorem hcond1 (t : Fin cfg0.N) : cond1 (grid0.coords t) ↔ t.val % 9 = 0 := by have := col_lt t; simp only [cond1, col_of]; word_cmp
theorem hk0_cond2 (t : Fin cfg0.N) : k0_cond2 (grid0.coords t) = 1#1 ↔ t.val % 9 = 0 := by have := col_lt t; simp only [k0_cond2, col_of]; word_cmp
theorem hk0_cond3 (t : Fin cfg0.N) : k0_cond3 (grid0.coords t) = 1#1 ↔ t.val % 9 = 1 := by have := col_lt t; simp only [k0_cond3, col_of]; word_cmp
theorem hk0_cond4 (t : Fin cfg0.N) : k0_cond4 (grid0.coords t) = 1#1 ↔ t.val % 9 = 2 := by have := col_lt t; simp only [k0_cond4, col_of]; word_cmp
theorem hk0_cond5 (t : Fin cfg0.N) : k0_cond5 (grid0.coords t) = 1#1 ↔ t.val % 9 = 3 := by have := col_lt t; simp only [k0_cond5, col_of]; word_cmp
theorem hk0_cond6 (t : Fin cfg0.N) : k0_cond6 (grid0.coords t) = 1#1 ↔ t.val % 9 = 4 := by have := col_lt t; simp only [k0_cond6, col_of]; word_cmp
theorem hk0_cond7 (t : Fin cfg0.N) : k0_cond7 (grid0.coords t) = 1#1 ↔ 5 ≤ t.val % 9 := by have := col_lt t; simp only [k0_cond7, col_of]; word_cmp

/-! ## The staging buffers at a point -/

abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1024 .bf16 := win0_2.stage (cfg0.slots t 2)
abbrev ms3 (t : Fin cfg0.N) : Memref sig .tc .vmem S1x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S512x1024 .bf16 := win0_5.stage (cfg0.slots t 5)
abbrev ms6 (t : Fin cfg0.N) : Memref sig .tc .vmem S512x1024 .bf16 := win0_6.stage (cfg0.slots t 6)
abbrev ms7 (t : Fin cfg0.N) : Memref sig .tc .vmem S512x1024 .bf16 := win0_7.stage (cfg0.slots t 7)
abbrev ms8 (t : Fin cfg0.N) : Memref sig .tc .vmem S4096x128 .f32 := win0_8.stage (cfg0.slots t 8)
abbrev ms9 (t : Fin cfg0.N) : Memref sig .tc .vmem S4096x128 .f32 := win0_9.stage (cfg0.slots t 9)
abbrev ms10 (t : Fin cfg0.N) : Memref sig .tc .vmem S512x1024 .bf16 := win0_10.stage (cfg0.slots t 10)
abbrev ms11 (t : Fin cfg0.N) : Memref sig .tc .vmem S512x1024 .f32 := win0_11.stage (cfg0.slots t 11)
abbrev ms12 (t : Fin cfg0.N) : Memref sig .tc .vmem S512x1024 .bf16 := win0_12.stage (cfg0.slots t 12)
/-- The row block the kernel keeps between points. -/
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The column blocks of one head each of the second and of the third column block's product. -/
def kHead (v3 : Vec F S512x2048 .bf16) (v4 : Vec F S1x2048x1024 .bf16) : ℕ → Vec F S512x128 .f32
  | 0 => k0_pay5 v3 v4 | 1 => k0_pay6 v3 v4 | 2 => k0_pay7 v3 v4 | 3 => k0_pay8 v3 v4
  | 4 => k0_pay9 v3 v4 | 5 => k0_pay10 v3 v4 | 6 => k0_pay11 v3 v4 | _ => k0_pay12 v3 v4
def vHead (v3 : Vec F S512x2048 .bf16) (v4 : Vec F S1x2048x1024 .bf16) : ℕ → Vec F S512x128 .f32
  | 0 => k0_pay14 v3 v4 | 1 => k0_pay15 v3 v4 | 2 => k0_pay16 v3 v4 | 3 => k0_pay17 v3 v4
  | 4 => k0_pay18 v3 v4 | 5 => k0_pay19 v3 v4 | 6 => k0_pay20 v3 v4 | _ => k0_pay21 v3 v4

end Cert.ProjIdeal.Frm

end
-- ==== Proof.Proj.Run.lean ====
/-
  The projection: its body at a point of each column block.
-/
module

public import proofs.«01_k».proof.Proof.Proj.Runs

@[expose] public section

set_option maxRecDepth 16384

noncomputable section

namespace Cert.ProjIdeal.Frm

open Cert.ProjIdeal Cert.ProjIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {arg2 : Memref sig .tc .vmem S512x2048 .f32} (h2 : arg2.IsWhole)
  {arg3 : Memref sig .tc .vmem S1x2048 .f32} (h3 : arg3.IsWhole)
  {arg4 : Memref sig .tc .vmem S1x2048x1024 .bf16} (h4 : arg4.IsWhole)
  {arg5 : Memref sig .tc .vmem S1x1024 .f32} (h5 : arg5.IsWhole)
  {arg6 : Memref sig .tc .vmem S1x1024 .f32} (h6 : arg6.IsWhole)
  {arg7 : Memref sig .tc .hbm S32768x128 .f32} (h7 : arg7.IsWhole)
  {arg8 : Memref sig .tc .hbm S32768x128 .f32} (h8 : arg8.IsWhole)
  {arg9 : Memref sig .tc .hbm S4096x1024 .f32} (h9 : arg9.IsWhole)
  {arg10 : Memref sig .tc .vmem S512x1024 .bf16} (h10 : arg10.IsWhole)
  {arg11 : Memref sig .tc .vmem S512x1024 .bf16} (h11 : arg11.IsWhole)
  {arg12 : Memref sig .tc .vmem S512x1024 .bf16} (h12 : arg12.IsWhole)
  {arg13 : Memref sig .tc .vmem S4096x128 .f32} (h13 : arg13.IsWhole)
  {arg14 : Memref sig .tc .vmem S4096x128 .f32} (h14 : arg14.IsWhole)
  {arg15 : Memref sig .tc .vmem S512x1024 .bf16} (h15 : arg15.IsWhole)
  {arg16 : Memref sig .tc .vmem S512x1024 .f32} (h16 : arg16.IsWhole)
  {arg17 : Memref sig .tc .vmem S512x1024 .bf16} (h17 : arg17.IsWhole)
  {arg18 : Memref sig .tc .vmem S512x2048 .bf16} (h18 : arg18.IsWhole)
  (x2 : Vec F S512x2048 .f32) (x3 : Vec F S1x2048 .f32) (x4 : Vec F S1x2048x1024 .bf16) (x5 : Vec F S1x1024 .f32) (x6 : Vec F S1x1024 .f32) (x18 : Vec F S512x2048 .bf16) (E : Set ℕ)

set_option maxHeartbeats 2000000 in
/-- Column block 0. -/
theorem run_A (K : PUnit → sProp 𝕄) (hc0 : cond1 i) (hc1 : k0_cond2 i = 1#1) (hc2 : ¬(k0_cond3 i = 1#1)) (hc3 : ¬(k0_cond4 i = 1#1)) (hc4 : ¬(k0_cond5 i = 1#1)) (hc5 : ¬(k0_cond6 i = 1#1)) (hc6 : ¬(k0_cond7 i = 1#1)) :
    iprop(owns c arg2 fullShare x2 ∗ owns c arg3 fullShare x3 ∗ owns c arg4 fullShare x4 ∗ (∃ d, owns c arg10 fullShare d) ∗ (∃ d, owns c arg18 fullShare d)
        ∗ (iprop(owns c arg2 fullShare x2 ∗ owns c arg3 fullShare x3 ∗ owns c arg4 fullShare x4 ∗ owns c arg10 fullShare (k0_pay3 (k0_pay1 x2 x3) x4) ∗ owns c arg18 fullShare (k0_pay1 x2 x3)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f2, %hf2, H2⟩, ⟨%f3, %hf3, H3⟩, ⟨%f4, %hf4, H4⟩, ⟨%d10, %f10, -, H10⟩, ⟨%d18, %f18, -, H18⟩, Hk⟩
  obtain rfl := h2.eq_unread hf2; obtain rfl := h3.eq_unread hf3; obtain rfl := h4.eq_unread hf4
  sl_exec (disch := first | sl_exact hc0 | sl_exact hc1 | sl_exact hc2 | sl_exact hc3 | sl_exact hc4 | sl_exact hc5 | sl_exact hc6)
  sl_step
  iapply Hk
  isplitl [H2]
  · iexists _; isplitr
    swap; · iexact H2
    ipureintro
    exact h2.read_unread _
  isplitl [H3]
  · iexists _; isplitr
    swap; · iexact H3
    ipureintro
    exact h3.read_unread _
  isplitl [H4]
  · iexists _; isplitr
    swap; · iexact H4
    ipureintro
    exact h4.read_unread _
  isplitl [H10]
  · iexists _; isplitr
    swap; · iexact H10
    ipureintro
    sl_unfold_words
    refine (View.read_writes_full _ _ _ _ _).trans ?_
    try simp only [View.readCov_unit_zero (S := S512x2048) _ hz2, View.readAt_eq_ld, h2.read_unread, h3.read_unread, h4.read_unread, View.ld_unit_zero (S := S512x2048) hz2, View.ld_unit_zero (S := S1x2048) hz2, View.ld_unit_zero (S := S1x2048x1024) hz3]
  iexists _; isplitr
  swap; · iexact H18
  ipureintro
  sl_unfold_words
  refine (View.read_writes_full _ _ _ _ _).trans ?_
  try simp only [View.readCov_unit_zero (S := S512x2048) _ hz2, View.readAt_eq_ld, h2.read_unread, h3.read_unread, h4.read_unread, View.ld_unit_zero (S := S512x2048) hz2, View.ld_unit_zero (S := S1x2048) hz2, View.ld_unit_zero (S := S1x2048x1024) hz3]

set_option maxHeartbeats 2000000 in
/-- Column block 1. -/
theorem run_B (K : PUnit → sProp 𝕄) (hc0 : ¬(cond1 i)) (hc1 : ¬(k0_cond2 i = 1#1)) (hc2 : k0_cond3 i = 1#1) (hc3 : ¬(k0_cond4 i = 1#1)) (hc4 : ¬(k0_cond5 i = 1#1)) (hc5 : ¬(k0_cond6 i = 1#1)) (hc6 : ¬(k0_cond7 i = 1#1)) :
    iprop(owns c arg4 fullShare x4 ∗ owns c arg18 fullShare x18 ∗ (∃ d, owns c arg11 fullShare d) ∗ (∃ d, owns c arg13 fullShare d)
        ∗ (iprop(owns c arg4 fullShare x4 ∗ owns c arg18 fullShare x18 ∗ owns c arg11 fullShare (k0_pay4 x18 x4) ∗ owns c arg13 fullShare (rows8 (kHead x18 x4))) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d11, %f11, -, H11⟩, ⟨%d13, %f13, -, H13⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  isplitl [H11]
  · iexists _; isplitr
    swap; · iexact H11
    ipureintro
    sl_unfold_words
    refine (View.read_writes_full _ _ _ _ _).trans ?_
    try simp only [View.readAt_eq_ld, h4.read_unread, h18.read_unread, View.ld_unit_zero (S := S512x2048) hz2, View.ld_unit_zero (S := S1x2048x1024) hz3]
  iexists _; isplitr
  swap; · iexact H13
  ipureintro
  sl_unfold_words
  simp only [View.readAt_eq_ld, h4.read_unread, h18.read_unread, View.ld_unit_zero (S := S512x2048) hz2, View.ld_unit_zero (S := S1x2048x1024) hz3]
  exact read_rows8 _ _ (kHead x18 x4) _ _ _ _ _ _ _ _ _

set_option maxHeartbeats 2000000 in
/-- Column block 2. -/
theorem run_C (K : PUnit → sProp 𝕄) (hc0 : ¬(cond1 i)) (hc1 : ¬(k0_cond2 i = 1#1)) (hc2 : ¬(k0_cond3 i = 1#1)) (hc3 : k0_cond4 i = 1#1) (hc4 : ¬(k0_cond5 i = 1#1)) (hc5 : ¬(k0_cond6 i = 1#1)) (hc6 : ¬(k0_cond7 i = 1#1)) :
    iprop(owns c arg4 fullShare x4 ∗ owns c arg18 fullShare x18 ∗ (∃ d, owns c arg12 fullShare d) ∗ (∃ d, owns c arg14 fullShare d)
        ∗ (iprop(owns c arg4 fullShare x4 ∗ owns c arg18 fullShare x18 ∗ owns c arg12 fullShare (k0_pay13 x18 x4) ∗ owns c arg14 fullShare (rows8 (vHead x18 x4))) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d12, %f12, -, H12⟩, ⟨%d14, %f14, -, H14⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  isplitl [H12]
  · iexists _; isplitr
    swap; · iexact H12
    ipureintro
    sl_unfold_words
    refine (View.read_writes_full _ _ _ _ _).trans ?_
    try simp only [View.readAt_eq_ld, h4.read_unread, h18.read_unread, View.ld_unit_zero (S := S512x2048) hz2, View.ld_unit_zero (S := S1x2048x1024) hz3]
  iexists _; isplitr
  swap; · iexact H14
  ipureintro
  sl_unfold_words
  simp only [View.readAt_eq_ld, h4.read_unread, h18.read_unread, View.ld_unit_zero (S := S512x2048) hz2, View.ld_unit_zero (S := S1x2048x1024) hz3]
  exact read_rows8 _ _ (vHead x18 x4) _ _ _ _ _ _ _ _ _

set_option maxHeartbeats 2000000 in
/-- Column block 3. -/
theorem run_D (K : PUnit → sProp 𝕄) (hc0 : ¬(cond1 i)) (hc1 : ¬(k0_cond2 i = 1#1)) (hc2 : ¬(k0_cond3 i = 1#1)) (hc3 : ¬(k0_cond4 i = 1#1)) (hc4 : k0_cond5 i = 1#1) (hc5 : ¬(k0_cond6 i = 1#1)) (hc6 : ¬(k0_cond7 i = 1#1)) :
    iprop(owns c arg4 fullShare x4 ∗ owns c arg18 fullShare x18 ∗ (∃ d, owns c arg15 fullShare d)
        ∗ (iprop(owns c arg4 fullShare x4 ∗ owns c arg18 fullShare x18 ∗ owns c arg15 fullShare (k0_pay22 x18 x4)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d15, %f15, -, H15⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  iexists _; isplitr
  swap; · iexact H15
  ipureintro
  sl_unfold_words
  refine (View.read_writes_full _ _ _ _ _).trans ?_
  try simp only [View.readAt_eq_ld, h4.read_unread, h18.read_unread, View.ld_unit_zero (S := S512x2048) hz2, View.ld_unit_zero (S := S1x2048x1024) hz3]

set_option maxHeartbeats 2000000 in
/-- Column block 4. -/
theorem run_E (K : PUnit → sProp 𝕄) (hc0 : ¬(cond1 i)) (hc1 : ¬(k0_cond2 i = 1#1)) (hc2 : ¬(k0_cond3 i = 1#1)) (hc3 : ¬(k0_cond4 i = 1#1)) (hc4 : ¬(k0_cond5 i = 1#1)) (hc5 : k0_cond6 i = 1#1) (hc6 : ¬(k0_cond7 i = 1#1)) :
    iprop(owns c arg4 fullShare x4 ∗ owns c arg6 fullShare x6 ∗ owns c arg18 fullShare x18 ∗ (∃ d, owns c arg16 fullShare d)
        ∗ (iprop(owns c arg4 fullShare x4 ∗ owns c arg6 fullShare x6 ∗ owns c arg18 fullShare x18 ∗ owns c arg16 fullShare (k0_pay23 x18 x4 x6)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f6, %hf6, H6⟩, ⟨%f18, %hf18, H18⟩, ⟨%d16, %f16, -, H16⟩, Hk⟩
  obtain rfl := h4.eq_unread hf4; obtain rfl := h6.eq_unread hf6; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H6]
  · iexists _; isplitr
    swap; · iexact H6
    ipureintro
    exact h6.read_unread _
  isplitl [H18]
  · iexists _; isplitr
    swap; · iexact H18
    ipureintro
    exact h18.read_unread _
  iexists _; isplitr
  swap; · iexact H16
  ipureintro
  sl_unfold_words
  refine (View.read_writes_full _ _ _ _ _).trans ?_
  try simp only [View.readAt_eq_ld, h4.read_unread, h6.read_unread, h18.read_unread, View.ld_unit_zero (S := S512x2048) hz2, View.ld_unit_zero (S := S1x1024) hz2, View.ld_unit_zero (S := S1x2048x1024) hz3]

set_option maxHeartbeats 2000000 in
/-- Column block 5 or later. -/
theorem run_G (K : PUnit → sProp 𝕄) (hc0 : ¬(cond1 i)) (hc1 : ¬(k0_cond2 i = 1#1)) (hc2 : ¬(k0_cond3 i = 1#1)) (hc3 : ¬(k0_cond4 i = 1#1)) (hc4 : ¬(k0_cond5 i = 1#1)) (hc5 : ¬(k0_cond6 i = 1#1)) (hc6 : k0_cond7 i = 1#1) :
    iprop(owns c arg4 fullShare x4 ∗ owns c arg5 fullShare x5 ∗ owns c arg18 fullShare x18 ∗ (∃ d, owns c arg17 fullShare d)
        ∗ (iprop(owns c arg4 fullShare x4 ∗ owns c arg5 fullShare x5 ∗ owns c arg18 fullShare x18 ∗ owns c arg17 fullShare (k0_pay24 x18 x4 x5)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f5, %hf5, H5⟩, ⟨%f18, %hf18, H18⟩, ⟨%d17, %f17, -, H17⟩, Hk⟩
  obtain rfl := h4.eq_unread hf4; obtain rfl := h5.eq_unread hf5; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H5]
  · iexists _; isplitr
    swap; · iexact H5
    ipureintro
    exact h5.read_unread _
  isplitl [H18]
  · iexists _; isplitr
    swap; · iexact H18
    ipureintro
    exact h18.read_unread _
  iexists _; isplitr
  swap; · iexact H17
  ipureintro
  sl_unfold_words
  refine (View.read_writes_full _ _ _ _ _).trans ?_
  try simp only [View.readAt_eq_ld, h4.read_unread, h5.read_unread, h18.read_unread, View.ld_unit_zero (S := S512x2048) hz2, View.ld_unit_zero (S := S1x1024) hz2, View.ld_unit_zero (S := S1x2048x1024) hz3]

end Cert.ProjIdeal.Frm

end
-- ==== Proof.Proj.Frame.lean ====
/-
  The projection: what every buffer holds point by point, and the run.
-/
module

public import proofs.«01_k».proof.Proof.Proj.Run
public import Idealize.ShloMosaic.Lib.Claim

@[expose] public section

set_option maxRecDepth 16384

noncomputable section

namespace Cert.ProjIdeal.Frm

open Cert.ProjIdeal Cert.ProjIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of row block `i` and column block `j`. -/
def pt (i j : ℕ) : Fin cfg0.N := ⟨(9 * i + j) % 36, lt_of_lt_of_eq (Nat.mod_lt _ (by decide)) (show 36 = cfg0.N from N_0.symm)⟩

theorem pt_eq (t : Fin cfg0.N) (j : ℕ) (h : t.val % 9 = j) : pt (t.val / 9) j = t := by
  have ht : t.val < 36 := lt_of_lt_of_eq t.isLt (show cfg0.N = 36 from N_0)
  refine Fin.ext ?_
  show (9 * (t.val / 9) + j) % 36 = t.val
  omega

/-- The normalized rows of row block `i`. -/
def scr (c : Dev nD) (i : ℕ) : Vec F S512x2048 .bf16 := k0_pay1 (iblk m c 0 (pt i 0)) (iblk m c 1 (pt i 0))

/-- The weights' block of row block `i` and column block `j`. -/
abbrev wt (c : Dev nD) (i j : ℕ) : Vec F S1x2048x1024 .bf16 := iblk m c 2 (pt i j)

/-- The invariant before point `n`: between the points of one row block its normalized rows are kept. -/
def PhiS (c : Dev nD) (n : ℕ) : sProp 𝕄 :=
  if n % 9 = 0 then Pipeline.ΦA spec0 c
  else iprop(owns (c : Thread nD τ) scM fullShare (scr m c (n / 9)) ∗ (∃ r, prngReg c r))

/-- What each window's buffer holds after the body: an input its block; an output what the row block's point that
    stores into it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (scr m c (t.val / 9)) (wt m c (t.val / 9) 0)
    | ⟨6, _⟩ => k0_pay4 (scr m c (t.val / 9)) (wt m c (t.val / 9) 1)
    | ⟨7, _⟩ => k0_pay13 (scr m c (t.val / 9)) (wt m c (t.val / 9) 2)
    | ⟨8, _⟩ => rows8 (kHead (scr m c (t.val / 9)) (wt m c (t.val / 9) 1))
    | ⟨9, _⟩ => rows8 (vHead (scr m c (t.val / 9)) (wt m c (t.val / 9) 2))
    | ⟨10, _⟩ => k0_pay22 (scr m c (t.val / 9)) (wt m c (t.val / 9) 3)
    | ⟨11, _⟩ => k0_pay23 (scr m c (t.val / 9)) (wt m c (t.val / 9) 4) (iblk m c 4 (pt (t.val / 9) 4))
    | ⟨12, _⟩ => k0_pay24 (scr m c (t.val / 9)) (iblk m c 2 t) (iblk m c 3 t)
  Φ t := PhiS m c t.val
  q _ := fullShare
  owed _ := 0

theorem A_eq (c : Dev nD) (w : Fin cfg0.W) : (dats m 0 c).A w = V m c (Pipeline.arrRef spec0 w) := by
  dsimp only [dats]

variable (c : Dev nD) (t : Fin cfg0.N)

theorem before_0 (d) : (dats m 0 c).before 0 t d = iblk m c 0 t :=
  (dats m 0 c).before_in_eq_fetched 0 rfl (fun _ => rfl) (fun _ _ _ => rfl) (fun _ => rfl) t d
theorem before_1 (d) : (dats m 0 c).before 1 t d = iblk m c 1 t :=
  (dats m 0 c).before_in_eq_fetched 1 rfl (fun _ => rfl) (fun _ _ _ => rfl) (fun _ => rfl) t d
theorem before_2 (d) : (dats m 0 c).before 2 t d = iblk m c 2 t :=
  (dats m 0 c).before_in_eq_fetched 2 rfl (fun _ => rfl) (fun _ _ _ => rfl) (fun _ => rfl) t d
theorem before_3 (d) : (dats m 0 c).before 3 t d = iblk m c 3 t :=
  (dats m 0 c).before_in_eq_fetched 3 rfl (fun _ => rfl) (fun _ _ _ => rfl) (fun _ => rfl) t d
theorem before_4 (d) : (dats m 0 c).before 4 t d = iblk m c 4 t :=
  (dats m 0 c).before_in_eq_fetched 4 rfl (fun _ => rfl) (fun _ _ _ => rfl) (fun _ => rfl) t d
theorem after_5 : (dats m 0 c).after 5 t = k0_pay3 (scr m c (t.val / 9)) (wt m c (t.val / 9) 0) := by dsimp only [dats]
theorem after_5_at (h : t.val % 9 = 0) : (dats m 0 c).after 5 t = k0_pay3 (scr m c (t.val / 9)) (iblk m c 2 t) := by rw [after_5, wt, pt_eq t 0 h]
theorem after_6 : (dats m 0 c).after 6 t = k0_pay4 (scr m c (t.val / 9)) (wt m c (t.val / 9) 1) := by dsimp only [dats]
theorem after_6_at (h : t.val % 9 = 1) : (dats m 0 c).after 6 t = k0_pay4 (scr m c (t.val / 9)) (iblk m c 2 t) := by rw [after_6, wt, pt_eq t 1 h]
theorem after_7 : (dats m 0 c).after 7 t = k0_pay13 (scr m c (t.val / 9)) (wt m c (t.val / 9) 2) := by dsimp only [dats]
theorem after_7_at (h : t.val % 9 = 2) : (dats m 0 c).after 7 t = k0_pay13 (scr m c (t.val / 9)) (iblk m c 2 t) := by rw [after_7, wt, pt_eq t 2 h]
theorem after_8 : (dats m 0 c).after 8 t = rows8 (kHead (scr m c (t.val / 9)) (wt m c (t.val / 9) 1)) := by dsimp only [dats]
theorem after_8_at (h : t.val % 9 = 1) : (dats m 0 c).after 8 t = rows8 (kHead (scr m c (t.val / 9)) (iblk m c 2 t)) := by rw [after_8, wt, pt_eq t 1 h]
theorem after_9 : (dats m 0 c).after 9 t = rows8 (vHead (scr m c (t.val / 9)) (wt m c (t.val / 9) 2)) := by dsimp only [dats]
theorem after_9_at (h : t.val % 9 = 2) : (dats m 0 c).after 9 t = rows8 (vHead (scr m c (t.val / 9)) (iblk m c 2 t)) := by rw [after_9, wt, pt_eq t 2 h]
theorem after_10 : (dats m 0 c).after 10 t = k0_pay22 (scr m c (t.val / 9)) (wt m c (t.val / 9) 3) := by dsimp only [dats]
theorem after_10_at (h : t.val % 9 = 3) : (dats m 0 c).after 10 t = k0_pay22 (scr m c (t.val / 9)) (iblk m c 2 t) := by rw [after_10, wt, pt_eq t 3 h]
theorem after_11 : (dats m 0 c).after 11 t = k0_pay23 (scr m c (t.val / 9)) (wt m c (t.val / 9) 4) (iblk m c 4 (pt (t.val / 9) 4)) := by dsimp only [dats]
theorem after_11_at (h : t.val % 9 = 4) : (dats m 0 c).after 11 t = k0_pay23 (scr m c (t.val / 9)) (iblk m c 2 t) (iblk m c 4 t) := by rw [after_11, wt, pt_eq t 4 h]
theorem after_12 : (dats m 0 c).after 12 t = k0_pay24 (scr m c (t.val / 9)) (iblk m c 2 t) (iblk m c 3 t) := by dsimp only [dats]

theorem scr_at (h : t.val % 9 = 0) : scr m c (t.val / 9) = k0_pay1 (iblk m c 0 t) (iblk m c 1 t) := by
  unfold scr; rw [pt_eq t 0 h]

/-! ## What a point finds in an output's buffer after the row block's point that stores into it -/

/-- From the point after the storing one to the row block's last an output's buffer holds what was stored. -/
theorem before_out {c : Dev nD} (dat : Dat τ (Elt F) Unit ℕ (UR sig nD τ) ℕ cfg0 c) (w : Fin cfg0.W) (j : ℕ)
    (hout : (cfg0.win w).isOut = true) (hfl : ∀ t, (cfg0.win w).flush t = true ↔ t.val % 9 = 8)
    (hidle : ∀ t : Fin cfg0.N, cfg0.idle w (cfg0.grid.coords t) = true ↔ t.val % 9 ≠ j)
    (haft : ∀ t t' : Fin cfg0.N, t.val / 9 = t'.val / 9 → dat.after w t = dat.after w t')
    (hkept : ∀ t d, dat.kept w t d = dat.after w t) :
    ∀ (n : ℕ) (hn : n < cfg0.N) (d), j < n % 9 → dat.before w ⟨n, hn⟩ d = dat.after w ⟨n, hn⟩ := by
  intro n
  induction n with
  | zero => intro hn d h; exact absurd h (by omega)
  | succ n ih =>
    intro hn d h
    have hn' : n < cfg0.N := Nat.lt_of_succ_lt hn
    rw [dat.before_of_pos w ⟨n + 1, hn⟩ (Nat.succ_ne_zero n) ((cfg0.win w).fetch_out hout ⟨n + 1, hn⟩) d]
    show (if (cfg0.win w).flush ⟨n, hn'⟩ then d else dat.left w ⟨n, hn'⟩ d) = _
    have hnf : ¬((cfg0.win w).flush ⟨n, hn'⟩ = true) := fun hh => by have h8 : n % 9 = 8 := (hfl ⟨n, hn'⟩).mp hh; omega
    rw [if_neg hnf, haft ⟨n + 1, hn⟩ ⟨n, hn'⟩ (by show (n + 1) / 9 = n / 9; have h8 : ¬(n % 9 = 8) := fun hh => hnf ((hfl ⟨n, hn'⟩).mpr hh); omega)]
    unfold Dat.left
    by_cases hj : n % 9 = j
    · have hi : cfg0.idle w (cfg0.grid.coords ⟨n, hn'⟩) = false := by
        by_contra hne
        exact (hidle ⟨n, hn'⟩).mp (by revert hne; cases cfg0.idle w (cfg0.grid.coords ⟨n, hn'⟩) <;> simp) hj
      rw [hi]; exact hkept _ _
    · have hi : cfg0.idle w (cfg0.grid.coords ⟨n, hn'⟩) = true := (hidle ⟨n, hn'⟩).mpr hj
      rw [hi]; exact ih hn' d (by omega)

/-- A buffer the body does not store into, handed back. -/
theorem pass {c : Dev nD} (dat : Dat τ (Elt F) Unit ℕ (UR sig nD τ) ℕ cfg0 c) (w : Fin cfg0.W) (t : Fin cfg0.N)
    (hi : cfg0.idle w (cfg0.grid.coords t) = true)
    (hb : (cfg0.win w).flush t = true → ∀ d, dat.before w t d = dat.after w t) :
    (iprop(∃ d, owns c ((cfg0.win w).stage (cfg0.slots t w)) fullShare (dat.before w t d)) : sProp 𝕄) ⊢ dat.leavesExact w t := by
  unfold Dat.leavesExact
  rw [hi]
  cases hf : (cfg0.win w).flush t with
  | false => exact .rfl
  | true =>
    iintro ⟨%d, H⟩
    rw [hb hf d]
    iexact H

/-- A buffer the body stores into, or an input's. -/
theorem live {c : Dev nD} (dat : Dat τ (Elt F) Unit ℕ (UR sig nD τ) ℕ cfg0 c) (w : Fin cfg0.W) (t : Fin cfg0.N)
    (hi : ¬(cfg0.idle w (cfg0.grid.coords t) = true)) (d) (hd : dat.after w t = d) :
    (owns c ((cfg0.win w).stage (cfg0.slots t w)) fullShare d : sProp 𝕄) ⊢ dat.leavesExact w t := by
  subst hd
  unfold Dat.leavesExact
  rw [Bool.eq_false_iff.mpr hi]

/-! ## Window by window: `put` where the body stores into it, `keep` where it does not -/

/-- What window `w`'s buffer is left with. -/
abbrev lv (w : Fin cfg0.W) : sProp 𝕄 := (dats m 0 c).leavesExact w t

theorem idle_5 (t : Fin cfg0.N) : cfg0.idle 5 (cfg0.grid.coords t) = true ↔ t.val % 9 ≠ 0 := by
  show (!(k0_cond2 (grid0.coords t) == 1#1)) = true ↔ _
  rw [Bool.not_eq_true', beq_eq_false_iff_ne, Ne, hk0_cond2 t]
theorem put_5 (h : t.val % 9 = 0) : owns c (ms5 t) fullShare (k0_pay3 (scr m c (t.val / 9)) (iblk m c 2 t)) ⊢ lv m c t 5 :=
  live (dats m 0 c) 5 t (fun hh => (idle_5 t).mp hh h) _ (after_5_at m c t h)
theorem keep_5 (h : t.val % 9 ≠ 0) : (iprop(∃ d, owns c (ms5 t) fullShare ((dats m 0 c).before 5 t d)) : sProp 𝕄) ⊢ lv m c t 5 :=
  pass (dats m 0 c) 5 t ((idle_5 t).mpr h) (fun hf d => before_out (dats m 0 c) 5 0 rfl flush0_5 idle_5
    (fun t t' e => by rw [after_5, after_5, e]) (fun _ _ => rfl) t.val t.isLt d (by have := (flush0_5 t).mp hf; omega))

theorem idle_6 (t : Fin cfg0.N) : cfg0.idle 6 (cfg0.grid.coords t) = true ↔ t.val % 9 ≠ 1 := by
  show (!(k0_cond3 (grid0.coords t) == 1#1)) = true ↔ _
  rw [Bool.not_eq_true', beq_eq_false_iff_ne, Ne, hk0_cond3 t]
theorem put_6 (h : t.val % 9 = 1) : owns c (ms6 t) fullShare (k0_pay4 (scr m c (t.val / 9)) (iblk m c 2 t)) ⊢ lv m c t 6 :=
  live (dats m 0 c) 6 t (fun hh => (idle_6 t).mp hh h) _ (after_6_at m c t h)
theorem keep_6 (h : t.val % 9 ≠ 1) : (iprop(∃ d, owns c (ms6 t) fullShare ((dats m 0 c).before 6 t d)) : sProp 𝕄) ⊢ lv m c t 6 :=
  pass (dats m 0 c) 6 t ((idle_6 t).mpr h) (fun hf d => before_out (dats m 0 c) 6 1 rfl flush0_6 idle_6
    (fun t t' e => by rw [after_6, after_6, e]) (fun _ _ => rfl) t.val t.isLt d (by have := (flush0_6 t).mp hf; omega))

theorem idle_7 (t : Fin cfg0.N) : cfg0.idle 7 (cfg0.grid.coords t) = true ↔ t.val % 9 ≠ 2 := by
  show (!(k0_cond4 (grid0.coords t) == 1#1)) = true ↔ _
  rw [Bool.not_eq_true', beq_eq_false_iff_ne, Ne, hk0_cond4 t]
theorem put_7 (h : t.val % 9 = 2) : owns c (ms7 t) fullShare (k0_pay13 (scr m c (t.val / 9)) (iblk m c 2 t)) ⊢ lv m c t 7 :=
  live (dats m 0 c) 7 t (fun hh => (idle_7 t).mp hh h) _ (after_7_at m c t h)
theorem keep_7 (h : t.val % 9 ≠ 2) : (iprop(∃ d, owns c (ms7 t) fullShare ((dats m 0 c).before 7 t d)) : sProp 𝕄) ⊢ lv m c t 7 :=
  pass (dats m 0 c) 7 t ((idle_7 t).mpr h) (fun hf d => before_out (dats m 0 c) 7 2 rfl flush0_7 idle_7
    (fun t t' e => by rw [after_7, after_7, e]) (fun _ _ => rfl) t.val t.isLt d (by have := (flush0_7 t).mp hf; omega))

theorem idle_8 (t : Fin cfg0.N) : cfg0.idle 8 (cfg0.grid.coords t) = true ↔ t.val % 9 ≠ 1 := by
  show (!(k0_cond3 (grid0.coords t) == 1#1)) = true ↔ _
  rw [Bool.not_eq_true', beq_eq_false_iff_ne, Ne, hk0_cond3 t]
theorem put_8 (h : t.val % 9 = 1) : owns c (ms8 t) fullShare (rows8 (kHead (scr m c (t.val / 9)) (iblk m c 2 t))) ⊢ lv m c t 8 :=
  live (dats m 0 c) 8 t (fun hh => (idle_8 t).mp hh h) _ (after_8_at m c t h)
theorem keep_8 (h : t.val % 9 ≠ 1) : (iprop(∃ d, owns c (ms8 t) fullShare ((dats m 0 c).before 8 t d)) : sProp 𝕄) ⊢ lv m c t 8 :=
  pass (dats m 0 c) 8 t ((idle_8 t).mpr h) (fun hf d => before_out (dats m 0 c) 8 1 rfl flush0_8 idle_8
    (fun t t' e => by rw [after_8, after_8, e]) (fun _ _ => rfl) t.val t.isLt d (by have := (flush0_8 t).mp hf; omega))

theorem idle_9 (t : Fin cfg0.N) : cfg0.idle 9 (cfg0.grid.coords t) = true ↔ t.val % 9 ≠ 2 := by
  show (!(k0_cond4 (grid0.coords t) == 1#1)) = true ↔ _
  rw [Bool.not_eq_true', beq_eq_false_iff_ne, Ne, hk0_cond4 t]
theorem put_9 (h : t.val % 9 = 2) : owns c (ms9 t) fullShare (rows8 (vHead (scr m c (t.val / 9)) (iblk m c 2 t))) ⊢ lv m c t 9 :=
  live (dats m 0 c) 9 t (fun hh => (idle_9 t).mp hh h) _ (after_9_at m c t h)
theorem keep_9 (h : t.val % 9 ≠ 2) : (iprop(∃ d, owns c (ms9 t) fullShare ((dats m 0 c).before 9 t d)) : sProp 𝕄) ⊢ lv m c t 9 :=
  pass (dats m 0 c) 9 t ((idle_9 t).mpr h) (fun hf d => before_out (dats m 0 c) 9 2 rfl flush0_9 idle_9
    (fun t t' e => by rw [after_9, after_9, e]) (fun _ _ => rfl) t.val t.isLt d (by have := (flush0_9 t).mp hf; omega))

theorem idle_10 (t : Fin cfg0.N) : cfg0.idle 10 (cfg0.grid.coords t) = true ↔ t.val % 9 ≠ 3 := by
  show (!(k0_cond5 (grid0.coords t) == 1#1)) = true ↔ _
  rw [Bool.not_eq_true', beq_eq_false_iff_ne, Ne, hk0_cond5 t]
theorem put_10 (h : t.val % 9 = 3) : owns c (ms10 t) fullShare (k0_pay22 (scr m c (t.val / 9)) (iblk m c 2 t)) ⊢ lv m c t 10 :=
  live (dats m 0 c) 10 t (fun hh => (idle_10 t).mp hh h) _ (after_10_at m c t h)
theorem keep_10 (h : t.val % 9 ≠ 3) : (iprop(∃ d, owns c (ms10 t) fullShare ((dats m 0 c).before 10 t d)) : sProp 𝕄) ⊢ lv m c t 10 :=
  pass (dats m 0 c) 10 t ((idle_10 t).mpr h) (fun hf d => before_out (dats m 0 c) 10 3 rfl flush0_10 idle_10
    (fun t t' e => by rw [after_10, after_10, e]) (fun _ _ => rfl) t.val t.isLt d (by have := (flush0_10 t).mp hf; omega))

theorem idle_11 (t : Fin cfg0.N) : cfg0.idle 11 (cfg0.grid.coords t) = true ↔ t.val % 9 ≠ 4 := by
  show (!(k0_cond6 (grid0.coords t) == 1#1)) = true ↔ _
  rw [Bool.not_eq_true', beq_eq_false_iff_ne, Ne, hk0_cond6 t]
theorem put_11 (h : t.val % 9 = 4) : owns c (ms11 t) fullShare (k0_pay23 (scr m c (t.val / 9)) (iblk m c 2 t) (iblk m c 4 t)) ⊢ lv m c t 11 :=
  live (dats m 0 c) 11 t (fun hh => (idle_11 t).mp hh h) _ (after_11_at m c t h)
theorem keep_11 (h : t.val % 9 ≠ 4) : (iprop(∃ d, owns c (ms11 t) fullShare ((dats m 0 c).before 11 t d)) : sProp 𝕄) ⊢ lv m c t 11 :=
  pass (dats m 0 c) 11 t ((idle_11 t).mpr h) (fun hf d => before_out (dats m 0 c) 11 4 rfl flush0_11 idle_11
    (fun t t' e => by rw [after_11, after_11, e]) (fun _ _ => rfl) t.val t.isLt d (by have := (flush0_11 t).mp hf; omega))

theorem idle_12 (t : Fin cfg0.N) : cfg0.idle 12 (cfg0.grid.coords t) = true ↔ t.val % 9 < 5 := by
  show (!(k0_cond7 (grid0.coords t) == 1#1)) = true ↔ _
  rw [Bool.not_eq_true', beq_eq_false_iff_ne, Ne, hk0_cond7 t]; omega
theorem put_12 (h : 5 ≤ t.val % 9) : owns c (ms12 t) fullShare (k0_pay24 (scr m c (t.val / 9)) (iblk m c 2 t) (iblk m c 3 t)) ⊢ lv m c t 12 :=
  live (dats m 0 c) 12 t (fun hh => by have := (idle_12 t).mp hh; omega) _ (after_12 m c t)
theorem flush_12 : ∀ t : Fin cfg0.N, (cfg0.win 12).flush t = true → 5 ≤ t.val % 9 :=
  (by decide +kernel : ∀ t : Fin grid0.N, win0_12.flush t = true → 5 ≤ t.val % 9)
theorem keep_12 (h : t.val % 9 < 5) : (iprop(∃ d, owns c (ms12 t) fullShare ((dats m 0 c).before 12 t d)) : sProp 𝕄) ⊢ lv m c t 12 :=
  pass (dats m 0 c) 12 t ((idle_12 t).mpr h) (fun hf => by have := flush_12 t hf; omega)

/-! ## The body obligation -/

theorem phi_first (h : t.val % 9 = 0) :
    (dats m 0 c).Φ t.castSucc = iprop(iprop((∃ d, owns c scM fullShare d)) ∗ (∃ r, prngReg c r)) := by
  show PhiS m c t.val = _
  unfold PhiS
  rw [if_pos h, PhiA_eq]

theorem phi_later (h : ¬(t.val % 9 = 0)) :
    (dats m 0 c).Φ t.castSucc = iprop(owns c scM fullShare (scr m c (t.val / 9)) ∗ (∃ r, prngReg c r)) := by
  show PhiS m c t.val = _
  unfold PhiS
  rw [if_neg h]

theorem phi_next :
    (iprop(owns c scM fullShare (scr m c (t.val / 9)) ∗ (∃ r, prngReg c r)) : sProp 𝕄) ⊢ (dats m 0 c).Φ t.succ := by
  show _ ⊢ PhiS m c (t.val + 1)
  unfold PhiS
  by_cases h : (t.val + 1) % 9 = 0
  · rw [if_pos h, PhiA_eq]
    iintro ⟨HS, Hg⟩
    isplitl [HS]
    · iexists _; iexact HS
    iexact Hg
  · rw [if_neg h, (by omega : (t.val + 1) / 9 = t.val / 9)]

/-- What the body is called with at a point, -/
def bodyPre : sProp 𝕄 :=
  iprop((dats m 0 c).Φ t.castSucc ∗ (dats m 0 c).owesAt () t.castSucc
    ∗ (∃ d, owns c (ms0 t) fullShare ((dats m 0 c).before 0 t d))
    ∗ (∃ d, owns c (ms1 t) fullShare ((dats m 0 c).before 1 t d))
    ∗ (∃ d, owns c (ms2 t) fullShare ((dats m 0 c).before 2 t d))
    ∗ (∃ d, owns c (ms3 t) fullShare ((dats m 0 c).before 3 t d))
    ∗ (∃ d, owns c (ms4 t) fullShare ((dats m 0 c).before 4 t d))
    ∗ (∃ d, owns c (ms5 t) fullShare ((dats m 0 c).before 5 t d))
    ∗ (∃ d, owns c (ms6 t) fullShare ((dats m 0 c).before 6 t d))
    ∗ (∃ d, owns c (ms7 t) fullShare ((dats m 0 c).before 7 t d))
    ∗ (∃ d, owns c (ms8 t) fullShare ((dats m 0 c).before 8 t d))
    ∗ (∃ d, owns c (ms9 t) fullShare ((dats m 0 c).before 9 t d))
    ∗ (∃ d, owns c (ms10 t) fullShare ((dats m 0 c).before 10 t d))
    ∗ (∃ d, owns c (ms11 t) fullShare ((dats m 0 c).before 11 t d))
    ∗ (∃ d, owns c (ms12 t) fullShare ((dats m 0 c).before 12 t d)))

/-- and what it returns. -/
def bodyPost : sProp 𝕄 :=
  iprop((dats m 0 c).Φ t.succ ∗ (dats m 0 c).owesAt () t.succ
    ∗ lv m c t 0 ∗ lv m c t 1 ∗ lv m c t 2 ∗ lv m c t 3 ∗ lv m c t 4 ∗ lv m c t 5 ∗ lv m c t 6 ∗ lv m c t 7 ∗ lv m c t 8 ∗ lv m c t 9 ∗ lv m c t 10 ∗ lv m c t 11 ∗ lv m c t 12)

set_option maxHeartbeats 2000000 in
/-- What it returns, from the kept rows, the inputs' blocks and each output's buffer. -/
theorem post {P5 P6 P7 P8 P9 P10 P11 P12 : sProp 𝕄} (e5 : P5 ⊢ lv m c t 5) (e6 : P6 ⊢ lv m c t 6) (e7 : P7 ⊢ lv m c t 7) (e8 : P8 ⊢ lv m c t 8) (e9 : P9 ⊢ lv m c t 9) (e10 : P10 ⊢ lv m c t 10) (e11 : P11 ⊢ lv m c t 11) (e12 : P12 ⊢ lv m c t 12) :
    iprop((owns c scM fullShare (scr m c (t.val / 9)) ∗ (∃ r, prngReg c r)) ∗ (dats m 0 c).owesAt () t.castSucc
      ∗ owns c (ms0 t) fullShare (iblk m c 0 t) ∗ owns c (ms1 t) fullShare (iblk m c 1 t) ∗ owns c (ms2 t) fullShare (iblk m c 2 t) ∗ owns c (ms3 t) fullShare (iblk m c 3 t) ∗ owns c (ms4 t) fullShare (iblk m c 4 t)
      ∗ P5 ∗ P6 ∗ P7 ∗ P8 ∗ P9 ∗ P10 ∗ P11 ∗ P12) ⊢ bodyPost m c t := by
  have a0 := live (dats m 0 c) 0 t (fun hh => Bool.false_ne_true hh) (iblk m c 0 t) (by dsimp only [dats])
  have a1 := live (dats m 0 c) 1 t (fun hh => Bool.false_ne_true hh) (iblk m c 1 t) (by dsimp only [dats])
  have a2 := live (dats m 0 c) 2 t (fun hh => Bool.false_ne_true hh) (iblk m c 2 t) (by dsimp only [dats])
  have a3 := live (dats m 0 c) 3 t (fun hh => Bool.false_ne_true hh) (iblk m c 3 t) (by dsimp only [dats])
  have a4 := live (dats m 0 c) 4 t (fun hh => Bool.false_ne_true hh) (iblk m c 4 t) (by dsimp only [dats])
  unfold bodyPost
  rw [show (dats m 0 c).owesAt () t.succ = (dats m 0 c).owesAt () t.castSucc from rfl]
  iintro ⟨⟨HS, Hg⟩, Ho, H0, H1, H2, H3, H4, H5, H6, H7, H8, H9, H10, H11, H12⟩
  isplitl [HS Hg]; · (iapply (phi_next m c t); iframe)
  isplitl [Ho]; · iexact Ho
  isplitl [H0]; · (iapply a0; iexact H0)
  isplitl [H1]; · (iapply a1; iexact H1)
  isplitl [H2]; · (iapply a2; iexact H2)
  isplitl [H3]; · (iapply a3; iexact H3)
  isplitl [H4]; · (iapply a4; iexact H4)
  isplitl [H5]; · (iapply e5; iexact H5)
  isplitl [H6]; · (iapply e6; iexact H6)
  isplitl [H7]; · (iapply e7; iexact H7)
  isplitl [H8]; · (iapply e8; iexact H8)
  isplitl [H9]; · (iapply e9; iexact H9)
  isplitl [H10]; · (iapply e10; iexact H10)
  isplitl [H11]; · (iapply e11; iexact H11)
  iapply e12; iexact H12

/-- The body takes the one to the other. -/
abbrev Sound : Prop :=
  bodyPre m c t ⊢ wp frame (wpE (defs₀ (F := F)) Variants.none c none) Set.univ (bodyAt0 t) (fun _ => bodyPost m c t)

set_option maxHeartbeats 2000000 in
theorem sound_A (h : t.val % 9 = 0) : Sound m c t := by
  have ep := post m c t (put_5 m c t h) (keep_6 m c t (by omega)) (keep_7 m c t (by omega)) (keep_8 m c t (by omega)) (keep_9 m c t (by omega)) (keep_10 m c t (by omega)) (keep_11 m c t (by omega)) (keep_12 m c t (by omega))
  rw [scr_at m c t h] at ep
  unfold Sound bodyPre bodyAt0
  simp only [before_0, before_1, before_2, before_3, before_4]
  rw [phi_first m c t h]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_A c (grid0.coords t) _ _ _ _ _ _ _ _ _ _ _ _ _ _ _ _ _ (iblk m c 0 t) (iblk m c 1 t) (iblk m c 2 t) Set.univ _ ((hcond1 t).mpr h) ((hk0_cond2 t).mpr h) (mt (hk0_cond3 t).mp (by omega)) (mt (hk0_cond4 t).mp (by omega)) (mt (hk0_cond5 t).mp (by omega)) (mt (hk0_cond6 t).mp (by omega)) (mt (hk0_cond7 t).mp (by omega)))
  isplitl [H0]; · iexact H0
  isplitl [H1]; · iexact H1
  isplitl [H2]; · iexact H2
  isplitl [H5]; · (icases H5 with ⟨%dd, H5⟩; iexists _; iexact H5)
  isplitl [HS]; · iexact HS
  iintro ⟨H0, H1, H2, H5, HS⟩
  iapply ep
  iframe

set_option maxHeartbeats 2000000 in
theorem sound_B (h : t.val % 9 = 1) : Sound m c t := by
  have ep := post m c t (keep_5 m c t (by omega)) (put_6 m c t h) (keep_7 m c t (by omega)) (put_8 m c t h) (keep_9 m c t (by omega)) (keep_10 m c t (by omega)) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_B c (grid0.coords t) _ _ _ _ _ _ _ _ _ _ _ _ _ _ _ _ _ (iblk m c 2 t) (scr m c (t.val / 9)) Set.univ _ (mt (hcond1 t).mp (by omega)) (mt (hk0_cond2 t).mp (by omega)) ((hk0_cond3 t).mpr h) (mt (hk0_cond4 t).mp (by omega)) (mt (hk0_cond5 t).mp (by omega)) (mt (hk0_cond6 t).mp (by omega)) (mt (hk0_cond7 t).mp (by omega)))
  isplitl [H2]; · iexact H2
  isplitl [HS]; · iexact HS
  isplitl [H6]; · (icases H6 with ⟨%dd, H6⟩; iexists _; iexact H6)
  isplitl [H8]; · (icases H8 with ⟨%dd, H8⟩; iexists _; iexact H8)
  iintro ⟨H2, HS, H6, H8⟩
  iapply ep
  iframe

set_option maxHeartbeats 2000000 in
theorem sound_C (h : t.val % 9 = 2) : Sound m c t := by
  have ep := post m c t (keep_5 m c t (by omega)) (keep_6 m c t (by omega)) (put_7 m c t h) (keep_8 m c t (by omega)) (put_9 m c t h) (keep_10 m c t (by omega)) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_C c (grid0.coords t) _ _ _ _ _ _ _ _ _ _ _ _ _ _ _ _ _ (iblk m c 2 t) (scr m c (t.val / 9)) Set.univ _ (mt (hcond1 t).mp (by omega)) (mt (hk0_cond2 t).mp (by omega)) (mt (hk0_cond3 t).mp (by omega)) ((hk0_cond4 t).mpr h) (mt (hk0_cond5 t).mp (by omega)) (mt (hk0_cond6 t).mp (by omega)) (mt (hk0_cond7 t).mp (by omega)))
  isplitl [H2]; · iexact H2
  isplitl [HS]; · iexact HS
  isplitl [H7]; · (icases H7 with ⟨%dd, H7⟩; iexists _; iexact H7)
  isplitl [H9]; · (icases H9 with ⟨%dd, H9⟩; iexists _; iexact H9)
  iintro ⟨H2, HS, H7, H9⟩
  iapply ep
  iframe

set_option maxHeartbeats 2000000 in
theorem sound_D (h : t.val % 9 = 3) : Sound m c t := by
  have ep := post m c t (keep_5 m c t (by omega)) (keep_6 m c t (by omega)) (keep_7 m c t (by omega)) (keep_8 m c t (by omega)) (keep_9 m c t (by omega)) (put_10 m c t h) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_D c (grid0.coords t) _ _ _ _ _ _ _ _ _ _ _ _ _ _ _ _ _ (iblk m c 2 t) (scr m c (t.val / 9)) Set.univ _ (mt (hcond1 t).mp (by omega)) (mt (hk0_cond2 t).mp (by omega)) (mt (hk0_cond3 t).mp (by omega)) (mt (hk0_cond4 t).mp (by omega)) ((hk0_cond5 t).mpr h) (mt (hk0_cond6 t).mp (by omega)) (mt (hk0_cond7 t).mp (by omega)))
  isplitl [H2]; · iexact H2
  isplitl [HS]; · iexact HS
  isplitl [H10]; · (icases H10 with ⟨%dd, H10⟩; iexists _; iexact H10)
  iintro ⟨H2, HS, H10⟩
  iapply ep
  iframe

set_option maxHeartbeats 2000000 in
theorem sound_E (h : t.val % 9 = 4) : Sound m c t := by
  have ep := post m c t (keep_5 m c t (by omega)) (keep_6 m c t (by omega)) (keep_7 m c t (by omega)) (keep_8 m c t (by omega)) (keep_9 m c t (by omega)) (keep_10 m c t (by omega)) (put_11 m c t h) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_E c (grid0.coords t) _ _ _ _ _ _ _ _ _ _ _ _ _ _ _ _ _ (iblk m c 2 t) (iblk m c 4 t) (scr m c (t.val / 9)) Set.univ _ (mt (hcond1 t).mp (by omega)) (mt (hk0_cond2 t).mp (by omega)) (mt (hk0_cond3 t).mp (by omega)) (mt (hk0_cond4 t).mp (by omega)) (mt (hk0_cond5 t).mp (by omega)) ((hk0_cond6 t).mpr h) (mt (hk0_cond7 t).mp (by omega)))
  isplitl [H2]; · iexact H2
  isplitl [H4]; · iexact H4
  isplitl [HS]; · iexact HS
  isplitl [H11]; · (icases H11 with ⟨%dd, H11⟩; iexists _; iexact H11)
  iintro ⟨H2, H4, HS, H11⟩
  iapply ep
  iframe

set_option maxHeartbeats 2000000 in
theorem sound_G (h : 5 ≤ t.val % 9) : Sound m c t := by
  have ep := post m c t (keep_5 m c t (by omega)) (keep_6 m c t (by omega)) (keep_7 m c t (by omega)) (keep_8 m c t (by omega)) (keep_9 m c t (by omega)) (keep_10 m c t (by omega)) (keep_11 m c t (by omega)) (put_12 m c t h)
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_G c (grid0.coords t) _ _ _ _ _ _ _ _ _ _ _ _ _ _ _ _ _ (iblk m c 2 t) (iblk m c 3 t) (scr m c (t.val / 9)) Set.univ _ (mt (hcond1 t).mp (by omega)) (mt (hk0_cond2 t).mp (by omega)) (mt (hk0_cond3 t).mp (by omega)) (mt (hk0_cond4 t).mp (by omega)) (mt (hk0_cond5 t).mp (by omega)) (mt (hk0_cond6 t).mp (by omega)) ((hk0_cond7 t).mpr h))
  isplitl [H2]; · iexact H2
  isplitl [H3]; · iexact H3
  isplitl [HS]; · iexact HS
  isplitl [H12]; · (icases H12 with ⟨%dd, H12⟩; iexists _; iexact H12)
  iintro ⟨H2, H3, HS, H12⟩
  iapply ep
  iframe

theorem sound_body : Sound m c t := by
  rcases (by omega : t.val % 9 = 0 ∨ t.val % 9 = 1 ∨ t.val % 9 = 2 ∨ t.val % 9 = 3 ∨ t.val % 9 = 4 ∨ 5 ≤ t.val % 9) with h | h | h | h | h | h
  · exact sound_A m c t h
  · exact sound_B m c t h
  · exact sound_C m c t h
  · exact sound_D m c t h
  · exact sound_E m c t h
  · exact sound_G m c t h

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin : Pipeline.ΦA spec0 c ⊢ (dats (F := F) m 0 c).Φ 0 := by
  show _ ⊢ PhiS m c 0
  unfold PhiS
  rw [if_pos rfl]

theorem hout : (dats (F := F) m 0 c).Φ (Fin.last cfg0.N) ⊢ Pipeline.ΦA spec0 c := by
  show PhiS m c cfg0.N ⊢ _
  rw [show cfg0.N = 36 from N_0]
  unfold PhiS
  rw [if_pos rfl]

set_option backward.isDefEq.respectTransparency.types false in
/-- Every fair run of the program ends with every array at what the body's points wrote back, every other buffer as the
    region found it and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every argument's array is as it was. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_of (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_kept m c main_arg0))),
   ((h c).1 1).trans (((dats m 0 c).arrAt_in 1 rfl _).trans ((A_eq m c 1).trans (V_kept m c main_arg1))),
   ((h c).1 2).trans (((dats m 0 c).arrAt_in 2 rfl _).trans ((A_eq m c 2).trans (V_kept m c main_arg2))),
   ((h c).1 3).trans (((dats m 0 c).arrAt_in 3 rfl _).trans ((A_eq m c 3).trans (V_kept m c main_arg3))),
   ((h c).1 4).trans (((dats m 0 c).arrAt_in 4 rfl _).trans ((A_eq m c 4).trans (V_kept m c main_arg4))),
   ((h c).2 main_arg5 (Pipeline.mem_restRefs_of main_arg5 (by decide) (by decide))).trans (V_kept m c main_arg5),
   ((h c).2 main_arg6 (Pipeline.mem_restRefs_of main_arg6 (by decide) (by decide))).trans (V_kept m c main_arg6),
   ((h c).2 main_arg7 (Pipeline.mem_restRefs_of main_arg7 (by decide) (by decide))).trans (V_kept m c main_arg7)⟩

/-- The arguments end unchanged and the counters at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨kept_of m r h.1, h.2⟩) (run_all m ρ)

end Cert.ProjIdeal.Frm

end
-- ==== Proof.Proj.Streams.lean ====
/-
  The projection on extended reals: a row is normalised and taken through the last layer's weights, and the columns become the queries,
  keys, values, two lane groups of the gated unit, and the gates.
-/
module

public import proofs.«01_k».proof.Proof.Ffn.Mlp

@[expose] public section

set_option maxRecDepth 16384

noncomputable section

namespace Cert.Streams

open Idealize.ShloMosaic Idealize.ShloMosaic.ValueIdx Cert.Mlp
open scoped BigOperators

abbrev Weights : Shape := ⟨3, ![2, 2048, 9216]⟩
abbrev Bias : Shape := ⟨2, ![1, 4096]⟩
abbrev Norm : Shape := ⟨2, ![1, 1024]⟩
abbrev Heads : Shape := ⟨2, ![32768, 128]⟩
abbrev Lanes : Shape := ⟨2, ![4096, 1024]⟩

/-- The smooth rectifier in its hyperbolic-tangent form. -/
def gelu (y : EReal) : EReal :=
  y * (Ideal.ofBits .f32 0x3F000000#32 * (1
    + Ideal.tanh (Ideal.ofBits .f32 0x3F4C422A#32 * (y + Ideal.ofBits .f32 0x3D372713#32 * (y * (y * y))))))

/-- A row of `1024` lanes over the root of its mean square, scaled by `g`. -/
def rmsLanes (x g : Fin 1024 → EReal) (k : Fin 1024) : EReal :=
  x k * Ideal.rsqrt (Ideal.div (∑ k : Fin 1024, x k * x k) (Ideal.ofBits .f32 0x44800000#32) + Ideal.ofBits .f32 0x358637BD#32) * g k

variable (x : (Rows 2048).Idx → EReal) (g : Scale.Idx → EReal) (w : Weights.Idx → EReal) (bg : Bias.Idx → EReal) (sn : Norm.Idx → EReal)
  (ka : Heads.Idx → EReal) (va : Lanes.Idx → EReal)

/-- A normalised row times column `f` of the last layer's weights. -/
def dotCol (r : Fin 2048) (f : Fin 9216) : EReal := ∑ k : Fin 2048, hn x g r k * w (ix3 (1 : Fin 2) k f)

def query (r : Fin 2048) (e : Fin 1024) : EReal := dotCol x g w r ⟨e.val, by omega⟩ * Ideal.ofBits .f32 0x3DB504F3#32
def key (r : Fin 2048) (e : Fin 1024) : EReal := dotCol x g w r ⟨1024 + e.val, by omega⟩
def value (r : Fin 2048) (e : Fin 1024) : EReal := dotCol x g w r ⟨2048 + e.val, by omega⟩
def lane (r : Fin 2048) (e : Fin 1024) : EReal := gelu (dotCol x g w r ⟨3072 + e.val, by omega⟩)
def normed (r : Fin 2048) (e : Fin 1024) : EReal :=
  rmsLanes (fun e => gelu (dotCol x g w r ⟨4096 + e.val, by omega⟩)) (fun e => sn (ix2 (0 : Fin 1) e)) e
def gate (r : Fin 2048) (e : Fin 4096) : EReal := Ideal.logistic (dotCol x g w r ⟨5120 + e.val, by omega⟩ + bg (ix2 (0 : Fin 1) e))

/-- Row `y` of the head-by-head array: the first half as it was, the second a row of `p` head by head. -/
def headRow (p : Fin 2048 → Fin 1024 → EReal) (y : Fin 32768) (d : Fin 128) : EReal :=
  if h : y.val < 16384 then ka (ix2 y d) else p ⟨(y.val - 16384) / 8, by omega⟩ ⟨y.val % 8 * 128 + d.val, by omega⟩

/-- Row `y` of the normed lanes: the first half as it was. -/
def laneRow (y : Fin 4096) (e : Fin 1024) : EReal :=
  if h : y.val < 2048 then va (ix2 y e) else normed x g w sn ⟨y.val - 2048, by omega⟩ e

end Cert.Streams

end
-- ==== Proof.Proj.Pay.lean ====
/-
  The projection kernel's arithmetic over the extended reals, one block of 512 rows and 1024 columns at a time.
-/
module

public import proofs.«01_k».proof.Proof.Gen.ProjIdeal.Skeleton
public import proofs.«01_k».proof.Proof.Proj.Streams
public import proofs.«01_k».proof.Proof.Proj.Runs
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pointwise

@[expose] public section

set_option maxRecDepth 16384

noncomputable section

namespace Cert.ProjIdeal.Pay

open Cert.ProjIdeal Cert.ProjIdeal.Gen Cert.ProjIdeal.Frm Cert.Streams Idealize.ShloMosaic.ValueIdx
open Idealize.ShloMosaic hiding ix2 ix3
open scoped BigOperators

theorem zero_f32 : (Scalar.ofBits .f32 0x00000000#32 : Ideal .f32) = 0 := Ideal.ofBits_zero_f32

theorem pay1_apply (x : Vec Ideal S512x2048 .f32) (g : Vec Ideal S1x2048 .f32) (r : Fin 512) (k : Fin 2048) :
    k0_pay1 x g (ix2 r k) = Cert.Mlp.rms (fun k => x (ix2 r k)) (fun k => g (ix2 (0 : Fin 1) k)) k := by
  pointwise [k0_pay1]
  rfl

/-- A row times a block's column. -/
def col (v3 : FVec Ideal S512x2048 .bf16) (w : FVec Ideal S1x2048x1024 .bf16) (r : Fin 512) (e : Fin 1024) : EReal :=
  ∑ k : Fin 2048, v3 (ix2 r k) * w (ix3 (0 : Fin 1) k e)

theorem block_apply (w : FVec Ideal S1x2048x1024 .bf16) (k : Fin 2048) (e : Fin 1024) :
    shapeCast S2048x1024 w shapeCasts_S1x2048x1024_S2048x1024 (ix2 k e) = w (ix3 (0 : Fin 1) k e) :=
  shapeCast_apply w _ _ _ (by rewrite [Shape.rowMajor_val_three, Shape.rowMajor_val_two]; show ((0 * 2048 + k.val) * 1024 + e.val) = k.val * 1024 + e.val; omega)

theorem pay2_apply (v3 : FVec Ideal S512x2048 .bf16) (w : FVec Ideal S1x2048x1024 .bf16) (r : Fin 512) (e : Fin 1024) :
    k0_pay2 (F := Ideal) v3 w (ix2 r e) = col v3 w r e := by
  unfold k0_pay2
  refine (Ideal.matmul_plain_apply (M := 512) (K := 2048) (N := 1024) none v3 _ _ r e).trans ?_
  have h0 : constant (F := Ideal) S512x1024 .f32 0x00000000#32 (ix2 r e) = 0 := zero_f32
  rw [h0, zero_add]
  exact Finset.sum_congr rfl fun k _ => congrArg (v3 (ix2 r k) * ·) (block_apply w k e)

variable (v3 : Vec Ideal S512x2048 .bf16) (w : Vec Ideal S1x2048x1024 .bf16) (r : Fin 512) (e : Fin 1024)

theorem pay3_apply : k0_pay3 (F := Ideal) v3 w (ix2 r e) = col v3 w r e * Ideal.ofBits .f32 0x3DB504F3#32 := by
  unfold k0_pay3
  exact congrArg (· * Ideal.ofBits .f32 0x3DB504F3#32) (pay2_apply v3 w r e)

theorem pay4_apply : k0_pay4 (F := Ideal) v3 w (ix2 r e) = col v3 w r e := by
  unfold k0_pay4
  exact pay2_apply v3 w r e

theorem pay13_apply : k0_pay13 (F := Ideal) v3 w (ix2 r e) = col v3 w r e := by
  unfold k0_pay13
  exact pay2_apply v3 w r e

theorem pay22_apply : k0_pay22 (F := Ideal) v3 w (ix2 r e) = gelu (col v3 w r e) := by
  refine Eq.trans (b := gelu (k0_pay2 (F := Ideal) v3 w (ix2 r e))) ?_ (congrArg gelu (pay2_apply v3 w r e))
  pointwise [k0_pay22]
  rfl

theorem pay24_apply (b : Vec Ideal S1x1024 .f32) : k0_pay24 (F := Ideal) v3 w b (ix2 r e) = Ideal.logistic (col v3 w r e + b (ix2 (0 : Fin 1) e)) := by
  refine Eq.trans (b := Ideal.logistic (k0_pay2 (F := Ideal) v3 w (ix2 r e) + b (ix2 (0 : Fin 1) e))) ?_ (congrArg (fun y => Ideal.logistic (y + b (ix2 (0 : Fin 1) e))) (pay2_apply v3 w r e))
  pointwise [k0_pay24]
  rfl

theorem pay23_apply (g : Vec Ideal S1x1024 .f32) :
    k0_pay23 (F := Ideal) v3 w g (ix2 r e) = rmsLanes (fun e => gelu (col v3 w r e)) (fun e => g (ix2 (0 : Fin 1) e)) e := by
  refine Eq.trans (b := rmsLanes (fun e => gelu (k0_pay2 (F := Ideal) v3 w (ix2 r e))) (fun e => g (ix2 (0 : Fin 1) e)) e) ?_
    (congrArg (fun y : Fin 1024 → EReal => rmsLanes y (fun e => g (ix2 (0 : Fin 1) e)) e) (funext fun e => congrArg gelu (pay2_apply v3 w r e)))
  pointwise [k0_pay23]
  rfl

/-- A head's columns of a block. -/
theorem slice_apply (y : FVec Ideal S512x1024 .f32) (o : ℕ) (hs : S512x1024.Slices ![0, o] S512x128) (d : Fin 128) (he : e.val = o + d.val) :
    extractStridedSlice S512x128 ![0, o] y hs (ix2 r d) = y (ix2 r e) :=
  extractStridedSlice_apply ![0, o] y hs (ix2 r d) (ix2 r e) (fun a => match a with
    | ⟨0, _⟩ => (Nat.zero_add _).symm
    | ⟨1, _⟩ => he)

theorem pay5_apply (d : Fin 128) (he : e.val = 0 + d.val) : k0_pay5 (F := Ideal) v3 w (ix2 r d) = col v3 w r e := by
  unfold k0_pay5
  exact (slice_apply r e _ 0 _ d he).trans (pay2_apply v3 w r e)

theorem pay6_apply (d : Fin 128) (he : e.val = 128 + d.val) : k0_pay6 (F := Ideal) v3 w (ix2 r d) = col v3 w r e := by
  unfold k0_pay6
  exact (slice_apply r e _ 128 _ d he).trans (pay2_apply v3 w r e)

theorem pay7_apply (d : Fin 128) (he : e.val = 256 + d.val) : k0_pay7 (F := Ideal) v3 w (ix2 r d) = col v3 w r e := by
  unfold k0_pay7
  exact (slice_apply r e _ 256 _ d he).trans (pay2_apply v3 w r e)

theorem pay8_apply (d : Fin 128) (he : e.val = 384 + d.val) : k0_pay8 (F := Ideal) v3 w (ix2 r d) = col v3 w r e := by
  unfold k0_pay8
  exact (slice_apply r e _ 384 _ d he).trans (pay2_apply v3 w r e)

theorem pay9_apply (d : Fin 128) (he : e.val = 512 + d.val) : k0_pay9 (F := Ideal) v3 w (ix2 r d) = col v3 w r e := by
  unfold k0_pay9
  exact (slice_apply r e _ 512 _ d he).trans (pay2_apply v3 w r e)

theorem pay10_apply (d : Fin 128) (he : e.val = 640 + d.val) : k0_pay10 (F := Ideal) v3 w (ix2 r d) = col v3 w r e := by
  unfold k0_pay10
  exact (slice_apply r e _ 640 _ d he).trans (pay2_apply v3 w r e)

theorem pay11_apply (d : Fin 128) (he : e.val = 768 + d.val) : k0_pay11 (F := Ideal) v3 w (ix2 r d) = col v3 w r e := by
  unfold k0_pay11
  exact (slice_apply r e _ 768 _ d he).trans (pay2_apply v3 w r e)

theorem pay12_apply (d : Fin 128) (he : e.val = 896 + d.val) : k0_pay12 (F := Ideal) v3 w (ix2 r d) = col v3 w r e := by
  unfold k0_pay12
  exact (slice_apply r e _ 896 _ d he).trans (pay2_apply v3 w r e)

theorem pay14_apply (d : Fin 128) (he : e.val = 0 + d.val) : k0_pay14 (F := Ideal) v3 w (ix2 r d) = col v3 w r e := by
  unfold k0_pay14
  exact (slice_apply r e _ 0 _ d he).trans (pay2_apply v3 w r e)

theorem pay15_apply (d : Fin 128) (he : e.val = 128 + d.val) : k0_pay15 (F := Ideal) v3 w (ix2 r d) = col v3 w r e := by
  unfold k0_pay15
  exact (slice_apply r e _ 128 _ d he).trans (pay2_apply v3 w r e)

theorem pay16_apply (d : Fin 128) (he : e.val = 256 + d.val) : k0_pay16 (F := Ideal) v3 w (ix2 r d) = col v3 w r e := by
  unfold k0_pay16
  exact (slice_apply r e _ 256 _ d he).trans (pay2_apply v3 w r e)

theorem pay17_apply (d : Fin 128) (he : e.val = 384 + d.val) : k0_pay17 (F := Ideal) v3 w (ix2 r d) = col v3 w r e := by
  unfold k0_pay17
  exact (slice_apply r e _ 384 _ d he).trans (pay2_apply v3 w r e)

theorem pay18_apply (d : Fin 128) (he : e.val = 512 + d.val) : k0_pay18 (F := Ideal) v3 w (ix2 r d) = col v3 w r e := by
  unfold k0_pay18
  exact (slice_apply r e _ 512 _ d he).trans (pay2_apply v3 w r e)

theorem pay19_apply (d : Fin 128) (he : e.val = 640 + d.val) : k0_pay19 (F := Ideal) v3 w (ix2 r d) = col v3 w r e := by
  unfold k0_pay19
  exact (slice_apply r e _ 640 _ d he).trans (pay2_apply v3 w r e)

theorem pay20_apply (d : Fin 128) (he : e.val = 768 + d.val) : k0_pay20 (F := Ideal) v3 w (ix2 r d) = col v3 w r e := by
  unfold k0_pay20
  exact (slice_apply r e _ 768 _ d he).trans (pay2_apply v3 w r e)

theorem pay21_apply (d : Fin 128) (he : e.val = 896 + d.val) : k0_pay21 (F := Ideal) v3 w (ix2 r d) = col v3 w r e := by
  unfold k0_pay21
  exact (slice_apply r e _ 896 _ d he).trans (pay2_apply v3 w r e)

theorem kHead_apply (d : Fin 128) : ∀ (h : ℕ), h < 8 → e.val = h * 128 + d.val → kHead (F := Ideal) v3 w h (ix2 r d) = col v3 w r e
  | 0, _, he => pay5_apply v3 w r e d (by omega)
  | 1, _, he => pay6_apply v3 w r e d (by omega)
  | 2, _, he => pay7_apply v3 w r e d (by omega)
  | 3, _, he => pay8_apply v3 w r e d (by omega)
  | 4, _, he => pay9_apply v3 w r e d (by omega)
  | 5, _, he => pay10_apply v3 w r e d (by omega)
  | 6, _, he => pay11_apply v3 w r e d (by omega)
  | 7, _, he => pay12_apply v3 w r e d (by omega)
  | n + 8, hn, _ => absurd hn (by omega)

theorem vHead_apply (d : Fin 128) : ∀ (h : ℕ), h < 8 → e.val = h * 128 + d.val → vHead (F := Ideal) v3 w h (ix2 r d) = col v3 w r e
  | 0, _, he => pay14_apply v3 w r e d (by omega)
  | 1, _, he => pay15_apply v3 w r e d (by omega)
  | 2, _, he => pay16_apply v3 w r e d (by omega)
  | 3, _, he => pay17_apply v3 w r e d (by omega)
  | 4, _, he => pay18_apply v3 w r e d (by omega)
  | 5, _, he => pay19_apply v3 w r e d (by omega)
  | 6, _, he => pay20_apply v3 w r e d (by omega)
  | 7, _, he => pay21_apply v3 w r e d (by omega)
  | n + 8, hn, _ => absurd hn (by omega)

end Cert.ProjIdeal.Pay

end
-- ==== Proof.Proj.Final.lean ====
/-
  The projection kernel's blocks, and its result arrays.
-/
module

public import proofs.«01_k».proof.Proof.Proj.Frame
public import proofs.«01_k».proof.Proof.Proj.Pay
public import Idealize.ShloMosaic.Lib.StableHlo.Run

@[expose] public section

set_option maxRecDepth 16384

noncomputable section

namespace Cert.ProjIdeal.Final

open Cert.ProjIdeal Cert.ProjIdeal.Gen Cert.ProjIdeal.Frm Cert.ProjIdeal.Pay Cert.Streams
open Idealize.ShloMosaic.TcCoe Idealize.SL.Sem Idealize.ShloMosaic.ValueIdx
open Idealize.ShloMosaic hiding ix2 ix3 eq_ix2 eq_ix3
open Idealize.ShloMosaic.Pipeline
open scoped BigOperators

variable (m : (ℓ : Loc nD τ sig) → Buf (Elt Ideal) ℓ) (c : Dev nD)

theorem index0 : ∀ t : Fin grid0.N, win0_0.index t 0 = t.val / 9 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 1 ∧ win0_2.index t 1 = 0 ∧ win0_2.index t 2 = t.val % 9 := by decide +kernel
theorem index3 : ∀ t : Fin grid0.N, win0_3.index t 0 = 0 ∧ win0_3.index t 1 = t.val % 9 - 5 := by decide +kernel
theorem index4 : ∀ t : Fin grid0.N, win0_4.index t 0 = 0 ∧ win0_4.index t 1 = 0 := by decide +kernel
theorem index5 : ∀ t : Fin grid0.N, win0_5.index t 0 = t.val / 9 ∧ win0_5.index t 1 = 0 := by decide +kernel
theorem index6 : ∀ t : Fin grid0.N, win0_6.index t 0 = t.val / 9 ∧ win0_6.index t 1 = 0 := by decide +kernel
theorem index7 : ∀ t : Fin grid0.N, win0_7.index t 0 = t.val / 9 ∧ win0_7.index t 1 = 0 := by decide +kernel
theorem index8 : ∀ t : Fin grid0.N, win0_8.index t 0 = 4 + t.val / 9 ∧ win0_8.index t 1 = 0 := by decide +kernel
theorem index9 : ∀ t : Fin grid0.N, win0_9.index t 0 = 4 + t.val / 9 ∧ win0_9.index t 1 = 0 := by decide +kernel
theorem index10 : ∀ t : Fin grid0.N, win0_10.index t 0 = t.val / 9 ∧ win0_10.index t 1 = 0 := by decide +kernel
theorem index11 : ∀ t : Fin grid0.N, win0_11.index t 0 = 4 + t.val / 9 ∧ win0_11.index t 1 = 0 := by decide +kernel
theorem index12 : ∀ t : Fin grid0.N, win0_12.index t 0 = t.val / 9 ∧ win0_12.index t 1 = t.val % 9 - 5 := by decide +kernel
theorem flush12 : ∀ t : Fin grid0.N, win0_12.flush t = true ↔ 5 ≤ t.val % 9 := by decide +kernel

variable (t : Fin cfg0.N)

theorem t_lt : t.val < 36 := lt_of_lt_of_eq t.isLt N_0

theorem pt_val (i j : ℕ) (hi : i < 4) (hj : j < 9) : (pt i j).val = 9 * i + j := by
  show (9 * i + j) % 36 = 9 * i + j
  omega

/-- Row `r` of row block `i`. -/
abbrev rowOf (i : ℕ) (hi : i < 4) (r : Fin 512) : Fin 2048 := ⟨i * 512 + r.val, by omega⟩

/-- Column `e` of column block `j`. -/
abbrev colOf (j : ℕ) (hj : j < 9) (e : Fin 1024) : Fin 9216 := ⟨j * 1024 + e.val, by omega⟩

theorem hi : t.val / 9 < 4 := by have := t_lt t; omega
theorem hj : t.val % 9 < 9 := Nat.mod_lt _ (by omega)

/-! ## The blocks -/

theorem iblk0_apply (r : Fin 512) (k : Fin 2048) : (iblk m c 0 t : Vec Ideal S512x2048 .f32) (ix2 r k)
    = m ((c : Thread nD τ).loc main_arg0) (ix2 (rowOf (t.val / 9) (hi t) r) k) := by
  obtain ⟨h0, h1⟩ := index0 t
  refine Eq.trans ?_ (congrFun (V_kept m c main_arg0) _)
  unfold iblk
  rw [View.read_apply]
  refine congrArg (V m c main_arg0) (funext fun a => Fin.ext ?_)
  match a with
  | ⟨0, _⟩ => show win0_0.index t 0 * 512 + 1 * r.val = t.val / 9 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_kept m c main_arg1) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 1024) : (iblk m c 2 t : Vec Ideal S1x2048x1024 .bf16) (ix3 (0 : Fin 1) k e)
    = m ((c : Thread nD τ).loc main_arg2) (ix3 (1 : Fin 2) k (colOf (t.val % 9) (hj t) e)) := by
  obtain ⟨h0, h1, h2⟩ := index2 t
  refine Eq.trans ?_ (congrFun (V_kept m c main_arg2) _)
  unfold iblk
  rw [View.read_apply]
  refine congrArg (V m c main_arg2) (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 1024 + 1 * e.val = t.val % 9 * 1024 + e.val; omega

theorem iblk3_apply (e : Fin 1024) : (iblk m c 3 t : Vec Ideal S1x1024 .f32) (ix2 (0 : Fin 1) e)
    = m ((c : Thread nD τ).loc main_arg3) (ix2 (0 : Fin 1) (⟨(t.val % 9 - 5) * 1024 + e.val, by have := hj t; omega⟩ : Fin 4096)) := by
  obtain ⟨h0, h1⟩ := index3 t
  refine Eq.trans ?_ (congrFun (V_kept m c main_arg3) _)
  unfold iblk
  rw [View.read_apply]
  refine congrArg (V m c main_arg3) (funext fun a => Fin.ext ?_)
  match a with
  | ⟨0, _⟩ => show win0_3.index t 0 * 1 + 1 * 0 = 0; omega
  | ⟨1, _⟩ => show win0_3.index t 1 * 1024 + 1 * e.val = (t.val % 9 - 5) * 1024 + e.val; omega

theorem iblk4_apply (e : Fin 1024) : (iblk m c 4 t : Vec Ideal S1x1024 .f32) (ix2 (0 : Fin 1) e)
    = m ((c : Thread nD τ).loc main_arg4) (ix2 (0 : Fin 1) e) := by
  obtain ⟨h0, h1⟩ := index4 t
  refine Eq.trans ?_ (congrFun (V_kept m c main_arg4) _)
  unfold iblk
  rw [View.read_apply]
  refine congrArg (V m c main_arg4) (funext fun a => Fin.ext ?_)
  match a with
  | ⟨0, _⟩ => show win0_4.index t 0 * 1 + 1 * 0 = 0; omega
  | ⟨1, _⟩ => show win0_4.index t 1 * 1024 + 1 * e.val = e.val; omega

abbrev x : (Cert.Mlp.Rows 2048).Idx → EReal := m ((c : Thread nD τ).loc main_arg0)
abbrev g : Cert.Mlp.Scale.Idx → EReal := m ((c : Thread nD τ).loc main_arg1)
abbrev w : Weights.Idx → EReal := m ((c : Thread nD τ).loc main_arg2)
abbrev bg : Bias.Idx → EReal := m ((c : Thread nD τ).loc main_arg3)
abbrev sn : Norm.Idx → EReal := m ((c : Thread nD τ).loc main_arg4)
abbrev ka : Heads.Idx → EReal := m ((c : Thread nD τ).loc main_arg5)
abbrev va : Heads.Idx → EReal := m ((c : Thread nD τ).loc main_arg6)
abbrev vna : Lanes.Idx → EReal := m ((c : Thread nD τ).loc main_arg7)

/-- The kept rows of a row block are its normalised rows. -/
theorem scr_apply (i : ℕ) (hi' : i < 4) (r : Fin 512) (k : Fin 2048) :
    scr m c i (ix2 r k) = Cert.Mlp.hn (x m c) (g m c) (rowOf i hi' r) k := by
  have e : (pt i 0).val = 9 * i := pt_val i 0 hi' (by omega)
  unfold scr
  refine (pay1_apply _ _ r k).trans ?_
  unfold Cert.Mlp.hn
  congr 1
  · funext k
    refine (iblk0_apply m c (pt i 0) r k).trans (congrArg (fun q => m ((c : Thread nD τ).loc main_arg0) (ix2 q k)) (Fin.ext ?_))
    show (pt i 0).val / 9 * 512 + r.val = i * 512 + r.val
    omega
  · funext k; exact iblk1_apply m c (pt i 0) k

/-- The product of a row block and a column block. -/
theorem col_apply (i : ℕ) (hi' : i < 4) (j : ℕ) (hj' : j < 9) (ht : t.val % 9 = j) (r : Fin 512) (e : Fin 1024) (f : Fin 9216) (hf : f.val = j * 1024 + e.val) :
    col (scr m c i) (iblk m c 2 t : Vec Ideal S1x2048x1024 .bf16) r e = dotCol (x m c) (g m c) (w m c) (rowOf i hi' r) f := by
  have hf' : colOf (t.val % 9) (hj t) e = f := Fin.ext (by show t.val % 9 * 1024 + e.val = f.val; rw [ht, hf])
  refine Finset.sum_congr rfl fun k _ => ?_
  refine congrArg₂ (· * ·) (scr_apply m c i hi' r k) ((iblk2_apply m c t k e).trans ?_)
  rw [hf']

theorem col_pt (i : ℕ) (hi' : i < 4) (j : ℕ) (hj' : j < 9) (r : Fin 512) (e : Fin 1024) (f : Fin 9216) (hf : f.val = j * 1024 + e.val) :
    col (scr m c i) (iblk m c 2 (pt i j) : Vec Ideal S1x2048x1024 .bf16) r e = dotCol (x m c) (g m c) (w m c) (rowOf i hi' r) f :=
  col_apply m c (pt i j) i hi' j hj' (by rw [pt_val i j hi' hj']; omega) r e f hf

/-! ## The arrays copied before the call -/

theorem V_main_v0_3 : V m c main_v0_3 = m ((c : Thread nD τ).loc main_arg5) := by
  unfold V
  after_results
  rfl

theorem V_main_v0_4 : V m c main_v0_4 = m ((c : Thread nD τ).loc main_arg6) := by
  unfold V
  after_results
  rfl

theorem V_main_v0_6 : V m c main_v0_6 = m ((c : Thread nD τ).loc main_arg7) := by
  unfold V
  after_results
  rfl

/-! ## The results -/

/-- The last point of the row block that holds row `n`. -/
theorem cover (n : ℕ) (hn : n < 2048) : ∃ t : Fin cfg0.N, t.val = n / 512 * 9 + 8 :=
  ⟨⟨_, lt_of_lt_of_eq (by omega : n / 512 * 9 + 8 < 36) N_0.symm⟩, rfl⟩

/-- Result `v0_0`, by row and lane. -/
def result5 : Buf (Elt Ideal) ((c : Thread nD τ).loc main_v0_0) := fun i =>
  query (x m c) (g m c) (w m c) ⟨(i 0).val, (i 0).isLt⟩ ⟨(i 1).val, (i 1).isLt⟩

theorem flushed5 : (dats m 0 c).flushed 5 t = ((cfg0.win 5).blk t).view.read (Elt Ideal) (result5 m c) := by
  obtain ⟨h0, h1⟩ := index5 t
  funext j
  obtain ⟨r, e, rfl⟩ : ∃ (r : Fin 512) (e : Fin 1024), j = ix2 r e := ⟨j 0, j 1, eq_ix2 j⟩
  rw [View.read_apply]
  refine Eq.trans (b := (dats m 0 c).after 5 t (ix2 r e)) rfl ?_
  rw [after_5]
  refine Eq.trans (b := result5 m c (ix2 (rowOf (t.val / 9) (hi t) r) e)) ?_ ?_
  · exact (pay3_apply _ _ r e).trans (congrArg (· * Ideal.ofBits .f32 0x3DB504F3#32) (col_pt m c (t.val / 9) (hi t) 0 (by omega) r e _ (by show e.val = 0 * 1024 + e.val; omega)))
  refine congrArg (result5 m c) (funext fun a => Fin.ext ?_)
  match a with
  | ⟨0, _⟩ => show t.val / 9 * 512 + r.val = win0_5.index t 0 * 512 + 1 * r.val; omega
  | ⟨1, _⟩ => show e.val = win0_5.index t 1 * 1024 + 1 * e.val; omega

theorem final5 : (dats m 0 c).arrAt 5 cfg0.N = result5 m c :=
  (dats m 0 c).arrAt_eq_of_cover 5 (result5 m c) (fun t _ => flushed5 m c t) fun i => by
    obtain ⟨t, ht⟩ := cover (i 0) (i 0).isLt
    have i1 : (i 1 : Nat) < 1024 := (i 1).isLt
    refine ⟨t, (flush0_5 t).mpr (by omega), ?_⟩
    obtain ⟨h0, h1⟩ := index5 t
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; omega
    | ⟨1, _⟩ => show win0_5.index t 1 * 1024 ≤ (i 1 : Nat) ∧ (i 1 : Nat) < win0_5.index t 1 * 1024 + 1024; omega

/-- Result `v0_1`, by row and lane. -/
def result6 : Buf (Elt Ideal) ((c : Thread nD τ).loc main_v0_1) := fun i =>
  key (x m c) (g m c) (w m c) ⟨(i 0).val, (i 0).isLt⟩ ⟨(i 1).val, (i 1).isLt⟩

theorem flushed6 : (dats m 0 c).flushed 6 t = ((cfg0.win 6).blk t).view.read (Elt Ideal) (result6 m c) := by
  obtain ⟨h0, h1⟩ := index6 t
  funext j
  obtain ⟨r, e, rfl⟩ : ∃ (r : Fin 512) (e : Fin 1024), j = ix2 r e := ⟨j 0, j 1, eq_ix2 j⟩
  rw [View.read_apply]
  refine Eq.trans (b := (dats m 0 c).after 6 t (ix2 r e)) rfl ?_
  rw [after_6]
  refine Eq.trans (b := result6 m c (ix2 (rowOf (t.val / 9) (hi t) r) e)) ?_ ?_
  · exact (pay4_apply _ _ r e).trans (col_pt m c (t.val / 9) (hi t) 1 (by omega) r e _ (by show 1024 + e.val = 1 * 1024 + e.val; omega))
  refine congrArg (result6 m c) (funext fun a => Fin.ext ?_)
  match a with
  | ⟨0, _⟩ => show t.val / 9 * 512 + r.val = win0_6.index t 0 * 512 + 1 * r.val; omega
  | ⟨1, _⟩ => show e.val = win0_6.index t 1 * 1024 + 1 * e.val; omega

theorem final6 : (dats m 0 c).arrAt 6 cfg0.N = result6 m c :=
  (dats m 0 c).arrAt_eq_of_cover 6 (result6 m c) (fun t _ => flushed6 m c t) fun i => by
    obtain ⟨t, ht⟩ := cover (i 0) (i 0).isLt
    have i1 : (i 1 : Nat) < 1024 := (i 1).isLt
    refine ⟨t, (flush0_6 t).mpr (by omega), ?_⟩
    obtain ⟨h0, h1⟩ := index6 t
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 1024 ≤ (i 1 : Nat) ∧ (i 1 : Nat) < win0_6.index t 1 * 1024 + 1024; omega

/-- Result `v0_2`, by row and lane. -/
def result7 : Buf (Elt Ideal) ((c : Thread nD τ).loc main_v0_2) := fun i =>
  value (x m c) (g m c) (w m c) ⟨(i 0).val, (i 0).isLt⟩ ⟨(i 1).val, (i 1).isLt⟩

theorem flushed7 : (dats m 0 c).flushed 7 t = ((cfg0.win 7).blk t).view.read (Elt Ideal) (result7 m c) := by
  obtain ⟨h0, h1⟩ := index7 t
  funext j
  obtain ⟨r, e, rfl⟩ : ∃ (r : Fin 512) (e : Fin 1024), j = ix2 r e := ⟨j 0, j 1, eq_ix2 j⟩
  rw [View.read_apply]
  refine Eq.trans (b := (dats m 0 c).after 7 t (ix2 r e)) rfl ?_
  rw [after_7]
  refine Eq.trans (b := result7 m c (ix2 (rowOf (t.val / 9) (hi t) r) e)) ?_ ?_
  · exact (pay13_apply _ _ r e).trans (col_pt m c (t.val / 9) (hi t) 2 (by omega) r e _ (by show 2048 + e.val = 2 * 1024 + e.val; omega))
  refine congrArg (result7 m c) (funext fun a => Fin.ext ?_)
  match a with
  | ⟨0, _⟩ => show t.val / 9 * 512 + r.val = win0_7.index t 0 * 512 + 1 * r.val; omega
  | ⟨1, _⟩ => show e.val = win0_7.index t 1 * 1024 + 1 * e.val; omega

theorem final7 : (dats m 0 c).arrAt 7 cfg0.N = result7 m c :=
  (dats m 0 c).arrAt_eq_of_cover 7 (result7 m c) (fun t _ => flushed7 m c t) fun i => by
    obtain ⟨t, ht⟩ := cover (i 0) (i 0).isLt
    have i1 : (i 1 : Nat) < 1024 := (i 1).isLt
    refine ⟨t, (flush0_7 t).mpr (by omega), ?_⟩
    obtain ⟨h0, h1⟩ := index7 t
    show i ∈ ((View.whole main_v0_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; omega
    | ⟨1, _⟩ => show win0_7.index t 1 * 1024 ≤ (i 1 : Nat) ∧ (i 1 : Nat) < win0_7.index t 1 * 1024 + 1024; omega

/-- Result `v0_5`, by row and lane. -/
def result10 : Buf (Elt Ideal) ((c : Thread nD τ).loc main_v0_5) := fun i =>
  lane (x m c) (g m c) (w m c) ⟨(i 0).val, (i 0).isLt⟩ ⟨(i 1).val, (i 1).isLt⟩

theorem flushed10 : (dats m 0 c).flushed 10 t = ((cfg0.win 10).blk t).view.read (Elt Ideal) (result10 m c) := by
  obtain ⟨h0, h1⟩ := index10 t
  funext j
  obtain ⟨r, e, rfl⟩ : ∃ (r : Fin 512) (e : Fin 1024), j = ix2 r e := ⟨j 0, j 1, eq_ix2 j⟩
  rw [View.read_apply]
  refine Eq.trans (b := (dats m 0 c).after 10 t (ix2 r e)) rfl ?_
  rw [after_10]
  refine Eq.trans (b := result10 m c (ix2 (rowOf (t.val / 9) (hi t) r) e)) ?_ ?_
  · exact (pay22_apply _ _ r e).trans (congrArg gelu (col_pt m c (t.val / 9) (hi t) 3 (by omega) r e _ (by show 3072 + e.val = 3 * 1024 + e.val; omega)))
  refine congrArg (result10 m c) (funext fun a => Fin.ext ?_)
  match a with
  | ⟨0, _⟩ => show t.val / 9 * 512 + r.val = win0_10.index t 0 * 512 + 1 * r.val; omega
  | ⟨1, _⟩ => show e.val = win0_10.index t 1 * 1024 + 1 * e.val; omega

theorem final10 : (dats m 0 c).arrAt 10 cfg0.N = result10 m c :=
  (dats m 0 c).arrAt_eq_of_cover 10 (result10 m c) (fun t _ => flushed10 m c t) fun i => by
    obtain ⟨t, ht⟩ := cover (i 0) (i 0).isLt
    have i1 : (i 1 : Nat) < 1024 := (i 1).isLt
    refine ⟨t, (flush0_10 t).mpr (by omega), ?_⟩
    obtain ⟨h0, h1⟩ := index10 t
    show i ∈ ((View.whole main_v0_5).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; omega
    | ⟨1, _⟩ => show win0_10.index t 1 * 1024 ≤ (i 1 : Nat) ∧ (i 1 : Nat) < win0_10.index t 1 * 1024 + 1024; omega

/-- The gates, by row and lane. -/
def result12 : Buf (Elt Ideal) ((c : Thread nD τ).loc main_v0_7) := fun i =>
  gate (x m c) (g m c) (w m c) (bg m c) ⟨(i 0).val, (i 0).isLt⟩ ⟨(i 1).val, (i 1).isLt⟩

theorem flushed12 (hf : 5 ≤ t.val % 9) : (dats m 0 c).flushed 12 t = ((cfg0.win 12).blk t).view.read (Elt Ideal) (result12 m c) := by
  obtain ⟨h0, h1⟩ := index12 t
  have hlt := hj t
  funext j
  obtain ⟨r, e, rfl⟩ : ∃ (r : Fin 512) (e : Fin 1024), j = ix2 r e := ⟨j 0, j 1, eq_ix2 j⟩
  rw [View.read_apply]
  refine Eq.trans (b := (dats m 0 c).after 12 t (ix2 r e)) rfl ?_
  rw [after_12]
  refine Eq.trans (b := result12 m c (ix2 (rowOf (t.val / 9) (hi t) r) (⟨(t.val % 9 - 5) * 1024 + e.val, by omega⟩ : Fin 4096))) ?_ ?_
  · refine (pay24_apply _ _ r e _).trans ?_
    exact congrArg Ideal.logistic (congrArg₂ (· + ·) (col_apply m c t (t.val / 9) (hi t) (t.val % 9) hlt rfl r e _ (by show 5120 + ((t.val % 9 - 5) * 1024 + e.val) = t.val % 9 * 1024 + e.val; omega))
      (iblk3_apply m c t e))
  refine congrArg (result12 m c) (funext fun a => Fin.ext ?_)
  match a with
  | ⟨0, _⟩ => show t.val / 9 * 512 + r.val = win0_12.index t 0 * 512 + 1 * r.val; omega
  | ⟨1, _⟩ => show (t.val % 9 - 5) * 1024 + e.val = win0_12.index t 1 * 1024 + 1 * e.val; omega

theorem final12 : (dats m 0 c).arrAt 12 cfg0.N = result12 m c :=
  (dats m 0 c).arrAt_eq_of_cover 12 (result12 m c) (fun t hf => flushed12 m c t ((flush12 t).mp hf)) fun i => by
    have i0 : (i 0 : Nat) < 2048 := (i 0).isLt
    have i1 : (i 1 : Nat) < 4096 := (i 1).isLt
    obtain ⟨t, ht⟩ : ∃ t : Fin cfg0.N, t.val = (i 0 : Nat) / 512 * 9 + (5 + (i 1 : Nat) / 1024) :=
      ⟨⟨_, lt_of_lt_of_eq (by omega : (i 0 : Nat) / 512 * 9 + (5 + (i 1 : Nat) / 1024) < 36) N_0.symm⟩, rfl⟩
    refine ⟨t, (flush12 t).mpr (by omega), ?_⟩
    obtain ⟨h0, h1⟩ := index12 t
    show i ∈ ((View.whole main_v0_7).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512; omega
    | ⟨1, _⟩ => show win0_12.index t 1 * 1024 ≤ (i 1 : Nat) ∧ (i 1 : Nat) < win0_12.index t 1 * 1024 + 1024; omega

/-- The normed lanes: the first half as it was. -/
def result11 : Buf (Elt Ideal) ((c : Thread nD τ).loc main_v0_6) := fun i =>
  laneRow (x m c) (g m c) (w m c) (sn m c) (vna m c) ⟨(i 0).val, (i 0).isLt⟩ ⟨(i 1).val, (i 1).isLt⟩

theorem flushed11 : (dats m 0 c).flushed 11 t = ((cfg0.win 11).blk t).view.read (Elt Ideal) (result11 m c) := by
  obtain ⟨h0, h1⟩ := index11 t
  have hlt := hi t
  funext j
  obtain ⟨r, e, rfl⟩ : ∃ (r : Fin 512) (e : Fin 1024), j = ix2 r e := ⟨j 0, j 1, eq_ix2 j⟩
  rw [View.read_apply]
  refine Eq.trans (b := (dats m 0 c).after 11 t (ix2 r e)) rfl ?_
  rw [after_11]
  refine Eq.trans (b := result11 m c (ix2 (⟨2048 + (t.val / 9 * 512 + r.val), by omega⟩ : Fin 4096) e)) ?_ ?_
  · refine (pay23_apply _ _ r e _).trans ?_
    show _ = laneRow (x m c) (g m c) (w m c) (sn m c) (vna m c) ⟨2048 + (t.val / 9 * 512 + r.val), _⟩ e
    unfold laneRow
    rw [dif_neg (by show ¬(2048 + (t.val / 9 * 512 + r.val) < 2048); omega)]
    unfold normed
    refine congrArg₂ (fun a b => rmsLanes a b e) (funext fun k => ?_) (funext fun k => iblk4_apply m c _ k)
    refine congrArg gelu ((col_pt m c (t.val / 9) (hi t) 4 (by omega) r k (⟨4096 + k.val, by omega⟩ : Fin 9216) rfl).trans ?_)
    exact congrArg (fun q => dotCol (x m c) (g m c) (w m c) q (⟨4096 + k.val, by omega⟩ : Fin 9216))
      (Fin.ext (by show t.val / 9 * 512 + r.val = 2048 + (t.val / 9 * 512 + r.val) - 2048; omega))
  refine congrArg (result11 m c) (funext fun a => Fin.ext ?_)
  match a with
  | ⟨0, _⟩ => show 2048 + (t.val / 9 * 512 + r.val) = win0_11.index t 0 * 512 + 1 * r.val; omega
  | ⟨1, _⟩ => show e.val = win0_11.index t 1 * 1024 + 1 * e.val; omega

theorem final11 : (dats m 0 c).arrAt 11 cfg0.N = result11 m c := by
  funext i
  rw [(dats m 0 c).arrAt_eq_piecewise 11 (result11 m c) (fun t _ => flushed11 m c t) i]
  have i0 : (i 0 : Nat) < 4096 := (i 0).isLt
  have i1 : (i 1 : Nat) < 1024 := (i 1).isLt
  by_cases hlo : (i 0 : Nat) < 2048
  · have h : (dats m 0 c).A 11 i = result11 m c i := by
      rw [A_eq]
      refine (congrFun (V_main_v0_6 m c) i).trans ?_
      show m ((c : Thread nD τ).loc main_arg7) i = laneRow (x m c) (g m c) (w m c) (sn m c) (vna m c) ⟨(i 0).val, _⟩ ⟨(i 1).val, _⟩
      unfold laneRow
      rw [dif_pos hlo]
      exact congrArg (m ((c : Thread nD τ).loc main_arg7)) (funext fun a => match a with | ⟨0, _⟩ => rfl | ⟨1, _⟩ => rfl)
    rw [h]
    exact ite_self _
  · refine if_pos ?_
    obtain ⟨t, ht⟩ : ∃ t : Fin cfg0.N, t.val = ((i 0 : Nat) - 2048) / 512 * 9 + 8 := ⟨⟨_, lt_of_lt_of_eq (by omega : ((i 0 : Nat) - 2048) / 512 * 9 + 8 < 36) N_0.symm⟩, rfl⟩
    refine ⟨t, (flush0_11 t).mpr (by omega), ?_⟩
    obtain ⟨h0, h1⟩ := index11 t
    show i ∈ ((View.whole main_v0_6).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512; omega
    | ⟨1, _⟩ => show win0_11.index t 1 * 1024 ≤ (i 1 : Nat) ∧ (i 1 : Nat) < win0_11.index t 1 * 1024 + 1024; omega

/-- The keys head by head: the first half as it was. -/
def result8 : Buf (Elt Ideal) ((c : Thread nD τ).loc main_v0_3) := fun i =>
  headRow (ka m c) (key (x m c) (g m c) (w m c)) ⟨(i 0).val, (i 0).isLt⟩ ⟨(i 1).val, (i 1).isLt⟩

theorem flushed8 : (dats m 0 c).flushed 8 t = ((cfg0.win 8).blk t).view.read (Elt Ideal) (result8 m c) := by
  obtain ⟨h0, h1⟩ := index8 t
  have hlt := hi t
  funext j
  obtain ⟨y, d, rfl⟩ : ∃ (y : Fin 4096) (d : Fin 128), j = ix2 y d := ⟨j 0, j 1, eq_ix2 j⟩
  rw [View.read_apply]
  refine Eq.trans (b := (dats m 0 c).after 8 t (ix2 y d)) rfl ?_
  rw [after_8]
  refine Eq.trans (b := result8 m c (ix2 (⟨16384 + (t.val / 9 * 4096 + y.val), by omega⟩ : Fin 32768) d)) ?_ ?_
  · refine Eq.trans (b := kHead (scr m c (t.val / 9)) (iblk m c 2 (pt (t.val / 9) 1) : Vec Ideal S1x2048x1024 .bf16) (y.val % 8)
      (ix2 (⟨y.val / 8, by omega⟩ : Fin 512) d)) ?_ ?_
    · exact congrArg (kHead (scr m c (t.val / 9)) (iblk m c 2 (pt (t.val / 9) 1) : Vec Ideal S1x2048x1024 .bf16) (y.val % 8)) (funext fun a => match a with
        | ⟨0, _⟩ => rfl
        | ⟨1, _⟩ => rfl)
    refine (kHead_apply _ _ (⟨y.val / 8, by omega⟩ : Fin 512) (⟨y.val % 8 * 128 + d.val, by omega⟩ : Fin 1024) d (y.val % 8) (by omega) rfl).trans ?_
    refine (col_pt m c (t.val / 9) (hi t) 1 (by omega) _ _ (⟨1024 + (y.val % 8 * 128 + d.val), by omega⟩ : Fin 9216) rfl).trans ?_
    show _ = headRow (ka m c) (key (x m c) (g m c) (w m c)) ⟨16384 + (t.val / 9 * 4096 + y.val), _⟩ d
    unfold headRow
    rw [dif_neg (by show ¬(16384 + (t.val / 9 * 4096 + y.val) < 16384); omega)]
    unfold key
    refine congrArg₂ (dotCol (x m c) (g m c) (w m c)) (Fin.ext ?_) (Fin.ext ?_)
    · show t.val / 9 * 512 + y.val / 8 = (16384 + (t.val / 9 * 4096 + y.val) - 16384) / 8; omega
    · show 1024 + (y.val % 8 * 128 + d.val) = 1024 + ((16384 + (t.val / 9 * 4096 + y.val)) % 8 * 128 + d.val); omega
  refine congrArg (result8 m c) (funext fun a => Fin.ext ?_)
  match a with
  | ⟨0, _⟩ => show 16384 + (t.val / 9 * 4096 + y.val) = win0_8.index t 0 * 4096 + 1 * y.val; omega
  | ⟨1, _⟩ => show d.val = win0_8.index t 1 * 128 + 1 * d.val; omega

theorem final8 : (dats m 0 c).arrAt 8 cfg0.N = result8 m c := by
  funext i
  rw [(dats m 0 c).arrAt_eq_piecewise 8 (result8 m c) (fun t _ => flushed8 m c t) i]
  have i0 : (i 0 : Nat) < 32768 := (i 0).isLt
  have i1 : (i 1 : Nat) < 128 := (i 1).isLt
  by_cases hlo : (i 0 : Nat) < 16384
  · have h : (dats m 0 c).A 8 i = result8 m c i := by
      rw [A_eq]
      refine (congrFun (V_main_v0_3 m c) i).trans ?_
      show m ((c : Thread nD τ).loc main_arg5) i = headRow (ka m c) (key (x m c) (g m c) (w m c)) ⟨(i 0).val, _⟩ ⟨(i 1).val, _⟩
      unfold headRow
      rw [dif_pos hlo]
      exact congrArg (m ((c : Thread nD τ).loc main_arg5)) (funext fun a => match a with | ⟨0, _⟩ => rfl | ⟨1, _⟩ => rfl)
    rw [h]
    exact ite_self _
  · refine if_pos ?_
    obtain ⟨t, ht⟩ : ∃ t : Fin cfg0.N, t.val = ((i 0 : Nat) - 16384) / 4096 * 9 + 8 := ⟨⟨_, lt_of_lt_of_eq (by omega : ((i 0 : Nat) - 16384) / 4096 * 9 + 8 < 36) N_0.symm⟩, rfl⟩
    refine ⟨t, (flush0_8 t).mpr (by omega), ?_⟩
    obtain ⟨h0, h1⟩ := index8 t
    show i ∈ ((View.whole main_v0_3).slice (win0_8.rect t)).set
    rw [View.set_slice_whole, Rect.mem_set_unit]
    intro a
    match a with
    | ⟨0, _⟩ => show win0_8.index t 0 * 4096 ≤ (i 0 : Nat) ∧ (i 0 : Nat) < win0_8.index t 0 * 4096 + 4096; omega
    | ⟨1, _⟩ => show win0_8.index t 1 * 128 ≤ (i 1 : Nat) ∧ (i 1 : Nat) < win0_8.index t 1 * 128 + 128; omega

/-- The values head by head: the first half as it was. -/
def result9 : Buf (Elt Ideal) ((c : Thread nD τ).loc main_v0_4) := fun i =>
  headRow (va m c) (value (x m c) (g m c) (w m c)) ⟨(i 0).val, (i 0).isLt⟩ ⟨(i 1).val, (i 1).isLt⟩

theorem flushed9 : (dats m 0 c).flushed 9 t = ((cfg0.win 9).blk t).view.read (Elt Ideal) (result9 m c) := by
  obtain ⟨h0, h1⟩ := index9 t
  have hlt := hi t
  funext j
  obtain ⟨y, d, rfl⟩ : ∃ (y : Fin 4096) (d : Fin 128), j = ix2 y d := ⟨j 0, j 1, eq_ix2 j⟩
  rw [View.read_apply]
  refine Eq.trans (b := (dats m 0 c).after 9 t (ix2 y d)) rfl ?_
  rw [after_9]
  refine Eq.trans (b := result9 m c (ix2 (⟨16384 + (t.val / 9 * 4096 + y.val), by omega⟩ : Fin 32768) d)) ?_ ?_
  · refine Eq.trans (b := vHead (scr m c (t.val / 9)) (iblk m c 2 (pt (t.val / 9) 2) : Vec Ideal S1x2048x1024 .bf16) (y.val % 8)
      (ix2 (⟨y.val / 8, by omega⟩ : Fin 512) d)) ?_ ?_
    · exact congrArg (vHead (scr m c (t.val / 9)) (iblk m c 2 (pt (t.val / 9) 2) : Vec Ideal S1x2048x1024 .bf16) (y.val % 8)) (funext fun a => match a with
        | ⟨0, _⟩ => rfl
        | ⟨1, _⟩ => rfl)
    refine (vHead_apply _ _ (⟨y.val / 8, by omega⟩ : Fin 512) (⟨y.val % 8 * 128 + d.val, by omega⟩ : Fin 1024) d (y.val % 8) (by omega) rfl).trans ?_
    refine (col_pt m c (t.val / 9) (hi t) 2 (by omega) _ _ (⟨2048 + (y.val % 8 * 128 + d.val), by omega⟩ : Fin 9216) rfl).trans ?_
    show _ = headRow (va m c) (value (x m c) (g m c) (w m c)) ⟨16384 + (t.val / 9 * 4096 + y.val), _⟩ d
    unfold headRow
    rw [dif_neg (by show ¬(16384 + (t.val / 9 * 4096 + y.val) < 16384); omega)]
    unfold value
    refine congrArg₂ (dotCol (x m c) (g m c) (w m c)) (Fin.ext ?_) (Fin.ext ?_)
    · show t.val / 9 * 512 + y.val / 8 = (16384 + (t.val / 9 * 4096 + y.val) - 16384) / 8; omega
    · show 2048 + (y.val % 8 * 128 + d.val) = 2048 + ((16384 + (t.val / 9 * 4096 + y.val)) % 8 * 128 + d.val); omega
  refine congrArg (result9 m c) (funext fun a => Fin.ext ?_)
  match a with
  | ⟨0, _⟩ => show 16384 + (t.val / 9 * 4096 + y.val) = win0_9.index t 0 * 4096 + 1 * y.val; omega
  | ⟨1, _⟩ => show d.val = win0_9.index t 1 * 128 + 1 * d.val; omega

theorem final9 : (dats m 0 c).arrAt 9 cfg0.N = result9 m c := by
  funext i
  rw [(dats m 0 c).arrAt_eq_piecewise 9 (result9 m c) (fun t _ => flushed9 m c t) i]
  have i0 : (i 0 : Nat) < 32768 := (i 0).isLt
  have i1 : (i 1 : Nat) < 128 := (i 1).isLt
  by_cases hlo : (i 0 : Nat) < 16384
  · have h : (dats m 0 c).A 9 i = result9 m c i := by
      rw [A_eq]
      refine (congrFun (V_main_v0_4 m c) i).trans ?_
      show m ((c : Thread nD τ).loc main_arg6) i = headRow (va m c) (value (x m c) (g m c) (w m c)) ⟨(i 0).val, _⟩ ⟨(i 1).val, _⟩
      unfold headRow
      rw [dif_pos hlo]
      exact congrArg (m ((c : Thread nD τ).loc main_arg6)) (funext fun a => match a with | ⟨0, _⟩ => rfl | ⟨1, _⟩ => rfl)
    rw [h]
    exact ite_self _
  · refine if_pos ?_
    obtain ⟨t, ht⟩ : ∃ t : Fin cfg0.N, t.val = ((i 0 : Nat) - 16384) / 4096 * 9 + 8 := ⟨⟨_, lt_of_lt_of_eq (by omega : ((i 0 : Nat) - 16384) / 4096 * 9 + 8 < 36) N_0.symm⟩, rfl⟩
    refine ⟨t, (flush0_9 t).mpr (by omega), ?_⟩
    obtain ⟨h0, h1⟩ := index9 t
    show i ∈ ((View.whole main_v0_4).slice (win0_9.rect t)).set
    rw [View.set_slice_whole, Rect.mem_set_unit]
    intro a
    match a with
    | ⟨0, _⟩ => show win0_9.index t 0 * 4096 ≤ (i 0 : Nat) ∧ (i 0 : Nat) < win0_9.index t 0 * 4096 + 4096; omega
    | ⟨1, _⟩ => show win0_9.index t 1 * 128 ≤ (i 1 : Nat) ∧ (i 1 : Nat) < win0_9.index t 1 * 128 + 128; omega

end Cert.ProjIdeal.Final

end
-- ==== Proof.Proj.Reference.lean ====
/-
  The reference of the projection, read at an index.
-/
module

public import proofs.«01_k».proof.Proof.Gen.ProjRefIdeal.Read
public import proofs.«01_k».proof.Proof.Proj.Streams
public import Idealize.ShloMosaic.Lib.IdealHost

public section

set_option maxRecDepth 16384

noncomputable section

namespace Cert.ProjRefIdeal.Sum

open Cert.ProjRefIdeal Cert.ProjRefIdeal.Gen Cert.ProjRefIdeal.Read Cert.Mlp Cert.Streams
open Idealize.ShloMosaic Idealize.ShloMosaic.ValueIdx
open scoped BigOperators

variable (x0 : (Rows 2048).Idx → EReal) (x1 : Scale.Idx → EReal) (x2 : Weights.Idx → EReal) (x3 : Bias.Idx → EReal) (x4 : Norm.Idx → EReal)
  (x5 x6 : Heads.Idx → EReal) (x7 : Lanes.Idx → EReal)

theorem one_f32 : (FloatOps.ofBits (F := Ideal) .f32 0x3F800000#32 : Ideal .f32) = 1 := Ideal.ofBits_one_f32

theorem sum_v1 (r : Fin 2048) (i : S2048.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 9216) : val_main_v14 (F := Ideal) x2 (ix2 k f) = x2 (ix3 (1 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 9216 + f.val) / 9216 % 2048 = k.val; omega)
  | ⟨2, _⟩ => exact Fin.ext (by show (k.val * 9216 + f.val) % 9216 = f.val; omega)

theorem v15_apply (r : Fin 2048) (f : Fin 9216) : val_main_v15 (F := Ideal) x0 x1 x2 (ix2 r f) = dotCol x0 x1 x2 r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]

theorem v16_apply (r : Fin 2048) (e : Fin 1024) : val_main_v16 (F := Ideal) x0 x1 x2 (ix2 r e) = dotCol x0 x1 x2 r ⟨e.val, by omega⟩ := by
  have h : idx_main_v16 (ix2 r e) = ix2 r (⟨e.val, by omega⟩ : Fin 9216) := funext fun a => match a with | ⟨0, _⟩ => rfl | ⟨1, _⟩ => rfl
  rw [val_main_v16_apply, h, v15_apply]

theorem v17_apply (r : Fin 2048) (e : Fin 1024) : val_main_v17 (F := Ideal) x0 x1 x2 (ix2 r e) = dotCol x0 x1 x2 r ⟨1024 + e.val, by omega⟩ := by
  have h : idx_main_v17 (ix2 r e) = ix2 r (⟨1024 + e.val, by omega⟩ : Fin 9216) := funext fun a => match a with | ⟨0, _⟩ => rfl | ⟨1, _⟩ => rfl
  rw [val_main_v17_apply, h, v15_apply]

theorem v18_apply (r : Fin 2048) (e : Fin 1024) : val_main_v18 (F := Ideal) x0 x1 x2 (ix2 r e) = dotCol x0 x1 x2 r ⟨2048 + e.val, by omega⟩ := by
  have h : idx_main_v18 (ix2 r e) = ix2 r (⟨2048 + e.val, by omega⟩ : Fin 9216) := funext fun a => match a with | ⟨0, _⟩ => rfl | ⟨1, _⟩ => rfl
  rw [val_main_v18_apply, h, v15_apply]

theorem v19_apply (r : Fin 2048) (e : Fin 1024) : val_main_v19 (F := Ideal) x0 x1 x2 (ix2 r e) = dotCol x0 x1 x2 r ⟨3072 + e.val, by omega⟩ := by
  have h : idx_main_v19 (ix2 r e) = ix2 r (⟨3072 + e.val, by omega⟩ : Fin 9216) := funext fun a => match a with | ⟨0, _⟩ => rfl | ⟨1, _⟩ => rfl
  rw [val_main_v19_apply, h, v15_apply]

theorem v20_apply (r : Fin 2048) (e : Fin 1024) : val_main_v20 (F := Ideal) x0 x1 x2 (ix2 r e) = dotCol x0 x1 x2 r ⟨4096 + e.val, by omega⟩ := by
  have h : idx_main_v20 (ix2 r e) = ix2 r (⟨4096 + e.val, by omega⟩ : Fin 9216) := funext fun a => match a with | ⟨0, _⟩ => rfl | ⟨1, _⟩ => rfl
  rw [val_main_v20_apply, h, v15_apply]

theorem v21_apply (r : Fin 2048) (e : Fin 4096) : val_main_v21 (F := Ideal) x0 x1 x2 (ix2 r e) = dotCol x0 x1 x2 r ⟨5120 + e.val, by omega⟩ := by
  have h : idx_main_v21 (ix2 r e) = ix2 r (⟨5120 + e.val, by omega⟩ : Fin 9216) := funext fun a => match a with | ⟨0, _⟩ => rfl | ⟨1, _⟩ => rfl
  rw [val_main_v21_apply, h, v15_apply]

theorem v34_apply (r : Fin 2048) (e : Fin 1024) : val_main_v34 (F := Ideal) x0 x1 x2 (ix2 r e) = gelu (val_main_v19 (F := Ideal) x0 x1 x2 (ix2 r e)) := by
  rw [val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply]
  generalize val_main_v19 (F := Ideal) x0 x1 x2 (ix2 r e) = y
  rw [val_main_cst_4_apply, one_f32]
  unfold gelu
  rw [mul_comm y (y * y)]
  rfl

theorem v47_apply (r : Fin 2048) (e : Fin 1024) : val_main_v47 (F := Ideal) x0 x1 x2 (ix2 r e) = gelu (val_main_v20 (F := Ideal) x0 x1 x2 (ix2 r e)) := by
  rw [val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply]
  generalize val_main_v20 (F := Ideal) x0 x1 x2 (ix2 r e) = y
  rw [val_main_cst_8_apply, one_f32]
  unfold gelu
  rw [mul_comm y (y * y)]
  rfl

theorem sum_v49 (r : Fin 2048) (i : S2048.Idx) (hi : (i 0).val = r.val) :
    val_main_v49 (F := Ideal) x0 x1 x2 i = ∑ k : Fin 1024, val_main_v47 (F := Ideal) x0 x1 x2 (ix2 r k) * val_main_v47 (F := Ideal) x0 x1 x2 (ix2 r k) := by
  rw [val_main_v49_apply]
  have h0 : val_main_cst_10 (F := Ideal) (Shape.Idx.first h_S_) = 0 := Ideal.ofBits_zero_f32
  rw [h0, zero_add]
  refine Finset.sum_congr rfl fun k _ => ?_
  have e : idx_main_v49 i k = ix2 r k := funext fun a => match a with | ⟨0, _⟩ => Fin.ext hi | ⟨1, _⟩ => rfl
  rw [val_main_v48_apply, e]
  rfl

theorem v59_apply (r : Fin 2048) (e : Fin 1024) : val_main_v59 (F := Ideal) x0 x1 x2 x4 (ix2 r e) = normed x0 x1 x2 x4 r e := by
  refine Eq.trans (b := rmsLanes (fun e => val_main_v47 (F := Ideal) x0 x1 x2 (ix2 r e)) (fun e => x4 (ix2 (0 : Fin 1) e)) e) ?_
    (congrArg (fun y : Fin 1024 → EReal => rmsLanes y (fun e => x4 (ix2 (0 : Fin 1) e)) e) (funext fun e => by rw [v47_apply, v20_apply]))
  rw [val_main_v59_apply, val_main_v57_apply, val_main_v58_apply, val_main_v56_apply, val_main_v55_apply, val_main_v54_apply, val_main_v52_apply, val_main_v50_apply,
    sum_v49 x0 x1 x2 r _ rfl]
  have h : idx_main_v58 (ix2 r e) = ix2 (0 : Fin 1) e := funext fun a => match a with | ⟨0, _⟩ => rfl | ⟨1, _⟩ => rfl
  rw [h]
  rfl

/-! ## The results -/

theorem v70_apply (r : Fin 2048) (e : Fin 1024) : val_main_v70 (F := Ideal) x0 x1 x2 (ix2 r e) = query x0 x1 x2 r e := by
  rw [val_main_v70_apply, val_main_v69_apply, v16_apply, val_main_v68_apply]
  rfl

theorem v71_apply (r : Fin 2048) (e : Fin 1024) : val_main_v71 (F := Ideal) x0 x1 x2 (ix2 r e) = key x0 x1 x2 r e := by
  rw [val_main_v71_apply, v17_apply]
  rfl

theorem v72_apply (r : Fin 2048) (e : Fin 1024) : val_main_v72 (F := Ideal) x0 x1 x2 (ix2 r e) = value x0 x1 x2 r e := by
  rw [val_main_v72_apply, v18_apply]
  rfl

theorem v79_apply (r : Fin 2048) (e : Fin 1024) : val_main_v79 (F := Ideal) x0 x1 x2 (ix2 r e) = lane x0 x1 x2 r e := by
  rw [val_main_v79_apply, v34_apply, v19_apply]
  rfl

theorem v82_apply (r : Fin 2048) (e : Fin 4096) : val_main_v82 (F := Ideal) x0 x1 x2 x3 (ix2 r e) = gate x0 x1 x2 x3 r e := by
  have h : idx_main_v60 (ix2 r e) = ix2 (0 : Fin 1) e := funext fun a => match a with | ⟨0, _⟩ => rfl | ⟨1, _⟩ => rfl
  rw [val_main_v82_apply, val_main_v67_apply, val_main_v66_apply, val_main_cst_14_apply, val_main_v65_apply, val_main_v64_apply, val_main_cst_13_apply, val_main_v63_apply,
    val_main_v62_apply, val_main_v61_apply, val_main_v60_apply, h, v21_apply, one_f32]
  rfl

theorem v75_apply (y : Fin 32768) (d : Fin 128) : val_main_v75 (F := Ideal) x0 x1 x2 x5 (ix2 y d) = headRow x5 (key x0 x1 x2) y d := by
  unfold val_main_v75 headRow
  by_cases h : y.val < 16384
  · rw [dif_pos h]
    refine (concatenate_pair_apply_left (α := EReal) (t := S32768x128) (s₁ := S16384x128) (s₂ := S16384x128) 0 _ _ _ (ix2 y d) rfl (ix2 (⟨y.val, h⟩ : Fin 16384) d) (fun b => match b with
      | ⟨0, _⟩ => rfl
      | ⟨1, _⟩ => rfl)).trans ?_
    rw [val_main_v73_apply]
    exact congrArg x5 (funext fun a => match a with | ⟨0, _⟩ => rfl | ⟨1, _⟩ => rfl)
  · rw [dif_neg h]
    have hy : y.val < 32768 := y.isLt
    have hd : d.val < 128 := d.isLt
    refine (concatenate_pair_apply_right (α := EReal) (t := S32768x128) (s₁ := S16384x128) (s₂ := S16384x128) 0 _ _ _ (ix2 y d) rfl rfl (ix2 (⟨y.val - 16384, by omega⟩ : Fin 16384) d) (fun b hb => match b with
      | ⟨0, _⟩ => absurd rfl hb
      | ⟨1, _⟩ => rfl) (by show y.val - 16384 + 16384 = y.val; omega)).trans ?_
    rw [val_main_v74_apply]
    have e : idx_main_v74 (ix2 (⟨y.val - 16384, by omega⟩ : Fin 16384) d)
        = ix2 (⟨(y.val - 16384) / 8, by omega⟩ : Fin 2048) (⟨y.val % 8 * 128 + d.val, by omega⟩ : Fin 1024) := funext fun a => match a with
      | ⟨0, _⟩ => Fin.ext (by show ((y.val - 16384) * 128 + d.val) / 1024 = (y.val - 16384) / 8; omega)
      | ⟨1, _⟩ => Fin.ext (by show ((y.val - 16384) * 128 + d.val) % 1024 = y.val % 8 * 128 + d.val; omega)
    rw [e, v17_apply]
    rfl

theorem v78_apply (y : Fin 32768) (d : Fin 128) : val_main_v78 (F := Ideal) x0 x1 x2 x6 (ix2 y d) = headRow x6 (value x0 x1 x2) y d := by
  unfold val_main_v78 headRow
  by_cases h : y.val < 16384
  · rw [dif_pos h]
    refine (concatenate_pair_apply_left (α := EReal) (t := S32768x128) (s₁ := S16384x128) (s₂ := S16384x128) 0 _ _ _ (ix2 y d) rfl (ix2 (⟨y.val, h⟩ : Fin 16384) d) (fun b => match b with
      | ⟨0, _⟩ => rfl
      | ⟨1, _⟩ => rfl)).trans ?_
    rw [val_main_v76_apply]
    exact congrArg x6 (funext fun a => match a with | ⟨0, _⟩ => rfl | ⟨1, _⟩ => rfl)
  · rw [dif_neg h]
    have hy : y.val < 32768 := y.isLt
    have hd : d.val < 128 := d.isLt
    refine (concatenate_pair_apply_right (α := EReal) (t := S32768x128) (s₁ := S16384x128) (s₂ := S16384x128) 0 _ _ _ (ix2 y d) rfl rfl (ix2 (⟨y.val - 16384, by omega⟩ : Fin 16384) d) (fun b hb => match b with
      | ⟨0, _⟩ => absurd rfl hb
      | ⟨1, _⟩ => rfl) (by show y.val - 16384 + 16384 = y.val; omega)).trans ?_
    rw [val_main_v77_apply]
    have e : idx_main_v77 (ix2 (⟨y.val - 16384, by omega⟩ : Fin 16384) d)
        = ix2 (⟨(y.val - 16384) / 8, by omega⟩ : Fin 2048) (⟨y.val % 8 * 128 + d.val, by omega⟩ : Fin 1024) := funext fun a => match a with
      | ⟨0, _⟩ => Fin.ext (by show ((y.val - 16384) * 128 + d.val) / 1024 = (y.val - 16384) / 8; omega)
      | ⟨1, _⟩ => Fin.ext (by show ((y.val - 16384) * 128 + d.val) % 1024 = y.val % 8 * 128 + d.val; omega)
    rw [e, v18_apply]
    rfl

theorem v81_apply (y : Fin 4096) (e : Fin 1024) : val_main_v81 (F := Ideal) x0 x1 x2 x4 x7 (ix2 y e) = laneRow x0 x1 x2 x4 x7 y e := by
  unfold val_main_v81 laneRow
  by_cases h : y.val < 2048
  · rw [dif_pos h]
    refine (concatenate_pair_apply_left (α := EReal) (t := S4096x1024) (s₁ := S2048x1024) (s₂ := S2048x1024) 0 _ _ _ (ix2 y e) rfl (ix2 (⟨y.val, h⟩ : Fin 2048) e) (fun b => match b with
      | ⟨0, _⟩ => rfl
      | ⟨1, _⟩ => rfl)).trans ?_
    rw [val_main_v80_apply]
    exact congrArg x7 (funext fun a => match a with | ⟨0, _⟩ => rfl | ⟨1, _⟩ => rfl)
  · rw [dif_neg h]
    have hy : y.val < 4096 := y.isLt
    refine (concatenate_pair_apply_right (α := EReal) (t := S4096x1024) (s₁ := S2048x1024) (s₂ := S2048x1024) 0 _ _ _ (ix2 y e) rfl rfl (ix2 (⟨y.val - 2048, by omega⟩ : Fin 2048) e) (fun b hb => match b with
      | ⟨0, _⟩ => absurd rfl hb
      | ⟨1, _⟩ => rfl) (by show y.val - 2048 + 2048 = y.val; omega)).trans ?_
    exact v59_apply x0 x1 x2 x4 _ e

end Cert.ProjRefIdeal.Sum

end
-- ==== Proof.Proj.Claims.lean ====
/-
  The claims about the projection call: its three frames, and its value.
-/

module

public import proofs.«01_k».proof.Defs
public import proofs.«01_k».proof.Proof.ProjB.Frame
public import proofs.«01_k».proof.Proof.Gen.ProjRefIdeal.Run
public import proofs.«01_k».proof.Proof.Gen.ProjRefIdeal.Read
public import proofs.«01_k».proof.Proof.Proj.Final
public import proofs.«01_k».proof.Proof.Proj.Reference

public section

set_option maxRecDepth 16384

noncomputable section

namespace Cert.ProjClaims

open Cert.Streams
open Idealize.ShloMosaic.TcCoe Idealize.SL.Sem Idealize.ShloMosaic.ValueIdx
open Idealize.ShloMosaic hiding ix2 ix3 eq_ix2 eq_ix3

theorem frame_p : quiescent_Proj := fun m ρ _ => Proj.Frm.frame m ρ

theorem frame_pi : quiescent_ProjIdeal := fun m ρ _ => ProjIdeal.Frm.frame m ρ

theorem frame_ri : quiescent_ProjRefIdeal := fun m ρ _ =>
  (θ_run ProjRefIdeal.defs _ _).mono (fun r h => ⟨fun c => (h c).2.2.2.2.2.2.2.2, sem_eq_zero_of_no_sems (by decide) r.2⟩)
    (ProjRefIdeal.Value.run (F := Ideal) m ρ)

variable (m : (ℓ : Loc ProjIdeal.nD ProjIdeal.τ ProjIdeal.sig) → Buf (Elt Ideal) ℓ)
variable (m' : (ℓ : Loc ProjRefIdeal.nD ProjRefIdeal.τ ProjRefIdeal.sig) → Buf (Elt Ideal) ℓ)
variable (c : Dev ProjIdeal.nD)

/-- The reference's arguments, as its memory holds them. -/
abbrev a0 := m' ((c.tc : Thread ProjRefIdeal.nD ProjRefIdeal.τ).loc ProjRefIdeal.main_arg0)
abbrev a1 := m' ((c.tc : Thread ProjRefIdeal.nD ProjRefIdeal.τ).loc ProjRefIdeal.main_arg1)
abbrev a2 := m' ((c.tc : Thread ProjRefIdeal.nD ProjRefIdeal.τ).loc ProjRefIdeal.main_arg2)
abbrev a3 := m' ((c.tc : Thread ProjRefIdeal.nD ProjRefIdeal.τ).loc ProjRefIdeal.main_arg3)
abbrev a4 := m' ((c.tc : Thread ProjRefIdeal.nD ProjRefIdeal.τ).loc ProjRefIdeal.main_arg4)
abbrev a5 := m' ((c.tc : Thread ProjRefIdeal.nD ProjRefIdeal.τ).loc ProjRefIdeal.main_arg5)
abbrev a6 := m' ((c.tc : Thread ProjRefIdeal.nD ProjRefIdeal.τ).loc ProjRefIdeal.main_arg6)
abbrev a7 := m' ((c.tc : Thread ProjRefIdeal.nD ProjRefIdeal.τ).loc ProjRefIdeal.main_arg7)

/-- The kernel's results, from what every point wrote back. -/
theorem results (r : PUnit × MemSt ProjIdeal.nD ProjIdeal.τ ProjIdeal.sig (Elt Ideal))
    (h : Pipeline.FramePost ProjIdeal.cfgs (ProjIdeal.Frm.dats m) 0 (ProjIdeal.Frm.V m) r) :
    r.2.mem ((c.tc : Thread ProjIdeal.nD ProjIdeal.τ).loc ProjIdeal.main_v0_0) = ProjIdeal.Final.result5 m c
      ∧ r.2.mem ((c.tc : Thread ProjIdeal.nD ProjIdeal.τ).loc ProjIdeal.main_v0_1) = ProjIdeal.Final.result6 m c
      ∧ r.2.mem ((c.tc : Thread ProjIdeal.nD ProjIdeal.τ).loc ProjIdeal.main_v0_2) = ProjIdeal.Final.result7 m c
      ∧ r.2.mem ((c.tc : Thread ProjIdeal.nD ProjIdeal.τ).loc ProjIdeal.main_v0_3) = ProjIdeal.Final.result8 m c
      ∧ r.2.mem ((c.tc : Thread ProjIdeal.nD ProjIdeal.τ).loc ProjIdeal.main_v0_4) = ProjIdeal.Final.result9 m c
      ∧ r.2.mem ((c.tc : Thread ProjIdeal.nD ProjIdeal.τ).loc ProjIdeal.main_v0_5) = ProjIdeal.Final.result10 m c
      ∧ r.2.mem ((c.tc : Thread ProjIdeal.nD ProjIdeal.τ).loc ProjIdeal.main_v0_6) = ProjIdeal.Final.result11 m c
      ∧ r.2.mem ((c.tc : Thread ProjIdeal.nD ProjIdeal.τ).loc ProjIdeal.main_v0_7) = ProjIdeal.Final.result12 m c :=
  ⟨((h c).1 5).trans (ProjIdeal.Final.final5 m c),
   ((h c).1 6).trans (ProjIdeal.Final.final6 m c),
   ((h c).1 7).trans (ProjIdeal.Final.final7 m c),
   ((h c).1 8).trans (ProjIdeal.Final.final8 m c),
   ((h c).1 9).trans (ProjIdeal.Final.final9 m c),
   ((h c).1 10).trans (ProjIdeal.Final.final10 m c),
   ((h c).1 11).trans (ProjIdeal.Final.final11 m c),
   ((h c).1 12).trans (ProjIdeal.Final.final12 m c)⟩

/-- The two memories hold the same arguments. -/
def Agree : Prop :=
  a0 m' c = ProjIdeal.Final.x m c
  ∧ a1 m' c = ProjIdeal.Final.g m c
  ∧ a2 m' c = ProjIdeal.Final.w m c
  ∧ a3 m' c = ProjIdeal.Final.bg m c
  ∧ a4 m' c = ProjIdeal.Final.sn m c
  ∧ a5 m' c = ProjIdeal.Final.ka m c
  ∧ a6 m' c = ProjIdeal.Final.va m c
  ∧ a7 m' c = ProjIdeal.Final.vna m c

theorem res5 (h : Agree m m' c) :
    ProjRefIdeal.Read.val_main_v70 (F := Ideal) (a0 m' c) (a1 m' c) (a2 m' c) = ProjIdeal.Final.result5 m c := by
  obtain ⟨h0, h1, h2, h3, h4, h5, h6, h7⟩ := h
  rw [h0, h1, h2]
  funext i
  obtain ⟨r, d, rfl⟩ : ∃ (r : Fin 2048) (d : Fin 1024), i = ix2 r d := ⟨i 0, i 1, eq_ix2 i⟩
  exact ProjRefIdeal.Sum.v70_apply _ _ _ r d

theorem res6 (h : Agree m m' c) :
    ProjRefIdeal.Read.val_main_v71 (F := Ideal) (a0 m' c) (a1 m' c) (a2 m' c) = ProjIdeal.Final.result6 m c := by
  obtain ⟨h0, h1, h2, h3, h4, h5, h6, h7⟩ := h
  rw [h0, h1, h2]
  funext i
  obtain ⟨r, d, rfl⟩ : ∃ (r : Fin 2048) (d : Fin 1024), i = ix2 r d := ⟨i 0, i 1, eq_ix2 i⟩
  exact ProjRefIdeal.Sum.v71_apply _ _ _ r d

theorem res7 (h : Agree m m' c) :
    ProjRefIdeal.Read.val_main_v72 (F := Ideal) (a0 m' c) (a1 m' c) (a2 m' c) = ProjIdeal.Final.result7 m c := by
  obtain ⟨h0, h1, h2, h3, h4, h5, h6, h7⟩ := h
  rw [h0, h1, h2]
  funext i
  obtain ⟨r, d, rfl⟩ : ∃ (r : Fin 2048) (d : Fin 1024), i = ix2 r d := ⟨i 0, i 1, eq_ix2 i⟩
  exact ProjRefIdeal.Sum.v72_apply _ _ _ r d

theorem res8 (h : Agree m m' c) :
    ProjRefIdeal.Read.val_main_v75 (F := Ideal) (a0 m' c) (a1 m' c) (a2 m' c) (a5 m' c) = ProjIdeal.Final.result8 m c := by
  obtain ⟨h0, h1, h2, h3, h4, h5, h6, h7⟩ := h
  rw [h0, h1, h2, h5]
  funext i
  obtain ⟨r, d, rfl⟩ : ∃ (r : Fin 32768) (d : Fin 128), i = ix2 r d := ⟨i 0, i 1, eq_ix2 i⟩
  exact ProjRefIdeal.Sum.v75_apply _ _ _ _ r d

theorem res9 (h : Agree m m' c) :
    ProjRefIdeal.Read.val_main_v78 (F := Ideal) (a0 m' c) (a1 m' c) (a2 m' c) (a6 m' c) = ProjIdeal.Final.result9 m c := by
  obtain ⟨h0, h1, h2, h3, h4, h5, h6, h7⟩ := h
  rw [h0, h1, h2, h6]
  funext i
  obtain ⟨r, d, rfl⟩ : ∃ (r : Fin 32768) (d : Fin 128), i = ix2 r d := ⟨i 0, i 1, eq_ix2 i⟩
  exact ProjRefIdeal.Sum.v78_apply _ _ _ _ r d

theorem res10 (h : Agree m m' c) :
    ProjRefIdeal.Read.val_main_v79 (F := Ideal) (a0 m' c) (a1 m' c) (a2 m' c) = ProjIdeal.Final.result10 m c := by
  obtain ⟨h0, h1, h2, h3, h4, h5, h6, h7⟩ := h
  rw [h0, h1, h2]
  funext i
  obtain ⟨r, d, rfl⟩ : ∃ (r : Fin 2048) (d : Fin 1024), i = ix2 r d := ⟨i 0, i 1, eq_ix2 i⟩
  exact ProjRefIdeal.Sum.v79_apply _ _ _ r d

theorem res11 (h : Agree m m' c) :
    ProjRefIdeal.Read.val_main_v81 (F := Ideal) (a0 m' c) (a1 m' c) (a2 m' c) (a4 m' c) (a7 m' c) = ProjIdeal.Final.result11 m c := by
  obtain ⟨h0, h1, h2, h3, h4, h5, h6, h7⟩ := h
  rw [h0, h1, h2, h4, h7]
  funext i
  obtain ⟨r, d, rfl⟩ : ∃ (r : Fin 4096) (d : Fin 1024), i = ix2 r d := ⟨i 0, i 1, eq_ix2 i⟩
  exact ProjRefIdeal.Sum.v81_apply _ _ _ _ _ r d

theorem res12 (h : Agree m m' c) :
    ProjRefIdeal.Read.val_main_v82 (F := Ideal) (a0 m' c) (a1 m' c) (a2 m' c) (a3 m' c) = ProjIdeal.Final.result12 m c := by
  obtain ⟨h0, h1, h2, h3, h4, h5, h6, h7⟩ := h
  rw [h0, h1, h2, h3]
  funext i
  obtain ⟨r, d, rfl⟩ : ∃ (r : Fin 2048) (d : Fin 4096), i = ix2 r d := ⟨i 0, i 1, eq_ix2 i⟩
  exact ProjRefIdeal.Sum.v82_apply _ _ _ _ r d

theorem algebraic : algebraic_ProjIdeal_ProjRefIdeal := by
  intro m ρ m' ρ' _ hagree
  refine ⟨fun c => ProjIdeal.Final.result5 m c, fun c => ProjIdeal.Final.result6 m c, fun c => ProjIdeal.Final.result7 m c, fun c => ProjIdeal.Final.result8 m c, fun c => ProjIdeal.Final.result9 m c, fun c => ProjIdeal.Final.result10 m c, fun c => ProjIdeal.Final.result11 m c, fun c => ProjIdeal.Final.result12 m c, ?_, ?_⟩
  · refine (θ_run ProjIdeal.defs _ _).mono (fun r h c => ?_) (ProjIdeal.Frm.run_all (F := Ideal) m ρ)
    obtain ⟨r0, r1, r2, r3, r4, r5, r6, r7⟩ := results m c r h.1
    exact ⟨r0, r1, r2, r3, r4, r5, r6, r7, ProjIdeal.Frm.kept_of m r h.1 c⟩
  · refine (θ_run ProjRefIdeal.defs _ _).mono (fun r h c => ?_) (ProjRefIdeal.Value.run (F := Ideal) m' ρ')
    obtain ⟨r0, r1, r2, r3, r4, r5, r6, r7, kept⟩ := h c
    have a : Agree m m' c := hagree c
    exact ⟨r0.trans ((ProjRefIdeal.Read.val_main_v70_eq (a0 m' c) (a1 m' c) (a2 m' c)).trans (res5 m m' c a)),
      r1.trans ((ProjRefIdeal.Read.val_main_v71_eq (a0 m' c) (a1 m' c) (a2 m' c)).trans (res6 m m' c a)),
      r2.trans ((ProjRefIdeal.Read.val_main_v72_eq (a0 m' c) (a1 m' c) (a2 m' c)).trans (res7 m m' c a)),
      r3.trans ((ProjRefIdeal.Read.val_main_v75_eq (a0 m' c) (a1 m' c) (a2 m' c) (a5 m' c)).trans (res8 m m' c a)),
      r4.trans ((ProjRefIdeal.Read.val_main_v78_eq (a0 m' c) (a1 m' c) (a2 m' c) (a6 m' c)).trans (res9 m m' c a)),
      r5.trans ((ProjRefIdeal.Read.val_main_v79_eq m' c).trans (res10 m m' c a)),
      r6.trans ((ProjRefIdeal.Read.val_main_v81_eq m' c).trans (res11 m m' c a)),
      r7.trans ((ProjRefIdeal.Read.val_main_v82_eq (a0 m' c) (a1 m' c) (a2 m' c) (a3 m' c)).trans (res12 m m' c a)), kept⟩

end Cert.ProjClaims

end
-- ==== Proof.FfnPrompt.Pay.lean ====
/-
  The feed-forward kernel's arithmetic at the prompts' rows: block by block it is that at the running streams' rows.
-/
module

public import proofs.«01_k».proof.Proof.Gen.FfnPromptIdeal.Skeleton
public import proofs.«01_k».proof.Proof.Ffn.Pay

@[expose] public section

set_option maxRecDepth 16384

noncomputable section

namespace Cert.FfnPromptIdeal.Pay

open Cert.FfnPromptIdeal Cert.FfnPromptIdeal.Gen Cert.Mlp Idealize.ShloMosaic.ValueIdx
open Idealize.ShloMosaic hiding ix2 ix3
open scoped BigOperators

/-- A row times a tile's column. -/
abbrev col := Cert.FfnIdeal.Pay.col

theorem pay1_apply (x : Vec Ideal S512x2048 .f32) (g : Vec Ideal S1x2048 .f32) (r : Fin 512) (k : Fin 2048) :
    k0_pay1 x g (ix2 r k) = rms (fun k => x (ix2 r k)) (fun k => g (ix2 (0 : Fin 1) k)) k :=
  Cert.FfnIdeal.Pay.pay1_apply x g r k

theorem pay3_apply (x : Vec Ideal S512x2048 .f32) (g : Vec Ideal S1x2048 .f32) (r : Fin 512) (k : Fin 2048) :
    k0_pay3 x g (ix2 r k) = rms (fun k => x (ix2 r k)) (fun k => g (ix2 (0 : Fin 1) k)) k :=
  Cert.FfnIdeal.Pay.pay3_apply x g r k

theorem pay2_apply (v3 : FVec Ideal S512x2048 .bf16) (v4 v7 : FVec Ideal S1x2048x512 .bf16) (v14 : FVec Ideal S512x2048 .f32) (v16 : FVec Ideal S1x512x2048 .bf16)
    (r : Fin 512) (d : Fin 2048) :
    k0_pay2 v3 v4 v7 v14 v16 (ix2 r d) = v14 (ix2 r d)
      + ∑ e : Fin 512, col v3 v4 r e * Ideal.logistic (col v3 v4 r e) * col v3 v7 r e * v16 (ix3 (0 : Fin 1) e d) :=
  Cert.FfnIdeal.Pay.pay2_apply v3 v4 v7 v14 v16 r d

end Cert.FfnPromptIdeal.Pay

end
-- ==== Proof.FfnPrompt.Body.lean ====
/-
  What one point of the feed-forward kernel at the prompts' rows leaves in its output's block and in the row it keeps between points.
-/
module

public import proofs.«01_k».proof.Proof.Gen.FfnPromptIdeal.Value
public import proofs.«01_k».proof.Proof.FfnPrompt.Pay

@[expose] public section

set_option maxRecDepth 16384

noncomputable section

namespace Cert.FfnPromptIdeal.Body

open Cert.FfnPromptIdeal Cert.FfnPromptIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)

theorem sout_A (hc0 : cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    sout0_A_0 c i _ harg2 _ harg3 _ harg4 _ harg5 _ harg6 _ harg7 _ harg8 _ harg9 hc0 hc1 x0 x1 x2 x3 x4 x5 = k0_pay1 x0 x1 := by
  unfold sout0_A_0
  rw [View.read_writes_eq_canon _ _ _ (scover0_A_0 c i _ harg2 _ harg3 _ harg4 _ harg5 _ harg6 _ harg7 _ harg8 _ harg9 hc0 hc1 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_A (hc0 : cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    out0_A_6 c i _ harg2 _ harg3 _ harg4 _ harg5 _ harg6 _ harg7 _ harg8 _ harg9 hc0 hc1 x0 x1 x2 x3 x4 x5 = k0_pay2 (k0_pay1 x0 x1) x2 x3 x0 x4 := by
  unfold out0_A_6
  rw [View.read_writes_eq_canon _ _ _ (cover0_A_6 c i _ harg2 _ harg3 _ harg4 _ harg5 _ harg6 _ harg7 _ harg8 _ harg9 hc0 hc1 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_B (hc0 : ¬cond0_0 i) (hc1 : ¬cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_B_6 c i _ harg2 _ harg3 _ harg4 _ harg5 _ harg6 _ harg7 _ harg8 _ harg9 hc0 hc1 x0 x1 x2 x3 x4 x5 xo6 xs0 = k0_pay2 xs0 x2 x3 xo6 x4 := by
  unfold out0_B_6
  rw [View.read_writes_eq_canon _ _ _ (cover0_B_6 c i _ harg2 _ harg3 _ harg4 _ harg5 _ harg6 _ harg7 _ harg8 _ harg9 hc0 hc1 x0 x1 x2 x3 x4 x5 xo6 xs0)]
  unfold kernelRun0_B
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_C (hc0 : ¬cond0_0 i) (hc1 : cond0_1 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_C_6 c i _ harg2 _ harg3 _ harg4 _ harg5 _ harg6 _ harg7 _ harg8 _ harg9 hc0 hc1 x0 x1 x2 x3 x4 x5 xo6 xs0 = k0_pay3 (k0_pay2 xs0 x2 x3 xo6 x4) x5 := by
  unfold out0_C_6
  rw [View.read_writes_eq_canon _ _ _ (cover0_C_6 c i _ harg2 _ harg3 _ harg4 _ harg5 _ harg6 _ harg7 _ harg8 _ harg9 hc0 hc1 x0 x1 x2 x3 x4 x5 xo6 xs0)]
  unfold kernelRun0_C
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

end Cert.FfnPromptIdeal.Body

end
-- ==== Proof.FfnPrompt.Final.lean ====
/-
  The feed-forward kernel's blocks at the prompts' rows, and its result array: tile by tile the rows gather the shares of the columns, and the last tile's
  point normalises them.
-/
module

public import proofs.«01_k».proof.Proof.FfnPrompt.Body

@[expose] public section

set_option maxRecDepth 16384

noncomputable section

namespace Cert.FfnPromptIdeal.Final

open Cert.FfnPromptIdeal Cert.FfnPromptIdeal.Gen Cert.FfnPromptIdeal.Pay Cert.Mlp
open Idealize.ShloMosaic.TcCoe Idealize.SL.Sem Idealize.ShloMosaic.ValueIdx
open Idealize.ShloMosaic hiding ix2 ix3 eq_ix2 eq_ix3
open scoped BigOperators

variable (m : (ℓ : Loc nD τ sig) → Buf (Elt Ideal) ℓ) (c : Dev nD)

theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 1 ∧ win0_2.index t 1 = 0 ∧ win0_2.index t 2 = t.val % 11 := by decide +kernel
theorem index3 : ∀ t : Fin grid0.N, win0_3.index t 0 = 1 ∧ win0_3.index t 1 = 0 ∧ win0_3.index t 2 = t.val % 11 + 11 := by decide +kernel
theorem index4 : ∀ t : Fin grid0.N, win0_4.index t 0 = 1 ∧ win0_4.index t 1 = t.val % 11 ∧ win0_4.index t 2 = 0 := by decide +kernel
theorem index5 : ∀ t : Fin grid0.N, win0_5.index t 0 = 0 ∧ win0_5.index t 1 = 0 := by decide +kernel
theorem index6 : ∀ t : Fin grid0.N, win0_6.index t 0 = t.val / 11 ∧ win0_6.index t 1 = 0 := by decide +kernel

variable (t : Fin cfg0.N)

theorem t_lt : t.val < 176 := lt_of_lt_of_eq t.isLt N_0

/-- Row `r` of the point's block. -/
abbrev rowOf (n : ℕ) (hn : n < cfg0.N) (r : Fin 512) : Fin 8192 := ⟨n / 11 * 512 + r.val, by have : n < 176 := lt_of_lt_of_eq hn N_0; omega⟩

/-- Column `e` of the point's tile. -/
abbrev colOf (e : Fin 512) : Fin 5632 := ⟨t.val % 11 * 512 + e.val, by omega⟩

theorem iblk0_apply (r : Fin 512) (k : Fin 2048) : (iblk m c 0 t : Vec Ideal S512x2048 .f32) (ix2 r k)
    = m ((c : Thread nD τ).loc main_arg0) (ix2 (rowOf t.val t.isLt r) k) := by
  obtain ⟨h0, h1⟩ := index0 t
  refine Eq.trans ?_ (congrFun (V_main_arg0 m c) _)
  unfold iblk
  rw [View.read_apply]
  refine congrArg (V m c main_arg0) (funext fun a => Fin.ext ?_)
  match a with
  | ⟨0, _⟩ => show win0_0.index t 0 * 512 + 1 * r.val = t.val / 11 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_main_arg1 m c) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 512) : (iblk m c 2 t : Vec Ideal S1x2048x512 .bf16) (ix3 (0 : Fin 1) k e)
    = m ((c : Thread nD τ).loc main_arg2) (ix3 (1 : Fin 2) k (⟨(colOf t e).val, by omega⟩ : Fin 11264)) := by
  obtain ⟨h0, h1, h2⟩ := index2 t
  refine Eq.trans ?_ (congrFun (V_main_arg2 m c) _)
  unfold iblk
  rw [View.read_apply]
  refine congrArg (V m c main_arg2) (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 512 + 1 * e.val = t.val % 11 * 512 + e.val; omega

theorem iblk3_apply (k : Fin 2048) (e : Fin 512) : (iblk m c 3 t : Vec Ideal S1x2048x512 .bf16) (ix3 (0 : Fin 1) k e)
    = m ((c : Thread nD τ).loc main_arg2) (ix3 (1 : Fin 2) k (⟨5632 + (colOf t e).val, by omega⟩ : Fin 11264)) := by
  obtain ⟨h0, h1, h2⟩ := index3 t
  refine Eq.trans ?_ (congrFun (V_main_arg2 m c) _)
  unfold iblk
  rw [View.read_apply]
  refine congrArg (V m c main_arg2) (funext fun a => Fin.ext ?_)
  match a with
  | ⟨0, _⟩ => show win0_3.index t 0 * 1 + 1 * 0 = 1; omega
  | ⟨1, _⟩ => show win0_3.index t 1 * 2048 + 1 * k.val = k.val; omega
  | ⟨2, _⟩ => show win0_3.index t 2 * 512 + 1 * e.val = 5632 + (t.val % 11 * 512 + e.val); omega

theorem iblk4_apply (e : Fin 512) (d : Fin 2048) : (iblk m c 4 t : Vec Ideal S1x512x2048 .bf16) (ix3 (0 : Fin 1) e d)
    = m ((c : Thread nD τ).loc main_arg3) (ix3 (1 : Fin 2) (colOf t e) d) := by
  obtain ⟨h0, h1, h2⟩ := index4 t
  refine Eq.trans ?_ (congrFun (V_main_arg3 m c) _)
  unfold iblk
  rw [View.read_apply]
  refine congrArg (V m c main_arg3) (funext fun a => Fin.ext ?_)
  match a with
  | ⟨0, _⟩ => show win0_4.index t 0 * 1 + 1 * 0 = 1; omega
  | ⟨1, _⟩ => show win0_4.index t 1 * 512 + 1 * e.val = t.val % 11 * 512 + e.val; omega
  | ⟨2, _⟩ => show win0_4.index t 2 * 2048 + 1 * d.val = d.val; omega

theorem iblk5_apply (k : Fin 2048) : (iblk m c 5 t : Vec Ideal S1x2048 .f32) (ix2 (0 : Fin 1) k)
    = m ((c : Thread nD τ).loc main_arg4) (ix2 (0 : Fin 1) k) := by
  obtain ⟨h0, h1⟩ := index5 t
  refine Eq.trans ?_ (congrFun (V_main_arg4 m c) _)
  unfold iblk
  rw [View.read_apply]
  refine congrArg (V m c main_arg4) (funext fun a => Fin.ext ?_)
  match a with
  | ⟨0, _⟩ => show win0_5.index t 0 * 1 + 1 * 0 = 0; omega
  | ⟨1, _⟩ => show win0_5.index t 1 * 2048 + 1 * k.val = k.val; omega

abbrev h : (Rows 8192).Idx → EReal := m ((c : Thread nD τ).loc main_arg0)
abbrev g : Scale.Idx → EReal := m ((c : Thread nD τ).loc main_arg1)
abbrev w : GateUp.Idx → EReal := m ((c : Thread nD τ).loc main_arg2)
abbrev wd : Down.Idx → EReal := m ((c : Thread nD τ).loc main_arg3)
abbrev gf : Scale.Idx → EReal := m ((c : Thread nD τ).loc main_arg4)

/-- The result: the step at row `i 0` and lane `i 1`. -/
def result : Buf (Elt Ideal) ((c : Thread nD τ).loc main_v0) := fun i =>
  out (h m c) (g m c) (w m c) (wd m c) (gf m c) ⟨(i 0).val, (i 0).isLt⟩ ⟨(i 1).val, (i 1).isLt⟩

theorem result_apply (r : Fin 8192) (d : Fin 2048) : result m c (ix2 r d) = out (h m c) (g m c) (w m c) (wd m c) (gf m c) r d := rfl

/-- The first tile's point leaves the normalised rows. -/
theorem pay1_iblk (r : Fin 512) (k : Fin 2048) :
    k0_pay1 (iblk m c 0 t : Vec Ideal S512x2048 .f32) (iblk m c 1 t : Vec Ideal S1x2048 .f32) (ix2 r k) = hn (h m c) (g m c) (rowOf t.val t.isLt r) k := by
  refine (pay1_apply _ _ r k).trans ?_
  unfold hn
  congr 1
  · funext k; exact iblk0_apply m c t r k
  · funext k; exact iblk1_apply m c t k

/-- One tile adds its columns' shares. -/
theorem pay2_iblk (v3 : FVec Ideal S512x2048 .bf16) (x : FVec Ideal S512x2048 .f32) (r : Fin 512) (d : Fin 2048)
    (h3 : ∀ k, v3 (ix2 r k) = hn (h m c) (g m c) (rowOf t.val t.isLt r) k)
    (hx : x (ix2 r d) = part (h m c) (g m c) (w m c) (wd m c) (rowOf t.val t.isLt r) d (t.val % 11 * 512)) :
    k0_pay2 v3 (iblk m c 2 t : Vec Ideal S1x2048x512 .bf16) (iblk m c 3 t : Vec Ideal S1x2048x512 .bf16) x (iblk m c 4 t : Vec Ideal S1x512x2048 .bf16) (ix2 r d)
      = part (h m c) (g m c) (w m c) (wd m c) (rowOf t.val t.isLt r) d (t.val % 11 * 512 + 512) := by
  refine (pay2_apply v3 _ _ x _ r d).trans ?_
  rw [part_tile, hx]
  refine congrArg _ (Finset.sum_congr rfl fun e _ => ?_)
  have h4 : col v3 (iblk m c 2 t : Vec Ideal S1x2048x512 .bf16) r e = dotCol (h m c) (g m c) (w m c) (rowOf t.val t.isLt r) ⟨(colOf t e).val, by omega⟩ :=
    Finset.sum_congr rfl fun k _ => congrArg₂ (· * ·) (h3 k) (iblk2_apply m c t k e)
  have h7 : col v3 (iblk m c 3 t : Vec Ideal S1x2048x512 .bf16) r e = dotCol (h m c) (g m c) (w m c) (rowOf t.val t.isLt r) ⟨5632 + (colOf t e).val, by omega⟩ :=
    Finset.sum_congr rfl fun k _ => congrArg₂ (· * ·) (h3 k) (iblk3_apply m c t k e)
  have hlt : t.val % 11 * 512 + e.val < 5632 := by omega
  unfold share
  rw [dif_pos hlt, h4, h7]
  exact congrArg _ (iblk4_apply m c t e d)

/-- What the points up to `n` leave. -/
def Left (n : ℕ) (hn' : n < cfg0.N) (s : Vec Ideal S512x2048 .f32 × Vec Ideal S512x2048 .bf16) : Prop :=
  (∀ r k, s.2 (ix2 r k) = hn (h m c) (g m c) (rowOf n hn' r) k) ∧
  (∀ r d, s.1 (ix2 r d) = if n % 11 = 10 then out (h m c) (g m c) (w m c) (wd m c) (gf m c) (rowOf n hn' r) d
    else part (h m c) (g m c) (w m c) (wd m c) (rowOf n hn' r) d (n % 11 * 512 + 512))

theorem left_first (h0 : t.val % 11 = 0) (h1 : ¬t.val % 11 = 10) : Left m c t.val t.isLt (outsAt0 m c t.val t.isLt) := by
  rw [outsAt0_A m c t h0 h1, Body.sout_A, Body.out_A]
  refine ⟨fun r k => pay1_iblk m c t r k, fun r d => ?_⟩
  rw [if_neg h1]
  refine pay2_iblk m c t _ _ r d (fun k => pay1_iblk m c t r k) ?_
  rw [h0, Nat.zero_mul, part_zero]
  exact iblk0_apply m c t r d

/-- The point before's rows are this point's, where this is not a block's first tile. -/
theorem left_before (h0 : ¬t.val % 11 = 0) (s : Vec Ideal S512x2048 .f32 × Vec Ideal S512x2048 .bf16)
    (hl : Left m c (t.val - 1) (Nat.lt_of_le_of_lt (Nat.sub_le _ _) t.isLt) s) :
    (∀ r k, s.2 (ix2 r k) = hn (h m c) (g m c) (rowOf t.val t.isLt r) k) ∧
    (∀ r d, s.1 (ix2 r d) = part (h m c) (g m c) (w m c) (wd m c) (rowOf t.val t.isLt r) d (t.val % 11 * 512)) := by
  have hr : ∀ r, rowOf (t.val - 1) (Nat.lt_of_le_of_lt (Nat.sub_le _ _) t.isLt) r = rowOf t.val t.isLt r := fun r => Fin.ext (by
    show (t.val - 1) / 11 * 512 + r.val = t.val / 11 * 512 + r.val
    omega)
  have hm : ¬(t.val - 1) % 11 = 10 := by omega
  have he : (t.val - 1) % 11 * 512 + 512 = t.val % 11 * 512 := by omega
  refine ⟨fun r k => ?_, fun r d => ?_⟩
  · rw [← hr r]; exact hl.1 r k
  · have := hl.2 r d
    rw [if_neg hm, he, hr r] at this
    exact this

theorem left_middle (h0 : ¬t.val % 11 = 0) (h1 : ¬t.val % 11 = 10)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_B m c t h0 h1, Body.out_B]
  refine ⟨fun r k => hs r k, fun r d => ?_⟩
  rw [if_neg h1]
  exact pay2_iblk m c t _ _ r d (fun k => hs r k) (ho r d)

theorem left_last (h0 : ¬t.val % 11 = 0) (h1 : t.val % 11 = 10)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_C m c t h0 h1, Body.out_C]
  refine ⟨fun r k => hs r k, fun r d => ?_⟩
  rw [if_pos h1]
  refine (pay3_apply _ _ r d).trans ?_
  unfold out
  congr 1
  · funext k
    refine (pay2_iblk m c t _ _ r k (fun k => hs r k) (ho r k)).trans ?_
    rw [h1]
  · funext k; exact iblk5_apply m c t k

theorem left_all (n : ℕ) : ∀ hn' : n < cfg0.N, Left m c n hn' (outsAt0 m c n hn') := by
  induction n with
  | zero => exact fun hn' => left_first m c ⟨0, hn'⟩ (Nat.zero_mod _) (by show ¬0 % 11 = 10; omega)
  | succ n ih =>
    intro hn'
    by_cases h0 : (n + 1) % 11 = 0
    · exact left_first m c ⟨n + 1, hn'⟩ h0 (by show ¬(n + 1) % 11 = 10; omega)
    · by_cases h1 : (n + 1) % 11 = 10
      · exact left_last m c ⟨n + 1, hn'⟩ h0 h1 (ih (Nat.lt_of_succ_lt hn'))
      · exact left_middle m c ⟨n + 1, hn'⟩ h0 h1 (ih (Nat.lt_of_succ_lt hn'))

theorem flushed_eq (hf : t.val % 11 = 10) : (dats m 0 c).flushed 6 t = ((cfg0.win 6).blk t).view.read (Elt Ideal) (result m c) := by
  obtain ⟨h0, h1⟩ := index6 t
  rw [Cert.FfnPromptIdeal.Value.flushed6]
  funext j
  obtain ⟨r, d, rfl⟩ : ∃ (r : Fin 512) (d : Fin 2048), j = ix2 r d := ⟨j 0, j 1, eq_ix2 j⟩
  rw [View.read_apply]
  refine Eq.trans (b := (outsAt0 m c t.val t.isLt).1 (ix2 r d)) rfl ?_
  rw [(left_all m c t.val t.isLt).2 r d, if_pos hf]
  rw [← result_apply]
  show result m c _ = result m c _
  congr 1
  funext a
  apply Fin.ext
  match a with
  | ⟨0, _⟩ => show t.val / 11 * 512 + r.val = win0_6.index t 0 * 512 + 1 * r.val; omega
  | ⟨1, _⟩ => show d.val = win0_6.index t 1 * 2048 + 1 * d.val; omega

/-- So the result array ends holding every row's step. -/
theorem final_o : (dats m 0 c).arrAt 6 cfg0.N = result m c :=
  (dats m 0 c).arrAt_eq_of_cover 6 (result m c) (fun t hf => flushed_eq m c t ((flush0_6 t).mp hf)) fun i => by
    have i0 : (i 0 : Nat) < 8192 := (i 0).isLt
    have i1 : (i 1 : Nat) < 2048 := (i 1).isLt
    have hN : (i 0 : Nat) / 512 * 11 + 10 < cfg0.N := lt_of_lt_of_eq (by omega : _ < 176) N_0.symm
    obtain ⟨t, ht⟩ : ∃ t : Fin cfg0.N, t.val = (i 0 : Nat) / 512 * 11 + 10 := ⟨⟨_, hN⟩, rfl⟩
    refine ⟨t, (flush0_6 t).mpr (by omega), ?_⟩
    obtain ⟨h0, h1⟩ := index6 t
    show i ∈ ((View.whole main_v0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 2048 ≤ (i 1 : Nat) ∧ (i 1 : Nat) < win0_6.index t 1 * 2048 + 2048; omega

end Cert.FfnPromptIdeal.Final

end
-- ==== Proof.FfnPrompt.Reference.lean ====
/-
  The reference of the feed-forward step at the prompts' rows, read at an index.
-/
module

public import proofs.«01_k».proof.Proof.Gen.FfnPromptRefIdeal.Read
public import proofs.«01_k».proof.Proof.Ffn.Mlp
public import Idealize.ShloMosaic.Lib.IdealHost

public section

set_option maxRecDepth 16384

noncomputable section

namespace Cert.FfnPromptRefIdeal.Sum

open Cert.FfnPromptRefIdeal Cert.FfnPromptRefIdeal.Gen Cert.FfnPromptRefIdeal.Read Cert.Mlp
open Idealize.ShloMosaic Idealize.ShloMosaic.ValueIdx
open scoped BigOperators

variable (x0 : (Rows 8192).Idx → EReal) (x1 : Scale.Idx → EReal) (x2 : GateUp.Idx → EReal) (x3 : Down.Idx → EReal) (x4 : Scale.Idx → EReal)

theorem sum_v1 (r : Fin 8192) (i : S8192.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r : Fin 8192) (k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 11264) : val_main_v14 (F := Ideal) x2 (ix2 k f) = x2 (ix3 (1 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 11264 + f.val) / 11264 % 2048 = k.val; omega)
  | ⟨2, _⟩ => exact Fin.ext (by show (k.val * 11264 + f.val) % 11264 = f.val; omega)

theorem v15_apply (r : Fin 8192) (f : Fin 11264) : val_main_v15 (F := Ideal) x0 x1 x2 (ix2 r f) = dotCol x0 x1 x2 r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]

theorem v16_apply (r : Fin 8192) (f : Fin 5632) : val_main_v16 (F := Ideal) x0 x1 x2 (ix2 r f) = dotCol x0 x1 x2 r ⟨f.val, by omega⟩ := by
  have e : idx_main_v16 (ix2 r f) = ix2 r (⟨f.val, by omega⟩ : Fin 11264) := funext fun a => match a with | ⟨0, _⟩ => rfl | ⟨1, _⟩ => rfl
  rw [val_main_v16_apply, e, v15_apply]

theorem v18_apply (r : Fin 8192) (f : Fin 5632) : val_main_v18 (F := Ideal) x0 x1 x2 (ix2 r f) = dotCol x0 x1 x2 r ⟨5632 + f.val, by omega⟩ := by
  have e : idx_main_v18 (ix2 r f) = ix2 r (⟨5632 + f.val, by omega⟩ : Fin 11264) := funext fun a => match a with | ⟨0, _⟩ => rfl | ⟨1, _⟩ => rfl
  rw [val_main_v18_apply, e, v15_apply]

theorem one_f32 : (FloatOps.ofBits (F := Ideal) .f32 0x3F800000#32 : Ideal .f32) = 1 := Ideal.ofBits_one_f32

theorem gate_apply (r : Fin 8192) (f : Fin 5632) :
    val_main_call0_v5 (F := Ideal) x0 x1 x2 (ix2 r f) = Ideal.logistic (dotCol x0 x1 x2 r ⟨f.val, by omega⟩) := by
  rw [val_main_call0_v5_apply, val_main_call0_v4_apply, val_main_call0_cst_0_apply, val_main_call0_v3_apply, val_main_call0_v2_apply, val_main_call0_cst_apply,
    val_main_call0_v1_apply, val_main_call0_v0_apply, v16_apply, one_f32]
  rfl

theorem v19_apply (r : Fin 8192) (f : Fin 5632) : val_main_v19 (F := Ideal) x0 x1 x2 (ix2 r f) = act x0 x1 x2 r f := by
  rw [val_main_v19_apply, val_main_v17_apply, v16_apply, v18_apply, gate_apply]
  rfl

theorem v22_apply (f : Fin 5632) (d : Fin 2048) : val_main_v22 (F := Ideal) x3 (ix2 f d) = x3 (ix3 (1 : Fin 2) f d) := by
  rw [val_main_v22_apply, val_main_v21_apply, val_main_v20_apply]
  refine congrArg x3 (funext fun a => ?_)
  match a with
  | ⟨0, _⟩ => rfl
  | ⟨1, _⟩ => exact Fin.ext (by show (f.val * 2048 + d.val) / 2048 % 5632 = f.val; omega)
  | ⟨2, _⟩ => exact Fin.ext (by show (f.val * 2048 + d.val) % 2048 = d.val; omega)

theorem v24_apply (r : Fin 8192) (d : Fin 2048) : val_main_v24 (F := Ideal) x0 x1 x2 x3 (ix2 r d) = part x0 x1 x2 x3 r d 5632 := by
  rw [val_main_v24_apply, val_main_v23_apply, part_full]
  refine congrArg (x0 (ix2 r d) + ·) (Finset.sum_congr rfl fun f _ => ?_)
  have e1 : lidx_main_v23 (ix2 r d) f = ix2 r f := funext fun a => match a with | ⟨0, _⟩ => rfl | ⟨1, _⟩ => rfl
  have e2 : ridx_main_v23 (ix2 r d) f = ix2 f d := funext fun a => match a with | ⟨0, _⟩ => rfl | ⟨1, _⟩ => rfl
  rw [e1, e2, v19_apply, v22_apply]

theorem sum_v26 (r : Fin 8192) (i : S8192.Idx) (hi : (i 0).val = r.val) :
    val_main_v26 (F := Ideal) x0 x1 x2 x3 i = ∑ k : Fin 2048, part x0 x1 x2 x3 r k 5632 * part x0 x1 x2 x3 r k 5632 := by
  rw [val_main_v26_apply]
  have h0 : val_main_cst_2 (F := Ideal) (Shape.Idx.first h_S_) = 0 := Ideal.ofBits_zero_f32
  rw [h0, zero_add]
  refine Finset.sum_congr rfl fun k _ => ?_
  have e : idx_main_v26 i k = ix2 r k := funext fun a => match a with | ⟨0, _⟩ => Fin.ext hi | ⟨1, _⟩ => rfl
  rw [val_main_v25_apply, e, v24_apply]
  rfl

theorem v36_apply (r : Fin 8192) (d : Fin 2048) : val_main_v36 (F := Ideal) x0 x1 x2 x3 x4 (ix2 r d) = out x0 x1 x2 x3 x4 r d := by
  rw [val_main_v36_apply, val_main_v34_apply, val_main_v35_apply, val_main_v33_apply, val_main_v32_apply, val_main_v31_apply, val_main_v29_apply, val_main_v27_apply,
    sum_v26 x0 x1 x2 x3 r _ rfl, v24_apply]
  have e : idx_main_v35 (ix2 r d) = ix2 (0 : Fin 1) d := funext fun a => match a with | ⟨0, _⟩ => rfl | ⟨1, _⟩ => rfl
  rw [e]
  rfl

end Cert.FfnPromptRefIdeal.Sum

end
-- ==== Proof.FfnPrompt.Claims.lean ====
/-
  The claims about the feed-forward call at the prompts' rows: its three frames, and its value.
-/

module

public import proofs.«01_k».proof.Defs
public import proofs.«01_k».proof.Proof.Gen.FfnPrompt.Frame
public import proofs.«01_k».proof.Proof.Gen.FfnPromptIdeal.Frame
public import proofs.«01_k».proof.Proof.Gen.FfnPromptIdeal.Value
public import proofs.«01_k».proof.Proof.Gen.FfnPromptRefIdeal.Run
public import proofs.«01_k».proof.Proof.Gen.FfnPromptRefIdeal.Read
public import proofs.«01_k».proof.Proof.FfnPrompt.Final
public import proofs.«01_k».proof.Proof.FfnPrompt.Reference

public section

set_option maxRecDepth 16384

noncomputable section

namespace Cert.FfnPromptClaims

open Idealize.ShloMosaic.TcCoe Idealize.SL.Sem Idealize.ShloMosaic.ValueIdx
open Idealize.ShloMosaic hiding ix2 eq_ix2

theorem frame_p : quiescent_FfnPrompt := fun m ρ _ => FfnPrompt.Gen.frame m ρ

theorem frame_pi : quiescent_FfnPromptIdeal := fun m ρ _ => FfnPromptIdeal.Gen.frame m ρ

theorem frame_ri : quiescent_FfnPromptRefIdeal := fun m ρ _ =>
  (θ_run FfnPromptRefIdeal.defs _ _).mono (fun r h => ⟨fun c => (h c).2, sem_eq_zero_of_no_sems (by decide) r.2⟩)
    (FfnPromptRefIdeal.Value.run (F := Ideal) m ρ)

variable (m : (ℓ : Loc FfnPromptIdeal.nD FfnPromptIdeal.τ FfnPromptIdeal.sig) → Buf (Elt Ideal) ℓ)
variable (m' : (ℓ : Loc FfnPromptRefIdeal.nD FfnPromptRefIdeal.τ FfnPromptRefIdeal.sig) → Buf (Elt Ideal) ℓ)

/-- From memories with the same arguments the two results are one array. -/
theorem res_eq (c : Dev FfnPromptIdeal.nD)
    (h0 : m' ((c.tc : Thread FfnPromptRefIdeal.nD FfnPromptRefIdeal.τ).loc FfnPromptRefIdeal.main_arg0) = FfnPromptIdeal.Final.h m c)
    (h1 : m' ((c.tc : Thread FfnPromptRefIdeal.nD FfnPromptRefIdeal.τ).loc FfnPromptRefIdeal.main_arg1) = FfnPromptIdeal.Final.g m c)
    (h2 : m' ((c.tc : Thread FfnPromptRefIdeal.nD FfnPromptRefIdeal.τ).loc FfnPromptRefIdeal.main_arg2) = FfnPromptIdeal.Final.w m c)
    (h3 : m' ((c.tc : Thread FfnPromptRefIdeal.nD FfnPromptRefIdeal.τ).loc FfnPromptRefIdeal.main_arg3) = FfnPromptIdeal.Final.wd m c)
    (h4 : m' ((c.tc : Thread FfnPromptRefIdeal.nD FfnPromptRefIdeal.τ).loc FfnPromptRefIdeal.main_arg4) = FfnPromptIdeal.Final.gf m c) :
    FfnPromptRefIdeal.Value.res_main_v36 m' c = FfnPromptIdeal.Final.result m c := by
  rw [FfnPromptRefIdeal.Read.val_main_v36_eq, h0, h1, h2, h3, h4]
  funext i
  obtain ⟨r, d, rfl⟩ : ∃ (r : Fin 8192) (d : Fin 2048), i = ix2 r d := ⟨i 0, i 1, eq_ix2 i⟩
  exact (FfnPromptRefIdeal.Sum.v36_apply _ _ _ _ _ r d).trans (FfnPromptIdeal.Final.result_apply m c r d).symm

theorem algebraic : algebraic_FfnPromptIdeal_FfnPromptRefIdeal := by
  intro m ρ m' ρ' _ hagree
  refine ⟨fun c => FfnPromptIdeal.Final.result m c, ?_, ?_⟩
  · exact (θ_run FfnPromptIdeal.defs _ _).mono
      (fun _ h c => ⟨(h c).1.trans (FfnPromptIdeal.Final.final_o m c), (h c).2⟩)
      (FfnPromptIdeal.Value.run_blocks m ρ)
  · exact (θ_run FfnPromptRefIdeal.defs _ _).mono
      (fun _ h c => ⟨(h c).1.trans (res_eq m m' c (hagree c).1 (hagree c).2.1 (hagree c).2.2.1 (hagree c).2.2.2.1 (hagree c).2.2.2.2), (h c).2⟩)
      (FfnPromptRefIdeal.Value.run (F := Ideal) m' ρ')

end Cert.FfnPromptClaims

end
-- ==== Proof.ProjPrompt.Runs.lean ====
/-
  The projection at the prompts' rows: what the call's buffers hold when the region begins, its windows' blocks, its body's conditions.
-/
module

public import proofs.«01_k».proof.Proof.Gen.ProjPromptIdeal.Launch
public import proofs.«01_k».proof.Proof.Gen.ProjPromptIdeal.Skeleton
public import proofs.«01_k».proof.Proof.Gen.ProjPromptIdeal.Points
public import proofs.«01_k».proof.Proof.Proj.Heads
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.VecWindow

@[expose] public section

set_option maxRecDepth 16384

noncomputable section

namespace Cert.ProjPromptIdeal.Frm

open Cert.ProjPromptIdeal Cert.ProjPromptIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Up to the region -/

/-- A core's buffers when the region begins: after the copies before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the three copied into is as launched. -/
theorem V_kept (c : Dev nD) (b : Ref sig .tc) (h3 : b ≠ main_v0_3 := by decide) (h4 : b ≠ main_v0_4 := by decide) (h6 : b ≠ main_v0_6 := by decide) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h3, StableHlo.devRef_ne_of_ne h4, StableHlo.devRef_ne_of_ne h6⟩))

/-- Window `w`'s block at point `t`, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions: which column block a point is at -/

/-- The condition under which the normalized rows are stored. -/
abbrev cond1 (i : grid0.Coords) : Prop := (Scalar.cmpi .ne (Scalar.extui (Scalar.cmpi .eq (BitVec.ofNat 32 (i 1).val) 0#32)) 0#32) = 1#1

theorem col_lt (t : Fin cfg0.N) : t.val % 9 < 9 := Nat.mod_lt _ (by omega)
theorem col_of (t : Fin cfg0.N) : (grid0.coords t 1).val = t.val % 9 :=
  (Pipeline.Grid.coords_val t 1 (by decide) rfl).trans (congrArg (· % 9) (Nat.div_one t.val))

theorem hcond1 (t : Fin cfg0.N) : cond1 (grid0.coords t) ↔ t.val % 9 = 0 := by have := col_lt t; simp only [cond1, col_of]; word_cmp
theorem hk0_cond2 (t : Fin cfg0.N) : k0_cond2 (grid0.coords t) = 1#1 ↔ t.val % 9 = 0 := by have := col_lt t; simp only [k0_cond2, col_of]; word_cmp
theorem hk0_cond3 (t : Fin cfg0.N) : k0_cond3 (grid0.coords t) = 1#1 ↔ t.val % 9 = 1 := by have := col_lt t; simp only [k0_cond3, col_of]; word_cmp
theorem hk0_cond4 (t : Fin cfg0.N) : k0_cond4 (grid0.coords t) = 1#1 ↔ t.val % 9 = 2 := by have := col_lt t; simp only [k0_cond4, col_of]; word_cmp
theorem hk0_cond5 (t : Fin cfg0.N) : k0_cond5 (grid0.coords t) = 1#1 ↔ t.val % 9 = 3 := by have := col_lt t; simp only [k0_cond5, col_of]; word_cmp
theorem hk0_cond6 (t : Fin cfg0.N) : k0_cond6 (grid0.coords t) = 1#1 ↔ t.val % 9 = 4 := by have := col_lt t; simp only [k0_cond6, col_of]; word_cmp
theorem hk0_cond7 (t : Fin cfg0.N) : k0_cond7 (grid0.coords t) = 1#1 ↔ 5 ≤ t.val % 9 := by have := col_lt t; simp only [k0_cond7, col_of]; word_cmp

/-! ## The staging buffers at a point -/

abbrev ms0 (t : Fin cfg0.N) : Memref sig .tc .vmem S512x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S1x2048x1024 .bf16 := win0_2.stage (cfg0.slots t 2)
abbrev ms3 (t : Fin cfg0.N) : Memref sig .tc .vmem S1x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S512x1024 .bf16 := win0_5.stage (cfg0.slots t 5)
abbrev ms6 (t : Fin cfg0.N) : Memref sig .tc .vmem S512x1024 .bf16 := win0_6.stage (cfg0.slots t 6)
abbrev ms7 (t : Fin cfg0.N) : Memref sig .tc .vmem S512x1024 .bf16 := win0_7.stage (cfg0.slots t 7)
abbrev ms8 (t : Fin cfg0.N) : Memref sig .tc .vmem S4096x128 .f32 := win0_8.stage (cfg0.slots t 8)
abbrev ms9 (t : Fin cfg0.N) : Memref sig .tc .vmem S4096x128 .f32 := win0_9.stage (cfg0.slots t 9)
abbrev ms10 (t : Fin cfg0.N) : Memref sig .tc .vmem S512x1024 .bf16 := win0_10.stage (cfg0.slots t 10)
abbrev ms11 (t : Fin cfg0.N) : Memref sig .tc .vmem S512x1024 .f32 := win0_11.stage (cfg0.slots t 11)
abbrev ms12 (t : Fin cfg0.N) : Memref sig .tc .vmem S512x1024 .bf16 := win0_12.stage (cfg0.slots t 12)
/-- The row block the kernel keeps between points. -/
abbrev scM : Memref sig .tc .vmem S512x2048 .bf16 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The column blocks of one head each of the second and of the third column block's product. -/
def kHead (v3 : Vec F S512x2048 .bf16) (v4 : Vec F S1x2048x1024 .bf16) : ℕ → Vec F S512x128 .f32
  | 0 => k0_pay5 v3 v4 | 1 => k0_pay6 v3 v4 | 2 => k0_pay7 v3 v4 | 3 => k0_pay8 v3 v4
  | 4 => k0_pay9 v3 v4 | 5 => k0_pay10 v3 v4 | 6 => k0_pay11 v3 v4 | _ => k0_pay12 v3 v4
def vHead (v3 : Vec F S512x2048 .bf16) (v4 : Vec F S1x2048x1024 .bf16) : ℕ → Vec F S512x128 .f32
  | 0 => k0_pay14 v3 v4 | 1 => k0_pay15 v3 v4 | 2 => k0_pay16 v3 v4 | 3 => k0_pay17 v3 v4
  | 4 => k0_pay18 v3 v4 | 5 => k0_pay19 v3 v4 | 6 => k0_pay20 v3 v4 | _ => k0_pay21 v3 v4

end Cert.ProjPromptIdeal.Frm

end
-- ==== Proof.ProjPrompt.Run.lean ====
/-
  The projection at the prompts' rows: its body at a point of each column block.
-/
module

public import proofs.«01_k».proof.Proof.ProjPrompt.Runs

@[expose] public section

set_option maxRecDepth 16384

noncomputable section

namespace Cert.ProjPromptIdeal.Frm

open Cert.ProjPromptIdeal Cert.ProjPromptIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  {arg2 : Memref sig .tc .vmem S512x2048 .f32} (h2 : arg2.IsWhole)
  {arg3 : Memref sig .tc .vmem S1x2048 .f32} (h3 : arg3.IsWhole)
  {arg4 : Memref sig .tc .vmem S1x2048x1024 .bf16} (h4 : arg4.IsWhole)
  {arg5 : Memref sig .tc .vmem S1x1024 .f32} (h5 : arg5.IsWhole)
  {arg6 : Memref sig .tc .vmem S1x1024 .f32} (h6 : arg6.IsWhole)
  {arg7 : Memref sig .tc .hbm S131072x128 .f32} (h7 : arg7.IsWhole)
  {arg8 : Memref sig .tc .hbm S131072x128 .f32} (h8 : arg8.IsWhole)
  {arg9 : Memref sig .tc .hbm S16384x1024 .f32} (h9 : arg9.IsWhole)
  {arg10 : Memref sig .tc .vmem S512x1024 .bf16} (h10 : arg10.IsWhole)
  {arg11 : Memref sig .tc .vmem S512x1024 .bf16} (h11 : arg11.IsWhole)
  {arg12 : Memref sig .tc .vmem S512x1024 .bf16} (h12 : arg12.IsWhole)
  {arg13 : Memref sig .tc .vmem S4096x128 .f32} (h13 : arg13.IsWhole)
  {arg14 : Memref sig .tc .vmem S4096x128 .f32} (h14 : arg14.IsWhole)
  {arg15 : Memref sig .tc .vmem S512x1024 .bf16} (h15 : arg15.IsWhole)
  {arg16 : Memref sig .tc .vmem S512x1024 .f32} (h16 : arg16.IsWhole)
  {arg17 : Memref sig .tc .vmem S512x1024 .bf16} (h17 : arg17.IsWhole)
  {arg18 : Memref sig .tc .vmem S512x2048 .bf16} (h18 : arg18.IsWhole)
  (x2 : Vec F S512x2048 .f32) (x3 : Vec F S1x2048 .f32) (x4 : Vec F S1x2048x1024 .bf16) (x5 : Vec F S1x1024 .f32) (x6 : Vec F S1x1024 .f32) (x18 : Vec F S512x2048 .bf16) (E : Set ℕ)

set_option maxHeartbeats 2000000 in
/-- Column block 0. -/
theorem run_A (K : PUnit → sProp 𝕄) (hc0 : cond1 i) (hc1 : k0_cond2 i = 1#1) (hc2 : ¬(k0_cond3 i = 1#1)) (hc3 : ¬(k0_cond4 i = 1#1)) (hc4 : ¬(k0_cond5 i = 1#1)) (hc5 : ¬(k0_cond6 i = 1#1)) (hc6 : ¬(k0_cond7 i = 1#1)) :
    iprop(owns c arg2 fullShare x2 ∗ owns c arg3 fullShare x3 ∗ owns c arg4 fullShare x4 ∗ (∃ d, owns c arg10 fullShare d) ∗ (∃ d, owns c arg18 fullShare d)
        ∗ (iprop(owns c arg2 fullShare x2 ∗ owns c arg3 fullShare x3 ∗ owns c arg4 fullShare x4 ∗ owns c arg10 fullShare (k0_pay3 (k0_pay1 x2 x3) x4) ∗ owns c arg18 fullShare (k0_pay1 x2 x3)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f2, %hf2, H2⟩, ⟨%f3, %hf3, H3⟩, ⟨%f4, %hf4, H4⟩, ⟨%d10, %f10, -, H10⟩, ⟨%d18, %f18, -, H18⟩, Hk⟩
  obtain rfl := h2.eq_unread hf2; obtain rfl := h3.eq_unread hf3; obtain rfl := h4.eq_unread hf4
  sl_exec (disch := first | sl_exact hc0 | sl_exact hc1 | sl_exact hc2 | sl_exact hc3 | sl_exact hc4 | sl_exact hc5 | sl_exact hc6)
  sl_step
  iapply Hk
  isplitl [H2]
  · iexists _; isplitr
    swap; · iexact H2
    ipureintro
    exact h2.read_unread _
  isplitl [H3]
  · iexists _; isplitr
    swap; · iexact H3
    ipureintro
    exact h3.read_unread _
  isplitl [H4]
  · iexists _; isplitr
    swap; · iexact H4
    ipureintro
    exact h4.read_unread _
  isplitl [H10]
  · iexists _; isplitr
    swap; · iexact H10
    ipureintro
    sl_unfold_words
    refine (View.read_writes_full _ _ _ _ _).trans ?_
    try simp only [View.readCov_unit_zero (S := S512x2048) _ hz2, View.readAt_eq_ld, h2.read_unread, h3.read_unread, h4.read_unread, View.ld_unit_zero (S := S512x2048) hz2, View.ld_unit_zero (S := S1x2048) hz2, View.ld_unit_zero (S := S1x2048x1024) hz3]
  iexists _; isplitr
  swap; · iexact H18
  ipureintro
  sl_unfold_words
  refine (View.read_writes_full _ _ _ _ _).trans ?_
  try simp only [View.readCov_unit_zero (S := S512x2048) _ hz2, View.readAt_eq_ld, h2.read_unread, h3.read_unread, h4.read_unread, View.ld_unit_zero (S := S512x2048) hz2, View.ld_unit_zero (S := S1x2048) hz2, View.ld_unit_zero (S := S1x2048x1024) hz3]

set_option maxHeartbeats 2000000 in
/-- Column block 1. -/
theorem run_B (K : PUnit → sProp 𝕄) (hc0 : ¬(cond1 i)) (hc1 : ¬(k0_cond2 i = 1#1)) (hc2 : k0_cond3 i = 1#1) (hc3 : ¬(k0_cond4 i = 1#1)) (hc4 : ¬(k0_cond5 i = 1#1)) (hc5 : ¬(k0_cond6 i = 1#1)) (hc6 : ¬(k0_cond7 i = 1#1)) :
    iprop(owns c arg4 fullShare x4 ∗ owns c arg18 fullShare x18 ∗ (∃ d, owns c arg11 fullShare d) ∗ (∃ d, owns c arg13 fullShare d)
        ∗ (iprop(owns c arg4 fullShare x4 ∗ owns c arg18 fullShare x18 ∗ owns c arg11 fullShare (k0_pay4 x18 x4) ∗ owns c arg13 fullShare (rows8 (kHead x18 x4))) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d11, %f11, -, H11⟩, ⟨%d13, %f13, -, H13⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  isplitl [H11]
  · iexists _; isplitr
    swap; · iexact H11
    ipureintro
    sl_unfold_words
    refine (View.read_writes_full _ _ _ _ _).trans ?_
    try simp only [View.readAt_eq_ld, h4.read_unread, h18.read_unread, View.ld_unit_zero (S := S512x2048) hz2, View.ld_unit_zero (S := S1x2048x1024) hz3]
  iexists _; isplitr
  swap; · iexact H13
  ipureintro
  sl_unfold_words
  simp only [View.readAt_eq_ld, h4.read_unread, h18.read_unread, View.ld_unit_zero (S := S512x2048) hz2, View.ld_unit_zero (S := S1x2048x1024) hz3]
  exact read_rows8 _ _ (kHead x18 x4) _ _ _ _ _ _ _ _ _

set_option maxHeartbeats 2000000 in
/-- Column block 2. -/
theorem run_C (K : PUnit → sProp 𝕄) (hc0 : ¬(cond1 i)) (hc1 : ¬(k0_cond2 i = 1#1)) (hc2 : ¬(k0_cond3 i = 1#1)) (hc3 : k0_cond4 i = 1#1) (hc4 : ¬(k0_cond5 i = 1#1)) (hc5 : ¬(k0_cond6 i = 1#1)) (hc6 : ¬(k0_cond7 i = 1#1)) :
    iprop(owns c arg4 fullShare x4 ∗ owns c arg18 fullShare x18 ∗ (∃ d, owns c arg12 fullShare d) ∗ (∃ d, owns c arg14 fullShare d)
        ∗ (iprop(owns c arg4 fullShare x4 ∗ owns c arg18 fullShare x18 ∗ owns c arg12 fullShare (k0_pay13 x18 x4) ∗ owns c arg14 fullShare (rows8 (vHead x18 x4))) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d12, %f12, -, H12⟩, ⟨%d14, %f14, -, H14⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  isplitl [H12]
  · iexists _; isplitr
    swap; · iexact H12
    ipureintro
    sl_unfold_words
    refine (View.read_writes_full _ _ _ _ _).trans ?_
    try simp only [View.readAt_eq_ld, h4.read_unread, h18.read_unread, View.ld_unit_zero (S := S512x2048) hz2, View.ld_unit_zero (S := S1x2048x1024) hz3]
  iexists _; isplitr
  swap; · iexact H14
  ipureintro
  sl_unfold_words
  simp only [View.readAt_eq_ld, h4.read_unread, h18.read_unread, View.ld_unit_zero (S := S512x2048) hz2, View.ld_unit_zero (S := S1x2048x1024) hz3]
  exact read_rows8 _ _ (vHead x18 x4) _ _ _ _ _ _ _ _ _

set_option maxHeartbeats 2000000 in
/-- Column block 3. -/
theorem run_D (K : PUnit → sProp 𝕄) (hc0 : ¬(cond1 i)) (hc1 : ¬(k0_cond2 i = 1#1)) (hc2 : ¬(k0_cond3 i = 1#1)) (hc3 : ¬(k0_cond4 i = 1#1)) (hc4 : k0_cond5 i = 1#1) (hc5 : ¬(k0_cond6 i = 1#1)) (hc6 : ¬(k0_cond7 i = 1#1)) :
    iprop(owns c arg4 fullShare x4 ∗ owns c arg18 fullShare x18 ∗ (∃ d, owns c arg15 fullShare d)
        ∗ (iprop(owns c arg4 fullShare x4 ∗ owns c arg18 fullShare x18 ∗ owns c arg15 fullShare (k0_pay22 x18 x4)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f18, %hf18, H18⟩, ⟨%d15, %f15, -, H15⟩, Hk⟩
  obtain rfl := h4.eq_unread hf4; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H18]
  · iexists _; isplitr
    swap; · iexact H18
    ipureintro
    exact h18.read_unread _
  iexists _; isplitr
  swap; · iexact H15
  ipureintro
  sl_unfold_words
  refine (View.read_writes_full _ _ _ _ _).trans ?_
  try simp only [View.readAt_eq_ld, h4.read_unread, h18.read_unread, View.ld_unit_zero (S := S512x2048) hz2, View.ld_unit_zero (S := S1x2048x1024) hz3]

set_option maxHeartbeats 2000000 in
/-- Column block 4. -/
theorem run_E (K : PUnit → sProp 𝕄) (hc0 : ¬(cond1 i)) (hc1 : ¬(k0_cond2 i = 1#1)) (hc2 : ¬(k0_cond3 i = 1#1)) (hc3 : ¬(k0_cond4 i = 1#1)) (hc4 : ¬(k0_cond5 i = 1#1)) (hc5 : k0_cond6 i = 1#1) (hc6 : ¬(k0_cond7 i = 1#1)) :
    iprop(owns c arg4 fullShare x4 ∗ owns c arg6 fullShare x6 ∗ owns c arg18 fullShare x18 ∗ (∃ d, owns c arg16 fullShare d)
        ∗ (iprop(owns c arg4 fullShare x4 ∗ owns c arg6 fullShare x6 ∗ owns c arg18 fullShare x18 ∗ owns c arg16 fullShare (k0_pay23 x18 x4 x6)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f6, %hf6, H6⟩, ⟨%f18, %hf18, H18⟩, ⟨%d16, %f16, -, H16⟩, Hk⟩
  obtain rfl := h4.eq_unread hf4; obtain rfl := h6.eq_unread hf6; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H6]
  · iexists _; isplitr
    swap; · iexact H6
    ipureintro
    exact h6.read_unread _
  isplitl [H18]
  · iexists _; isplitr
    swap; · iexact H18
    ipureintro
    exact h18.read_unread _
  iexists _; isplitr
  swap; · iexact H16
  ipureintro
  sl_unfold_words
  refine (View.read_writes_full _ _ _ _ _).trans ?_
  try simp only [View.readAt_eq_ld, h4.read_unread, h6.read_unread, h18.read_unread, View.ld_unit_zero (S := S512x2048) hz2, View.ld_unit_zero (S := S1x1024) hz2, View.ld_unit_zero (S := S1x2048x1024) hz3]

set_option maxHeartbeats 2000000 in
/-- Column block 5 or later. -/
theorem run_G (K : PUnit → sProp 𝕄) (hc0 : ¬(cond1 i)) (hc1 : ¬(k0_cond2 i = 1#1)) (hc2 : ¬(k0_cond3 i = 1#1)) (hc3 : ¬(k0_cond4 i = 1#1)) (hc4 : ¬(k0_cond5 i = 1#1)) (hc5 : ¬(k0_cond6 i = 1#1)) (hc6 : k0_cond7 i = 1#1) :
    iprop(owns c arg4 fullShare x4 ∗ owns c arg5 fullShare x5 ∗ owns c arg18 fullShare x18 ∗ (∃ d, owns c arg17 fullShare d)
        ∗ (iprop(owns c arg4 fullShare x4 ∗ owns c arg5 fullShare x5 ∗ owns c arg18 fullShare x18 ∗ owns c arg17 fullShare (k0_pay24 x18 x4 x5)) -∗ K ⟨⟩))
      ⊢ wp frame (wpE (defs₀ (F := F)) Variants.none c none) E (cc0_proj i _ h2 _ h3 _ h4 _ h5 _ h6 _ h7 _ h8 _ h9 _ h10 _ h11 _ h12 _ h13 _ h14 _ h15 _ h16 _ h17 _ h18) K := by
  simp only [cc0_proj_eq_skeleton]; unfold cc0_proj_skel
  unfold owns
  iintro ⟨⟨%f4, %hf4, H4⟩, ⟨%f5, %hf5, H5⟩, ⟨%f18, %hf18, H18⟩, ⟨%d17, %f17, -, H17⟩, Hk⟩
  obtain rfl := h4.eq_unread hf4; obtain rfl := h5.eq_unread hf5; obtain rfl := h18.eq_unread hf18
  sl_exec (disch := first | sl_exact hc0 | sl_exact hc1 | sl_exact hc2 | sl_exact hc3 | sl_exact hc4 | sl_exact hc5 | sl_exact hc6)
  sl_step
  iapply Hk
  isplitl [H4]
  · iexists _; isplitr
    swap; · iexact H4
    ipureintro
    exact h4.read_unread _
  isplitl [H5]
  · iexists _; isplitr
    swap; · iexact H5
    ipureintro
    exact h5.read_unread _
  isplitl [H18]
  · iexists _; isplitr
    swap; · iexact H18
    ipureintro
    exact h18.read_unread _
  iexists _; isplitr
  swap; · iexact H17
  ipureintro
  sl_unfold_words
  refine (View.read_writes_full _ _ _ _ _).trans ?_
  try simp only [View.readAt_eq_ld, h4.read_unread, h5.read_unread, h18.read_unread, View.ld_unit_zero (S := S512x2048) hz2, View.ld_unit_zero (S := S1x1024) hz2, View.ld_unit_zero (S := S1x2048x1024) hz3]

end Cert.ProjPromptIdeal.Frm

end
-- ==== Proof.ProjPrompt.Frame.lean ====
/-
  The projection at the prompts' rows: what every buffer holds point by point, and the run.
-/
module

public import proofs.«01_k».proof.Proof.ProjPrompt.Run
public import Idealize.ShloMosaic.Lib.Claim

@[expose] public section

set_option maxRecDepth 16384

noncomputable section

namespace Cert.ProjPromptIdeal.Frm

open Cert.ProjPromptIdeal Cert.ProjPromptIdeal.Gen Cert.HeadRows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point of row block `i` and column block `j`. -/
def pt (i j : ℕ) : Fin cfg0.N := ⟨(9 * i + j) % 144, lt_of_lt_of_eq (Nat.mod_lt _ (by decide)) (show 144 = cfg0.N from N_0.symm)⟩

theorem pt_eq (t : Fin cfg0.N) (j : ℕ) (h : t.val % 9 = j) : pt (t.val / 9) j = t := by
  have ht : t.val < 144 := lt_of_lt_of_eq t.isLt (show cfg0.N = 144 from N_0)
  refine Fin.ext ?_
  show (9 * (t.val / 9) + j) % 144 = t.val
  omega

/-- The normalized rows of row block `i`. -/
def scr (c : Dev nD) (i : ℕ) : Vec F S512x2048 .bf16 := k0_pay1 (iblk m c 0 (pt i 0)) (iblk m c 1 (pt i 0))

/-- The weights' block of row block `i` and column block `j`. -/
abbrev wt (c : Dev nD) (i j : ℕ) : Vec F S1x2048x1024 .bf16 := iblk m c 2 (pt i j)

/-- The invariant before point `n`: between the points of one row block its normalized rows are kept. -/
def PhiS (c : Dev nD) (n : ℕ) : sProp 𝕄 :=
  if n % 9 = 0 then Pipeline.ΦA spec0 c
  else iprop(owns (c : Thread nD τ) scM fullShare (scr m c (n / 9)) ∗ (∃ r, prngReg c r))

/-- What each window's buffer holds after the body: an input its block; an output what the row block's point that
    stores into it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (scr m c (t.val / 9)) (wt m c (t.val / 9) 0)
    | ⟨6, _⟩ => k0_pay4 (scr m c (t.val / 9)) (wt m c (t.val / 9) 1)
    | ⟨7, _⟩ => k0_pay13 (scr m c (t.val / 9)) (wt m c (t.val / 9) 2)
    | ⟨8, _⟩ => rows8 (kHead (scr m c (t.val / 9)) (wt m c (t.val / 9) 1))
    | ⟨9, _⟩ => rows8 (vHead (scr m c (t.val / 9)) (wt m c (t.val / 9) 2))
    | ⟨10, _⟩ => k0_pay22 (scr m c (t.val / 9)) (wt m c (t.val / 9) 3)
    | ⟨11, _⟩ => k0_pay23 (scr m c (t.val / 9)) (wt m c (t.val / 9) 4) (iblk m c 4 (pt (t.val / 9) 4))
    | ⟨12, _⟩ => k0_pay24 (scr m c (t.val / 9)) (iblk m c 2 t) (iblk m c 3 t)
  Φ t := PhiS m c t.val
  q _ := fullShare
  owed _ := 0

theorem A_eq (c : Dev nD) (w : Fin cfg0.W) : (dats m 0 c).A w = V m c (Pipeline.arrRef spec0 w) := by
  dsimp only [dats]

variable (c : Dev nD) (t : Fin cfg0.N)

theorem before_0 (d) : (dats m 0 c).before 0 t d = iblk m c 0 t :=
  (dats m 0 c).before_in_eq_fetched 0 rfl (fun _ => rfl) (fun _ _ _ => rfl) (fun _ => rfl) t d
theorem before_1 (d) : (dats m 0 c).before 1 t d = iblk m c 1 t :=
  (dats m 0 c).before_in_eq_fetched 1 rfl (fun _ => rfl) (fun _ _ _ => rfl) (fun _ => rfl) t d
theorem before_2 (d) : (dats m 0 c).before 2 t d = iblk m c 2 t :=
  (dats m 0 c).before_in_eq_fetched 2 rfl (fun _ => rfl) (fun _ _ _ => rfl) (fun _ => rfl) t d
theorem before_3 (d) : (dats m 0 c).before 3 t d = iblk m c 3 t :=
  (dats m 0 c).before_in_eq_fetched 3 rfl (fun _ => rfl) (fun _ _ _ => rfl) (fun _ => rfl) t d
theorem before_4 (d) : (dats m 0 c).before 4 t d = iblk m c 4 t :=
  (dats m 0 c).before_in_eq_fetched 4 rfl (fun _ => rfl) (fun _ _ _ => rfl) (fun _ => rfl) t d
theorem after_5 : (dats m 0 c).after 5 t = k0_pay3 (scr m c (t.val / 9)) (wt m c (t.val / 9) 0) := by dsimp only [dats]
theorem after_5_at (h : t.val % 9 = 0) : (dats m 0 c).after 5 t = k0_pay3 (scr m c (t.val / 9)) (iblk m c 2 t) := by rw [after_5, wt, pt_eq t 0 h]
theorem after_6 : (dats m 0 c).after 6 t = k0_pay4 (scr m c (t.val / 9)) (wt m c (t.val / 9) 1) := by dsimp only [dats]
theorem after_6_at (h : t.val % 9 = 1) : (dats m 0 c).after 6 t = k0_pay4 (scr m c (t.val / 9)) (iblk m c 2 t) := by rw [after_6, wt, pt_eq t 1 h]
theorem after_7 : (dats m 0 c).after 7 t = k0_pay13 (scr m c (t.val / 9)) (wt m c (t.val / 9) 2) := by dsimp only [dats]
theorem after_7_at (h : t.val % 9 = 2) : (dats m 0 c).after 7 t = k0_pay13 (scr m c (t.val / 9)) (iblk m c 2 t) := by rw [after_7, wt, pt_eq t 2 h]
theorem after_8 : (dats m 0 c).after 8 t = rows8 (kHead (scr m c (t.val / 9)) (wt m c (t.val / 9) 1)) := by dsimp only [dats]
theorem after_8_at (h : t.val % 9 = 1) : (dats m 0 c).after 8 t = rows8 (kHead (scr m c (t.val / 9)) (iblk m c 2 t)) := by rw [after_8, wt, pt_eq t 1 h]
theorem after_9 : (dats m 0 c).after 9 t = rows8 (vHead (scr m c (t.val / 9)) (wt m c (t.val / 9) 2)) := by dsimp only [dats]
theorem after_9_at (h : t.val % 9 = 2) : (dats m 0 c).after 9 t = rows8 (vHead (scr m c (t.val / 9)) (iblk m c 2 t)) := by rw [after_9, wt, pt_eq t 2 h]
theorem after_10 : (dats m 0 c).after 10 t = k0_pay22 (scr m c (t.val / 9)) (wt m c (t.val / 9) 3) := by dsimp only [dats]
theorem after_10_at (h : t.val % 9 = 3) : (dats m 0 c).after 10 t = k0_pay22 (scr m c (t.val / 9)) (iblk m c 2 t) := by rw [after_10, wt, pt_eq t 3 h]
theorem after_11 : (dats m 0 c).after 11 t = k0_pay23 (scr m c (t.val / 9)) (wt m c (t.val / 9) 4) (iblk m c 4 (pt (t.val / 9) 4)) := by dsimp only [dats]
theorem after_11_at (h : t.val % 9 = 4) : (dats m 0 c).after 11 t = k0_pay23 (scr m c (t.val / 9)) (iblk m c 2 t) (iblk m c 4 t) := by rw [after_11, wt, pt_eq t 4 h]
theorem after_12 : (dats m 0 c).after 12 t = k0_pay24 (scr m c (t.val / 9)) (iblk m c 2 t) (iblk m c 3 t) := by dsimp only [dats]

theorem scr_at (h : t.val % 9 = 0) : scr m c (t.val / 9) = k0_pay1 (iblk m c 0 t) (iblk m c 1 t) := by
  unfold scr; rw [pt_eq t 0 h]

/-! ## What a point finds in an output's buffer after the row block's point that stores into it -/

/-- From the point after the storing one to the row block's last an output's buffer holds what was stored. -/
theorem before_out {c : Dev nD} (dat : Dat τ (Elt F) Unit ℕ (UR sig nD τ) ℕ cfg0 c) (w : Fin cfg0.W) (j : ℕ)
    (hout : (cfg0.win w).isOut = true) (hfl : ∀ t, (cfg0.win w).flush t = true ↔ t.val % 9 = 8)
    (hidle : ∀ t : Fin cfg0.N, cfg0.idle w (cfg0.grid.coords t) = true ↔ t.val % 9 ≠ j)
    (haft : ∀ t t' : Fin cfg0.N, t.val / 9 = t'.val / 9 → dat.after w t = dat.after w t')
    (hkept : ∀ t d, dat.kept w t d = dat.after w t) :
    ∀ (n : ℕ) (hn : n < cfg0.N) (d), j < n % 9 → dat.before w ⟨n, hn⟩ d = dat.after w ⟨n, hn⟩ := by
  intro n
  induction n with
  | zero => intro hn d h; exact absurd h (by omega)
  | succ n ih =>
    intro hn d h
    have hn' : n < cfg0.N := Nat.lt_of_succ_lt hn
    rw [dat.before_of_pos w ⟨n + 1, hn⟩ (Nat.succ_ne_zero n) ((cfg0.win w).fetch_out hout ⟨n + 1, hn⟩) d]
    show (if (cfg0.win w).flush ⟨n, hn'⟩ then d else dat.left w ⟨n, hn'⟩ d) = _
    have hnf : ¬((cfg0.win w).flush ⟨n, hn'⟩ = true) := fun hh => by have h8 : n % 9 = 8 := (hfl ⟨n, hn'⟩).mp hh; omega
    rw [if_neg hnf, haft ⟨n + 1, hn⟩ ⟨n, hn'⟩ (by show (n + 1) / 9 = n / 9; have h8 : ¬(n % 9 = 8) := fun hh => hnf ((hfl ⟨n, hn'⟩).mpr hh); omega)]
    unfold Dat.left
    by_cases hj : n % 9 = j
    · have hi : cfg0.idle w (cfg0.grid.coords ⟨n, hn'⟩) = false := by
        by_contra hne
        exact (hidle ⟨n, hn'⟩).mp (by revert hne; cases cfg0.idle w (cfg0.grid.coords ⟨n, hn'⟩) <;> simp) hj
      rw [hi]; exact hkept _ _
    · have hi : cfg0.idle w (cfg0.grid.coords ⟨n, hn'⟩) = true := (hidle ⟨n, hn'⟩).mpr hj
      rw [hi]; exact ih hn' d (by omega)

/-- A buffer the body does not store into, handed back. -/
theorem pass {c : Dev nD} (dat : Dat τ (Elt F) Unit ℕ (UR sig nD τ) ℕ cfg0 c) (w : Fin cfg0.W) (t : Fin cfg0.N)
    (hi : cfg0.idle w (cfg0.grid.coords t) = true)
    (hb : (cfg0.win w).flush t = true → ∀ d, dat.before w t d = dat.after w t) :
    (iprop(∃ d, owns c ((cfg0.win w).stage (cfg0.slots t w)) fullShare (dat.before w t d)) : sProp 𝕄) ⊢ dat.leavesExact w t := by
  unfold Dat.leavesExact
  rw [hi]
  cases hf : (cfg0.win w).flush t with
  | false => exact .rfl
  | true =>
    iintro ⟨%d, H⟩
    rw [hb hf d]
    iexact H

/-- A buffer the body stores into, or an input's. -/
theorem live {c : Dev nD} (dat : Dat τ (Elt F) Unit ℕ (UR sig nD τ) ℕ cfg0 c) (w : Fin cfg0.W) (t : Fin cfg0.N)
    (hi : ¬(cfg0.idle w (cfg0.grid.coords t) = true)) (d) (hd : dat.after w t = d) :
    (owns c ((cfg0.win w).stage (cfg0.slots t w)) fullShare d : sProp 𝕄) ⊢ dat.leavesExact w t := by
  subst hd
  unfold Dat.leavesExact
  rw [Bool.eq_false_iff.mpr hi]

/-! ## Window by window: `put` where the body stores into it, `keep` where it does not -/

/-- What window `w`'s buffer is left with. -/
abbrev lv (w : Fin cfg0.W) : sProp 𝕄 := (dats m 0 c).leavesExact w t

theorem idle_5 (t : Fin cfg0.N) : cfg0.idle 5 (cfg0.grid.coords t) = true ↔ t.val % 9 ≠ 0 := by
  show (!(k0_cond2 (grid0.coords t) == 1#1)) = true ↔ _
  rw [Bool.not_eq_true', beq_eq_false_iff_ne, Ne, hk0_cond2 t]
theorem put_5 (h : t.val % 9 = 0) : owns c (ms5 t) fullShare (k0_pay3 (scr m c (t.val / 9)) (iblk m c 2 t)) ⊢ lv m c t 5 :=
  live (dats m 0 c) 5 t (fun hh => (idle_5 t).mp hh h) _ (after_5_at m c t h)
theorem keep_5 (h : t.val % 9 ≠ 0) : (iprop(∃ d, owns c (ms5 t) fullShare ((dats m 0 c).before 5 t d)) : sProp 𝕄) ⊢ lv m c t 5 :=
  pass (dats m 0 c) 5 t ((idle_5 t).mpr h) (fun hf d => before_out (dats m 0 c) 5 0 rfl flush0_5 idle_5
    (fun t t' e => by rw [after_5, after_5, e]) (fun _ _ => rfl) t.val t.isLt d (by have := (flush0_5 t).mp hf; omega))

theorem idle_6 (t : Fin cfg0.N) : cfg0.idle 6 (cfg0.grid.coords t) = true ↔ t.val % 9 ≠ 1 := by
  show (!(k0_cond3 (grid0.coords t) == 1#1)) = true ↔ _
  rw [Bool.not_eq_true', beq_eq_false_iff_ne, Ne, hk0_cond3 t]
theorem put_6 (h : t.val % 9 = 1) : owns c (ms6 t) fullShare (k0_pay4 (scr m c (t.val / 9)) (iblk m c 2 t)) ⊢ lv m c t 6 :=
  live (dats m 0 c) 6 t (fun hh => (idle_6 t).mp hh h) _ (after_6_at m c t h)
theorem keep_6 (h : t.val % 9 ≠ 1) : (iprop(∃ d, owns c (ms6 t) fullShare ((dats m 0 c).before 6 t d)) : sProp 𝕄) ⊢ lv m c t 6 :=
  pass (dats m 0 c) 6 t ((idle_6 t).mpr h) (fun hf d => before_out (dats m 0 c) 6 1 rfl flush0_6 idle_6
    (fun t t' e => by rw [after_6, after_6, e]) (fun _ _ => rfl) t.val t.isLt d (by have := (flush0_6 t).mp hf; omega))

theorem idle_7 (t : Fin cfg0.N) : cfg0.idle 7 (cfg0.grid.coords t) = true ↔ t.val % 9 ≠ 2 := by
  show (!(k0_cond4 (grid0.coords t) == 1#1)) = true ↔ _
  rw [Bool.not_eq_true', beq_eq_false_iff_ne, Ne, hk0_cond4 t]
theorem put_7 (h : t.val % 9 = 2) : owns c (ms7 t) fullShare (k0_pay13 (scr m c (t.val / 9)) (iblk m c 2 t)) ⊢ lv m c t 7 :=
  live (dats m 0 c) 7 t (fun hh => (idle_7 t).mp hh h) _ (after_7_at m c t h)
theorem keep_7 (h : t.val % 9 ≠ 2) : (iprop(∃ d, owns c (ms7 t) fullShare ((dats m 0 c).before 7 t d)) : sProp 𝕄) ⊢ lv m c t 7 :=
  pass (dats m 0 c) 7 t ((idle_7 t).mpr h) (fun hf d => before_out (dats m 0 c) 7 2 rfl flush0_7 idle_7
    (fun t t' e => by rw [after_7, after_7, e]) (fun _ _ => rfl) t.val t.isLt d (by have := (flush0_7 t).mp hf; omega))

theorem idle_8 (t : Fin cfg0.N) : cfg0.idle 8 (cfg0.grid.coords t) = true ↔ t.val % 9 ≠ 1 := by
  show (!(k0_cond3 (grid0.coords t) == 1#1)) = true ↔ _
  rw [Bool.not_eq_true', beq_eq_false_iff_ne, Ne, hk0_cond3 t]
theorem put_8 (h : t.val % 9 = 1) : owns c (ms8 t) fullShare (rows8 (kHead (scr m c (t.val / 9)) (iblk m c 2 t))) ⊢ lv m c t 8 :=
  live (dats m 0 c) 8 t (fun hh => (idle_8 t).mp hh h) _ (after_8_at m c t h)
theorem keep_8 (h : t.val % 9 ≠ 1) : (iprop(∃ d, owns c (ms8 t) fullShare ((dats m 0 c).before 8 t d)) : sProp 𝕄) ⊢ lv m c t 8 :=
  pass (dats m 0 c) 8 t ((idle_8 t).mpr h) (fun hf d => before_out (dats m 0 c) 8 1 rfl flush0_8 idle_8
    (fun t t' e => by rw [after_8, after_8, e]) (fun _ _ => rfl) t.val t.isLt d (by have := (flush0_8 t).mp hf; omega))

theorem idle_9 (t : Fin cfg0.N) : cfg0.idle 9 (cfg0.grid.coords t) = true ↔ t.val % 9 ≠ 2 := by
  show (!(k0_cond4 (grid0.coords t) == 1#1)) = true ↔ _
  rw [Bool.not_eq_true', beq_eq_false_iff_ne, Ne, hk0_cond4 t]
theorem put_9 (h : t.val % 9 = 2) : owns c (ms9 t) fullShare (rows8 (vHead (scr m c (t.val / 9)) (iblk m c 2 t))) ⊢ lv m c t 9 :=
  live (dats m 0 c) 9 t (fun hh => (idle_9 t).mp hh h) _ (after_9_at m c t h)
theorem keep_9 (h : t.val % 9 ≠ 2) : (iprop(∃ d, owns c (ms9 t) fullShare ((dats m 0 c).before 9 t d)) : sProp 𝕄) ⊢ lv m c t 9 :=
  pass (dats m 0 c) 9 t ((idle_9 t).mpr h) (fun hf d => before_out (dats m 0 c) 9 2 rfl flush0_9 idle_9
    (fun t t' e => by rw [after_9, after_9, e]) (fun _ _ => rfl) t.val t.isLt d (by have := (flush0_9 t).mp hf; omega))

theorem idle_10 (t : Fin cfg0.N) : cfg0.idle 10 (cfg0.grid.coords t) = true ↔ t.val % 9 ≠ 3 := by
  show (!(k0_cond5 (grid0.coords t) == 1#1)) = true ↔ _
  rw [Bool.not_eq_true', beq_eq_false_iff_ne, Ne, hk0_cond5 t]
theorem put_10 (h : t.val % 9 = 3) : owns c (ms10 t) fullShare (k0_pay22 (scr m c (t.val / 9)) (iblk m c 2 t)) ⊢ lv m c t 10 :=
  live (dats m 0 c) 10 t (fun hh => (idle_10 t).mp hh h) _ (after_10_at m c t h)
theorem keep_10 (h : t.val % 9 ≠ 3) : (iprop(∃ d, owns c (ms10 t) fullShare ((dats m 0 c).before 10 t d)) : sProp 𝕄) ⊢ lv m c t 10 :=
  pass (dats m 0 c) 10 t ((idle_10 t).mpr h) (fun hf d => before_out (dats m 0 c) 10 3 rfl flush0_10 idle_10
    (fun t t' e => by rw [after_10, after_10, e]) (fun _ _ => rfl) t.val t.isLt d (by have := (flush0_10 t).mp hf; omega))

theorem idle_11 (t : Fin cfg0.N) : cfg0.idle 11 (cfg0.grid.coords t) = true ↔ t.val % 9 ≠ 4 := by
  show (!(k0_cond6 (grid0.coords t) == 1#1)) = true ↔ _
  rw [Bool.not_eq_true', beq_eq_false_iff_ne, Ne, hk0_cond6 t]
theorem put_11 (h : t.val % 9 = 4) : owns c (ms11 t) fullShare (k0_pay23 (scr m c (t.val / 9)) (iblk m c 2 t) (iblk m c 4 t)) ⊢ lv m c t 11 :=
  live (dats m 0 c) 11 t (fun hh => (idle_11 t).mp hh h) _ (after_11_at m c t h)
theorem keep_11 (h : t.val % 9 ≠ 4) : (iprop(∃ d, owns c (ms11 t) fullShare ((dats m 0 c).before 11 t d)) : sProp 𝕄) ⊢ lv m c t 11 :=
  pass (dats m 0 c) 11 t ((idle_11 t).mpr h) (fun hf d => before_out (dats m 0 c) 11 4 rfl flush0_11 idle_11
    (fun t t' e => by rw [after_11, after_11, e]) (fun _ _ => rfl) t.val t.isLt d (by have := (flush0_11 t).mp hf; omega))

theorem idle_12 (t : Fin cfg0.N) : cfg0.idle 12 (cfg0.grid.coords t) = true ↔ t.val % 9 < 5 := by
  show (!(k0_cond7 (grid0.coords t) == 1#1)) = true ↔ _
  rw [Bool.not_eq_true', beq_eq_false_iff_ne, Ne, hk0_cond7 t]; omega
theorem put_12 (h : 5 ≤ t.val % 9) : owns c (ms12 t) fullShare (k0_pay24 (scr m c (t.val / 9)) (iblk m c 2 t) (iblk m c 3 t)) ⊢ lv m c t 12 :=
  live (dats m 0 c) 12 t (fun hh => by have := (idle_12 t).mp hh; omega) _ (after_12 m c t)
theorem flush_12 : ∀ t : Fin cfg0.N, (cfg0.win 12).flush t = true → 5 ≤ t.val % 9 :=
  (by decide +kernel : ∀ t : Fin grid0.N, win0_12.flush t = true → 5 ≤ t.val % 9)
theorem keep_12 (h : t.val % 9 < 5) : (iprop(∃ d, owns c (ms12 t) fullShare ((dats m 0 c).before 12 t d)) : sProp 𝕄) ⊢ lv m c t 12 :=
  pass (dats m 0 c) 12 t ((idle_12 t).mpr h) (fun hf => by have := flush_12 t hf; omega)

/-! ## The body obligation -/

theorem phi_first (h : t.val % 9 = 0) :
    (dats m 0 c).Φ t.castSucc = iprop(iprop((∃ d, owns c scM fullShare d)) ∗ (∃ r, prngReg c r)) := by
  show PhiS m c t.val = _
  unfold PhiS
  rw [if_pos h, PhiA_eq]

theorem phi_later (h : ¬(t.val % 9 = 0)) :
    (dats m 0 c).Φ t.castSucc = iprop(owns c scM fullShare (scr m c (t.val / 9)) ∗ (∃ r, prngReg c r)) := by
  show PhiS m c t.val = _
  unfold PhiS
  rw [if_neg h]

theorem phi_next :
    (iprop(owns c scM fullShare (scr m c (t.val / 9)) ∗ (∃ r, prngReg c r)) : sProp 𝕄) ⊢ (dats m 0 c).Φ t.succ := by
  show _ ⊢ PhiS m c (t.val + 1)
  unfold PhiS
  by_cases h : (t.val + 1) % 9 = 0
  · rw [if_pos h, PhiA_eq]
    iintro ⟨HS, Hg⟩
    isplitl [HS]
    · iexists _; iexact HS
    iexact Hg
  · rw [if_neg h, (by omega : (t.val + 1) / 9 = t.val / 9)]

/-- What the body is called with at a point, -/
def bodyPre : sProp 𝕄 :=
  iprop((dats m 0 c).Φ t.castSucc ∗ (dats m 0 c).owesAt () t.castSucc
    ∗ (∃ d, owns c (ms0 t) fullShare ((dats m 0 c).before 0 t d))
    ∗ (∃ d, owns c (ms1 t) fullShare ((dats m 0 c).before 1 t d))
    ∗ (∃ d, owns c (ms2 t) fullShare ((dats m 0 c).before 2 t d))
    ∗ (∃ d, owns c (ms3 t) fullShare ((dats m 0 c).before 3 t d))
    ∗ (∃ d, owns c (ms4 t) fullShare ((dats m 0 c).before 4 t d))
    ∗ (∃ d, owns c (ms5 t) fullShare ((dats m 0 c).before 5 t d))
    ∗ (∃ d, owns c (ms6 t) fullShare ((dats m 0 c).before 6 t d))
    ∗ (∃ d, owns c (ms7 t) fullShare ((dats m 0 c).before 7 t d))
    ∗ (∃ d, owns c (ms8 t) fullShare ((dats m 0 c).before 8 t d))
    ∗ (∃ d, owns c (ms9 t) fullShare ((dats m 0 c).before 9 t d))
    ∗ (∃ d, owns c (ms10 t) fullShare ((dats m 0 c).before 10 t d))
    ∗ (∃ d, owns c (ms11 t) fullShare ((dats m 0 c).before 11 t d))
    ∗ (∃ d, owns c (ms12 t) fullShare ((dats m 0 c).before 12 t d)))

/-- and what it returns. -/
def bodyPost : sProp 𝕄 :=
  iprop((dats m 0 c).Φ t.succ ∗ (dats m 0 c).owesAt () t.succ
    ∗ lv m c t 0 ∗ lv m c t 1 ∗ lv m c t 2 ∗ lv m c t 3 ∗ lv m c t 4 ∗ lv m c t 5 ∗ lv m c t 6 ∗ lv m c t 7 ∗ lv m c t 8 ∗ lv m c t 9 ∗ lv m c t 10 ∗ lv m c t 11 ∗ lv m c t 12)

set_option maxHeartbeats 2000000 in
/-- What it returns, from the kept rows, the inputs' blocks and each output's buffer. -/
theorem post {P5 P6 P7 P8 P9 P10 P11 P12 : sProp 𝕄} (e5 : P5 ⊢ lv m c t 5) (e6 : P6 ⊢ lv m c t 6) (e7 : P7 ⊢ lv m c t 7) (e8 : P8 ⊢ lv m c t 8) (e9 : P9 ⊢ lv m c t 9) (e10 : P10 ⊢ lv m c t 10) (e11 : P11 ⊢ lv m c t 11) (e12 : P12 ⊢ lv m c t 12) :
    iprop((owns c scM fullShare (scr m c (t.val / 9)) ∗ (∃ r, prngReg c r)) ∗ (dats m 0 c).owesAt () t.castSucc
      ∗ owns c (ms0 t) fullShare (iblk m c 0 t) ∗ owns c (ms1 t) fullShare (iblk m c 1 t) ∗ owns c (ms2 t) fullShare (iblk m c 2 t) ∗ owns c (ms3 t) fullShare (iblk m c 3 t) ∗ owns c (ms4 t) fullShare (iblk m c 4 t)
      ∗ P5 ∗ P6 ∗ P7 ∗ P8 ∗ P9 ∗ P10 ∗ P11 ∗ P12) ⊢ bodyPost m c t := by
  have a0 := live (dats m 0 c) 0 t (fun hh => Bool.false_ne_true hh) (iblk m c 0 t) (by dsimp only [dats])
  have a1 := live (dats m 0 c) 1 t (fun hh => Bool.false_ne_true hh) (iblk m c 1 t) (by dsimp only [dats])
  have a2 := live (dats m 0 c) 2 t (fun hh => Bool.false_ne_true hh) (iblk m c 2 t) (by dsimp only [dats])
  have a3 := live (dats m 0 c) 3 t (fun hh => Bool.false_ne_true hh) (iblk m c 3 t) (by dsimp only [dats])
  have a4 := live (dats m 0 c) 4 t (fun hh => Bool.false_ne_true hh) (iblk m c 4 t) (by dsimp only [dats])
  unfold bodyPost
  rw [show (dats m 0 c).owesAt () t.succ = (dats m 0 c).owesAt () t.castSucc from rfl]
  iintro ⟨⟨HS, Hg⟩, Ho, H0, H1, H2, H3, H4, H5, H6, H7, H8, H9, H10, H11, H12⟩
  isplitl [HS Hg]; · (iapply (phi_next m c t); iframe)
  isplitl [Ho]; · iexact Ho
  isplitl [H0]; · (iapply a0; iexact H0)
  isplitl [H1]; · (iapply a1; iexact H1)
  isplitl [H2]; · (iapply a2; iexact H2)
  isplitl [H3]; · (iapply a3; iexact H3)
  isplitl [H4]; · (iapply a4; iexact H4)
  isplitl [H5]; · (iapply e5; iexact H5)
  isplitl [H6]; · (iapply e6; iexact H6)
  isplitl [H7]; · (iapply e7; iexact H7)
  isplitl [H8]; · (iapply e8; iexact H8)
  isplitl [H9]; · (iapply e9; iexact H9)
  isplitl [H10]; · (iapply e10; iexact H10)
  isplitl [H11]; · (iapply e11; iexact H11)
  iapply e12; iexact H12

/-- The body takes the one to the other. -/
abbrev Sound : Prop :=
  bodyPre m c t ⊢ wp frame (wpE (defs₀ (F := F)) Variants.none c none) Set.univ (bodyAt0 t) (fun _ => bodyPost m c t)

set_option maxHeartbeats 2000000 in
theorem sound_A (h : t.val % 9 = 0) : Sound m c t := by
  have ep := post m c t (put_5 m c t h) (keep_6 m c t (by omega)) (keep_7 m c t (by omega)) (keep_8 m c t (by omega)) (keep_9 m c t (by omega)) (keep_10 m c t (by omega)) (keep_11 m c t (by omega)) (keep_12 m c t (by omega))
  rw [scr_at m c t h] at ep
  unfold Sound bodyPre bodyAt0
  simp only [before_0, before_1, before_2, before_3, before_4]
  rw [phi_first m c t h]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_A c (grid0.coords t) _ _ _ _ _ _ _ _ _ _ _ _ _ _ _ _ _ (iblk m c 0 t) (iblk m c 1 t) (iblk m c 2 t) Set.univ _ ((hcond1 t).mpr h) ((hk0_cond2 t).mpr h) (mt (hk0_cond3 t).mp (by omega)) (mt (hk0_cond4 t).mp (by omega)) (mt (hk0_cond5 t).mp (by omega)) (mt (hk0_cond6 t).mp (by omega)) (mt (hk0_cond7 t).mp (by omega)))
  isplitl [H0]; · iexact H0
  isplitl [H1]; · iexact H1
  isplitl [H2]; · iexact H2
  isplitl [H5]; · (icases H5 with ⟨%dd, H5⟩; iexists _; iexact H5)
  isplitl [HS]; · iexact HS
  iintro ⟨H0, H1, H2, H5, HS⟩
  iapply ep
  iframe

set_option maxHeartbeats 2000000 in
theorem sound_B (h : t.val % 9 = 1) : Sound m c t := by
  have ep := post m c t (keep_5 m c t (by omega)) (put_6 m c t h) (keep_7 m c t (by omega)) (put_8 m c t h) (keep_9 m c t (by omega)) (keep_10 m c t (by omega)) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_B c (grid0.coords t) _ _ _ _ _ _ _ _ _ _ _ _ _ _ _ _ _ (iblk m c 2 t) (scr m c (t.val / 9)) Set.univ _ (mt (hcond1 t).mp (by omega)) (mt (hk0_cond2 t).mp (by omega)) ((hk0_cond3 t).mpr h) (mt (hk0_cond4 t).mp (by omega)) (mt (hk0_cond5 t).mp (by omega)) (mt (hk0_cond6 t).mp (by omega)) (mt (hk0_cond7 t).mp (by omega)))
  isplitl [H2]; · iexact H2
  isplitl [HS]; · iexact HS
  isplitl [H6]; · (icases H6 with ⟨%dd, H6⟩; iexists _; iexact H6)
  isplitl [H8]; · (icases H8 with ⟨%dd, H8⟩; iexists _; iexact H8)
  iintro ⟨H2, HS, H6, H8⟩
  iapply ep
  iframe

set_option maxHeartbeats 2000000 in
theorem sound_C (h : t.val % 9 = 2) : Sound m c t := by
  have ep := post m c t (keep_5 m c t (by omega)) (keep_6 m c t (by omega)) (put_7 m c t h) (keep_8 m c t (by omega)) (put_9 m c t h) (keep_10 m c t (by omega)) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_C c (grid0.coords t) _ _ _ _ _ _ _ _ _ _ _ _ _ _ _ _ _ (iblk m c 2 t) (scr m c (t.val / 9)) Set.univ _ (mt (hcond1 t).mp (by omega)) (mt (hk0_cond2 t).mp (by omega)) (mt (hk0_cond3 t).mp (by omega)) ((hk0_cond4 t).mpr h) (mt (hk0_cond5 t).mp (by omega)) (mt (hk0_cond6 t).mp (by omega)) (mt (hk0_cond7 t).mp (by omega)))
  isplitl [H2]; · iexact H2
  isplitl [HS]; · iexact HS
  isplitl [H7]; · (icases H7 with ⟨%dd, H7⟩; iexists _; iexact H7)
  isplitl [H9]; · (icases H9 with ⟨%dd, H9⟩; iexists _; iexact H9)
  iintro ⟨H2, HS, H7, H9⟩
  iapply ep
  iframe

set_option maxHeartbeats 2000000 in
theorem sound_D (h : t.val % 9 = 3) : Sound m c t := by
  have ep := post m c t (keep_5 m c t (by omega)) (keep_6 m c t (by omega)) (keep_7 m c t (by omega)) (keep_8 m c t (by omega)) (keep_9 m c t (by omega)) (put_10 m c t h) (keep_11 m c t (by omega)) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_D c (grid0.coords t) _ _ _ _ _ _ _ _ _ _ _ _ _ _ _ _ _ (iblk m c 2 t) (scr m c (t.val / 9)) Set.univ _ (mt (hcond1 t).mp (by omega)) (mt (hk0_cond2 t).mp (by omega)) (mt (hk0_cond3 t).mp (by omega)) (mt (hk0_cond4 t).mp (by omega)) ((hk0_cond5 t).mpr h) (mt (hk0_cond6 t).mp (by omega)) (mt (hk0_cond7 t).mp (by omega)))
  isplitl [H2]; · iexact H2
  isplitl [HS]; · iexact HS
  isplitl [H10]; · (icases H10 with ⟨%dd, H10⟩; iexists _; iexact H10)
  iintro ⟨H2, HS, H10⟩
  iapply ep
  iframe

set_option maxHeartbeats 2000000 in
theorem sound_E (h : t.val % 9 = 4) : Sound m c t := by
  have ep := post m c t (keep_5 m c t (by omega)) (keep_6 m c t (by omega)) (keep_7 m c t (by omega)) (keep_8 m c t (by omega)) (keep_9 m c t (by omega)) (keep_10 m c t (by omega)) (put_11 m c t h) (keep_12 m c t (by omega))
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_E c (grid0.coords t) _ _ _ _ _ _ _ _ _ _ _ _ _ _ _ _ _ (iblk m c 2 t) (iblk m c 4 t) (scr m c (t.val / 9)) Set.univ _ (mt (hcond1 t).mp (by omega)) (mt (hk0_cond2 t).mp (by omega)) (mt (hk0_cond3 t).mp (by omega)) (mt (hk0_cond4 t).mp (by omega)) (mt (hk0_cond5 t).mp (by omega)) ((hk0_cond6 t).mpr h) (mt (hk0_cond7 t).mp (by omega)))
  isplitl [H2]; · iexact H2
  isplitl [H4]; · iexact H4
  isplitl [HS]; · iexact HS
  isplitl [H11]; · (icases H11 with ⟨%dd, H11⟩; iexists _; iexact H11)
  iintro ⟨H2, H4, HS, H11⟩
  iapply ep
  iframe

set_option maxHeartbeats 2000000 in
theorem sound_G (h : 5 ≤ t.val % 9) : Sound m c t := by
  have ep := post m c t (keep_5 m c t (by omega)) (keep_6 m c t (by omega)) (keep_7 m c t (by omega)) (keep_8 m c t (by omega)) (keep_9 m c t (by omega)) (keep_10 m c t (by omega)) (keep_11 m c t (by omega)) (put_12 m c t h)
  unfold Sound bodyPre bodyAt0
  simp only [before_0, before_1, before_2, before_3, before_4]
  rw [phi_later m c t (by omega)]
  iintro ⟨⟨HS, Hg⟩, Ho, ⟨%d0, H0⟩, ⟨%d1, H1⟩, ⟨%d2, H2⟩, ⟨%d3, H3⟩, ⟨%d4, H4⟩, H5, H6, H7, H8, H9, H10, H11, H12⟩
  iapply (run_G c (grid0.coords t) _ _ _ _ _ _ _ _ _ _ _ _ _ _ _ _ _ (iblk m c 2 t) (iblk m c 3 t) (scr m c (t.val / 9)) Set.univ _ (mt (hcond1 t).mp (by omega)) (mt (hk0_cond2 t).mp (by omega)) (mt (hk0_cond3 t).mp (by omega)) (mt (hk0_cond4 t).mp (by omega)) (mt (hk0_cond5 t).mp (by omega)) (mt (hk0_cond6 t).mp (by omega)) ((hk0_cond7 t).mpr h))
  isplitl [H2]; · iexact H2
  isplitl [H3]; · iexact H3
  isplitl [HS]; · iexact HS
  isplitl [H12]; · (icases H12 with ⟨%dd, H12⟩; iexists _; iexact H12)
  iintro ⟨H2, H3, HS, H12⟩
  iapply ep
  iframe

theorem sound_body : Sound m c t := by
  rcases (by omega : t.val % 9 = 0 ∨ t.val % 9 = 1 ∨ t.val % 9 = 2 ∨ t.val % 9 = 3 ∨ t.val % 9 = 4 ∨ 5 ≤ t.val % 9) with h | h | h | h | h | h
  · exact sound_A m c t h
  · exact sound_B m c t h
  · exact sound_C m c t h
  · exact sound_D m c t h
  · exact sound_E m c t h
  · exact sound_G m c t h

theorem defs₀_row : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin : Pipeline.ΦA spec0 c ⊢ (dats (F := F) m 0 c).Φ 0 := by
  show _ ⊢ PhiS m c 0
  unfold PhiS
  rw [if_pos rfl]

theorem hout : (dats (F := F) m 0 c).Φ (Fin.last cfg0.N) ⊢ Pipeline.ΦA spec0 c := by
  show PhiS m c cfg0.N ⊢ _
  rw [show cfg0.N = 144 from N_0]
  unfold PhiS
  rw [if_pos rfl]

set_option backward.isDefEq.respectTransparency.types false in
/-- Every fair run of the program ends with every array at what the body's points wrote back, every other buffer as the
    region found it and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every argument's array is as it was. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_of (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_kept m c main_arg0))),
   ((h c).1 1).trans (((dats m 0 c).arrAt_in 1 rfl _).trans ((A_eq m c 1).trans (V_kept m c main_arg1))),
   ((h c).1 2).trans (((dats m 0 c).arrAt_in 2 rfl _).trans ((A_eq m c 2).trans (V_kept m c main_arg2))),
   ((h c).1 3).trans (((dats m 0 c).arrAt_in 3 rfl _).trans ((A_eq m c 3).trans (V_kept m c main_arg3))),
   ((h c).1 4).trans (((dats m 0 c).arrAt_in 4 rfl _).trans ((A_eq m c 4).trans (V_kept m c main_arg4))),
   ((h c).2 main_arg5 (Pipeline.mem_restRefs_of main_arg5 (by decide) (by decide))).trans (V_kept m c main_arg5),
   ((h c).2 main_arg6 (Pipeline.mem_restRefs_of main_arg6 (by decide) (by decide))).trans (V_kept m c main_arg6),
   ((h c).2 main_arg7 (Pipeline.mem_restRefs_of main_arg7 (by decide) (by decide))).trans (V_kept m c main_arg7)⟩

/-- The arguments end unchanged and the counters at zero. -/
theorem frame : θ_run defs (onTc (τ := τ) (main (F := F))) ⟨m, fun _ => 0, ρ⟩ (fun r => (∀ c : Dev nD, Kept m r c) ∧ r.2.sem = fun _ => 0) :=
  (θ_run defs _ _).mono (fun r h => ⟨kept_of m r h.1, h.2⟩) (run_all m ρ)

end Cert.ProjPromptIdeal.Frm

end
-- ==== Proof.ProjPrompt.Streams.lean ====
/-
  The projection on extended reals, as Proj/Streams.lean has it, at the prompts' rows.
-/
module

public import proofs.«01_k».proof.Proof.Proj.Streams

@[expose] public section

set_option maxRecDepth 16384

noncomputable section

namespace Cert.StreamsPrompt

open Idealize.ShloMosaic Idealize.ShloMosaic.ValueIdx Cert.Mlp
open Cert.Streams (gelu rmsLanes Weights Bias Norm)
open scoped BigOperators

abbrev Heads : Shape := ⟨2, ![131072, 128]⟩
abbrev Lanes : Shape := ⟨2, ![16384, 1024]⟩

variable (x : (Rows 8192).Idx → EReal) (g : Scale.Idx → EReal) (w : Weights.Idx → EReal) (bg : Bias.Idx → EReal) (sn : Norm.Idx → EReal)
  (ka : Heads.Idx → EReal) (va : Lanes.Idx → EReal)

/-- A normalised row times column `f` of the last layer's weights. -/
def dotCol (r : Fin 8192) (f : Fin 9216) : EReal := ∑ k : Fin 2048, hn x g r k * w (ix3 (1 : Fin 2) k f)

def query (r : Fin 8192) (e : Fin 1024) : EReal := dotCol x g w r ⟨e.val, by omega⟩ * Ideal.ofBits .f32 0x3DB504F3#32
def key (r : Fin 8192) (e : Fin 1024) : EReal := dotCol x g w r ⟨1024 + e.val, by omega⟩
def value (r : Fin 8192) (e : Fin 1024) : EReal := dotCol x g w r ⟨2048 + e.val, by omega⟩
def lane (r : Fin 8192) (e : Fin 1024) : EReal := gelu (dotCol x g w r ⟨3072 + e.val, by omega⟩)
def normed (r : Fin 8192) (e : Fin 1024) : EReal :=
  rmsLanes (fun e => gelu (dotCol x g w r ⟨4096 + e.val, by omega⟩)) (fun e => sn (ix2 (0 : Fin 1) e)) e
def gate (r : Fin 8192) (e : Fin 4096) : EReal := Ideal.logistic (dotCol x g w r ⟨5120 + e.val, by omega⟩ + bg (ix2 (0 : Fin 1) e))

/-- Row `y` of the head-by-head array: the first half as it was, the second a row of `p` head by head. -/
def headRow (p : Fin 8192 → Fin 1024 → EReal) (y : Fin 131072) (d : Fin 128) : EReal :=
  if h : y.val < 65536 then ka (ix2 y d) else p ⟨(y.val - 65536) / 8, by omega⟩ ⟨y.val % 8 * 128 + d.val, by omega⟩

/-- Row `y` of the normed lanes: the first half as it was. -/
def laneRow (y : Fin 16384) (e : Fin 1024) : EReal :=
  if h : y.val < 8192 then va (ix2 y e) else normed x g w sn ⟨y.val - 8192, by omega⟩ e

end Cert.StreamsPrompt

end
-- ==== Proof.ProjPrompt.Pay.lean ====
/-
  The projection kernel's arithmetic at the prompts' rows: block by block it is that at the running streams' rows.
-/
module

public import proofs.«01_k».proof.Proof.Gen.ProjPromptIdeal.Skeleton
public import proofs.«01_k».proof.Proof.ProjPrompt.Runs
public import proofs.«01_k».proof.Proof.ProjPrompt.Streams
public import proofs.«01_k».proof.Proof.Proj.Pay

@[expose] public section

set_option maxRecDepth 16384

noncomputable section

namespace Cert.ProjPromptIdeal.Pay

open Cert.ProjPromptIdeal Cert.ProjPromptIdeal.Gen Cert.ProjPromptIdeal.Frm Cert.Streams Idealize.ShloMosaic.ValueIdx
open Idealize.ShloMosaic hiding ix2 ix3
open scoped BigOperators

theorem pay1_apply (x : Vec Ideal S512x2048 .f32) (g : Vec Ideal S1x2048 .f32) (r : Fin 512) (k : Fin 2048) :
    k0_pay1 x g (ix2 r k) = Cert.Mlp.rms (fun k => x (ix2 r k)) (fun k => g (ix2 (0 : Fin 1) k)) k :=
  Cert.ProjIdeal.Pay.pay1_apply x g r k

/-- A row times a block's column. -/
abbrev col := Cert.ProjIdeal.Pay.col

variable (v3 : Vec Ideal S512x2048 .bf16) (w : Vec Ideal S1x2048x1024 .bf16) (r : Fin 512) (e : Fin 1024)

theorem pay3_apply : k0_pay3 (F := Ideal) v3 w (ix2 r e) = col v3 w r e * Ideal.ofBits .f32 0x3DB504F3#32 := Cert.ProjIdeal.Pay.pay3_apply v3 w r e
theorem pay4_apply : k0_pay4 (F := Ideal) v3 w (ix2 r e) = col v3 w r e := Cert.ProjIdeal.Pay.pay4_apply v3 w r e
theorem pay13_apply : k0_pay13 (F := Ideal) v3 w (ix2 r e) = col v3 w r e := Cert.ProjIdeal.Pay.pay13_apply v3 w r e
theorem pay22_apply : k0_pay22 (F := Ideal) v3 w (ix2 r e) = gelu (col v3 w r e) := Cert.ProjIdeal.Pay.pay22_apply v3 w r e
theorem pay24_apply (b : Vec Ideal S1x1024 .f32) : k0_pay24 (F := Ideal) v3 w b (ix2 r e) = Ideal.logistic (col v3 w r e + b (ix2 (0 : Fin 1) e)) :=
  Cert.ProjIdeal.Pay.pay24_apply v3 w r e b
theorem pay23_apply (g : Vec Ideal S1x1024 .f32) :
    k0_pay23 (F := Ideal) v3 w g (ix2 r e) = rmsLanes (fun e => gelu (col v3 w r e)) (fun e => g (ix2 (0 : Fin 1) e)) e :=
  Cert.ProjIdeal.Pay.pay23_apply v3 w r e g

theorem kHead_apply (d : Fin 128) : ∀ (h : ℕ), h < 8 → e.val = h * 128 + d.val → kHead (F := Ideal) v3 w h (ix2 r d) = col v3 w r e
  | 0, _, he => Cert.ProjIdeal.Pay.pay5_apply v3 w r e d (by omega)
  | 1, _, he => Cert.ProjIdeal.Pay.pay6_apply v3 w r e d (by omega)
  | 2, _, he => Cert.ProjIdeal.Pay.pay7_apply v3 w r e d (by omega)
  | 3, _, he => Cert.ProjIdeal.Pay.pay8_apply v3 w r e d (by omega)
  | 4, _, he => Cert.ProjIdeal.Pay.pay9_apply v3 w r e d (by omega)
  | 5, _, he => Cert.ProjIdeal.Pay.pay10_apply v3 w r e d (by omega)
  | 6, _, he => Cert.ProjIdeal.Pay.pay11_apply v3 w r e d (by omega)
  | 7, _, he => Cert.ProjIdeal.Pay.pay12_apply v3 w r e d (by omega)
  | n + 8, hn, _ => absurd hn (by omega)

theorem vHead_apply (d : Fin 128) : ∀ (h : ℕ), h < 8 → e.val = h * 128 + d.val → vHead (F := Ideal) v3 w h (ix2 r d) = col v3 w r e
  | 0, _, he => Cert.ProjIdeal.Pay.pay14_apply v3 w r e d (by omega)
  | 1, _, he => Cert.ProjIdeal.Pay.pay15_apply v3 w r e d (by omega)
  | 2, _, he => Cert.ProjIdeal.Pay.pay16_apply v3 w r e d (by omega)
  | 3, _, he => Cert.ProjIdeal.Pay.pay17_apply v3 w r e d (by omega)
  | 4, _, he => Cert.ProjIdeal.Pay.pay18_apply v3 w r e d (by omega)
  | 5, _, he => Cert.ProjIdeal.Pay.pay19_apply v3 w r e d (by omega)
  | 6, _, he => Cert.ProjIdeal.Pay.pay20_apply v3 w r e d (by omega)
  | 7, _, he => Cert.ProjIdeal.Pay.pay21_apply v3 w r e d (by omega)
  | n + 8, hn, _ => absurd hn (by omega)

end Cert.ProjPromptIdeal.Pay

end
-- ==== Proof.ProjPrompt.Final.lean ====
/-
  The projection kernel's blocks at the prompts' rows, and its result arrays.
-/
module

public import proofs.«01_k».proof.Proof.ProjPrompt.Frame
public import proofs.«01_k».proof.Proof.ProjPrompt.Pay
public import Idealize.ShloMosaic.Lib.StableHlo.Run

@[expose] public section

set_option maxRecDepth 65536

noncomputable section

namespace Cert.ProjPromptIdeal.Final

open Cert.ProjPromptIdeal Cert.ProjPromptIdeal.Gen Cert.ProjPromptIdeal.Frm Cert.ProjPromptIdeal.Pay Cert.StreamsPrompt
open Cert.Streams (gelu rmsLanes Weights Bias Norm)
open Idealize.ShloMosaic.TcCoe Idealize.SL.Sem Idealize.ShloMosaic.ValueIdx
open Idealize.ShloMosaic hiding ix2 ix3 eq_ix2 eq_ix3
open Idealize.ShloMosaic.Pipeline
open scoped BigOperators

variable (m : (ℓ : Loc nD τ sig) → Buf (Elt Ideal) ℓ) (c : Dev nD)

theorem index0 : ∀ t : Fin grid0.N, win0_0.index t 0 = t.val / 9 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 1 ∧ win0_2.index t 1 = 0 ∧ win0_2.index t 2 = t.val % 9 := by decide +kernel
theorem index3 : ∀ t : Fin grid0.N, win0_3.index t 0 = 0 ∧ win0_3.index t 1 = t.val % 9 - 5 := by decide +kernel
theorem index4 : ∀ t : Fin grid0.N, win0_4.index t 0 = 0 ∧ win0_4.index t 1 = 0 := by decide +kernel
theorem index5 : ∀ t : Fin grid0.N, win0_5.index t 0 = t.val / 9 ∧ win0_5.index t 1 = 0 := by decide +kernel
theorem index6 : ∀ t : Fin grid0.N, win0_6.index t 0 = t.val / 9 ∧ win0_6.index t 1 = 0 := by decide +kernel
theorem index7 : ∀ t : Fin grid0.N, win0_7.index t 0 = t.val / 9 ∧ win0_7.index t 1 = 0 := by decide +kernel
theorem index8 : ∀ t : Fin grid0.N, win0_8.index t 0 = 16 + t.val / 9 ∧ win0_8.index t 1 = 0 := by decide +kernel
theorem index9 : ∀ t : Fin grid0.N, win0_9.index t 0 = 16 + t.val / 9 ∧ win0_9.index t 1 = 0 := by decide +kernel
theorem index10 : ∀ t : Fin grid0.N, win0_10.index t 0 = t.val / 9 ∧ win0_10.index t 1 = 0 := by decide +kernel
theorem index11 : ∀ t : Fin grid0.N, win0_11.index t 0 = 16 + t.val / 9 ∧ win0_11.index t 1 = 0 := by decide +kernel
theorem index12 : ∀ t : Fin grid0.N, win0_12.index t 0 = t.val / 9 ∧ win0_12.index t 1 = t.val % 9 - 5 := by decide +kernel
theorem flush12 : ∀ t : Fin grid0.N, win0_12.flush t = true ↔ 5 ≤ t.val % 9 := by decide +kernel

variable (t : Fin cfg0.N)

theorem t_lt : t.val < 144 := lt_of_lt_of_eq t.isLt N_0

theorem pt_val (i j : ℕ) (hi : i < 16) (hj : j < 9) : (pt i j).val = 9 * i + j := by
  show (9 * i + j) % 144 = 9 * i + j
  omega

/-- Row `r` of row block `i`. -/
abbrev rowOf (i : ℕ) (hi : i < 16) (r : Fin 512) : Fin 8192 := ⟨i * 512 + r.val, by omega⟩

/-- Column `e` of column block `j`. -/
abbrev colOf (j : ℕ) (hj : j < 9) (e : Fin 1024) : Fin 9216 := ⟨j * 1024 + e.val, by omega⟩

theorem hi : t.val / 9 < 16 := by have := t_lt t; omega
theorem hj : t.val % 9 < 9 := Nat.mod_lt _ (by omega)

/-! ## The blocks -/

theorem iblk0_apply (r : Fin 512) (k : Fin 2048) : (iblk m c 0 t : Vec Ideal S512x2048 .f32) (ix2 r k)
    = m ((c : Thread nD τ).loc main_arg0) (ix2 (rowOf (t.val / 9) (hi t) r) k) := by
  obtain ⟨h0, h1⟩ := index0 t
  refine Eq.trans ?_ (congrFun (V_kept m c main_arg0) _)
  unfold iblk
  rw [View.read_apply]
  refine congrArg (V m c main_arg0) (funext fun a => Fin.ext ?_)
  match a with
  | ⟨0, _⟩ => show win0_0.index t 0 * 512 + 1 * r.val = t.val / 9 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_kept m c main_arg1) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 1024) : (iblk m c 2 t : Vec Ideal S1x2048x1024 .bf16) (ix3 (0 : Fin 1) k e)
    = m ((c : Thread nD τ).loc main_arg2) (ix3 (1 : Fin 2) k (colOf (t.val % 9) (hj t) e)) := by
  obtain ⟨h0, h1, h2⟩ := index2 t
  refine Eq.trans ?_ (congrFun (V_kept m c main_arg2) _)
  unfold iblk
  rw [View.read_apply]
  refine congrArg (V m c main_arg2) (funext fun a => Fin.ext ?_)
  match a with
  | ⟨0, _⟩ => show win0_2.index t 0 * 1 + 1 * 0 = 1; omega
  | ⟨1, _⟩ => show win0_2.index t 1 * 2048 + 1 * k.val = k.val; omega
  | ⟨2, _⟩ => show win0_2.index t 2 * 1024 + 1 * e.val = t.val % 9 * 1024 + e.val; omega

theorem iblk3_apply (e : Fin 1024) : (iblk m c 3 t : Vec Ideal S1x1024 .f32) (ix2 (0 : Fin 1) e)
    = m ((c : Thread nD τ).loc main_arg3) (ix2 (0 : Fin 1) (⟨(t.val % 9 - 5) * 1024 + e.val, by have := hj t; omega⟩ : Fin 4096)) := by
  obtain ⟨h0, h1⟩ := index3 t
  refine Eq.trans ?_ (congrFun (V_kept m c main_arg3) _)
  unfold iblk
  rw [View.read_apply]
  refine congrArg (V m c main_arg3) (funext fun a => Fin.ext ?_)
  match a with
  | ⟨0, _⟩ => show win0_3.index t 0 * 1 + 1 * 0 = 0; omega
  | ⟨1, _⟩ => show win0_3.index t 1 * 1024 + 1 * e.val = (t.val % 9 - 5) * 1024 + e.val; omega

theorem iblk4_apply (e : Fin 1024) : (iblk m c 4 t : Vec Ideal S1x1024 .f32) (ix2 (0 : Fin 1) e)
    = m ((c : Thread nD τ).loc main_arg4) (ix2 (0 : Fin 1) e) := by
  obtain ⟨h0, h1⟩ := index4 t
  refine Eq.trans ?_ (congrFun (V_kept m c main_arg4) _)
  unfold iblk
  rw [View.read_apply]
  refine congrArg (V m c main_arg4) (funext fun a => Fin.ext ?_)
  match a with
  | ⟨0, _⟩ => show win0_4.index t 0 * 1 + 1 * 0 = 0; omega
  | ⟨1, _⟩ => show win0_4.index t 1 * 1024 + 1 * e.val = e.val; omega

abbrev x : (Cert.Mlp.Rows 8192).Idx → EReal := m ((c : Thread nD τ).loc main_arg0)
abbrev g : Cert.Mlp.Scale.Idx → EReal := m ((c : Thread nD τ).loc main_arg1)
abbrev w : Weights.Idx → EReal := m ((c : Thread nD τ).loc main_arg2)
abbrev bg : Bias.Idx → EReal := m ((c : Thread nD τ).loc main_arg3)
abbrev sn : Norm.Idx → EReal := m ((c : Thread nD τ).loc main_arg4)
abbrev ka : Heads.Idx → EReal := m ((c : Thread nD τ).loc main_arg5)
abbrev va : Heads.Idx → EReal := m ((c : Thread nD τ).loc main_arg6)
abbrev vna : Lanes.Idx → EReal := m ((c : Thread nD τ).loc main_arg7)

/-- The kept rows of a row block are its normalised rows. -/
theorem scr_apply (i : ℕ) (hi' : i < 16) (r : Fin 512) (k : Fin 2048) :
    scr m c i (ix2 r k) = Cert.Mlp.hn (x m c) (g m c) (rowOf i hi' r) k := by
  have e : (pt i 0).val = 9 * i := pt_val i 0 hi' (by omega)
  unfold scr
  refine (pay1_apply _ _ r k).trans ?_
  unfold Cert.Mlp.hn
  congr 1
  · funext k
    refine (iblk0_apply m c (pt i 0) r k).trans (congrArg (fun q => m ((c : Thread nD τ).loc main_arg0) (ix2 q k)) (Fin.ext ?_))
    show (pt i 0).val / 9 * 512 + r.val = i * 512 + r.val
    omega
  · funext k; exact iblk1_apply m c (pt i 0) k

/-- The product of a row block and a column block. -/
theorem col_apply (i : ℕ) (hi' : i < 16) (j : ℕ) (hj' : j < 9) (ht : t.val % 9 = j) (r : Fin 512) (e : Fin 1024) (f : Fin 9216) (hf : f.val = j * 1024 + e.val) :
    col (scr m c i) (iblk m c 2 t : Vec Ideal S1x2048x1024 .bf16) r e = dotCol (x m c) (g m c) (w m c) (rowOf i hi' r) f := by
  have hf' : colOf (t.val % 9) (hj t) e = f := Fin.ext (by show t.val % 9 * 1024 + e.val = f.val; rw [ht, hf])
  refine Finset.sum_congr rfl fun k _ => ?_
  refine congrArg₂ (· * ·) (scr_apply m c i hi' r k) ((iblk2_apply m c t k e).trans ?_)
  rw [hf']

theorem col_pt (i : ℕ) (hi' : i < 16) (j : ℕ) (hj' : j < 9) (r : Fin 512) (e : Fin 1024) (f : Fin 9216) (hf : f.val = j * 1024 + e.val) :
    col (scr m c i) (iblk m c 2 (pt i j) : Vec Ideal S1x2048x1024 .bf16) r e = dotCol (x m c) (g m c) (w m c) (rowOf i hi' r) f :=
  col_apply m c (pt i j) i hi' j hj' (by rw [pt_val i j hi' hj']; omega) r e f hf

/-! ## The arrays copied before the call -/

theorem V_main_v0_3 : V m c main_v0_3 = m ((c : Thread nD τ).loc main_arg5) := by
  unfold V
  after_results
  rfl

theorem V_main_v0_4 : V m c main_v0_4 = m ((c : Thread nD τ).loc main_arg6) := by
  unfold V
  after_results
  rfl

theorem V_main_v0_6 : V m c main_v0_6 = m ((c : Thread nD τ).loc main_arg7) := by
  unfold V
  after_results
  rfl

/-! ## The results -/

/-- The last point of the row block that holds row `n`. -/
theorem cover (n : ℕ) (hn : n < 8192) : ∃ t : Fin cfg0.N, t.val = n / 512 * 9 + 8 :=
  ⟨⟨_, lt_of_lt_of_eq (by omega : n / 512 * 9 + 8 < 144) N_0.symm⟩, rfl⟩

/-- Result `v0_0`, by row and lane. -/
def result5 : Buf (Elt Ideal) ((c : Thread nD τ).loc main_v0_0) := fun i =>
  query (x m c) (g m c) (w m c) ⟨(i 0).val, (i 0).isLt⟩ ⟨(i 1).val, (i 1).isLt⟩

theorem flushed5 : (dats m 0 c).flushed 5 t = ((cfg0.win 5).blk t).view.read (Elt Ideal) (result5 m c) := by
  obtain ⟨h0, h1⟩ := index5 t
  funext j
  obtain ⟨r, e, rfl⟩ : ∃ (r : Fin 512) (e : Fin 1024), j = ix2 r e := ⟨j 0, j 1, eq_ix2 j⟩
  rw [View.read_apply]
  refine Eq.trans (b := (dats m 0 c).after 5 t (ix2 r e)) rfl ?_
  rw [after_5]
  refine Eq.trans (b := result5 m c (ix2 (rowOf (t.val / 9) (hi t) r) e)) ?_ ?_
  · exact (pay3_apply _ _ r e).trans (congrArg (· * Ideal.ofBits .f32 0x3DB504F3#32) (col_pt m c (t.val / 9) (hi t) 0 (by omega) r e _ (by show e.val = 0 * 1024 + e.val; omega)))
  refine congrArg (result5 m c) (funext fun a => Fin.ext ?_)
  match a with
  | ⟨0, _⟩ => show t.val / 9 * 512 + r.val = win0_5.index t 0 * 512 + 1 * r.val; omega
  | ⟨1, _⟩ => show e.val = win0_5.index t 1 * 1024 + 1 * e.val; omega

theorem final5 : (dats m 0 c).arrAt 5 cfg0.N = result5 m c :=
  (dats m 0 c).arrAt_eq_of_cover 5 (result5 m c) (fun t _ => flushed5 m c t) fun i => by
    obtain ⟨t, ht⟩ := cover (i 0) (i 0).isLt
    have i1 : (i 1 : Nat) < 1024 := (i 1).isLt
    refine ⟨t, (flush0_5 t).mpr (by omega), ?_⟩
    obtain ⟨h0, h1⟩ := index5 t
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512; omega
    | ⟨1, _⟩ => show win0_5.index t 1 * 1024 ≤ (i 1 : Nat) ∧ (i 1 : Nat) < win0_5.index t 1 * 1024 + 1024; omega

/-- Result `v0_1`, by row and lane. -/
def result6 : Buf (Elt Ideal) ((c : Thread nD τ).loc main_v0_1) := fun i =>
  key (x m c) (g m c) (w m c) ⟨(i 0).val, (i 0).isLt⟩ ⟨(i 1).val, (i 1).isLt⟩

theorem flushed6 : (dats m 0 c).flushed 6 t = ((cfg0.win 6).blk t).view.read (Elt Ideal) (result6 m c) := by
  obtain ⟨h0, h1⟩ := index6 t
  funext j
  obtain ⟨r, e, rfl⟩ : ∃ (r : Fin 512) (e : Fin 1024), j = ix2 r e := ⟨j 0, j 1, eq_ix2 j⟩
  rw [View.read_apply]
  refine Eq.trans (b := (dats m 0 c).after 6 t (ix2 r e)) rfl ?_
  rw [after_6]
  refine Eq.trans (b := result6 m c (ix2 (rowOf (t.val / 9) (hi t) r) e)) ?_ ?_
  · exact (pay4_apply _ _ r e).trans (col_pt m c (t.val / 9) (hi t) 1 (by omega) r e _ (by show 1024 + e.val = 1 * 1024 + e.val; omega))
  refine congrArg (result6 m c) (funext fun a => Fin.ext ?_)
  match a with
  | ⟨0, _⟩ => show t.val / 9 * 512 + r.val = win0_6.index t 0 * 512 + 1 * r.val; omega
  | ⟨1, _⟩ => show e.val = win0_6.index t 1 * 1024 + 1 * e.val; omega

theorem final6 : (dats m 0 c).arrAt 6 cfg0.N = result6 m c :=
  (dats m 0 c).arrAt_eq_of_cover 6 (result6 m c) (fun t _ => flushed6 m c t) fun i => by
    obtain ⟨t, ht⟩ := cover (i 0) (i 0).isLt
    have i1 : (i 1 : Nat) < 1024 := (i 1).isLt
    refine ⟨t, (flush0_6 t).mpr (by omega), ?_⟩
    obtain ⟨h0, h1⟩ := index6 t
    show i ∈ ((View.whole main_v0_1).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 1024 ≤ (i 1 : Nat) ∧ (i 1 : Nat) < win0_6.index t 1 * 1024 + 1024; omega

/-- Result `v0_2`, by row and lane. -/
def result7 : Buf (Elt Ideal) ((c : Thread nD τ).loc main_v0_2) := fun i =>
  value (x m c) (g m c) (w m c) ⟨(i 0).val, (i 0).isLt⟩ ⟨(i 1).val, (i 1).isLt⟩

theorem flushed7 : (dats m 0 c).flushed 7 t = ((cfg0.win 7).blk t).view.read (Elt Ideal) (result7 m c) := by
  obtain ⟨h0, h1⟩ := index7 t
  funext j
  obtain ⟨r, e, rfl⟩ : ∃ (r : Fin 512) (e : Fin 1024), j = ix2 r e := ⟨j 0, j 1, eq_ix2 j⟩
  rw [View.read_apply]
  refine Eq.trans (b := (dats m 0 c).after 7 t (ix2 r e)) rfl ?_
  rw [after_7]
  refine Eq.trans (b := result7 m c (ix2 (rowOf (t.val / 9) (hi t) r) e)) ?_ ?_
  · exact (pay13_apply _ _ r e).trans (col_pt m c (t.val / 9) (hi t) 2 (by omega) r e _ (by show 2048 + e.val = 2 * 1024 + e.val; omega))
  refine congrArg (result7 m c) (funext fun a => Fin.ext ?_)
  match a with
  | ⟨0, _⟩ => show t.val / 9 * 512 + r.val = win0_7.index t 0 * 512 + 1 * r.val; omega
  | ⟨1, _⟩ => show e.val = win0_7.index t 1 * 1024 + 1 * e.val; omega

theorem final7 : (dats m 0 c).arrAt 7 cfg0.N = result7 m c :=
  (dats m 0 c).arrAt_eq_of_cover 7 (result7 m c) (fun t _ => flushed7 m c t) fun i => by
    obtain ⟨t, ht⟩ := cover (i 0) (i 0).isLt
    have i1 : (i 1 : Nat) < 1024 := (i 1).isLt
    refine ⟨t, (flush0_7 t).mpr (by omega), ?_⟩
    obtain ⟨h0, h1⟩ := index7 t
    show i ∈ ((View.whole main_v0_2).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; omega
    | ⟨1, _⟩ => show win0_7.index t 1 * 1024 ≤ (i 1 : Nat) ∧ (i 1 : Nat) < win0_7.index t 1 * 1024 + 1024; omega

/-- Result `v0_5`, by row and lane. -/
def result10 : Buf (Elt Ideal) ((c : Thread nD τ).loc main_v0_5) := fun i =>
  lane (x m c) (g m c) (w m c) ⟨(i 0).val, (i 0).isLt⟩ ⟨(i 1).val, (i 1).isLt⟩

theorem flushed10 : (dats m 0 c).flushed 10 t = ((cfg0.win 10).blk t).view.read (Elt Ideal) (result10 m c) := by
  obtain ⟨h0, h1⟩ := index10 t
  funext j
  obtain ⟨r, e, rfl⟩ : ∃ (r : Fin 512) (e : Fin 1024), j = ix2 r e := ⟨j 0, j 1, eq_ix2 j⟩
  rw [View.read_apply]
  refine Eq.trans (b := (dats m 0 c).after 10 t (ix2 r e)) rfl ?_
  rw [after_10]
  refine Eq.trans (b := result10 m c (ix2 (rowOf (t.val / 9) (hi t) r) e)) ?_ ?_
  · exact (pay22_apply _ _ r e).trans (congrArg gelu (col_pt m c (t.val / 9) (hi t) 3 (by omega) r e _ (by show 3072 + e.val = 3 * 1024 + e.val; omega)))
  refine congrArg (result10 m c) (funext fun a => Fin.ext ?_)
  match a with
  | ⟨0, _⟩ => show t.val / 9 * 512 + r.val = win0_10.index t 0 * 512 + 1 * r.val; omega
  | ⟨1, _⟩ => show e.val = win0_10.index t 1 * 1024 + 1 * e.val; omega

theorem final10 : (dats m 0 c).arrAt 10 cfg0.N = result10 m c :=
  (dats m 0 c).arrAt_eq_of_cover 10 (result10 m c) (fun t _ => flushed10 m c t) fun i => by
    obtain ⟨t, ht⟩ := cover (i 0) (i 0).isLt
    have i1 : (i 1 : Nat) < 1024 := (i 1).isLt
    refine ⟨t, (flush0_10 t).mpr (by omega), ?_⟩
    obtain ⟨h0, h1⟩ := index10 t
    show i ∈ ((View.whole main_v0_5).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; omega
    | ⟨1, _⟩ => show win0_10.index t 1 * 1024 ≤ (i 1 : Nat) ∧ (i 1 : Nat) < win0_10.index t 1 * 1024 + 1024; omega

/-- The gates, by row and lane. -/
def result12 : Buf (Elt Ideal) ((c : Thread nD τ).loc main_v0_7) := fun i =>
  gate (x m c) (g m c) (w m c) (bg m c) ⟨(i 0).val, (i 0).isLt⟩ ⟨(i 1).val, (i 1).isLt⟩

theorem flushed12 (hf : 5 ≤ t.val % 9) : (dats m 0 c).flushed 12 t = ((cfg0.win 12).blk t).view.read (Elt Ideal) (result12 m c) := by
  obtain ⟨h0, h1⟩ := index12 t
  have hlt := hj t
  funext j
  obtain ⟨r, e, rfl⟩ : ∃ (r : Fin 512) (e : Fin 1024), j = ix2 r e := ⟨j 0, j 1, eq_ix2 j⟩
  rw [View.read_apply]
  refine Eq.trans (b := (dats m 0 c).after 12 t (ix2 r e)) rfl ?_
  rw [after_12]
  refine Eq.trans (b := result12 m c (ix2 (rowOf (t.val / 9) (hi t) r) (⟨(t.val % 9 - 5) * 1024 + e.val, by omega⟩ : Fin 4096))) ?_ ?_
  · refine (pay24_apply _ _ r e _).trans ?_
    exact congrArg Ideal.logistic (congrArg₂ (· + ·) (col_apply m c t (t.val / 9) (hi t) (t.val % 9) hlt rfl r e _ (by show 5120 + ((t.val % 9 - 5) * 1024 + e.val) = t.val % 9 * 1024 + e.val; omega))
      (iblk3_apply m c t e))
  refine congrArg (result12 m c) (funext fun a => Fin.ext ?_)
  match a with
  | ⟨0, _⟩ => show t.val / 9 * 512 + r.val = win0_12.index t 0 * 512 + 1 * r.val; omega
  | ⟨1, _⟩ => show (t.val % 9 - 5) * 1024 + e.val = win0_12.index t 1 * 1024 + 1 * e.val; omega

theorem final12 : (dats m 0 c).arrAt 12 cfg0.N = result12 m c :=
  (dats m 0 c).arrAt_eq_of_cover 12 (result12 m c) (fun t hf => flushed12 m c t ((flush12 t).mp hf)) fun i => by
    have i0 : (i 0 : Nat) < 8192 := (i 0).isLt
    have i1 : (i 1 : Nat) < 4096 := (i 1).isLt
    obtain ⟨t, ht⟩ : ∃ t : Fin cfg0.N, t.val = (i 0 : Nat) / 512 * 9 + (5 + (i 1 : Nat) / 1024) :=
      ⟨⟨_, lt_of_lt_of_eq (by omega : (i 0 : Nat) / 512 * 9 + (5 + (i 1 : Nat) / 1024) < 144) N_0.symm⟩, rfl⟩
    refine ⟨t, (flush12 t).mpr (by omega), ?_⟩
    obtain ⟨h0, h1⟩ := index12 t
    show i ∈ ((View.whole main_v0_7).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512; omega
    | ⟨1, _⟩ => show win0_12.index t 1 * 1024 ≤ (i 1 : Nat) ∧ (i 1 : Nat) < win0_12.index t 1 * 1024 + 1024; omega

/-- The normed lanes: the first half as it was. -/
def result11 : Buf (Elt Ideal) ((c : Thread nD τ).loc main_v0_6) := fun i =>
  laneRow (x m c) (g m c) (w m c) (sn m c) (vna m c) ⟨(i 0).val, (i 0).isLt⟩ ⟨(i 1).val, (i 1).isLt⟩

theorem flushed11 : (dats m 0 c).flushed 11 t = ((cfg0.win 11).blk t).view.read (Elt Ideal) (result11 m c) := by
  obtain ⟨h0, h1⟩ := index11 t
  have hlt := hi t
  funext j
  obtain ⟨r, e, rfl⟩ : ∃ (r : Fin 512) (e : Fin 1024), j = ix2 r e := ⟨j 0, j 1, eq_ix2 j⟩
  rw [View.read_apply]
  refine Eq.trans (b := (dats m 0 c).after 11 t (ix2 r e)) rfl ?_
  rw [after_11]
  refine Eq.trans (b := result11 m c (ix2 (⟨8192 + (t.val / 9 * 512 + r.val), by omega⟩ : Fin 16384) e)) ?_ ?_
  · refine (pay23_apply _ _ r e _).trans ?_
    show _ = laneRow (x m c) (g m c) (w m c) (sn m c) (vna m c) ⟨8192 + (t.val / 9 * 512 + r.val), _⟩ e
    unfold laneRow
    rw [dif_neg (by show ¬(8192 + (t.val / 9 * 512 + r.val) < 8192); omega)]
    unfold normed
    refine congrArg₂ (fun a b => rmsLanes a b e) (funext fun k => ?_) (funext fun k => iblk4_apply m c _ k)
    refine congrArg gelu ((col_pt m c (t.val / 9) (hi t) 4 (by omega) r k (⟨4096 + k.val, by omega⟩ : Fin 9216) rfl).trans ?_)
    exact congrArg (fun q => dotCol (x m c) (g m c) (w m c) q (⟨4096 + k.val, by omega⟩ : Fin 9216))
      (Fin.ext (by show t.val / 9 * 512 + r.val = 8192 + (t.val / 9 * 512 + r.val) - 8192; omega))
  refine congrArg (result11 m c) (funext fun a => Fin.ext ?_)
  match a with
  | ⟨0, _⟩ => show 8192 + (t.val / 9 * 512 + r.val) = win0_11.index t 0 * 512 + 1 * r.val; omega
  | ⟨1, _⟩ => show e.val = win0_11.index t 1 * 1024 + 1 * e.val; omega

theorem final11 : (dats m 0 c).arrAt 11 cfg0.N = result11 m c := by
  funext i
  rw [(dats m 0 c).arrAt_eq_piecewise 11 (result11 m c) (fun t _ => flushed11 m c t) i]
  have i0 : (i 0 : Nat) < 16384 := (i 0).isLt
  have i1 : (i 1 : Nat) < 1024 := (i 1).isLt
  by_cases hlo : (i 0 : Nat) < 8192
  · have h : (dats m 0 c).A 11 i = result11 m c i := by
      rw [A_eq]
      refine (congrFun (V_main_v0_6 m c) i).trans ?_
      show m ((c : Thread nD τ).loc main_arg7) i = laneRow (x m c) (g m c) (w m c) (sn m c) (vna m c) ⟨(i 0).val, _⟩ ⟨(i 1).val, _⟩
      unfold laneRow
      rw [dif_pos hlo]
      exact congrArg (m ((c : Thread nD τ).loc main_arg7)) (funext fun a => match a with | ⟨0, _⟩ => rfl | ⟨1, _⟩ => rfl)
    rw [h]
    exact ite_self _
  · refine if_pos ?_
    obtain ⟨t, ht⟩ : ∃ t : Fin cfg0.N, t.val = ((i 0 : Nat) - 8192) / 512 * 9 + 8 := ⟨⟨_, lt_of_lt_of_eq (by omega : ((i 0 : Nat) - 8192) / 512 * 9 + 8 < 144) N_0.symm⟩, rfl⟩
    refine ⟨t, (flush0_11 t).mpr (by omega), ?_⟩
    obtain ⟨h0, h1⟩ := index11 t
    show i ∈ ((View.whole main_v0_6).slice (win0_11.rect t)).set
    rw [View.set_slice_whole, Rect.mem_set_unit]
    intro a
    match a with
    | ⟨0, _⟩ => show win0_11.index t 0 * 512 ≤ (i 0 : Nat) ∧ (i 0 : Nat) < win0_11.index t 0 * 512 + 512; omega
    | ⟨1, _⟩ => show win0_11.index t 1 * 1024 ≤ (i 1 : Nat) ∧ (i 1 : Nat) < win0_11.index t 1 * 1024 + 1024; omega

/-- The keys head by head: the first half as it was. -/
def result8 : Buf (Elt Ideal) ((c : Thread nD τ).loc main_v0_3) := fun i =>
  headRow (ka m c) (key (x m c) (g m c) (w m c)) ⟨(i 0).val, (i 0).isLt⟩ ⟨(i 1).val, (i 1).isLt⟩

theorem flushed8 : (dats m 0 c).flushed 8 t = ((cfg0.win 8).blk t).view.read (Elt Ideal) (result8 m c) := by
  obtain ⟨h0, h1⟩ := index8 t
  have hlt := hi t
  funext j
  obtain ⟨y, d, rfl⟩ : ∃ (y : Fin 4096) (d : Fin 128), j = ix2 y d := ⟨j 0, j 1, eq_ix2 j⟩
  rw [View.read_apply]
  refine Eq.trans (b := (dats m 0 c).after 8 t (ix2 y d)) rfl ?_
  rw [after_8]
  refine Eq.trans (b := result8 m c (ix2 (⟨65536 + (t.val / 9 * 4096 + y.val), by omega⟩ : Fin 131072) d)) ?_ ?_
  · refine Eq.trans (b := kHead (scr m c (t.val / 9)) (iblk m c 2 (pt (t.val / 9) 1) : Vec Ideal S1x2048x1024 .bf16) (y.val % 8)
      (ix2 (⟨y.val / 8, by omega⟩ : Fin 512) d)) ?_ ?_
    · exact congrArg (kHead (scr m c (t.val / 9)) (iblk m c 2 (pt (t.val / 9) 1) : Vec Ideal S1x2048x1024 .bf16) (y.val % 8)) (funext fun a => match a with
        | ⟨0, _⟩ => rfl
        | ⟨1, _⟩ => rfl)
    refine (kHead_apply _ _ (⟨y.val / 8, by omega⟩ : Fin 512) (⟨y.val % 8 * 128 + d.val, by omega⟩ : Fin 1024) d (y.val % 8) (by omega) rfl).trans ?_
    refine (col_pt m c (t.val / 9) (hi t) 1 (by omega) _ _ (⟨1024 + (y.val % 8 * 128 + d.val), by omega⟩ : Fin 9216) rfl).trans ?_
    show _ = headRow (ka m c) (key (x m c) (g m c) (w m c)) ⟨65536 + (t.val / 9 * 4096 + y.val), _⟩ d
    unfold headRow
    rw [dif_neg (by show ¬(65536 + (t.val / 9 * 4096 + y.val) < 65536); omega)]
    unfold key
    refine congrArg₂ (dotCol (x m c) (g m c) (w m c)) (Fin.ext ?_) (Fin.ext ?_)
    · show t.val / 9 * 512 + y.val / 8 = (65536 + (t.val / 9 * 4096 + y.val) - 65536) / 8; omega
    · show 1024 + (y.val % 8 * 128 + d.val) = 1024 + ((65536 + (t.val / 9 * 4096 + y.val)) % 8 * 128 + d.val); omega
  refine congrArg (result8 m c) (funext fun a => Fin.ext ?_)
  match a with
  | ⟨0, _⟩ => show 65536 + (t.val / 9 * 4096 + y.val) = win0_8.index t 0 * 4096 + 1 * y.val; omega
  | ⟨1, _⟩ => show d.val = win0_8.index t 1 * 128 + 1 * d.val; omega

theorem final8 : (dats m 0 c).arrAt 8 cfg0.N = result8 m c := by
  funext i
  rw [(dats m 0 c).arrAt_eq_piecewise 8 (result8 m c) (fun t _ => flushed8 m c t) i]
  have i0 : (i 0 : Nat) < 131072 := (i 0).isLt
  have i1 : (i 1 : Nat) < 128 := (i 1).isLt
  by_cases hlo : (i 0 : Nat) < 65536
  · have h : (dats m 0 c).A 8 i = result8 m c i := by
      rw [A_eq]
      refine (congrFun (V_main_v0_3 m c) i).trans ?_
      show m ((c : Thread nD τ).loc main_arg5) i = headRow (ka m c) (key (x m c) (g m c) (w m c)) ⟨(i 0).val, _⟩ ⟨(i 1).val, _⟩
      unfold headRow
      rw [dif_pos hlo]
      exact congrArg (m ((c : Thread nD τ).loc main_arg5)) (funext fun a => match a with | ⟨0, _⟩ => rfl | ⟨1, _⟩ => rfl)
    rw [h]
    exact ite_self _
  · refine if_pos ?_
    obtain ⟨t, ht⟩ : ∃ t : Fin cfg0.N, t.val = ((i 0 : Nat) - 65536) / 4096 * 9 + 8 := ⟨⟨_, lt_of_lt_of_eq (by omega : ((i 0 : Nat) - 65536) / 4096 * 9 + 8 < 144) N_0.symm⟩, rfl⟩
    refine ⟨t, (flush0_8 t).mpr (by omega), ?_⟩
    obtain ⟨h0, h1⟩ := index8 t
    show i ∈ ((View.whole main_v0_3).slice (win0_8.rect t)).set
    rw [View.set_slice_whole, Rect.mem_set_unit]
    intro a
    match a with
    | ⟨0, _⟩ => show win0_8.index t 0 * 4096 ≤ (i 0 : Nat) ∧ (i 0 : Nat) < win0_8.index t 0 * 4096 + 4096; omega
    | ⟨1, _⟩ => show win0_8.index t 1 * 128 ≤ (i 1 : Nat) ∧ (i 1 : Nat) < win0_8.index t 1 * 128 + 128; omega

/-- The values head by head: the first half as it was. -/
def result9 : Buf (Elt Ideal) ((c : Thread nD τ).loc main_v0_4) := fun i =>
  headRow (va m c) (value (x m c) (g m c) (w m c)) ⟨(i 0).val, (i 0).isLt⟩ ⟨(i 1).val, (i 1).isLt⟩

theorem flushed9 : (dats m 0 c).flushed 9 t = ((cfg0.win 9).blk t).view.read (Elt Ideal) (result9 m c) := by
  obtain ⟨h0, h1⟩ := index9 t
  have hlt := hi t
  funext j
  obtain ⟨y, d, rfl⟩ : ∃ (y : Fin 4096) (d : Fin 128), j = ix2 y d := ⟨j 0, j 1, eq_ix2 j⟩
  rw [View.read_apply]
  refine Eq.trans (b := (dats m 0 c).after 9 t (ix2 y d)) rfl ?_
  rw [after_9]
  refine Eq.trans (b := result9 m c (ix2 (⟨65536 + (t.val / 9 * 4096 + y.val), by omega⟩ : Fin 131072) d)) ?_ ?_
  · refine Eq.trans (b := vHead (scr m c (t.val / 9)) (iblk m c 2 (pt (t.val / 9) 2) : Vec Ideal S1x2048x1024 .bf16) (y.val % 8)
      (ix2 (⟨y.val / 8, by omega⟩ : Fin 512) d)) ?_ ?_
    · exact congrArg (vHead (scr m c (t.val / 9)) (iblk m c 2 (pt (t.val / 9) 2) : Vec Ideal S1x2048x1024 .bf16) (y.val % 8)) (funext fun a => match a with
        | ⟨0, _⟩ => rfl
        | ⟨1, _⟩ => rfl)
    refine (vHead_apply _ _ (⟨y.val / 8, by omega⟩ : Fin 512) (⟨y.val % 8 * 128 + d.val, by omega⟩ : Fin 1024) d (y.val % 8) (by omega) rfl).trans ?_
    refine (col_pt m c (t.val / 9) (hi t) 2 (by omega) _ _ (⟨2048 + (y.val % 8 * 128 + d.val), by omega⟩ : Fin 9216) rfl).trans ?_
    show _ = headRow (va m c) (value (x m c) (g m c) (w m c)) ⟨65536 + (t.val / 9 * 4096 + y.val), _⟩ d
    unfold headRow
    rw [dif_neg (by show ¬(65536 + (t.val / 9 * 4096 + y.val) < 65536); omega)]
    unfold value
    refine congrArg₂ (dotCol (x m c) (g m c) (w m c)) (Fin.ext ?_) (Fin.ext ?_)
    · show t.val / 9 * 512 + y.val / 8 = (65536 + (t.val / 9 * 4096 + y.val) - 65536) / 8; omega
    · show 2048 + (y.val % 8 * 128 + d.val) = 2048 + ((65536 + (t.val / 9 * 4096 + y.val)) % 8 * 128 + d.val); omega
  refine congrArg (result9 m c) (funext fun a => Fin.ext ?_)
  match a with
  | ⟨0, _⟩ => show 65536 + (t.val / 9 * 4096 + y.val) = win0_9.index t 0 * 4096 + 1 * y.val; omega
  | ⟨1, _⟩ => show d.val = win0_9.index t 1 * 128 + 1 * d.val; omega

theorem final9 : (dats m 0 c).arrAt 9 cfg0.N = result9 m c := by
  funext i
  rw [(dats m 0 c).arrAt_eq_piecewise 9 (result9 m c) (fun t _ => flushed9 m c t) i]
  have i0 : (i 0 : Nat) < 131072 := (i 0).isLt
  have i1 : (i 1 : Nat) < 128 := (i 1).isLt
  by_cases hlo : (i 0 : Nat) < 65536
  · have h : (dats m 0 c).A 9 i = result9 m c i := by
      rw [A_eq]
      refine (congrFun (V_main_v0_4 m c) i).trans ?_
      show m ((c : Thread nD τ).loc main_arg6) i = headRow (va m c) (value (x m c) (g m c) (w m c)) ⟨(i 0).val, _⟩ ⟨(i 1).val, _⟩
      unfold headRow
      rw [dif_pos hlo]
      exact congrArg (m ((c : Thread nD τ).loc main_arg6)) (funext fun a => match a with | ⟨0, _⟩ => rfl | ⟨1, _⟩ => rfl)
    rw [h]
    exact ite_self _
  · refine if_pos ?_
    obtain ⟨t, ht⟩ : ∃ t : Fin cfg0.N, t.val = ((i 0 : Nat) - 65536) / 4096 * 9 + 8 := ⟨⟨_, lt_of_lt_of_eq (by omega : ((i 0 : Nat) - 65536) / 4096 * 9 + 8 < 144) N_0.symm⟩, rfl⟩
    refine ⟨t, (flush0_9 t).mpr (by omega), ?_⟩
    obtain ⟨h0, h1⟩ := index9 t
    show i ∈ ((View.whole main_v0_4).slice (win0_9.rect t)).set
    rw [View.set_slice_whole, Rect.mem_set_unit]
    intro a
    match a with
    | ⟨0, _⟩ => show win0_9.index t 0 * 4096 ≤ (i 0 : Nat) ∧ (i 0 : Nat) < win0_9.index t 0 * 4096 + 4096; omega
    | ⟨1, _⟩ => show win0_9.index t 1 * 128 ≤ (i 1 : Nat) ∧ (i 1 : Nat) < win0_9.index t 1 * 128 + 128; omega

end Cert.ProjPromptIdeal.Final

end
-- ==== Proof.ProjPrompt.Reference.lean ====
/-
  The reference of the projection at the prompts' rows, read at an index.
-/
module

public import proofs.«01_k».proof.Proof.Gen.ProjPromptRefIdeal.Read
public import proofs.«01_k».proof.Proof.ProjPrompt.Streams
public import Idealize.ShloMosaic.Lib.IdealHost

public section

set_option maxRecDepth 65536

noncomputable section

namespace Cert.ProjPromptRefIdeal.Sum

open Cert.ProjPromptRefIdeal Cert.ProjPromptRefIdeal.Gen Cert.ProjPromptRefIdeal.Read Cert.Mlp Cert.StreamsPrompt
open Cert.Streams (gelu rmsLanes Weights Bias Norm)
open Idealize.ShloMosaic Idealize.ShloMosaic.ValueIdx
open scoped BigOperators

variable (x0 : (Rows 8192).Idx → EReal) (x1 : Scale.Idx → EReal) (x2 : Weights.Idx → EReal) (x3 : Bias.Idx → EReal) (x4 : Norm.Idx → EReal)
  (x5 x6 : Heads.Idx → EReal) (x7 : Lanes.Idx → EReal)

theorem one_f32 : (FloatOps.ofBits (F := Ideal) .f32 0x3F800000#32 : Ideal .f32) = 1 := Ideal.ofBits_one_f32

theorem sum_v1 (r : Fin 8192) (i : S8192.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r : Fin 8192) (k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 9216) : val_main_v14 (F := Ideal) x2 (ix2 k f) = x2 (ix3 (1 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 9216 + f.val) / 9216 % 2048 = k.val; omega)
  | ⟨2, _⟩ => exact Fin.ext (by show (k.val * 9216 + f.val) % 9216 = f.val; omega)

theorem v15_apply (r : Fin 8192) (f : Fin 9216) : val_main_v15 (F := Ideal) x0 x1 x2 (ix2 r f) = dotCol x0 x1 x2 r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]

theorem v16_apply (r : Fin 8192) (e : Fin 1024) : val_main_v16 (F := Ideal) x0 x1 x2 (ix2 r e) = dotCol x0 x1 x2 r ⟨e.val, by omega⟩ := by
  have h : idx_main_v16 (ix2 r e) = ix2 r (⟨e.val, by omega⟩ : Fin 9216) := funext fun a => match a with | ⟨0, _⟩ => rfl | ⟨1, _⟩ => rfl
  rw [val_main_v16_apply, h, v15_apply]

theorem v17_apply (r : Fin 8192) (e : Fin 1024) : val_main_v17 (F := Ideal) x0 x1 x2 (ix2 r e) = dotCol x0 x1 x2 r ⟨1024 + e.val, by omega⟩ := by
  have h : idx_main_v17 (ix2 r e) = ix2 r (⟨1024 + e.val, by omega⟩ : Fin 9216) := funext fun a => match a with | ⟨0, _⟩ => rfl | ⟨1, _⟩ => rfl
  rw [val_main_v17_apply, h, v15_apply]

theorem v18_apply (r : Fin 8192) (e : Fin 1024) : val_main_v18 (F := Ideal) x0 x1 x2 (ix2 r e) = dotCol x0 x1 x2 r ⟨2048 + e.val, by omega⟩ := by
  have h : idx_main_v18 (ix2 r e) = ix2 r (⟨2048 + e.val, by omega⟩ : Fin 9216) := funext fun a => match a with | ⟨0, _⟩ => rfl | ⟨1, _⟩ => rfl
  rw [val_main_v18_apply, h, v15_apply]

theorem v19_apply (r : Fin 8192) (e : Fin 1024) : val_main_v19 (F := Ideal) x0 x1 x2 (ix2 r e) = dotCol x0 x1 x2 r ⟨3072 + e.val, by omega⟩ := by
  have h : idx_main_v19 (ix2 r e) = ix2 r (⟨3072 + e.val, by omega⟩ : Fin 9216) := funext fun a => match a with | ⟨0, _⟩ => rfl | ⟨1, _⟩ => rfl
  rw [val_main_v19_apply, h, v15_apply]

theorem v20_apply (r : Fin 8192) (e : Fin 1024) : val_main_v20 (F := Ideal) x0 x1 x2 (ix2 r e) = dotCol x0 x1 x2 r ⟨4096 + e.val, by omega⟩ := by
  have h : idx_main_v20 (ix2 r e) = ix2 r (⟨4096 + e.val, by omega⟩ : Fin 9216) := funext fun a => match a with | ⟨0, _⟩ => rfl | ⟨1, _⟩ => rfl
  rw [val_main_v20_apply, h, v15_apply]

theorem v21_apply (r : Fin 8192) (e : Fin 4096) : val_main_v21 (F := Ideal) x0 x1 x2 (ix2 r e) = dotCol x0 x1 x2 r ⟨5120 + e.val, by omega⟩ := by
  have h : idx_main_v21 (ix2 r e) = ix2 r (⟨5120 + e.val, by omega⟩ : Fin 9216) := funext fun a => match a with | ⟨0, _⟩ => rfl | ⟨1, _⟩ => rfl
  rw [val_main_v21_apply, h, v15_apply]

theorem v34_apply (r : Fin 8192) (e : Fin 1024) : val_main_v34 (F := Ideal) x0 x1 x2 (ix2 r e) = gelu (val_main_v19 (F := Ideal) x0 x1 x2 (ix2 r e)) := by
  rw [val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply]
  generalize val_main_v19 (F := Ideal) x0 x1 x2 (ix2 r e) = y
  rw [val_main_cst_4_apply, one_f32]
  unfold gelu
  rw [mul_comm y (y * y)]
  rfl

theorem v47_apply (r : Fin 8192) (e : Fin 1024) : val_main_v47 (F := Ideal) x0 x1 x2 (ix2 r e) = gelu (val_main_v20 (F := Ideal) x0 x1 x2 (ix2 r e)) := by
  rw [val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply]
  generalize val_main_v20 (F := Ideal) x0 x1 x2 (ix2 r e) = y
  rw [val_main_cst_8_apply, one_f32]
  unfold gelu
  rw [mul_comm y (y * y)]
  rfl

theorem sum_v49 (r : Fin 8192) (i : S8192.Idx) (hi : (i 0).val = r.val) :
    val_main_v49 (F := Ideal) x0 x1 x2 i = ∑ k : Fin 1024, val_main_v47 (F := Ideal) x0 x1 x2 (ix2 r k) * val_main_v47 (F := Ideal) x0 x1 x2 (ix2 r k) := by
  rw [val_main_v49_apply]
  have h0 : val_main_cst_10 (F := Ideal) (Shape.Idx.first h_S_) = 0 := Ideal.ofBits_zero_f32
  rw [h0, zero_add]
  refine Finset.sum_congr rfl fun k _ => ?_
  have e : idx_main_v49 i k = ix2 r k := funext fun a => match a with | ⟨0, _⟩ => Fin.ext hi | ⟨1, _⟩ => rfl
  rw [val_main_v48_apply, e]
  rfl

theorem v59_apply (r : Fin 8192) (e : Fin 1024) : val_main_v59 (F := Ideal) x0 x1 x2 x4 (ix2 r e) = normed x0 x1 x2 x4 r e := by
  refine Eq.trans (b := rmsLanes (fun e => val_main_v47 (F := Ideal) x0 x1 x2 (ix2 r e)) (fun e => x4 (ix2 (0 : Fin 1) e)) e) ?_
    (congrArg (fun y : Fin 1024 → EReal => rmsLanes y (fun e => x4 (ix2 (0 : Fin 1) e)) e) (funext fun e => by rw [v47_apply, v20_apply]))
  rw [val_main_v59_apply, val_main_v57_apply, val_main_v58_apply, val_main_v56_apply, val_main_v55_apply, val_main_v54_apply, val_main_v52_apply, val_main_v50_apply,
    sum_v49 x0 x1 x2 r _ rfl]
  have h : idx_main_v58 (ix2 r e) = ix2 (0 : Fin 1) e := funext fun a => match a with | ⟨0, _⟩ => rfl | ⟨1, _⟩ => rfl
  rw [h]
  rfl

/-! ## The results -/

theorem v70_apply (r : Fin 8192) (e : Fin 1024) : val_main_v70 (F := Ideal) x0 x1 x2 (ix2 r e) = query x0 x1 x2 r e := by
  rw [val_main_v70_apply, val_main_v69_apply, v16_apply, val_main_v68_apply]
  rfl

theorem v71_apply (r : Fin 8192) (e : Fin 1024) : val_main_v71 (F := Ideal) x0 x1 x2 (ix2 r e) = key x0 x1 x2 r e := by
  rw [val_main_v71_apply, v17_apply]
  rfl

theorem v72_apply (r : Fin 8192) (e : Fin 1024) : val_main_v72 (F := Ideal) x0 x1 x2 (ix2 r e) = value x0 x1 x2 r e := by
  rw [val_main_v72_apply, v18_apply]
  rfl

theorem v79_apply (r : Fin 8192) (e : Fin 1024) : val_main_v79 (F := Ideal) x0 x1 x2 (ix2 r e) = lane x0 x1 x2 r e := by
  rw [val_main_v79_apply, v34_apply, v19_apply]
  rfl

theorem v82_apply (r : Fin 8192) (e : Fin 4096) : val_main_v82 (F := Ideal) x0 x1 x2 x3 (ix2 r e) = gate x0 x1 x2 x3 r e := by
  have h : idx_main_v60 (ix2 r e) = ix2 (0 : Fin 1) e := funext fun a => match a with | ⟨0, _⟩ => rfl | ⟨1, _⟩ => rfl
  rw [val_main_v82_apply, val_main_v67_apply, val_main_v66_apply, val_main_cst_14_apply, val_main_v65_apply, val_main_v64_apply, val_main_cst_13_apply, val_main_v63_apply,
    val_main_v62_apply, val_main_v61_apply, val_main_v60_apply, h, v21_apply, one_f32]
  rfl

theorem v75_apply (y : Fin 131072) (d : Fin 128) : val_main_v75 (F := Ideal) x0 x1 x2 x5 (ix2 y d) = headRow x5 (key x0 x1 x2) y d := by
  unfold val_main_v75 headRow
  by_cases h : y.val < 65536
  · rw [dif_pos h]
    refine (concatenate_pair_apply_left (α := EReal) (t := S131072x128) (s₁ := S65536x128) (s₂ := S65536x128) 0 _ _ _ (ix2 y d) rfl (ix2 (⟨y.val, h⟩ : Fin 65536) d) (fun b => match b with
      | ⟨0, _⟩ => rfl
      | ⟨1, _⟩ => rfl)).trans ?_
    rw [val_main_v73_apply]
    exact congrArg x5 (funext fun a => match a with | ⟨0, _⟩ => rfl | ⟨1, _⟩ => rfl)
  · rw [dif_neg h]
    have hy : y.val < 131072 := y.isLt
    have hd : d.val < 128 := d.isLt
    refine (concatenate_pair_apply_right (α := EReal) (t := S131072x128) (s₁ := S65536x128) (s₂ := S65536x128) 0 _ _ _ (ix2 y d) rfl rfl (ix2 (⟨y.val - 65536, by omega⟩ : Fin 65536) d) (fun b hb => match b with
      | ⟨0, _⟩ => absurd rfl hb
      | ⟨1, _⟩ => rfl) (by show y.val - 65536 + 65536 = y.val; omega)).trans ?_
    rw [val_main_v74_apply]
    have e : idx_main_v74 (ix2 (⟨y.val - 65536, by omega⟩ : Fin 65536) d)
        = ix2 (⟨(y.val - 65536) / 8, by omega⟩ : Fin 8192) (⟨y.val % 8 * 128 + d.val, by omega⟩ : Fin 1024) := funext fun a => match a with
      | ⟨0, _⟩ => Fin.ext (by show ((y.val - 65536) * 128 + d.val) / 1024 = (y.val - 65536) / 8; omega)
      | ⟨1, _⟩ => Fin.ext (by show ((y.val - 65536) * 128 + d.val) % 1024 = y.val % 8 * 128 + d.val; omega)
    rw [e, v17_apply]
    rfl

theorem v78_apply (y : Fin 131072) (d : Fin 128) : val_main_v78 (F := Ideal) x0 x1 x2 x6 (ix2 y d) = headRow x6 (value x0 x1 x2) y d := by
  unfold val_main_v78 headRow
  by_cases h : y.val < 65536
  · rw [dif_pos h]
    refine (concatenate_pair_apply_left (α := EReal) (t := S131072x128) (s₁ := S65536x128) (s₂ := S65536x128) 0 _ _ _ (ix2 y d) rfl (ix2 (⟨y.val, h⟩ : Fin 65536) d) (fun b => match b with
      | ⟨0, _⟩ => rfl
      | ⟨1, _⟩ => rfl)).trans ?_
    rw [val_main_v76_apply]
    exact congrArg x6 (funext fun a => match a with | ⟨0, _⟩ => rfl | ⟨1, _⟩ => rfl)
  · rw [dif_neg h]
    have hy : y.val < 131072 := y.isLt
    have hd : d.val < 128 := d.isLt
    refine (concatenate_pair_apply_right (α := EReal) (t := S131072x128) (s₁ := S65536x128) (s₂ := S65536x128) 0 _ _ _ (ix2 y d) rfl rfl (ix2 (⟨y.val - 65536, by omega⟩ : Fin 65536) d) (fun b hb => match b with
      | ⟨0, _⟩ => absurd rfl hb
      | ⟨1, _⟩ => rfl) (by show y.val - 65536 + 65536 = y.val; omega)).trans ?_
    rw [val_main_v77_apply]
    have e : idx_main_v77 (ix2 (⟨y.val - 65536, by omega⟩ : Fin 65536) d)
        = ix2 (⟨(y.val - 65536) / 8, by omega⟩ : Fin 8192) (⟨y.val % 8 * 128 + d.val, by omega⟩ : Fin 1024) := funext fun a => match a with
      | ⟨0, _⟩ => Fin.ext (by show ((y.val - 65536) * 128 + d.val) / 1024 = (y.val - 65536) / 8; omega)
      | ⟨1, _⟩ => Fin.ext (by show ((y.val - 65536) * 128 + d.val) % 1024 = y.val % 8 * 128 + d.val; omega)
    rw [e, v18_apply]
    rfl

theorem v81_apply (y : Fin 16384) (e : Fin 1024) : val_main_v81 (F := Ideal) x0 x1 x2 x4 x7 (ix2 y e) = laneRow x0 x1 x2 x4 x7 y e := by
  unfold val_main_v81 laneRow
  by_cases h : y.val < 8192
  · rw [dif_pos h]
    refine (concatenate_pair_apply_left (α := EReal) (t := S16384x1024) (s₁ := S8192x1024) (s₂ := S8192x1024) 0 _ _ _ (ix2 y e) rfl (ix2 (⟨y.val, h⟩ : Fin 8192) e) (fun b => match b with
      | ⟨0, _⟩ => rfl
      | ⟨1, _⟩ => rfl)).trans ?_
    rw [val_main_v80_apply]
    exact congrArg x7 (funext fun a => match a with | ⟨0, _⟩ => rfl | ⟨1, _⟩ => rfl)
  · rw [dif_neg h]
    have hy : y.val < 16384 := y.isLt
    refine (concatenate_pair_apply_right (α := EReal) (t := S16384x1024) (s₁ := S8192x1024) (s₂ := S8192x1024) 0 _ _ _ (ix2 y e) rfl rfl (ix2 (⟨y.val - 8192, by omega⟩ : Fin 8192) e) (fun b hb => match b with
      | ⟨0, _⟩ => absurd rfl hb
      | ⟨1, _⟩ => rfl) (by show y.val - 8192 + 8192 = y.val; omega)).trans ?_
    exact v59_apply x0 x1 x2 x4 _ e

end Cert.ProjPromptRefIdeal.Sum

end
-- ==== Proof.ProjPrompt.Claims.lean ====
/-
  The claims about the projection call at the prompts' rows: its three frames, and its value.
-/

module

public import proofs.«01_k».proof.Defs
public import proofs.«01_k».proof.Proof.ProjPromptB.Frame
public import proofs.«01_k».proof.Proof.Gen.ProjPromptRefIdeal.Run
public import proofs.«01_k».proof.Proof.Gen.ProjPromptRefIdeal.Read
public import proofs.«01_k».proof.Proof.ProjPrompt.Final
public import proofs.«01_k».proof.Proof.ProjPrompt.Reference

public section

set_option maxRecDepth 16384

noncomputable section

namespace Cert.ProjPromptClaims

open Cert.StreamsPrompt
open Idealize.ShloMosaic.TcCoe Idealize.SL.Sem Idealize.ShloMosaic.ValueIdx
open Idealize.ShloMosaic hiding ix2 ix3 eq_ix2 eq_ix3

theorem frame_p : quiescent_ProjPrompt := fun m ρ _ => ProjPrompt.Frm.frame m ρ

theorem frame_pi : quiescent_ProjPromptIdeal := fun m ρ _ => ProjPromptIdeal.Frm.frame m ρ

theorem frame_ri : quiescent_ProjPromptRefIdeal := fun m ρ _ =>
  (θ_run ProjPromptRefIdeal.defs _ _).mono (fun r h => ⟨fun c => (h c).2.2.2.2.2.2.2.2, sem_eq_zero_of_no_sems (by decide) r.2⟩)
    (ProjPromptRefIdeal.Value.run (F := Ideal) m ρ)

variable (m : (ℓ : Loc ProjPromptIdeal.nD ProjPromptIdeal.τ ProjPromptIdeal.sig) → Buf (Elt Ideal) ℓ)
variable (m' : (ℓ : Loc ProjPromptRefIdeal.nD ProjPromptRefIdeal.τ ProjPromptRefIdeal.sig) → Buf (Elt Ideal) ℓ)
variable (c : Dev ProjPromptIdeal.nD)

/-- The reference's arguments, as its memory holds them. -/
abbrev a0 := m' ((c.tc : Thread ProjPromptRefIdeal.nD ProjPromptRefIdeal.τ).loc ProjPromptRefIdeal.main_arg0)
abbrev a1 := m' ((c.tc : Thread ProjPromptRefIdeal.nD ProjPromptRefIdeal.τ).loc ProjPromptRefIdeal.main_arg1)
abbrev a2 := m' ((c.tc : Thread ProjPromptRefIdeal.nD ProjPromptRefIdeal.τ).loc ProjPromptRefIdeal.main_arg2)
abbrev a3 := m' ((c.tc : Thread ProjPromptRefIdeal.nD ProjPromptRefIdeal.τ).loc ProjPromptRefIdeal.main_arg3)
abbrev a4 := m' ((c.tc : Thread ProjPromptRefIdeal.nD ProjPromptRefIdeal.τ).loc ProjPromptRefIdeal.main_arg4)
abbrev a5 := m' ((c.tc : Thread ProjPromptRefIdeal.nD ProjPromptRefIdeal.τ).loc ProjPromptRefIdeal.main_arg5)
abbrev a6 := m' ((c.tc : Thread ProjPromptRefIdeal.nD ProjPromptRefIdeal.τ).loc ProjPromptRefIdeal.main_arg6)
abbrev a7 := m' ((c.tc : Thread ProjPromptRefIdeal.nD ProjPromptRefIdeal.τ).loc ProjPromptRefIdeal.main_arg7)

/-- The kernel's results, from what every point wrote back. -/
theorem results (r : PUnit × MemSt ProjPromptIdeal.nD ProjPromptIdeal.τ ProjPromptIdeal.sig (Elt Ideal))
    (h : Pipeline.FramePost ProjPromptIdeal.cfgs (ProjPromptIdeal.Frm.dats m) 0 (ProjPromptIdeal.Frm.V m) r) :
    r.2.mem ((c.tc : Thread ProjPromptIdeal.nD ProjPromptIdeal.τ).loc ProjPromptIdeal.main_v0_0) = ProjPromptIdeal.Final.result5 m c
      ∧ r.2.mem ((c.tc : Thread ProjPromptIdeal.nD ProjPromptIdeal.τ).loc ProjPromptIdeal.main_v0_1) = ProjPromptIdeal.Final.result6 m c
      ∧ r.2.mem ((c.tc : Thread ProjPromptIdeal.nD ProjPromptIdeal.τ).loc ProjPromptIdeal.main_v0_2) = ProjPromptIdeal.Final.result7 m c
      ∧ r.2.mem ((c.tc : Thread ProjPromptIdeal.nD ProjPromptIdeal.τ).loc ProjPromptIdeal.main_v0_3) = ProjPromptIdeal.Final.result8 m c
      ∧ r.2.mem ((c.tc : Thread ProjPromptIdeal.nD ProjPromptIdeal.τ).loc ProjPromptIdeal.main_v0_4) = ProjPromptIdeal.Final.result9 m c
      ∧ r.2.mem ((c.tc : Thread ProjPromptIdeal.nD ProjPromptIdeal.τ).loc ProjPromptIdeal.main_v0_5) = ProjPromptIdeal.Final.result10 m c
      ∧ r.2.mem ((c.tc : Thread ProjPromptIdeal.nD ProjPromptIdeal.τ).loc ProjPromptIdeal.main_v0_6) = ProjPromptIdeal.Final.result11 m c
      ∧ r.2.mem ((c.tc : Thread ProjPromptIdeal.nD ProjPromptIdeal.τ).loc ProjPromptIdeal.main_v0_7) = ProjPromptIdeal.Final.result12 m c :=
  ⟨((h c).1 5).trans (ProjPromptIdeal.Final.final5 m c),
   ((h c).1 6).trans (ProjPromptIdeal.Final.final6 m c),
   ((h c).1 7).trans (ProjPromptIdeal.Final.final7 m c),
   ((h c).1 8).trans (ProjPromptIdeal.Final.final8 m c),
   ((h c).1 9).trans (ProjPromptIdeal.Final.final9 m c),
   ((h c).1 10).trans (ProjPromptIdeal.Final.final10 m c),
   ((h c).1 11).trans (ProjPromptIdeal.Final.final11 m c),
   ((h c).1 12).trans (ProjPromptIdeal.Final.final12 m c)⟩

/-- The two memories hold the same arguments. -/
def Agree : Prop :=
  a0 m' c = ProjPromptIdeal.Final.x m c
  ∧ a1 m' c = ProjPromptIdeal.Final.g m c
  ∧ a2 m' c = ProjPromptIdeal.Final.w m c
  ∧ a3 m' c = ProjPromptIdeal.Final.bg m c
  ∧ a4 m' c = ProjPromptIdeal.Final.sn m c
  ∧ a5 m' c = ProjPromptIdeal.Final.ka m c
  ∧ a6 m' c = ProjPromptIdeal.Final.va m c
  ∧ a7 m' c = ProjPromptIdeal.Final.vna m c

theorem res5 (h : Agree m m' c) :
    ProjPromptRefIdeal.Read.val_main_v70 (F := Ideal) (a0 m' c) (a1 m' c) (a2 m' c) = ProjPromptIdeal.Final.result5 m c := by
  obtain ⟨h0, h1, h2, h3, h4, h5, h6, h7⟩ := h
  rw [h0, h1, h2]
  funext i
  obtain ⟨r, d, rfl⟩ : ∃ (r : Fin 8192) (d : Fin 1024), i = ix2 r d := ⟨i 0, i 1, eq_ix2 i⟩
  exact ProjPromptRefIdeal.Sum.v70_apply _ _ _ r d

theorem res6 (h : Agree m m' c) :
    ProjPromptRefIdeal.Read.val_main_v71 (F := Ideal) (a0 m' c) (a1 m' c) (a2 m' c) = ProjPromptIdeal.Final.result6 m c := by
  obtain ⟨h0, h1, h2, h3, h4, h5, h6, h7⟩ := h
  rw [h0, h1, h2]
  funext i
  obtain ⟨r, d, rfl⟩ : ∃ (r : Fin 8192) (d : Fin 1024), i = ix2 r d := ⟨i 0, i 1, eq_ix2 i⟩
  exact ProjPromptRefIdeal.Sum.v71_apply _ _ _ r d

theorem res7 (h : Agree m m' c) :
    ProjPromptRefIdeal.Read.val_main_v72 (F := Ideal) (a0 m' c) (a1 m' c) (a2 m' c) = ProjPromptIdeal.Final.result7 m c := by
  obtain ⟨h0, h1, h2, h3, h4, h5, h6, h7⟩ := h
  rw [h0, h1, h2]
  funext i
  obtain ⟨r, d, rfl⟩ : ∃ (r : Fin 8192) (d : Fin 1024), i = ix2 r d := ⟨i 0, i 1, eq_ix2 i⟩
  exact ProjPromptRefIdeal.Sum.v72_apply _ _ _ r d

theorem res8 (h : Agree m m' c) :
    ProjPromptRefIdeal.Read.val_main_v75 (F := Ideal) (a0 m' c) (a1 m' c) (a2 m' c) (a5 m' c) = ProjPromptIdeal.Final.result8 m c := by
  obtain ⟨h0, h1, h2, h3, h4, h5, h6, h7⟩ := h
  rw [h0, h1, h2, h5]
  funext i
  obtain ⟨r, d, rfl⟩ : ∃ (r : Fin 131072) (d : Fin 128), i = ix2 r d := ⟨i 0, i 1, eq_ix2 i⟩
  exact ProjPromptRefIdeal.Sum.v75_apply _ _ _ _ r d

theorem res9 (h : Agree m m' c) :
    ProjPromptRefIdeal.Read.val_main_v78 (F := Ideal) (a0 m' c) (a1 m' c) (a2 m' c) (a6 m' c) = ProjPromptIdeal.Final.result9 m c := by
  obtain ⟨h0, h1, h2, h3, h4, h5, h6, h7⟩ := h
  rw [h0, h1, h2, h6]
  funext i
  obtain ⟨r, d, rfl⟩ : ∃ (r : Fin 131072) (d : Fin 128), i = ix2 r d := ⟨i 0, i 1, eq_ix2 i⟩
  exact ProjPromptRefIdeal.Sum.v78_apply _ _ _ _ r d

theorem res10 (h : Agree m m' c) :
    ProjPromptRefIdeal.Read.val_main_v79 (F := Ideal) (a0 m' c) (a1 m' c) (a2 m' c) = ProjPromptIdeal.Final.result10 m c := by
  obtain ⟨h0, h1, h2, h3, h4, h5, h6, h7⟩ := h
  rw [h0, h1, h2]
  funext i
  obtain ⟨r, d, rfl⟩ : ∃ (r : Fin 8192) (d : Fin 1024), i = ix2 r d := ⟨i 0, i 1, eq_ix2 i⟩
  exact ProjPromptRefIdeal.Sum.v79_apply _ _ _ r d

theorem res11 (h : Agree m m' c) :
    ProjPromptRefIdeal.Read.val_main_v81 (F := Ideal) (a0 m' c) (a1 m' c) (a2 m' c) (a4 m' c) (a7 m' c) = ProjPromptIdeal.Final.result11 m c := by
  obtain ⟨h0, h1, h2, h3, h4, h5, h6, h7⟩ := h
  rw [h0, h1, h2, h4, h7]
  funext i
  obtain ⟨r, d, rfl⟩ : ∃ (r : Fin 16384) (d : Fin 1024), i = ix2 r d := ⟨i 0, i 1, eq_ix2 i⟩
  exact ProjPromptRefIdeal.Sum.v81_apply _ _ _ _ _ r d

theorem res12 (h : Agree m m' c) :
    ProjPromptRefIdeal.Read.val_main_v82 (F := Ideal) (a0 m' c) (a1 m' c) (a2 m' c) (a3 m' c) = ProjPromptIdeal.Final.result12 m c := by
  obtain ⟨h0, h1, h2, h3, h4, h5, h6, h7⟩ := h
  rw [h0, h1, h2, h3]
  funext i
  obtain ⟨r, d, rfl⟩ : ∃ (r : Fin 8192) (d : Fin 4096), i = ix2 r d := ⟨i 0, i 1, eq_ix2 i⟩
  exact ProjPromptRefIdeal.Sum.v82_apply _ _ _ _ r d

theorem algebraic : algebraic_ProjPromptIdeal_ProjPromptRefIdeal := by
  intro m ρ m' ρ' _ hagree
  refine ⟨fun c => ProjPromptIdeal.Final.result5 m c, fun c => ProjPromptIdeal.Final.result6 m c, fun c => ProjPromptIdeal.Final.result7 m c, fun c => ProjPromptIdeal.Final.result8 m c, fun c => ProjPromptIdeal.Final.result9 m c, fun c => ProjPromptIdeal.Final.result10 m c, fun c => ProjPromptIdeal.Final.result11 m c, fun c => ProjPromptIdeal.Final.result12 m c, ?_, ?_⟩
  · refine (θ_run ProjPromptIdeal.defs _ _).mono (fun r h c => ?_) (ProjPromptIdeal.Frm.run_all (F := Ideal) m ρ)
    obtain ⟨r0, r1, r2, r3, r4, r5, r6, r7⟩ := results m c r h.1
    exact ⟨r0, r1, r2, r3, r4, r5, r6, r7, ProjPromptIdeal.Frm.kept_of m r h.1 c⟩
  · refine (θ_run ProjPromptRefIdeal.defs _ _).mono (fun r h c => ?_) (ProjPromptRefIdeal.Value.run (F := Ideal) m' ρ')
    obtain ⟨r0, r1, r2, r3, r4, r5, r6, r7, kept⟩ := h c
    have a : Agree m m' c := hagree c
    exact ⟨r0.trans ((ProjPromptRefIdeal.Read.val_main_v70_eq (a0 m' c) (a1 m' c) (a2 m' c)).trans (res5 m m' c a)),
      r1.trans ((ProjPromptRefIdeal.Read.val_main_v71_eq (a0 m' c) (a1 m' c) (a2 m' c)).trans (res6 m m' c a)),
      r2.trans ((ProjPromptRefIdeal.Read.val_main_v72_eq (a0 m' c) (a1 m' c) (a2 m' c)).trans (res7 m m' c a)),
      r3.trans ((ProjPromptRefIdeal.Read.val_main_v75_eq (a0 m' c) (a1 m' c) (a2 m' c) (a5 m' c)).trans (res8 m m' c a)),
      r4.trans ((ProjPromptRefIdeal.Read.val_main_v78_eq (a0 m' c) (a1 m' c) (a2 m' c) (a6 m' c)).trans (res9 m m' c a)),
      r5.trans ((ProjPromptRefIdeal.Read.val_main_v79_eq m' c).trans (res10 m m' c a)),
      r6.trans ((ProjPromptRefIdeal.Read.val_main_v81_eq m' c).trans (res11 m m' c a)),
      r7.trans ((ProjPromptRefIdeal.Read.val_main_v82_eq (a0 m' c) (a1 m' c) (a2 m' c) (a3 m' c)).trans (res12 m m' c a)), kept⟩

end Cert.ProjPromptClaims

end
-- ==== Proof.FfnFirst.Pay.lean ====
/-
  The feed-forward kernel's arithmetic in the first layer: block by block it is that of the last layer.
-/
module

public import proofs.«01_k».proof.Proof.Gen.FfnFirstIdeal.Skeleton
public import proofs.«01_k».proof.Proof.Ffn.Pay

@[expose] public section

set_option maxRecDepth 16384

noncomputable section

namespace Cert.FfnFirstIdeal.Pay

open Cert.FfnFirstIdeal Cert.FfnFirstIdeal.Gen Cert.Mlp Idealize.ShloMosaic.ValueIdx
open Idealize.ShloMosaic hiding ix2 ix3
open scoped BigOperators

/-- A row times a tile's column. -/
abbrev col := Cert.FfnIdeal.Pay.col

theorem pay1_apply (x : Vec Ideal S512x2048 .f32) (g : Vec Ideal S1x2048 .f32) (r : Fin 512) (k : Fin 2048) :
    k0_pay1 x g (ix2 r k) = rms (fun k => x (ix2 r k)) (fun k => g (ix2 (0 : Fin 1) k)) k :=
  Cert.FfnIdeal.Pay.pay1_apply x g r k

theorem pay2_apply (v3 : FVec Ideal S512x2048 .bf16) (v4 v7 : FVec Ideal S1x2048x512 .bf16) (v14 : FVec Ideal S512x2048 .f32) (v16 : FVec Ideal S1x512x2048 .bf16)
    (r : Fin 512) (d : Fin 2048) :
    k0_pay2 v3 v4 v7 v14 v16 (ix2 r d) = v14 (ix2 r d)
      + ∑ e : Fin 512, col v3 v4 r e * Ideal.logistic (col v3 v4 r e) * col v3 v7 r e * v16 (ix3 (0 : Fin 1) e d) :=
  Cert.FfnIdeal.Pay.pay2_apply v3 v4 v7 v14 v16 r d

end Cert.FfnFirstIdeal.Pay

end
-- ==== Proof.FfnFirst.Body.lean ====
/-
  What one point of the feed-forward kernel of the first layer leaves in its output's block and in the row it keeps between points.
-/
module

public import proofs.«01_k».proof.Proof.Gen.FfnFirstIdeal.Value
public import proofs.«01_k».proof.Proof.FfnFirst.Pay

@[expose] public section

set_option maxRecDepth 16384

noncomputable section

namespace Cert.FfnFirstIdeal.Body

open Cert.FfnFirstIdeal Cert.FfnFirstIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)

theorem sout_A (hc0 : cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    sout0_A_0 c i _ harg2 _ harg3 _ harg4 _ harg5 _ harg6 _ harg7 _ harg8 _ harg9 hc0 x0 x1 x2 x3 x4 x5 = k0_pay1 x0 x1 := by
  unfold sout0_A_0
  rw [View.read_writes_eq_canon _ _ _ (scover0_A_0 c i _ harg2 _ harg3 _ harg4 _ harg5 _ harg6 _ harg7 _ harg8 _ harg9 hc0 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_A (hc0 : cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    out0_A_6 c i _ harg2 _ harg3 _ harg4 _ harg5 _ harg6 _ harg7 _ harg8 _ harg9 hc0 x0 x1 x2 x3 x4 x5 = k0_pay2 (k0_pay1 x0 x1) x2 x3 x0 x4 := by
  unfold out0_A_6
  rw [View.read_writes_eq_canon _ _ _ (cover0_A_6 c i _ harg2 _ harg3 _ harg4 _ harg5 _ harg6 _ harg7 _ harg8 _ harg9 hc0 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_B (hc0 : ¬cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_B_6 c i _ harg2 _ harg3 _ harg4 _ harg5 _ harg6 _ harg7 _ harg8 _ harg9 hc0 x0 x1 x2 x3 x4 x5 xo6 xs0 = k0_pay2 xs0 x2 x3 xo6 x4 := by
  unfold out0_B_6
  rw [View.read_writes_eq_canon _ _ _ (cover0_B_6 c i _ harg2 _ harg3 _ harg4 _ harg5 _ harg6 _ harg7 _ harg8 _ harg9 hc0 x0 x1 x2 x3 x4 x5 xo6 xs0)]
  unfold kernelRun0_B
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

end Cert.FfnFirstIdeal.Body

end
-- ==== Proof.FfnFirst.Final.lean ====
/-
  The first layer's feed-forward kernel's blocks, and its result array: tile by tile the rows gather the shares of
  the columns.
-/
module

public import proofs.«01_k».proof.Proof.FfnFirst.Body

@[expose] public section

set_option maxRecDepth 16384

noncomputable section

namespace Cert.FfnFirstIdeal.Final

open Cert.FfnFirstIdeal Cert.FfnFirstIdeal.Gen Cert.FfnFirstIdeal.Pay Cert.Mlp
open Idealize.ShloMosaic.TcCoe Idealize.SL.Sem Idealize.ShloMosaic.ValueIdx
open Idealize.ShloMosaic hiding ix2 ix3 eq_ix2 eq_ix3
open scoped BigOperators

variable (m : (ℓ : Loc nD τ sig) → Buf (Elt Ideal) ℓ) (c : Dev nD)

theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = t.val % 11 := by decide +kernel
theorem index3 : ∀ t : Fin grid0.N, win0_3.index t 0 = 0 ∧ win0_3.index t 1 = 0 ∧ win0_3.index t 2 = t.val % 11 + 11 := by decide +kernel
theorem index4 : ∀ t : Fin grid0.N, win0_4.index t 0 = 0 ∧ win0_4.index t 1 = t.val % 11 ∧ win0_4.index t 2 = 0 := by decide +kernel
theorem index6 : ∀ t : Fin grid0.N, win0_6.index t 0 = t.val / 11 ∧ win0_6.index t 1 = 0 := by decide +kernel

variable (t : Fin cfg0.N)

theorem t_lt : t.val < 44 := lt_of_lt_of_eq t.isLt N_0

/-- Row `r` of the point's block. -/
abbrev rowOf (n : ℕ) (hn : n < cfg0.N) (r : Fin 512) : Fin 2048 := ⟨n / 11 * 512 + r.val, by have : n < 44 := lt_of_lt_of_eq hn N_0; omega⟩

/-- Column `e` of the point's tile. -/
abbrev colOf (e : Fin 512) : Fin 5632 := ⟨t.val % 11 * 512 + e.val, by omega⟩

theorem iblk0_apply (r : Fin 512) (k : Fin 2048) : (iblk m c 0 t : Vec Ideal S512x2048 .f32) (ix2 r k)
    = m ((c : Thread nD τ).loc main_arg0) (ix2 (rowOf t.val t.isLt r) k) := by
  obtain ⟨h0, h1⟩ := index0 t
  refine Eq.trans ?_ (congrFun (V_main_arg0 m c) _)
  unfold iblk
  rw [View.read_apply]
  refine congrArg (V m c main_arg0) (funext fun a => Fin.ext ?_)
  match a with
  | ⟨0, _⟩ => show win0_0.index t 0 * 512 + 1 * r.val = t.val / 11 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_main_arg1 m c) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 512) : (iblk m c 2 t : Vec Ideal S1x2048x512 .bf16) (ix3 (0 : Fin 1) k e)
    = m ((c : Thread nD τ).loc main_arg2) (ix3 (0 : Fin 2) k (⟨(colOf t e).val, by omega⟩ : Fin 11264)) := by
  obtain ⟨h0, h1, h2⟩ := index2 t
  refine Eq.trans ?_ (congrFun (V_main_arg2 m c) _)
  unfold iblk
  rw [View.read_apply]
  refine congrArg (V m c main_arg2) (funext fun a => Fin.ext ?_)
  match a with
  | ⟨0, _⟩ => show win0_2.index t 0 * 1 + 1 * 0 = 0; omega
  | ⟨1, _⟩ => show win0_2.index t 1 * 2048 + 1 * k.val = k.val; omega
  | ⟨2, _⟩ => show win0_2.index t 2 * 512 + 1 * e.val = t.val % 11 * 512 + e.val; omega

theorem iblk3_apply (k : Fin 2048) (e : Fin 512) : (iblk m c 3 t : Vec Ideal S1x2048x512 .bf16) (ix3 (0 : Fin 1) k e)
    = m ((c : Thread nD τ).loc main_arg2) (ix3 (0 : Fin 2) k (⟨5632 + (colOf t e).val, by omega⟩ : Fin 11264)) := by
  obtain ⟨h0, h1, h2⟩ := index3 t
  refine Eq.trans ?_ (congrFun (V_main_arg2 m c) _)
  unfold iblk
  rw [View.read_apply]
  refine congrArg (V m c main_arg2) (funext fun a => Fin.ext ?_)
  match a with
  | ⟨0, _⟩ => show win0_3.index t 0 * 1 + 1 * 0 = 0; omega
  | ⟨1, _⟩ => show win0_3.index t 1 * 2048 + 1 * k.val = k.val; omega
  | ⟨2, _⟩ => show win0_3.index t 2 * 512 + 1 * e.val = 5632 + (t.val % 11 * 512 + e.val); omega

theorem iblk4_apply (e : Fin 512) (d : Fin 2048) : (iblk m c 4 t : Vec Ideal S1x512x2048 .bf16) (ix3 (0 : Fin 1) e d)
    = m ((c : Thread nD τ).loc main_arg3) (ix3 (0 : Fin 2) (colOf t e) d) := by
  obtain ⟨h0, h1, h2⟩ := index4 t
  refine Eq.trans ?_ (congrFun (V_main_arg3 m c) _)
  unfold iblk
  rw [View.read_apply]
  refine congrArg (V m c main_arg3) (funext fun a => Fin.ext ?_)
  match a with
  | ⟨0, _⟩ => show win0_4.index t 0 * 1 + 1 * 0 = 0; omega
  | ⟨1, _⟩ => show win0_4.index t 1 * 512 + 1 * e.val = t.val % 11 * 512 + e.val; omega
  | ⟨2, _⟩ => show win0_4.index t 2 * 2048 + 1 * d.val = d.val; omega

abbrev h : (Rows 2048).Idx → EReal := m ((c : Thread nD τ).loc main_arg0)
abbrev g : Scale.Idx → EReal := m ((c : Thread nD τ).loc main_arg1)
/-- The weights of the first layer. -/
abbrev w : GateUp.Idx → EReal := firstUp (m ((c : Thread nD τ).loc main_arg2))
abbrev wd : Down.Idx → EReal := firstDown (m ((c : Thread nD τ).loc main_arg3))
/-- The result: the step at row `i 0` and lane `i 1`. -/
def result : Buf (Elt Ideal) ((c : Thread nD τ).loc main_v0) := fun i =>
  part (h m c) (g m c) (w m c) (wd m c) ⟨(i 0).val, (i 0).isLt⟩ ⟨(i 1).val, (i 1).isLt⟩ 5632

theorem result_apply (r d : Fin 2048) : result m c (ix2 r d) = part (h m c) (g m c) (w m c) (wd m c) r d 5632 := rfl

/-- The first tile's point leaves the normalised rows. -/
theorem pay1_iblk (r : Fin 512) (k : Fin 2048) :
    k0_pay1 (iblk m c 0 t : Vec Ideal S512x2048 .f32) (iblk m c 1 t : Vec Ideal S1x2048 .f32) (ix2 r k) = hn (h m c) (g m c) (rowOf t.val t.isLt r) k := by
  refine (pay1_apply _ _ r k).trans ?_
  unfold hn
  congr 1
  · funext k; exact iblk0_apply m c t r k
  · funext k; exact iblk1_apply m c t k

/-- One tile adds its columns' shares. -/
theorem pay2_iblk (v3 : FVec Ideal S512x2048 .bf16) (x : FVec Ideal S512x2048 .f32) (r : Fin 512) (d : Fin 2048)
    (h3 : ∀ k, v3 (ix2 r k) = hn (h m c) (g m c) (rowOf t.val t.isLt r) k)
    (hx : x (ix2 r d) = part (h m c) (g m c) (w m c) (wd m c) (rowOf t.val t.isLt r) d (t.val % 11 * 512)) :
    k0_pay2 v3 (iblk m c 2 t : Vec Ideal S1x2048x512 .bf16) (iblk m c 3 t : Vec Ideal S1x2048x512 .bf16) x (iblk m c 4 t : Vec Ideal S1x512x2048 .bf16) (ix2 r d)
      = part (h m c) (g m c) (w m c) (wd m c) (rowOf t.val t.isLt r) d (t.val % 11 * 512 + 512) := by
  refine (pay2_apply v3 _ _ x _ r d).trans ?_
  rw [part_tile, hx]
  refine congrArg _ (Finset.sum_congr rfl fun e _ => ?_)
  have h4 : col v3 (iblk m c 2 t : Vec Ideal S1x2048x512 .bf16) r e = dotCol (h m c) (g m c) (w m c) (rowOf t.val t.isLt r) ⟨(colOf t e).val, by omega⟩ :=
    Finset.sum_congr rfl fun k _ => congrArg₂ (· * ·) (h3 k) (iblk2_apply m c t k e)
  have h7 : col v3 (iblk m c 3 t : Vec Ideal S1x2048x512 .bf16) r e = dotCol (h m c) (g m c) (w m c) (rowOf t.val t.isLt r) ⟨5632 + (colOf t e).val, by omega⟩ :=
    Finset.sum_congr rfl fun k _ => congrArg₂ (· * ·) (h3 k) (iblk3_apply m c t k e)
  have hlt : t.val % 11 * 512 + e.val < 5632 := by omega
  unfold share
  rw [dif_pos hlt, h4, h7]
  exact congrArg _ (iblk4_apply m c t e d)

/-- What the points up to `n` leave. -/
def Left (n : ℕ) (hn' : n < cfg0.N) (s : Vec Ideal S512x2048 .f32 × Vec Ideal S512x2048 .bf16) : Prop :=
  (∀ r k, s.2 (ix2 r k) = hn (h m c) (g m c) (rowOf n hn' r) k) ∧
  (∀ r d, s.1 (ix2 r d) = part (h m c) (g m c) (w m c) (wd m c) (rowOf n hn' r) d (n % 11 * 512 + 512))

theorem left_first (h0 : t.val % 11 = 0) : Left m c t.val t.isLt (outsAt0 m c t.val t.isLt) := by
  rw [outsAt0_A m c t h0, Body.sout_A, Body.out_A]
  refine ⟨fun r k => pay1_iblk m c t r k, fun r d => ?_⟩
  refine pay2_iblk m c t _ _ r d (fun k => pay1_iblk m c t r k) ?_
  rw [h0, Nat.zero_mul, part_zero]
  exact iblk0_apply m c t r d

/-- The point before's rows are this point's, where this is not a block's first tile. -/
theorem left_before (h0 : ¬t.val % 11 = 0) (s : Vec Ideal S512x2048 .f32 × Vec Ideal S512x2048 .bf16)
    (hl : Left m c (t.val - 1) (Nat.lt_of_le_of_lt (Nat.sub_le _ _) t.isLt) s) :
    (∀ r k, s.2 (ix2 r k) = hn (h m c) (g m c) (rowOf t.val t.isLt r) k) ∧
    (∀ r d, s.1 (ix2 r d) = part (h m c) (g m c) (w m c) (wd m c) (rowOf t.val t.isLt r) d (t.val % 11 * 512)) := by
  have hr : ∀ r, rowOf (t.val - 1) (Nat.lt_of_le_of_lt (Nat.sub_le _ _) t.isLt) r = rowOf t.val t.isLt r := fun r => Fin.ext (by
    show (t.val - 1) / 11 * 512 + r.val = t.val / 11 * 512 + r.val
    omega)
  have he : (t.val - 1) % 11 * 512 + 512 = t.val % 11 * 512 := by omega
  refine ⟨fun r k => ?_, fun r d => ?_⟩
  · rw [← hr r]; exact hl.1 r k
  · have := hl.2 r d
    rw [he, hr r] at this
    exact this

theorem left_middle (h0 : ¬t.val % 11 = 0)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_B m c t h0, Body.out_B]
  refine ⟨fun r k => hs r k, fun r d => ?_⟩
  exact pay2_iblk m c t _ _ r d (fun k => hs r k) (ho r d)

theorem left_all (n : ℕ) : ∀ hn' : n < cfg0.N, Left m c n hn' (outsAt0 m c n hn') := by
  induction n with
  | zero => exact fun hn' => left_first m c ⟨0, hn'⟩ (Nat.zero_mod _)
  | succ n ih =>
    intro hn'
    by_cases h0 : (n + 1) % 11 = 0
    · exact left_first m c ⟨n + 1, hn'⟩ h0
    · exact left_middle m c ⟨n + 1, hn'⟩ h0 (ih (Nat.lt_of_succ_lt hn'))

theorem flushed_eq (hf : t.val % 11 = 10) : (dats m 0 c).flushed 6 t = ((cfg0.win 6).blk t).view.read (Elt Ideal) (result m c) := by
  obtain ⟨h0, h1⟩ := index6 t
  rw [Cert.FfnFirstIdeal.Value.flushed6]
  funext j
  obtain ⟨r, d, rfl⟩ : ∃ (r : Fin 512) (d : Fin 2048), j = ix2 r d := ⟨j 0, j 1, eq_ix2 j⟩
  rw [View.read_apply]
  refine Eq.trans (b := (outsAt0 m c t.val t.isLt).1 (ix2 r d)) rfl ?_
  rw [(left_all m c t.val t.isLt).2 r d, hf]
  rw [← result_apply]
  show result m c _ = result m c _
  congr 1
  funext a
  apply Fin.ext
  match a with
  | ⟨0, _⟩ => show t.val / 11 * 512 + r.val = win0_6.index t 0 * 512 + 1 * r.val; omega
  | ⟨1, _⟩ => show d.val = win0_6.index t 1 * 2048 + 1 * d.val; omega

/-- So the result array ends holding every row's step. -/
theorem final_o : (dats m 0 c).arrAt 6 cfg0.N = result m c :=
  (dats m 0 c).arrAt_eq_of_cover 6 (result m c) (fun t hf => flushed_eq m c t ((flush0_6 t).mp hf)) fun i => by
    have i0 : (i 0 : Nat) < 2048 := (i 0).isLt
    have i1 : (i 1 : Nat) < 2048 := (i 1).isLt
    have hN : (i 0 : Nat) / 512 * 11 + 10 < cfg0.N := lt_of_lt_of_eq (by omega : _ < 44) N_0.symm
    obtain ⟨t, ht⟩ : ∃ t : Fin cfg0.N, t.val = (i 0 : Nat) / 512 * 11 + 10 := ⟨⟨_, hN⟩, rfl⟩
    refine ⟨t, (flush0_6 t).mpr (by omega), ?_⟩
    obtain ⟨h0, h1⟩ := index6 t
    show i ∈ ((View.whole main_v0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 2048 ≤ (i 1 : Nat) ∧ (i 1 : Nat) < win0_6.index t 1 * 2048 + 2048; omega

end Cert.FfnFirstIdeal.Final

end
-- ==== Proof.FfnFirst.Reference.lean ====
/-
  The reference of the first layer's feed-forward step, read at an index.
-/
module

public import proofs.«01_k».proof.Proof.Gen.FfnFirstRefIdeal.Read
public import proofs.«01_k».proof.Proof.Ffn.Mlp
public import Idealize.ShloMosaic.Lib.IdealHost

public section

set_option maxRecDepth 16384

noncomputable section

namespace Cert.FfnFirstRefIdeal.Sum

open Cert.FfnFirstRefIdeal Cert.FfnFirstRefIdeal.Gen Cert.FfnFirstRefIdeal.Read Cert.Mlp
open Idealize.ShloMosaic Idealize.ShloMosaic.ValueIdx
open scoped BigOperators

variable (x0 : (Rows 2048).Idx → EReal) (x1 : Scale.Idx → EReal) (x2 : GateUp.Idx → EReal) (x3 : Down.Idx → EReal)

theorem sum_v1 (r : Fin 2048) (i : S2048.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 11264) : val_main_v14 (F := Ideal) x2 (ix2 k f) = x2 (ix3 (0 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 11264 + f.val) / 11264 % 2048 = k.val; omega)
  | ⟨2, _⟩ => exact Fin.ext (by show (k.val * 11264 + f.val) % 11264 = f.val; omega)

theorem v15_apply (r : Fin 2048) (f : Fin 11264) : val_main_v15 (F := Ideal) x0 x1 x2 (ix2 r f) = dotCol x0 x1 (firstUp x2) r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]
  rfl

theorem v16_apply (r : Fin 2048) (f : Fin 5632) : val_main_v16 (F := Ideal) x0 x1 x2 (ix2 r f) = dotCol x0 x1 (firstUp x2) r ⟨f.val, by omega⟩ := by
  have e : idx_main_v16 (ix2 r f) = ix2 r (⟨f.val, by omega⟩ : Fin 11264) := funext fun a => match a with | ⟨0, _⟩ => rfl | ⟨1, _⟩ => rfl
  rw [val_main_v16_apply, e, v15_apply]

theorem v18_apply (r : Fin 2048) (f : Fin 5632) : val_main_v18 (F := Ideal) x0 x1 x2 (ix2 r f) = dotCol x0 x1 (firstUp x2) r ⟨5632 + f.val, by omega⟩ := by
  have e : idx_main_v18 (ix2 r f) = ix2 r (⟨5632 + f.val, by omega⟩ : Fin 11264) := funext fun a => match a with | ⟨0, _⟩ => rfl | ⟨1, _⟩ => rfl
  rw [val_main_v18_apply, e, v15_apply]

theorem one_f32 : (FloatOps.ofBits (F := Ideal) .f32 0x3F800000#32 : Ideal .f32) = 1 := Ideal.ofBits_one_f32

theorem gate_apply (r : Fin 2048) (f : Fin 5632) :
    val_main_call0_v5 (F := Ideal) x0 x1 x2 (ix2 r f) = Ideal.logistic (dotCol x0 x1 (firstUp x2) r ⟨f.val, by omega⟩) := by
  rw [val_main_call0_v5_apply, val_main_call0_v4_apply, val_main_call0_cst_0_apply, val_main_call0_v3_apply, val_main_call0_v2_apply, val_main_call0_cst_apply,
    val_main_call0_v1_apply, val_main_call0_v0_apply, v16_apply, one_f32]
  rfl

theorem v19_apply (r : Fin 2048) (f : Fin 5632) : val_main_v19 (F := Ideal) x0 x1 x2 (ix2 r f) = act x0 x1 (firstUp x2) r f := by
  rw [val_main_v19_apply, val_main_v17_apply, v16_apply, v18_apply, gate_apply]
  rfl

theorem v22_apply (f : Fin 5632) (d : Fin 2048) : val_main_v22 (F := Ideal) x3 (ix2 f d) = x3 (ix3 (0 : Fin 2) f d) := by
  rw [val_main_v22_apply, val_main_v21_apply, val_main_v20_apply]
  refine congrArg x3 (funext fun a => ?_)
  match a with
  | ⟨0, _⟩ => rfl
  | ⟨1, _⟩ => exact Fin.ext (by show (f.val * 2048 + d.val) / 2048 % 5632 = f.val; omega)
  | ⟨2, _⟩ => exact Fin.ext (by show (f.val * 2048 + d.val) % 2048 = d.val; omega)

theorem v24_apply (r d : Fin 2048) : val_main_v24 (F := Ideal) x0 x1 x2 x3 (ix2 r d) = part x0 x1 (firstUp x2) (firstDown x3) r d 5632 := by
  rw [val_main_v24_apply, val_main_v23_apply, part_full]
  refine congrArg (x0 (ix2 r d) + ·) (Finset.sum_congr rfl fun f _ => ?_)
  have e1 : lidx_main_v23 (ix2 r d) f = ix2 r f := funext fun a => match a with | ⟨0, _⟩ => rfl | ⟨1, _⟩ => rfl
  have e2 : ridx_main_v23 (ix2 r d) f = ix2 f d := funext fun a => match a with | ⟨0, _⟩ => rfl | ⟨1, _⟩ => rfl
  rw [e1, e2, v19_apply, v22_apply]
  rfl

end Cert.FfnFirstRefIdeal.Sum

end
-- ==== Proof.FfnFirst.Claims.lean ====
/-
  The claims about the feed-forward call of the first layer: its three frames, and its value.
-/

module

public import proofs.«01_k».proof.Defs
public import proofs.«01_k».proof.Proof.Gen.FfnFirst.Frame
public import proofs.«01_k».proof.Proof.Gen.FfnFirstIdeal.Frame
public import proofs.«01_k».proof.Proof.Gen.FfnFirstIdeal.Value
public import proofs.«01_k».proof.Proof.Gen.FfnFirstRefIdeal.Run
public import proofs.«01_k».proof.Proof.Gen.FfnFirstRefIdeal.Read
public import proofs.«01_k».proof.Proof.FfnFirst.Final
public import proofs.«01_k».proof.Proof.FfnFirst.Reference

public section

set_option maxRecDepth 16384

noncomputable section

namespace Cert.FfnFirstClaims

open Idealize.ShloMosaic.TcCoe Idealize.SL.Sem Idealize.ShloMosaic.ValueIdx
open Idealize.ShloMosaic hiding ix2 eq_ix2

theorem frame_p : quiescent_FfnFirst := fun m ρ _ => FfnFirst.Gen.frame m ρ

theorem frame_pi : quiescent_FfnFirstIdeal := fun m ρ _ => FfnFirstIdeal.Gen.frame m ρ

theorem frame_ri : quiescent_FfnFirstRefIdeal := fun m ρ _ =>
  (θ_run FfnFirstRefIdeal.defs _ _).mono (fun r h => ⟨fun c => (h c).2, sem_eq_zero_of_no_sems (by decide) r.2⟩)
    (FfnFirstRefIdeal.Value.run (F := Ideal) m ρ)

variable (m : (ℓ : Loc FfnFirstIdeal.nD FfnFirstIdeal.τ FfnFirstIdeal.sig) → Buf (Elt Ideal) ℓ)

/-- The reference's result, from arguments as the kernel holds them. -/
theorem res_eq (c : Dev FfnFirstIdeal.nD) : FfnFirstRefIdeal.Read.val_main_v24 (F := Ideal) (FfnFirstIdeal.Final.h m c) (FfnFirstIdeal.Final.g m c)
    (m ((c.tc : Thread FfnFirstIdeal.nD FfnFirstIdeal.τ).loc FfnFirstIdeal.main_arg2)) (m ((c.tc : Thread FfnFirstIdeal.nD FfnFirstIdeal.τ).loc FfnFirstIdeal.main_arg3)) = FfnFirstIdeal.Final.result m c := by
  funext i
  obtain ⟨r, d, rfl⟩ : ∃ (r d : Fin 2048), i = ix2 r d := ⟨i 0, i 1, eq_ix2 i⟩
  exact (FfnFirstRefIdeal.Sum.v24_apply _ _ _ _ r d).trans (FfnFirstIdeal.Final.result_apply m c r d).symm

theorem algebraic : algebraic_FfnFirstIdeal_FfnFirstRefIdeal := by
  intro m ρ m' ρ' _ hagree
  refine ⟨fun c => FfnFirstIdeal.Final.result m c, ?_, ?_⟩
  · exact (θ_run FfnFirstIdeal.defs _ _).mono
      (fun _ h c => ⟨(h c).1.trans (FfnFirstIdeal.Final.final_o m c), (h c).2⟩)
      (FfnFirstIdeal.Value.run_blocks m ρ)
  · refine (θ_run FfnFirstRefIdeal.defs _ _).mono (fun r h c => ⟨(h c).1.trans ?_, (h c).2⟩) (FfnFirstRefIdeal.Value.run (F := Ideal) m' ρ')
    obtain ⟨h0, h1, h2, h3, -⟩ := hagree c
    refine (FfnFirstRefIdeal.Read.val_main_v24_eq _ _ _ _).trans ?_
    rw [h0, h1, h2, h3]
    exact res_eq m c

end Cert.FfnFirstClaims

end
-- ==== Proof.FfnFirstPrompt.Pay.lean ====
/-
  The feed-forward kernel's arithmetic in the first layer at the prompts' rows: block by block it is that of the last layer.
-/
module

public import proofs.«01_k».proof.Proof.Gen.FfnFirstPromptIdeal.Skeleton
public import proofs.«01_k».proof.Proof.Ffn.Pay

@[expose] public section

set_option maxRecDepth 16384

noncomputable section

namespace Cert.FfnFirstPromptIdeal.Pay

open Cert.FfnFirstPromptIdeal Cert.FfnFirstPromptIdeal.Gen Cert.Mlp Idealize.ShloMosaic.ValueIdx
open Idealize.ShloMosaic hiding ix2 ix3
open scoped BigOperators

/-- A row times a tile's column. -/
abbrev col := Cert.FfnIdeal.Pay.col

theorem pay1_apply (x : Vec Ideal S512x2048 .f32) (g : Vec Ideal S1x2048 .f32) (r : Fin 512) (k : Fin 2048) :
    k0_pay1 x g (ix2 r k) = rms (fun k => x (ix2 r k)) (fun k => g (ix2 (0 : Fin 1) k)) k :=
  Cert.FfnIdeal.Pay.pay1_apply x g r k

theorem pay2_apply (v3 : FVec Ideal S512x2048 .bf16) (v4 v7 : FVec Ideal S1x2048x512 .bf16) (v14 : FVec Ideal S512x2048 .f32) (v16 : FVec Ideal S1x512x2048 .bf16)
    (r : Fin 512) (d : Fin 2048) :
    k0_pay2 v3 v4 v7 v14 v16 (ix2 r d) = v14 (ix2 r d)
      + ∑ e : Fin 512, col v3 v4 r e * Ideal.logistic (col v3 v4 r e) * col v3 v7 r e * v16 (ix3 (0 : Fin 1) e d) :=
  Cert.FfnIdeal.Pay.pay2_apply v3 v4 v7 v14 v16 r d

end Cert.FfnFirstPromptIdeal.Pay

end
-- ==== Proof.FfnFirstPrompt.Body.lean ====
/-
  What one point of the feed-forward kernel of the first layer at the prompts' rows leaves in its output's block and in the row it keeps between points.
-/
module

public import proofs.«01_k».proof.Proof.Gen.FfnFirstPromptIdeal.Value
public import proofs.«01_k».proof.Proof.FfnFirstPrompt.Pay

@[expose] public section

set_option maxRecDepth 16384

noncomputable section

namespace Cert.FfnFirstPromptIdeal.Body

open Cert.FfnFirstPromptIdeal Cert.FfnFirstPromptIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .bf16) (harg9 : arg9.IsWhole)

theorem sout_A (hc0 : cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    sout0_A_0 c i _ harg2 _ harg3 _ harg4 _ harg5 _ harg6 _ harg7 _ harg8 _ harg9 hc0 x0 x1 x2 x3 x4 x5 = k0_pay1 x0 x1 := by
  unfold sout0_A_0
  rw [View.read_writes_eq_canon _ _ _ (scover0_A_0 c i _ harg2 _ harg3 _ harg4 _ harg5 _ harg6 _ harg7 _ harg8 _ harg9 hc0 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_A (hc0 : cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    out0_A_6 c i _ harg2 _ harg3 _ harg4 _ harg5 _ harg6 _ harg7 _ harg8 _ harg9 hc0 x0 x1 x2 x3 x4 x5 = k0_pay2 (k0_pay1 x0 x1) x2 x3 x0 x4 := by
  unfold out0_A_6
  rw [View.read_writes_eq_canon _ _ _ (cover0_A_6 c i _ harg2 _ harg3 _ harg4 _ harg5 _ harg6 _ harg7 _ harg8 _ harg9 hc0 x0 x1 x2 x3 x4 x5)]
  unfold kernelRun0_A
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

theorem out_B (hc0 : ¬cond0_0 i) (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xo6 : Vec F S512x2048 .f32) (xs0 : Vec F S512x2048 .bf16) :
    out0_B_6 c i _ harg2 _ harg3 _ harg4 _ harg5 _ harg6 _ harg7 _ harg8 _ harg9 hc0 x0 x1 x2 x3 x4 x5 xo6 xs0 = k0_pay2 xs0 x2 x3 xo6 x4 := by
  unfold out0_B_6
  rw [View.read_writes_eq_canon _ _ _ (cover0_B_6 c i _ harg2 _ harg3 _ harg4 _ harg5 _ harg6 _ harg7 _ harg8 _ harg9 hc0 x0 x1 x2 x3 x4 x5 xo6 xs0)]
  unfold kernelRun0_B
  dsimp only
  sl_unfold_words
  simp only [View.canon_cons_unit_zero (S := S512x2048) hz2, View.canon_unit_zero (S := S512x2048) hz2, View.readCov_unit_zero (S := S512x2048) _ hz2, View.readAt_eq_ld, harg2.read_unread, harg3.read_unread, harg4.read_unread, harg5.read_unread, harg6.read_unread, harg7.read_unread, harg8.read_unread, harg9.read_unread, View.ld_unit_zero (S := S512x2048) hz2, View.ld_unit_zero (S := S1x2048) hz2, View.ld_unit_zero (S := S1x2048x512) hz3, View.ld_unit_zero (S := S1x512x2048) hz3]

end Cert.FfnFirstPromptIdeal.Body

end
-- ==== Proof.FfnFirstPrompt.Final.lean ====
/-
  The first layer's feed-forward kernel's blocks at the prompts' rows, and its result array: tile by tile the rows gather the shares of
  the columns.
-/
module

public import proofs.«01_k».proof.Proof.FfnFirstPrompt.Body

@[expose] public section

set_option maxRecDepth 16384

noncomputable section

namespace Cert.FfnFirstPromptIdeal.Final

open Cert.FfnFirstPromptIdeal Cert.FfnFirstPromptIdeal.Gen Cert.FfnFirstPromptIdeal.Pay Cert.Mlp
open Idealize.ShloMosaic.TcCoe Idealize.SL.Sem Idealize.ShloMosaic.ValueIdx
open Idealize.ShloMosaic hiding ix2 ix3 eq_ix2 eq_ix3
open scoped BigOperators

variable (m : (ℓ : Loc nD τ sig) → Buf (Elt Ideal) ℓ) (c : Dev nD)

theorem index0 : ∀ t : Fin grid0.N, win0_0.index t 0 = t.val / 11 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = t.val % 11 := by decide +kernel
theorem index3 : ∀ t : Fin grid0.N, win0_3.index t 0 = 0 ∧ win0_3.index t 1 = 0 ∧ win0_3.index t 2 = t.val % 11 + 11 := by decide +kernel
theorem index4 : ∀ t : Fin grid0.N, win0_4.index t 0 = 0 ∧ win0_4.index t 1 = t.val % 11 ∧ win0_4.index t 2 = 0 := by decide +kernel
theorem index6 : ∀ t : Fin grid0.N, win0_6.index t 0 = t.val / 11 ∧ win0_6.index t 1 = 0 := by decide +kernel

variable (t : Fin cfg0.N)

theorem t_lt : t.val < 176 := lt_of_lt_of_eq t.isLt N_0

/-- Row `r` of the point's block. -/
abbrev rowOf (n : ℕ) (hn : n < cfg0.N) (r : Fin 512) : Fin 8192 := ⟨n / 11 * 512 + r.val, by have : n < 176 := lt_of_lt_of_eq hn N_0; omega⟩

/-- Column `e` of the point's tile. -/
abbrev colOf (e : Fin 512) : Fin 5632 := ⟨t.val % 11 * 512 + e.val, by omega⟩

theorem iblk0_apply (r : Fin 512) (k : Fin 2048) : (iblk m c 0 t : Vec Ideal S512x2048 .f32) (ix2 r k)
    = m ((c : Thread nD τ).loc main_arg0) (ix2 (rowOf t.val t.isLt r) k) := by
  obtain ⟨h0, h1⟩ := index0 t
  refine Eq.trans ?_ (congrFun (V_main_arg0 m c) _)
  unfold iblk
  rw [View.read_apply]
  refine congrArg (V m c main_arg0) (funext fun a => Fin.ext ?_)
  match a with
  | ⟨0, _⟩ => show win0_0.index t 0 * 512 + 1 * r.val = t.val / 11 * 512 + r.val; omega
  | ⟨1, _⟩ => show win0_0.index t 1 * 2048 + 1 * k.val = k.val; omega

theorem iblk1_apply (k : Fin 2048) : (iblk m c 1 t : Vec Ideal S1x2048 .f32) (ix2 (0 : Fin 1) k)
    = m ((c : Thread nD τ).loc main_arg1) (ix2 (0 : Fin 1) k) := by
  obtain ⟨h0, h1⟩ := index1 t
  refine Eq.trans ?_ (congrFun (V_main_arg1 m c) _)
  unfold iblk
  rw [View.read_apply]
  refine congrArg (V m c main_arg1) (funext fun a => Fin.ext ?_)
  match a with
  | ⟨0, _⟩ => show win0_1.index t 0 * 1 + 1 * 0 = 0; omega
  | ⟨1, _⟩ => show win0_1.index t 1 * 2048 + 1 * k.val = k.val; omega

theorem iblk2_apply (k : Fin 2048) (e : Fin 512) : (iblk m c 2 t : Vec Ideal S1x2048x512 .bf16) (ix3 (0 : Fin 1) k e)
    = m ((c : Thread nD τ).loc main_arg2) (ix3 (0 : Fin 2) k (⟨(colOf t e).val, by omega⟩ : Fin 11264)) := by
  obtain ⟨h0, h1, h2⟩ := index2 t
  refine Eq.trans ?_ (congrFun (V_main_arg2 m c) _)
  unfold iblk
  rw [View.read_apply]
  refine congrArg (V m c main_arg2) (funext fun a => Fin.ext ?_)
  match a with
  | ⟨0, _⟩ => show win0_2.index t 0 * 1 + 1 * 0 = 0; omega
  | ⟨1, _⟩ => show win0_2.index t 1 * 2048 + 1 * k.val = k.val; omega
  | ⟨2, _⟩ => show win0_2.index t 2 * 512 + 1 * e.val = t.val % 11 * 512 + e.val; omega

theorem iblk3_apply (k : Fin 2048) (e : Fin 512) : (iblk m c 3 t : Vec Ideal S1x2048x512 .bf16) (ix3 (0 : Fin 1) k e)
    = m ((c : Thread nD τ).loc main_arg2) (ix3 (0 : Fin 2) k (⟨5632 + (colOf t e).val, by omega⟩ : Fin 11264)) := by
  obtain ⟨h0, h1, h2⟩ := index3 t
  refine Eq.trans ?_ (congrFun (V_main_arg2 m c) _)
  unfold iblk
  rw [View.read_apply]
  refine congrArg (V m c main_arg2) (funext fun a => Fin.ext ?_)
  match a with
  | ⟨0, _⟩ => show win0_3.index t 0 * 1 + 1 * 0 = 0; omega
  | ⟨1, _⟩ => show win0_3.index t 1 * 2048 + 1 * k.val = k.val; omega
  | ⟨2, _⟩ => show win0_3.index t 2 * 512 + 1 * e.val = 5632 + (t.val % 11 * 512 + e.val); omega

theorem iblk4_apply (e : Fin 512) (d : Fin 2048) : (iblk m c 4 t : Vec Ideal S1x512x2048 .bf16) (ix3 (0 : Fin 1) e d)
    = m ((c : Thread nD τ).loc main_arg3) (ix3 (0 : Fin 2) (colOf t e) d) := by
  obtain ⟨h0, h1, h2⟩ := index4 t
  refine Eq.trans ?_ (congrFun (V_main_arg3 m c) _)
  unfold iblk
  rw [View.read_apply]
  refine congrArg (V m c main_arg3) (funext fun a => Fin.ext ?_)
  match a with
  | ⟨0, _⟩ => show win0_4.index t 0 * 1 + 1 * 0 = 0; omega
  | ⟨1, _⟩ => show win0_4.index t 1 * 512 + 1 * e.val = t.val % 11 * 512 + e.val; omega
  | ⟨2, _⟩ => show win0_4.index t 2 * 2048 + 1 * d.val = d.val; omega

abbrev h : (Rows 8192).Idx → EReal := m ((c : Thread nD τ).loc main_arg0)
abbrev g : Scale.Idx → EReal := m ((c : Thread nD τ).loc main_arg1)
/-- The weights of the first layer. -/
abbrev w : GateUp.Idx → EReal := firstUp (m ((c : Thread nD τ).loc main_arg2))
abbrev wd : Down.Idx → EReal := firstDown (m ((c : Thread nD τ).loc main_arg3))
/-- The result: the step at row `i 0` and lane `i 1`. -/
def result : Buf (Elt Ideal) ((c : Thread nD τ).loc main_v0) := fun i =>
  part (h m c) (g m c) (w m c) (wd m c) ⟨(i 0).val, (i 0).isLt⟩ ⟨(i 1).val, (i 1).isLt⟩ 5632

theorem result_apply (r : Fin 8192) (d : Fin 2048) : result m c (ix2 r d) = part (h m c) (g m c) (w m c) (wd m c) r d 5632 := rfl

/-- The first tile's point leaves the normalised rows. -/
theorem pay1_iblk (r : Fin 512) (k : Fin 2048) :
    k0_pay1 (iblk m c 0 t : Vec Ideal S512x2048 .f32) (iblk m c 1 t : Vec Ideal S1x2048 .f32) (ix2 r k) = hn (h m c) (g m c) (rowOf t.val t.isLt r) k := by
  refine (pay1_apply _ _ r k).trans ?_
  unfold hn
  congr 1
  · funext k; exact iblk0_apply m c t r k
  · funext k; exact iblk1_apply m c t k

/-- One tile adds its columns' shares. -/
theorem pay2_iblk (v3 : FVec Ideal S512x2048 .bf16) (x : FVec Ideal S512x2048 .f32) (r : Fin 512) (d : Fin 2048)
    (h3 : ∀ k, v3 (ix2 r k) = hn (h m c) (g m c) (rowOf t.val t.isLt r) k)
    (hx : x (ix2 r d) = part (h m c) (g m c) (w m c) (wd m c) (rowOf t.val t.isLt r) d (t.val % 11 * 512)) :
    k0_pay2 v3 (iblk m c 2 t : Vec Ideal S1x2048x512 .bf16) (iblk m c 3 t : Vec Ideal S1x2048x512 .bf16) x (iblk m c 4 t : Vec Ideal S1x512x2048 .bf16) (ix2 r d)
      = part (h m c) (g m c) (w m c) (wd m c) (rowOf t.val t.isLt r) d (t.val % 11 * 512 + 512) := by
  refine (pay2_apply v3 _ _ x _ r d).trans ?_
  rw [part_tile, hx]
  refine congrArg _ (Finset.sum_congr rfl fun e _ => ?_)
  have h4 : col v3 (iblk m c 2 t : Vec Ideal S1x2048x512 .bf16) r e = dotCol (h m c) (g m c) (w m c) (rowOf t.val t.isLt r) ⟨(colOf t e).val, by omega⟩ :=
    Finset.sum_congr rfl fun k _ => congrArg₂ (· * ·) (h3 k) (iblk2_apply m c t k e)
  have h7 : col v3 (iblk m c 3 t : Vec Ideal S1x2048x512 .bf16) r e = dotCol (h m c) (g m c) (w m c) (rowOf t.val t.isLt r) ⟨5632 + (colOf t e).val, by omega⟩ :=
    Finset.sum_congr rfl fun k _ => congrArg₂ (· * ·) (h3 k) (iblk3_apply m c t k e)
  have hlt : t.val % 11 * 512 + e.val < 5632 := by omega
  unfold share
  rw [dif_pos hlt, h4, h7]
  exact congrArg _ (iblk4_apply m c t e d)

/-- What the points up to `n` leave. -/
def Left (n : ℕ) (hn' : n < cfg0.N) (s : Vec Ideal S512x2048 .f32 × Vec Ideal S512x2048 .bf16) : Prop :=
  (∀ r k, s.2 (ix2 r k) = hn (h m c) (g m c) (rowOf n hn' r) k) ∧
  (∀ r d, s.1 (ix2 r d) = part (h m c) (g m c) (w m c) (wd m c) (rowOf n hn' r) d (n % 11 * 512 + 512))

theorem left_first (h0 : t.val % 11 = 0) : Left m c t.val t.isLt (outsAt0 m c t.val t.isLt) := by
  rw [outsAt0_A m c t h0, Body.sout_A, Body.out_A]
  refine ⟨fun r k => pay1_iblk m c t r k, fun r d => ?_⟩
  refine pay2_iblk m c t _ _ r d (fun k => pay1_iblk m c t r k) ?_
  rw [h0, Nat.zero_mul, part_zero]
  exact iblk0_apply m c t r d

/-- The point before's rows are this point's, where this is not a block's first tile. -/
theorem left_before (h0 : ¬t.val % 11 = 0) (s : Vec Ideal S512x2048 .f32 × Vec Ideal S512x2048 .bf16)
    (hl : Left m c (t.val - 1) (Nat.lt_of_le_of_lt (Nat.sub_le _ _) t.isLt) s) :
    (∀ r k, s.2 (ix2 r k) = hn (h m c) (g m c) (rowOf t.val t.isLt r) k) ∧
    (∀ r d, s.1 (ix2 r d) = part (h m c) (g m c) (w m c) (wd m c) (rowOf t.val t.isLt r) d (t.val % 11 * 512)) := by
  have hr : ∀ r, rowOf (t.val - 1) (Nat.lt_of_le_of_lt (Nat.sub_le _ _) t.isLt) r = rowOf t.val t.isLt r := fun r => Fin.ext (by
    show (t.val - 1) / 11 * 512 + r.val = t.val / 11 * 512 + r.val
    omega)
  have he : (t.val - 1) % 11 * 512 + 512 = t.val % 11 * 512 := by omega
  refine ⟨fun r k => ?_, fun r d => ?_⟩
  · rw [← hr r]; exact hl.1 r k
  · have := hl.2 r d
    rw [he, hr r] at this
    exact this

theorem left_middle (h0 : ¬t.val % 11 = 0)
    (hl : Left m c (t.val - 1) (Nat.lt_of_le_of_lt (Nat.sub_le _ _) t.isLt) (outsAt0 m c (t.val - 1) (Nat.lt_of_le_of_lt (Nat.sub_le _ _) t.isLt))) :
    Left m c t.val t.isLt (outsAt0 m c t.val t.isLt) := by
  obtain ⟨hs, ho⟩ := left_before m c t h0 _ hl
  rw [outsAt0_B m c t h0, Body.out_B]
  refine ⟨fun r k => hs r k, fun r d => ?_⟩
  exact pay2_iblk m c t _ _ r d (fun k => hs r k) (ho r d)

theorem left_all (n : ℕ) : ∀ hn' : n < cfg0.N, Left m c n hn' (outsAt0 m c n hn') := by
  induction n with
  | zero => exact fun hn' => left_first m c ⟨0, hn'⟩ (Nat.zero_mod _)
  | succ n ih =>
    intro hn'
    by_cases h0 : (n + 1) % 11 = 0
    · exact left_first m c ⟨n + 1, hn'⟩ h0
    · exact left_middle m c ⟨n + 1, hn'⟩ h0 (ih (Nat.lt_of_succ_lt hn'))

theorem flushed_eq (hf : t.val % 11 = 10) : (dats m 0 c).flushed 6 t = ((cfg0.win 6).blk t).view.read (Elt Ideal) (result m c) := by
  obtain ⟨h0, h1⟩ := index6 t
  rw [Cert.FfnFirstPromptIdeal.Value.flushed6]
  funext j
  obtain ⟨r, d, rfl⟩ : ∃ (r : Fin 512) (d : Fin 2048), j = ix2 r d := ⟨j 0, j 1, eq_ix2 j⟩
  rw [View.read_apply]
  refine Eq.trans (b := (outsAt0 m c t.val t.isLt).1 (ix2 r d)) rfl ?_
  rw [(left_all m c t.val t.isLt).2 r d, hf]
  rw [← result_apply]
  show result m c _ = result m c _
  congr 1
  funext a
  apply Fin.ext
  match a with
  | ⟨0, _⟩ => show t.val / 11 * 512 + r.val = win0_6.index t 0 * 512 + 1 * r.val; omega
  | ⟨1, _⟩ => show d.val = win0_6.index t 1 * 2048 + 1 * d.val; omega

/-- So the result array ends holding every row's step. -/
theorem final_o : (dats m 0 c).arrAt 6 cfg0.N = result m c :=
  (dats m 0 c).arrAt_eq_of_cover 6 (result m c) (fun t hf => flushed_eq m c t ((flush0_6 t).mp hf)) fun i => by
    have i0 : (i 0 : Nat) < 8192 := (i 0).isLt
    have i1 : (i 1 : Nat) < 2048 := (i 1).isLt
    have hN : (i 0 : Nat) / 512 * 11 + 10 < cfg0.N := lt_of_lt_of_eq (by omega : _ < 176) N_0.symm
    obtain ⟨t, ht⟩ : ∃ t : Fin cfg0.N, t.val = (i 0 : Nat) / 512 * 11 + 10 := ⟨⟨_, hN⟩, rfl⟩
    refine ⟨t, (flush0_6 t).mpr (by omega), ?_⟩
    obtain ⟨h0, h1⟩ := index6 t
    show i ∈ ((View.whole main_v0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 2048 ≤ (i 1 : Nat) ∧ (i 1 : Nat) < win0_6.index t 1 * 2048 + 2048; omega

end Cert.FfnFirstPromptIdeal.Final

end
-- ==== Proof.FfnFirstPrompt.Reference.lean ====
/-
  The reference of the first layer's feed-forward step at the prompts' rows, read at an index.
-/
module

public import proofs.«01_k».proof.Proof.Gen.FfnFirstPromptRefIdeal.Read
public import proofs.«01_k».proof.Proof.Ffn.Mlp
public import Idealize.ShloMosaic.Lib.IdealHost

public section

set_option maxRecDepth 16384

noncomputable section

namespace Cert.FfnFirstPromptRefIdeal.Sum

open Cert.FfnFirstPromptRefIdeal Cert.FfnFirstPromptRefIdeal.Gen Cert.FfnFirstPromptRefIdeal.Read Cert.Mlp
open Idealize.ShloMosaic Idealize.ShloMosaic.ValueIdx
open scoped BigOperators

variable (x0 : (Rows 8192).Idx → EReal) (x1 : Scale.Idx → EReal) (x2 : GateUp.Idx → EReal) (x3 : Down.Idx → EReal)

theorem sum_v1 (r : Fin 8192) (i : S8192.Idx) (hi : (i 0).val = r.val) :
    val_main_v1 (F := Ideal) x0 i = ∑ k : Fin 2048, x0 (ix2 r k) * x0 (ix2 r k) := by
  rw [val_main_v1_apply]
  have h0 : val_main_cst (F := Ideal) (Shape.Idx.first h_S_) = 0 := Ideal.ofBits_zero_f32
  rw [h0, zero_add]
  refine Finset.sum_congr rfl fun k _ => ?_
  have e : idx_main_v1 i k = ix2 r k := funext fun a => match a with | ⟨0, _⟩ => Fin.ext hi | ⟨1, _⟩ => rfl
  rw [val_main_v0_apply, e]
  rfl

theorem v11_apply (r : Fin 8192) (k : Fin 2048) : val_main_v11 (F := Ideal) x0 x1 (ix2 r k) = hn x0 x1 r k := by
  rw [val_main_v11_apply, val_main_v9_apply, val_main_v10_apply, val_main_v8_apply, val_main_v7_apply, val_main_v6_apply, val_main_v4_apply, val_main_v2_apply,
    sum_v1 x0 r _ rfl]
  have e : idx_main_v10 (ix2 r k) = ix2 (0 : Fin 1) k := funext fun a => match a with | ⟨0, _⟩ => rfl | ⟨1, _⟩ => rfl
  rw [e]
  rfl

theorem v14_apply (k : Fin 2048) (f : Fin 11264) : val_main_v14 (F := Ideal) x2 (ix2 k f) = x2 (ix3 (0 : Fin 2) k f) := by
  rw [val_main_v14_apply, val_main_v13_apply, val_main_v12_apply]
  refine congrArg x2 (funext fun a => ?_)
  match a with
  | ⟨0, _⟩ => rfl
  | ⟨1, _⟩ => exact Fin.ext (by show (k.val * 11264 + f.val) / 11264 % 2048 = k.val; omega)
  | ⟨2, _⟩ => exact Fin.ext (by show (k.val * 11264 + f.val) % 11264 = f.val; omega)

theorem v15_apply (r : Fin 8192) (f : Fin 11264) : val_main_v15 (F := Ideal) x0 x1 x2 (ix2 r f) = dotCol x0 x1 (firstUp x2) r f := by
  rw [val_main_v15_apply]
  refine Finset.sum_congr rfl fun k _ => ?_
  have e1 : lidx_main_v15 (ix2 r f) k = ix2 r k := funext fun a => match a with | ⟨0, _⟩ => rfl | ⟨1, _⟩ => rfl
  have e2 : ridx_main_v15 (ix2 r f) k = ix2 k f := funext fun a => match a with | ⟨0, _⟩ => rfl | ⟨1, _⟩ => rfl
  rw [e1, e2, v11_apply, v14_apply]
  rfl

theorem v16_apply (r : Fin 8192) (f : Fin 5632) : val_main_v16 (F := Ideal) x0 x1 x2 (ix2 r f) = dotCol x0 x1 (firstUp x2) r ⟨f.val, by omega⟩ := by
  have e : idx_main_v16 (ix2 r f) = ix2 r (⟨f.val, by omega⟩ : Fin 11264) := funext fun a => match a with | ⟨0, _⟩ => rfl | ⟨1, _⟩ => rfl
  rw [val_main_v16_apply, e, v15_apply]

theorem v18_apply (r : Fin 8192) (f : Fin 5632) : val_main_v18 (F := Ideal) x0 x1 x2 (ix2 r f) = dotCol x0 x1 (firstUp x2) r ⟨5632 + f.val, by omega⟩ := by
  have e : idx_main_v18 (ix2 r f) = ix2 r (⟨5632 + f.val, by omega⟩ : Fin 11264) := funext fun a => match a with | ⟨0, _⟩ => rfl | ⟨1, _⟩ => rfl
  rw [val_main_v18_apply, e, v15_apply]

theorem one_f32 : (FloatOps.ofBits (F := Ideal) .f32 0x3F800000#32 : Ideal .f32) = 1 := Ideal.ofBits_one_f32

theorem gate_apply (r : Fin 8192) (f : Fin 5632) :
    val_main_call0_v5 (F := Ideal) x0 x1 x2 (ix2 r f) = Ideal.logistic (dotCol x0 x1 (firstUp x2) r ⟨f.val, by omega⟩) := by
  rw [val_main_call0_v5_apply, val_main_call0_v4_apply, val_main_call0_cst_0_apply, val_main_call0_v3_apply, val_main_call0_v2_apply, val_main_call0_cst_apply,
    val_main_call0_v1_apply, val_main_call0_v0_apply, v16_apply, one_f32]
  rfl

theorem v19_apply (r : Fin 8192) (f : Fin 5632) : val_main_v19 (F := Ideal) x0 x1 x2 (ix2 r f) = act x0 x1 (firstUp x2) r f := by
  rw [val_main_v19_apply, val_main_v17_apply, v16_apply, v18_apply, gate_apply]
  rfl

theorem v22_apply (f : Fin 5632) (d : Fin 2048) : val_main_v22 (F := Ideal) x3 (ix2 f d) = x3 (ix3 (0 : Fin 2) f d) := by
  rw [val_main_v22_apply, val_main_v21_apply, val_main_v20_apply]
  refine congrArg x3 (funext fun a => ?_)
  match a with
  | ⟨0, _⟩ => rfl
  | ⟨1, _⟩ => exact Fin.ext (by show (f.val * 2048 + d.val) / 2048 % 5632 = f.val; omega)
  | ⟨2, _⟩ => exact Fin.ext (by show (f.val * 2048 + d.val) % 2048 = d.val; omega)

theorem v24_apply (r : Fin 8192) (d : Fin 2048) : val_main_v24 (F := Ideal) x0 x1 x2 x3 (ix2 r d) = part x0 x1 (firstUp x2) (firstDown x3) r d 5632 := by
  rw [val_main_v24_apply, val_main_v23_apply, part_full]
  refine congrArg (x0 (ix2 r d) + ·) (Finset.sum_congr rfl fun f _ => ?_)
  have e1 : lidx_main_v23 (ix2 r d) f = ix2 r f := funext fun a => match a with | ⟨0, _⟩ => rfl | ⟨1, _⟩ => rfl
  have e2 : ridx_main_v23 (ix2 r d) f = ix2 f d := funext fun a => match a with | ⟨0, _⟩ => rfl | ⟨1, _⟩ => rfl
  rw [e1, e2, v19_apply, v22_apply]
  rfl

end Cert.FfnFirstPromptRefIdeal.Sum

end
-- ==== Proof.FfnFirstPrompt.Claims.lean ====
/-
  The claims about the feed-forward call of the first layer at the prompts' rows: its three frames, and its value.
-/

module

public import proofs.«01_k».proof.Defs
public import proofs.«01_k».proof.Proof.Gen.FfnFirstPrompt.Frame
public import proofs.«01_k».proof.Proof.Gen.FfnFirstPromptIdeal.Frame
public import proofs.«01_k».proof.Proof.Gen.FfnFirstPromptIdeal.Value
public import proofs.«01_k».proof.Proof.Gen.FfnFirstPromptRefIdeal.Run
public import proofs.«01_k».proof.Proof.Gen.FfnFirstPromptRefIdeal.Read
public import proofs.«01_k».proof.Proof.FfnFirstPrompt.Final
public import proofs.«01_k».proof.Proof.FfnFirstPrompt.Reference

public section

set_option maxRecDepth 16384

noncomputable section

namespace Cert.FfnFirstPromptClaims

open Idealize.ShloMosaic.TcCoe Idealize.SL.Sem Idealize.ShloMosaic.ValueIdx
open Idealize.ShloMosaic hiding ix2 eq_ix2

theorem frame_p : quiescent_FfnFirstPrompt := fun m ρ _ => FfnFirstPrompt.Gen.frame m ρ

theorem frame_pi : quiescent_FfnFirstPromptIdeal := fun m ρ _ => FfnFirstPromptIdeal.Gen.frame m ρ

theorem frame_ri : quiescent_FfnFirstPromptRefIdeal := fun m ρ _ =>
  (θ_run FfnFirstPromptRefIdeal.defs _ _).mono (fun r h => ⟨fun c => (h c).2, sem_eq_zero_of_no_sems (by decide) r.2⟩)
    (FfnFirstPromptRefIdeal.Value.run (F := Ideal) m ρ)

variable (m : (ℓ : Loc FfnFirstPromptIdeal.nD FfnFirstPromptIdeal.τ FfnFirstPromptIdeal.sig) → Buf (Elt Ideal) ℓ)

/-- The reference's result, from arguments as the kernel holds them. -/
theorem res_eq (c : Dev FfnFirstPromptIdeal.nD) : FfnFirstPromptRefIdeal.Read.val_main_v24 (F := Ideal) (FfnFirstPromptIdeal.Final.h m c) (FfnFirstPromptIdeal.Final.g m c)
    (m ((c.tc : Thread FfnFirstPromptIdeal.nD FfnFirstPromptIdeal.τ).loc FfnFirstPromptIdeal.main_arg2)) (m ((c.tc : Thread FfnFirstPromptIdeal.nD FfnFirstPromptIdeal.τ).loc FfnFirstPromptIdeal.main_arg3)) = FfnFirstPromptIdeal.Final.result m c := by
  funext i
  obtain ⟨r, d, rfl⟩ : ∃ (r : Fin 8192) (d : Fin 2048), i = ix2 r d := ⟨i 0, i 1, eq_ix2 i⟩
  exact (FfnFirstPromptRefIdeal.Sum.v24_apply _ _ _ _ r d).trans (FfnFirstPromptIdeal.Final.result_apply m c r d).symm

theorem algebraic : algebraic_FfnFirstPromptIdeal_FfnFirstPromptRefIdeal := by
  intro m ρ m' ρ' _ hagree
  refine ⟨fun c => FfnFirstPromptIdeal.Final.result m c, ?_, ?_⟩
  · exact (θ_run FfnFirstPromptIdeal.defs _ _).mono
      (fun _ h c => ⟨(h c).1.trans (FfnFirstPromptIdeal.Final.final_o m c), (h c).2⟩)
      (FfnFirstPromptIdeal.Value.run_blocks m ρ)
  · refine (θ_run FfnFirstPromptRefIdeal.defs _ _).mono (fun r h c => ⟨(h c).1.trans ?_, (h c).2⟩) (FfnFirstPromptRefIdeal.Value.run (F := Ideal) m' ρ')
    obtain ⟨h0, h1, h2, h3, -⟩ := hagree c
    refine (FfnFirstPromptRefIdeal.Read.val_main_v24_eq _ _ _ _).trans ?_
    rw [h0, h1, h2, h3]
    exact res_eq m c

end Cert.FfnFirstPromptClaims

end
-- ==== Proof.lean ====
/-
  The certificate: the claims of every program stated in the statement, each proved in its own folder under Proof/.
-/
module

public import proofs.«01_k».proof.Defs
public import proofs.«01_k».proof.Proof.Sample.Claims
public import proofs.«01_k».proof.Proof.Ffn.Claims
public import proofs.«01_k».proof.Proof.Merge.Claims
public import proofs.«01_k».proof.Proof.Proj.Claims
public import proofs.«01_k».proof.Proof.FfnPrompt.Claims
public import proofs.«01_k».proof.Proof.ProjPrompt.Claims
public import proofs.«01_k».proof.Proof.FfnFirst.Claims
public import proofs.«01_k».proof.Proof.FfnFirstPrompt.Claims

@[expose] public section

noncomputable section

namespace Cert.Proof

open Cert

theorem claim : Cert.Claim := ⟨Cert.Sample.Gen.facts, Cert.SampleIdeal.Gen.facts, Cert.SampleRefIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Proj.Gen.facts, Cert.ProjIdeal.Gen.facts, Cert.ProjRefIdeal.Gen.facts,
  Cert.FfnPrompt.Gen.facts, Cert.FfnPromptIdeal.Gen.facts, Cert.FfnPromptRefIdeal.Gen.facts,
  Cert.ProjPrompt.Gen.facts, Cert.ProjPromptIdeal.Gen.facts, Cert.ProjPromptRefIdeal.Gen.facts,
  Cert.FfnFirst.Gen.facts, Cert.FfnFirstIdeal.Gen.facts, Cert.FfnFirstRefIdeal.Gen.facts,
  Cert.FfnFirstPrompt.Gen.facts, Cert.FfnFirstPromptIdeal.Gen.facts, Cert.FfnFirstPromptRefIdeal.Gen.facts, Cert.Pre_finite_scores.Gen.facts,
  SampleClaims.frame_p, SampleClaims.frame_pi, SampleClaims.frame_pi_pre, SampleClaims.frame_ri, SampleClaims.frame_ri_pre,
  FfnClaims.frame_p, FfnClaims.frame_pi, FfnClaims.frame_ri,
  MergeClaims.frame_p, MergeClaims.frame_pi, MergeClaims.frame_ri,
  ProjClaims.frame_p, ProjClaims.frame_pi, ProjClaims.frame_ri,
  FfnPromptClaims.frame_p, FfnPromptClaims.frame_pi, FfnPromptClaims.frame_ri,
  ProjPromptClaims.frame_p, ProjPromptClaims.frame_pi, ProjPromptClaims.frame_ri,
  FfnFirstClaims.frame_p, FfnFirstClaims.frame_pi, FfnFirstClaims.frame_ri,
  FfnFirstPromptClaims.frame_p, FfnFirstPromptClaims.frame_pi, FfnFirstPromptClaims.frame_ri,
  trivial, SampleClaims.algebraic, trivial, FfnClaims.algebraic, trivial, MergeClaims.algebraic,
  trivial, ProjClaims.algebraic, trivial, FfnPromptClaims.algebraic, trivial, ProjPromptClaims.algebraic, trivial, FfnFirstClaims.algebraic, trivial, FfnFirstPromptClaims.algebraic⟩

end Cert.Proof

end
